-- ==== Defs.lean ====
def Pre_Kernel [hPre_lengths_in_range : Cert.Pre_lengths_in_range.Facts] (m : (ℓ : Loc Cert.Kernel.nD Cert.Kernel.τ Cert.Kernel.sig) → Buf (Elt Bits) ℓ) : Prop :=
  ∀ c : Dev Cert.Kernel.nD,
    (Cert.Pre_lengths_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S32x2x7168 Cert.KernelIdeal.S32x1x7168
  ∧ IdealRules.bf16_pair.Statement Cert.KernelIdeal.S2x7168 Cert.KernelIdeal.S1x7168
  ∧ IdealRules.bf16_pair.Statement Cert.KernelIdeal.S32x2x128 Cert.KernelIdeal.S32x1x128
  ∧ IdealRules.bf16_pair.Statement Cert.KernelIdeal.S64x128 Cert.KernelIdeal.S32x128

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lengths_in_range : Cert.Pre_lengths_in_range.Facts) (hPre_finite_rows : Cert.Pre_finite_rows.Facts),
    quiescent_Kernel (hKernel := hKernel) (hPre_lengths_in_range := hPre_lengths_in_range)
    ∧ quiescent_KernelIdeal (hKernelIdeal := hKernelIdeal) (hPre_lengths_in_range := hPre_lengths_in_range)
    ∧ quiescent_KernelIdeal_pre_finite_rows (hKernelIdeal := hKernelIdeal) (hPre_finite_rows := hPre_finite_rows)
    ∧ quiescent_ReferenceIdeal (hReferenceIdeal := hReferenceIdeal) (hPre_lengths_in_range := hPre_lengths_in_range)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S32x256x7168 : Shape := ⟨3, ![32, 256, 7168]⟩
abbrev S32 : Shape := ⟨1, ![32]⟩
abbrev S7168x8192 : Shape := ⟨2, ![7168, 8192]⟩
abbrev S8192 : Shape := ⟨1, ![8192]⟩
abbrev S_ : Shape := ⟨0, ![]⟩

class Facts : Prop where
  bcast_S_S32 : S_.BroadcastsInDim S32 (![] : Fin 0 → Fin S32.rank)
  bcast_S_S32x256x7168 : S_.BroadcastsInDim S32x256x7168 (![] : Fin 0 → Fin S32x256x7168.rank)

variable [Facts]

def fn {F : FTy → Type} [FloatOps F] (main_arg0 : FVec F S32x256x7168 .bf16) (main_arg1 : IVec S32 32) (main_arg2 : FVec F S7168x8192 .fp8e4m3) (main_arg3 : FVec F S8192 .f32) : IVec S32 1 × IVec S32x256x7168 1 :=
  let main_c : IVec S_ 32 := constantI S_ 32 1#32
  let main_v0 : IVec S32 32 := broadcastInDim S32 ![] bcast_S_S32 main_c
  let main_v1 : IVec S32 1 := cmpi .sge main_arg1 main_v0
  let main_c_0 : IVec S_ 32 := constantI S_ 32 256#32
  let main_v2 : IVec S32 32 := broadcastInDim S32 ![] bcast_S_S32 main_c_0
  let main_v3 : IVec S32 1 := cmpi .sle main_arg1 main_v2
  let main_v4 : IVec S32 1 := andi main_v1 main_v3
  let main_v5 : FVec F S32x256x7168 .bf16 := Host.absf main_arg0
  let main_cst : FVec F S_ .bf16 := constant S_ .bf16 0x7F7F#16
  let main_v6 : FVec F S32x256x7168 .bf16 := broadcastInDim S32x256x7168 ![] bcast_S_S32x256x7168 main_cst
  let main_v7 : IVec S32x256x7168 1 := cmpf .ole main_v5 main_v6
  (main_v4, main_v7)
-- ==== Pre_lengths_in_range.lean ====
abbrev S32x256x7168 : Shape := ⟨3, ![32, 256, 7168]⟩
abbrev S32 : Shape := ⟨1, ![32]⟩
abbrev S7168x8192 : Shape := ⟨2, ![7168, 8192]⟩
abbrev S8192 : Shape := ⟨1, ![8192]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S32x256x7168 .bf16) (main_arg1 : IVec S32 32) (main_arg2 : FVec F S7168x8192 .fp8e4m3) (main_arg3 : FVec F S8192 .f32) : IVec S32 1 :=
  let main_c : IVec S_ 32 := constantI S_ 32 1#32
  let main_v0 : IVec S32 32 := broadcastInDim S32 ![] bcast_S_S32 main_c
  let main_v1 : IVec S32 1 := cmpi .sge main_arg1 main_v0
  let main_c_0 : IVec S_ 32 := constantI S_ 32 256#32
  let main_v2 : IVec S32 32 := broadcastInDim S32 ![] bcast_S_S32 main_c_0
  let main_v3 : IVec S32 1 := cmpi .sle main_arg1 main_v2
  let main_v4 : IVec S32 1 := andi main_v1 main_v3
  main_v4
-- ==== Kernel.lean ====
abbrev S32x256x7168 : Shape := ⟨3, ![32, 256, 7168]⟩
abbrev S32 : Shape := ⟨1, ![32]⟩
abbrev S7168x8192 : Shape := ⟨2, ![7168, 8192]⟩
abbrev S8192 : Shape := ⟨1, ![8192]⟩
abbrev S1x8192 : Shape := ⟨2, ![1, 8192]⟩
abbrev S32x8192 : Shape := ⟨2, ![32, 8192]⟩
abbrev S32x7168 : Shape := ⟨2, ![32, 7168]⟩
abbrev S16x7168x512 : Shape := ⟨3, ![16, 7168, 512]⟩
abbrev S32x128 : Shape := ⟨2, ![32, 128]⟩
abbrev S16 : Shape := ⟨1, ![16]⟩
abbrev S_ : Shape := ⟨0, ![]⟩
abbrev S2 : Shape := ⟨1, ![2]⟩
abbrev S1 : Shape := ⟨1, ![1]⟩
abbrev S1x7168x512 : Shape := ⟨3, ![1, 7168, 512]⟩
abbrev S7168x512 : Shape := ⟨2, ![7168, 512]⟩
abbrev S1x7168 : Shape := ⟨2, ![1, 7168]⟩
abbrev S32x128x7168 : Shape := ⟨3, ![32, 128, 7168]⟩
abbrev S1x1x7168 : Shape := ⟨3, ![1, 1, 7168]⟩
abbrev S1x2x7168 : Shape := ⟨3, ![1, 2, 7168]⟩
abbrev S2x7168 : Shape := ⟨2, ![2, 7168]⟩
abbrev S32x1 : Shape := ⟨2, ![32, 1]⟩
abbrev S128 : Shape := ⟨1, ![128]⟩
abbrev S32x512 : Shape := ⟨2, ![32, 512]⟩
abbrev S1x512 : Shape := ⟨2, ![1, 512]⟩

abbrev nBuf : Space → Nat
  | .hbm => 8
  | .vmem => 7
  | .smem => 1
  | _ => 0

abbrev bufTy : (tb : Table) → Fin (tcTables nBuf tb) → BufTy
  | .hbm, ⟨0, _⟩ => ⟨S32x256x7168, .bf16⟩
  | .hbm, ⟨1, _⟩ => ⟨S32, .i32⟩
  | .hbm, ⟨2, _⟩ => ⟨S7168x8192, .fp8e4m3⟩
  | .hbm, ⟨3, _⟩ => ⟨S8192, .f32⟩
  | .hbm, ⟨4, _⟩ => ⟨S1x8192, .f32⟩
  | .hbm, ⟨5, _⟩ => ⟨S32x8192, .bf16⟩
  | .hbm, ⟨6, _⟩ => ⟨S32x7168, .fp8e4m3⟩
  | .hbm, ⟨7, _⟩ => ⟨S32, .f32⟩
  | .local _ .vmem, ⟨0, _⟩ => ⟨S16x7168x512, .fp8e4m3⟩
  | .local _ .vmem, ⟨1, _⟩ => ⟨S32x7168, .i32⟩
  | .local _ .vmem, ⟨2, _⟩ => ⟨S32x7168, .fp8e4m3⟩
  | .local _ .vmem, ⟨3, _⟩ => ⟨S1x8192, .f32⟩
  | .local _ .vmem, ⟨4, _⟩ => ⟨S32x8192, .bf16⟩
  | .local _ .vmem, ⟨5, _⟩ => ⟨S32, .f32⟩
  | .local _ .vmem, ⟨6, _⟩ => ⟨S32x128, .f32⟩
  | .local _ .smem, ⟨0, _⟩ => ⟨S32, .i32⟩
  | _, _ => ⟨S32x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.smem, 0, rfl⟩

abbrev nD : Nat := 1
abbrev τ : Topo := Topo.v7x

variable {F : FTy → Type} [BitOps F]

abbrev grid0 : Pipeline.Grid := .none

def k0_off1 (v80 : BitVec 32) : Fin 3 → Nat :=
  let c0_i32_73 : BitVec 32 := 0#32
  let c1_i32_65 : BitVec 32 := 1#32
  let v81 : BitVec 32 := Scalar.subi v80 c1_i32_65
  let c0_i32_67 : BitVec 32 := 0#32
  let v83 : BitVec 1 := Scalar.cmpi .sgt v81 c0_i32_67
  let v84 : BitVec 32 := Scalar.extui v83
  let c0_i32_68 : BitVec 32 := 0#32
  let v85 : BitVec 1 := Scalar.cmpi .slt v81 c0_i32_68
  let v86 : BitVec 32 := Scalar.extui v85
  let v87 : BitVec 32 := Scalar.subi v84 v86
  let c2_i32_66 : BitVec 32 := 2#32
  let c0_i32_69 : BitVec 32 := 0#32
  let v88 : BitVec 1 := Scalar.cmpi .sgt c2_i32_66 c0_i32_69
  let v89 : BitVec 32 := Scalar.extui v88
  let c0_i32_70 : BitVec 32 := 0#32
  let v90 : BitVec 1 := Scalar.cmpi .slt c2_i32_66 c0_i32_70
  let v91 : BitVec 32 := Scalar.extui v90
  let v92 : BitVec 32 := Scalar.subi v89 v91
  let v93 : BitVec 1 := Scalar.cmpi .ne v87 v92
  let v94 : BitVec 32 := Scalar.remsi v81 c2_i32_66
  let c0_i32_71 : BitVec 32 := 0#32
  let v95 : BitVec 1 := Scalar.cmpi .ne v94 c0_i32_71
  let v96 : BitVec 1 := Scalar.andi v93 v95
  let v82 : BitVec 32 := Scalar.divsi v81 c2_i32_66
  let c1_i32_72 : BitVec 32 := 1#32
  let v97 : BitVec 32 := Scalar.subi v82 c1_i32_72
  let v98 : BitVec 32 := Scalar.select v96 v97 v82
  let c0_i32_76 : BitVec 32 := 0#32
  ![0, Nat.mul 2 v98.toNat, 0]

def k0_chk1 (v80 : BitVec 32) : Prop :=
  (∀ a, (k0_off1 v80) a + S1x2x7168.size a ≤ S32x256x7168.size a) ∧
  (∀ (hinb : ∀ a, (k0_off1 v80) a + S1x2x7168.size a ≤ S32x256x7168.size a), (Rect.unit (s := S32x256x7168) (k0_off1 v80) S1x2x7168.size hinb).WholeWords (EltTy.packing .bf16))
theorem k0_off1_inb : ∀ (v80 : BitVec 32) (k0_hw1 : k0_chk1 v80), ∀ a, (k0_off1 v80) a + S1x2x7168.size a ≤ S32x256x7168.size a := fun v80 k0_hw1 => k0_hw1.1
theorem k0_off1_wordsbf16 : ∀ (v80 : BitVec 32) (k0_hw1 : k0_chk1 v80), (Rect.unit (s := S32x256x7168) (k0_off1 v80) S1x2x7168.size (k0_off1_inb v80 k0_hw1)).WholeWords (EltTy.packing .bf16) := fun v80 k0_hw1 => k0_hw1.2 (k0_off1_inb v80 k0_hw1)

def k0_off2 (v103 : BitVec 32) : Fin 3 → Nat :=
  let c1_i32_85 : BitVec 32 := 1#32
  let c1_i32_77 : BitVec 32 := 1#32
  let v104 : BitVec 32 := Scalar.subi v103 c1_i32_77
  let c0_i32_79 : BitVec 32 := 0#32
  let v106 : BitVec 1 := Scalar.cmpi .sgt v104 c0_i32_79
  let v107 : BitVec 32 := Scalar.extui v106
  let c0_i32_80 : BitVec 32 := 0#32
  let v108 : BitVec 1 := Scalar.cmpi .slt v104 c0_i32_80
  let v109 : BitVec 32 := Scalar.extui v108
  let v110 : BitVec 32 := Scalar.subi v107 v109
  let c2_i32_78 : BitVec 32 := 2#32
  let c0_i32_81 : BitVec 32 := 0#32
  let v111 : BitVec 1 := Scalar.cmpi .sgt c2_i32_78 c0_i32_81
  let v112 : BitVec 32 := Scalar.extui v111
  let c0_i32_82 : BitVec 32 := 0#32
  let v113 : BitVec 1 := Scalar.cmpi .slt c2_i32_78 c0_i32_82
  let v114 : BitVec 32 := Scalar.extui v113
  let v115 : BitVec 32 := Scalar.subi v112 v114
  let v116 : BitVec 1 := Scalar.cmpi .ne v110 v115
  let v117 : BitVec 32 := Scalar.remsi v104 c2_i32_78
  let c0_i32_83 : BitVec 32 := 0#32
  let v118 : BitVec 1 := Scalar.cmpi .ne v117 c0_i32_83
  let v119 : BitVec 1 := Scalar.andi v116 v118
  let v105 : BitVec 32 := Scalar.divsi v104 c2_i32_78
  let c1_i32_84 : BitVec 32 := 1#32
  let v120 : BitVec 32 := Scalar.subi v105 c1_i32_84
  let v121 : BitVec 32 := Scalar.select v119 v120 v105
  let c0_i32_88 : BitVec 32 := 0#32
  ![1, Nat.mul 2 v121.toNat, 0]

def k0_chk2 (v103 : BitVec 32) : Prop :=
  (∀ a, (k0_off2 v103) a + S1x2x7168.size a ≤ S32x256x7168.size a) ∧
  (∀ (hinb : ∀ a, (k0_off2 v103) a + S1x2x7168.size a ≤ S32x256x7168.size a), (Rect.unit (s := S32x256x7168) (k0_off2 v103) S1x2x7168.size hinb).WholeWords (EltTy.packing .bf16))
theorem k0_off2_inb : ∀ (v103 : BitVec 32) (k0_hw2 : k0_chk2 v103), ∀ a, (k0_off2 v103) a + S1x2x7168.size a ≤ S32x256x7168.size a := fun v103 k0_hw2 => k0_hw2.1
theorem k0_off2_wordsbf16 : ∀ (v103 : BitVec 32) (k0_hw2 : k0_chk2 v103), (Rect.unit (s := S32x256x7168) (k0_off2 v103) S1x2x7168.size (k0_off2_inb v103 k0_hw2)).WholeWords (EltTy.packing .bf16) := fun v103 k0_hw2 => k0_hw2.2 (k0_off2_inb v103 k0_hw2)

def k0_off3 (v126 : BitVec 32) : Fin 3 → Nat :=
  let c2_i32_97 : BitVec 32 := 2#32
  let c1_i32_89 : BitVec 32 := 1#32
  let v127 : BitVec 32 := Scalar.subi v126 c1_i32_89
  let c0_i32_91 : BitVec 32 := 0#32
  let v129 : BitVec 1 := Scalar.cmpi .sgt v127 c0_i32_91
  let v130 : BitVec 32 := Scalar.extui v129
  let c0_i32_92 : BitVec 32 := 0#32
  let v131 : BitVec 1 := Scalar.cmpi .slt v127 c0_i32_92
  let v132 : BitVec 32 := Scalar.extui v131
  let v133 : BitVec 32 := Scalar.subi v130 v132
  let c2_i32_90 : BitVec 32 := 2#32
  let c0_i32_93 : BitVec 32 := 0#32
  let v134 : BitVec 1 := Scalar.cmpi .sgt c2_i32_90 c0_i32_93
  let v135 : BitVec 32 := Scalar.extui v134
  let c0_i32_94 : BitVec 32 := 0#32
  let v136 : BitVec 1 := Scalar.cmpi .slt c2_i32_90 c0_i32_94
  let v137 : BitVec 32 := Scalar.extui v136
  let v138 : BitVec 32 := Scalar.subi v135 v137
  let v139 : BitVec 1 := Scalar.cmpi .ne v133 v138
  let v140 : BitVec 32 := Scalar.remsi v127 c2_i32_90
  let c0_i32_95 : BitVec 32 := 0#32
  let v141 : BitVec 1 := Scalar.cmpi .ne v140 c0_i32_95
  let v142 : BitVec 1 := Scalar.andi v139 v141
  let v128 : BitVec 32 := Scalar.divsi v127 c2_i32_90
  let c1_i32_96 : BitVec 32 := 1#32
  let v143 : BitVec 32 := Scalar.subi v128 c1_i32_96
  let v144 : BitVec 32 := Scalar.select v142 v143 v128
  let c0_i32_100 : BitVec 32 := 0#32
  ![2, Nat.mul 2 v144.toNat, 0]

def k0_chk3 (v126 : BitVec 32) : Prop :=
  (∀ a, (k0_off3 v126) a + S1x2x7168.size a ≤ S32x256x7168.size a) ∧
  (∀ (hinb : ∀ a, (k0_off3 v126) a + S1x2x7168.size a ≤ S32x256x7168.size a), (Rect.unit (s := S32x256x7168) (k0_off3 v126) S1x2x7168.size hinb).WholeWords (EltTy.packing .bf16))
theorem k0_off3_inb : ∀ (v126 : BitVec 32) (k0_hw3 : k0_chk3 v126), ∀ a, (k0_off3 v126) a + S1x2x7168.size a ≤ S32x256x7168.size a := fun v126 k0_hw3 => k0_hw3.1
theorem k0_off3_wordsbf16 : ∀ (v126 : BitVec 32) (k0_hw3 : k0_chk3 v126), (Rect.unit (s := S32x256x7168) (k0_off3 v126) S1x2x7168.size (k0_off3_inb v126 k0_hw3)).WholeWords (EltTy.packing .bf16) := fun v126 k0_hw3 => k0_hw3.2 (k0_off3_inb v126 k0_hw3)

def k0_off4 (v149 : BitVec 32) : Fin 3 → Nat :=
  let c3_i32_109 : BitVec 32 := 3#32
  let c1_i32_101 : BitVec 32 := 1#32
  let v150 : BitVec 32 := Scalar.subi v149 c1_i32_101
  let c0_i32_103 : BitVec 32 := 0#32
  let v152 : BitVec 1 := Scalar.cmpi .sgt v150 c0_i32_103
  let v153 : BitVec 32 := Scalar.extui v152
  let c0_i32_104 : BitVec 32 := 0#32
  let v154 : BitVec 1 := Scalar.cmpi .slt v150 c0_i32_104
  let v155 : BitVec 32 := Scalar.extui v154
  let v156 : BitVec 32 := Scalar.subi v153 v155
  let c2_i32_102 : BitVec 32 := 2#32
  let c0_i32_105 : BitVec 32 := 0#32
  let v157 : BitVec 1 := Scalar.cmpi .sgt c2_i32_102 c0_i32_105
  let v158 : BitVec 32 := Scalar.extui v157
  let c0_i32_106 : BitVec 32 := 0#32
  let v159 : BitVec 1 := Scalar.cmpi .slt c2_i32_102 c0_i32_106
  let v160 : BitVec 32 := Scalar.extui v159
  let v161 : BitVec 32 := Scalar.subi v158 v160
  let v162 : BitVec 1 := Scalar.cmpi .ne v156 v161
  let v163 : BitVec 32 := Scalar.remsi v150 c2_i32_102
  let c0_i32_107 : BitVec 32 := 0#32
  let v164 : BitVec 1 := Scalar.cmpi .ne v163 c0_i32_107
  let v165 : BitVec 1 := Scalar.andi v162 v164
  let v151 : BitVec 32 := Scalar.divsi v150 c2_i32_102
  let c1_i32_108 : BitVec 32 := 1#32
  let v166 : BitVec 32 := Scalar.subi v151 c1_i32_108
  let v167 : BitVec 32 := Scalar.select v165 v166 v151
  let c0_i32_112 : BitVec 32 := 0#32
  ![3, Nat.mul 2 v167.toNat, 0]

def k0_chk4 (v149 : BitVec 32) : Prop :=
  (∀ a, (k0_off4 v149) a + S1x2x7168.size a ≤ S32x256x7168.size a) ∧
  (∀ (hinb : ∀ a, (k0_off4 v149) a + S1x2x7168.size a ≤ S32x256x7168.size a), (Rect.unit (s := S32x256x7168) (k0_off4 v149) S1x2x7168.size hinb).WholeWords (EltTy.packing .bf16))
theorem k0_off4_inb : ∀ (v149 : BitVec 32) (k0_hw4 : k0_chk4 v149), ∀ a, (k0_off4 v149) a + S1x2x7168.size a ≤ S32x256x7168.size a := fun v149 k0_hw4 => k0_hw4.1
theorem k0_off4_wordsbf16 : ∀ (v149 : BitVec 32) (k0_hw4 : k0_chk4 v149), (Rect.unit (s := S32x256x7168) (k0_off4 v149) S1x2x7168.size (k0_off4_inb v149 k0_hw4)).WholeWords (EltTy.packing .bf16) := fun v149 k0_hw4 => k0_hw4.2 (k0_off4_inb v149 k0_hw4)

def k0_off5 (v172 : BitVec 32) : Fin 3 → Nat :=
  let c4_i32_121 : BitVec 32 := 4#32
  let c1_i32_113 : BitVec 32 := 1#32
  let v173 : BitVec 32 := Scalar.subi v172 c1_i32_113
  let c0_i32_115 : BitVec 32 := 0#32
  let v175 : BitVec 1 := Scalar.cmpi .sgt v173 c0_i32_115
  let v176 : BitVec 32 := Scalar.extui v175
  let c0_i32_116 : BitVec 32 := 0#32
  let v177 : BitVec 1 := Scalar.cmpi .slt v173 c0_i32_116
  let v178 : BitVec 32 := Scalar.extui v177
  let v179 : BitVec 32 := Scalar.subi v176 v178
  let c2_i32_114 : BitVec 32 := 2#32
  let c0_i32_117 : BitVec 32 := 0#32
  let v180 : BitVec 1 := Scalar.cmpi .sgt c2_i32_114 c0_i32_117
  let v181 : BitVec 32 := Scalar.extui v180
  let c0_i32_118 : BitVec 32 := 0#32
  let v182 : BitVec 1 := Scalar.cmpi .slt c2_i32_114 c0_i32_118
  let v183 : BitVec 32 := Scalar.extui v182
  let v184 : BitVec 32 := Scalar.subi v181 v183
  let v185 : BitVec 1 := Scalar.cmpi .ne v179 v184
  let v186 : BitVec 32 := Scalar.remsi v173 c2_i32_114
  let c0_i32_119 : BitVec 32 := 0#32
  let v187 : BitVec 1 := Scalar.cmpi .ne v186 c0_i32_119
  let v188 : BitVec 1 := Scalar.andi v185 v187
  let v174 : BitVec 32 := Scalar.divsi v173 c2_i32_114
  let c1_i32_120 : BitVec 32 := 1#32
  let v189 : BitVec 32 := Scalar.subi v174 c1_i32_120
  let v190 : BitVec 32 := Scalar.select v188 v189 v174
  let c0_i32_124 : BitVec 32 := 0#32
  ![4, Nat.mul 2 v190.toNat, 0]

def k0_chk5 (v172 : BitVec 32) : Prop :=
  (∀ a, (k0_off5 v172) a + S1x2x7168.size a ≤ S32x256x7168.size a) ∧
  (∀ (hinb : ∀ a, (k0_off5 v172) a + S1x2x7168.size a ≤ S32x256x7168.size a), (Rect.unit (s := S32x256x7168) (k0_off5 v172) S1x2x7168.size hinb).WholeWords (EltTy.packing .bf16))
theorem k0_off5_inb : ∀ (v172 : BitVec 32) (k0_hw5 : k0_chk5 v172), ∀ a, (k0_off5 v172) a + S1x2x7168.size a ≤ S32x256x7168.size a := fun v172 k0_hw5 => k0_hw5.1
theorem k0_off5_wordsbf16 : ∀ (v172 : BitVec 32) (k0_hw5 : k0_chk5 v172), (Rect.unit (s := S32x256x7168) (k0_off5 v172) S1x2x7168.size (k0_off5_inb v172 k0_hw5)).WholeWords (EltTy.packing .bf16) := fun v172 k0_hw5 => k0_hw5.2 (k0_off5_inb v172 k0_hw5)

def k0_off6 (v195 : BitVec 32) : Fin 3 → Nat :=
  let c5_i32_133 : BitVec 32 := 5#32
  let c1_i32_125 : BitVec 32 := 1#32
  let v196 : BitVec 32 := Scalar.subi v195 c1_i32_125
  let c0_i32_127 : BitVec 32 := 0#32
  let v198 : BitVec 1 := Scalar.cmpi .sgt v196 c0_i32_127
  let v199 : BitVec 32 := Scalar.extui v198
  let c0_i32_128 : BitVec 32 := 0#32
  let v200 : BitVec 1 := Scalar.cmpi .slt v196 c0_i32_128
  let v201 : BitVec 32 := Scalar.extui v200
  let v202 : BitVec 32 := Scalar.subi v199 v201
  let c2_i32_126 : BitVec 32 := 2#32
  let c0_i32_129 : BitVec 32 := 0#32
  let v203 : BitVec 1 := Scalar.cmpi .sgt c2_i32_126 c0_i32_129
  let v204 : BitVec 32 := Scalar.extui v203
  let c0_i32_130 : BitVec 32 := 0#32
  let v205 : BitVec 1 := Scalar.cmpi .slt c2_i32_126 c0_i32_130
  let v206 : BitVec 32 := Scalar.extui v205
  let v207 : BitVec 32 := Scalar.subi v204 v206
  let v208 : BitVec 1 := Scalar.cmpi .ne v202 v207
  let v209 : BitVec 32 := Scalar.remsi v196 c2_i32_126
  let c0_i32_131 : BitVec 32 := 0#32
  let v210 : BitVec 1 := Scalar.cmpi .ne v209 c0_i32_131
  let v211 : BitVec 1 := Scalar.andi v208 v210
  let v197 : BitVec 32 := Scalar.divsi v196 c2_i32_126
  let c1_i32_132 : BitVec 32 := 1#32
  let v212 : BitVec 32 := Scalar.subi v197 c1_i32_132
  let v213 : BitVec 32 := Scalar.select v211 v212 v197
  let c0_i32_136 : BitVec 32 := 0#32
  ![5, Nat.mul 2 v213.toNat, 0]

def k0_chk6 (v195 : BitVec 32) : Prop :=
  (∀ a, (k0_off6 v195) a + S1x2x7168.size a ≤ S32x256x7168.size a) ∧
  (∀ (hinb : ∀ a, (k0_off6 v195) a + S1x2x7168.size a ≤ S32x256x7168.size a), (Rect.unit (s := S32x256x7168) (k0_off6 v195) S1x2x7168.size hinb).WholeWords (EltTy.packing .bf16))
theorem k0_off6_inb : ∀ (v195 : BitVec 32) (k0_hw6 : k0_chk6 v195), ∀ a, (k0_off6 v195) a + S1x2x7168.size a ≤ S32x256x7168.size a := fun v195 k0_hw6 => k0_hw6.1
theorem k0_off6_wordsbf16 : ∀ (v195 : BitVec 32) (k0_hw6 : k0_chk6 v195), (Rect.unit (s := S32x256x7168) (k0_off6 v195) S1x2x7168.size (k0_off6_inb v195 k0_hw6)).WholeWords (EltTy.packing .bf16) := fun v195 k0_hw6 => k0_hw6.2 (k0_off6_inb v195 k0_hw6)

def k0_off7 (v218 : BitVec 32) : Fin 3 → Nat :=
  let c6_i32_145 : BitVec 32 := 6#32
  let c1_i32_137 : BitVec 32 := 1#32
  let v219 : BitVec 32 := Scalar.subi v218 c1_i32_137
  let c0_i32_139 : BitVec 32 := 0#32
  let v221 : BitVec 1 := Scalar.cmpi .sgt v219 c0_i32_139
  let v222 : BitVec 32 := Scalar.extui v221
  let c0_i32_140 : BitVec 32 := 0#32
  let v223 : BitVec 1 := Scalar.cmpi .slt v219 c0_i32_140
  let v224 : BitVec 32 := Scalar.extui v223
  let v225 : BitVec 32 := Scalar.subi v222 v224
  let c2_i32_138 : BitVec 32 := 2#32
  let c0_i32_141 : BitVec 32 := 0#32
  let v226 : BitVec 1 := Scalar.cmpi .sgt c2_i32_138 c0_i32_141
  let v227 : BitVec 32 := Scalar.extui v226
  let c0_i32_142 : BitVec 32 := 0#32
  let v228 : BitVec 1 := Scalar.cmpi .slt c2_i32_138 c0_i32_142
  let v229 : BitVec 32 := Scalar.extui v228
  let v230 : BitVec 32 := Scalar.subi v227 v229
  let v231 : BitVec 1 := Scalar.cmpi .ne v225 v230
  let v232 : BitVec 32 := Scalar.remsi v219 c2_i32_138
  let c0_i32_143 : BitVec 32 := 0#32
  let v233 : BitVec 1 := Scalar.cmpi .ne v232 c0_i32_143
  let v234 : BitVec 1 := Scalar.andi v231 v233
  let v220 : BitVec 32 := Scalar.divsi v219 c2_i32_138
  let c1_i32_144 : BitVec 32 := 1#32
  let v235 : BitVec 32 := Scalar.subi v220 c1_i32_144
  let v236 : BitVec 32 := Scalar.select v234 v235 v220
  let c0_i32_148 : BitVec 32 := 0#32
  ![6, Nat.mul 2 v236.toNat, 0]

def k0_chk7 (v218 : BitVec 32) : Prop :=
  (∀ a, (k0_off7 v218) a + S1x2x7168.size a ≤ S32x256x7168.size a) ∧
  (∀ (hinb : ∀ a, (k0_off7 v218) a + S1x2x7168.size a ≤ S32x256x7168.size a), (Rect.unit (s := S32x256x7168) (k0_off7 v218) S1x2x7168.size hinb).WholeWords (EltTy.packing .bf16))
theorem k0_off7_inb : ∀ (v218 : BitVec 32) (k0_hw7 : k0_chk7 v218), ∀ a, (k0_off7 v218) a + S1x2x7168.size a ≤ S32x256x7168.size a := fun v218 k0_hw7 => k0_hw7.1
theorem k0_off7_wordsbf16 : ∀ (v218 : BitVec 32) (k0_hw7 : k0_chk7 v218), (Rect.unit (s := S32x256x7168) (k0_off7 v218) S1x2x7168.size (k0_off7_inb v218 k0_hw7)).WholeWords (EltTy.packing .bf16) := fun v218 k0_hw7 => k0_hw7.2 (k0_off7_inb v218 k0_hw7)

def k0_off8 (v241 : BitVec 32) : Fin 3 → Nat :=
  let c7_i32_157 : BitVec 32 := 7#32
  let c1_i32_149 : BitVec 32 := 1#32
  let v242 : BitVec 32 := Scalar.subi v241 c1_i32_149
  let c0_i32_151 : BitVec 32 := 0#32
  let v244 : BitVec 1 := Scalar.cmpi .sgt v242 c0_i32_151
  let v245 : BitVec 32 := Scalar.extui v244
  let c0_i32_152 : BitVec 32 := 0#32
  let v246 : BitVec 1 := Scalar.cmpi .slt v242 c0_i32_152
  let v247 : BitVec 32 := Scalar.extui v246
  let v248 : BitVec 32 := Scalar.subi v245 v247
  let c2_i32_150 : BitVec 32 := 2#32
  let c0_i32_153 : BitVec 32 := 0#32
  let v249 : BitVec 1 := Scalar.cmpi .sgt c2_i32_150 c0_i32_153
  let v250 : BitVec 32 := Scalar.extui v249
  let c0_i32_154 : BitVec 32 := 0#32
  let v251 : BitVec 1 := Scalar.cmpi .slt c2_i32_150 c0_i32_154
  let v252 : BitVec 32 := Scalar.extui v251
  let v253 : BitVec 32 := Scalar.subi v250 v252
  let v254 : BitVec 1 := Scalar.cmpi .ne v248 v253
  let v255 : BitVec 32 := Scalar.remsi v242 c2_i32_150
  let c0_i32_155 : BitVec 32 := 0#32
  let v256 : BitVec 1 := Scalar.cmpi .ne v255 c0_i32_155
  let v257 : BitVec 1 := Scalar.andi v254 v256
  let v243 : BitVec 32 := Scalar.divsi v242 c2_i32_150
  let c1_i32_156 : BitVec 32 := 1#32
  let v258 : BitVec 32 := Scalar.subi v243 c1_i32_156
  let v259 : BitVec 32 := Scalar.select v257 v258 v243
  let c0_i32_160 : BitVec 32 := 0#32
  ![7, Nat.mul 2 v259.toNat, 0]

def k0_chk8 (v241 : BitVec 32) : Prop :=
  (∀ a, (k0_off8 v241) a + S1x2x7168.size a ≤ S32x256x7168.size a) ∧
  (∀ (hinb : ∀ a, (k0_off8 v241) a + S1x2x7168.size a ≤ S32x256x7168.size a), (Rect.unit (s := S32x256x7168) (k0_off8 v241) S1x2x7168.size hinb).WholeWords (EltTy.packing .bf16))
theorem k0_off8_inb : ∀ (v241 : BitVec 32) (k0_hw8 : k0_chk8 v241), ∀ a, (k0_off8 v241) a + S1x2x7168.size a ≤ S32x256x7168.size a := fun v241 k0_hw8 => k0_hw8.1
theorem k0_off8_wordsbf16 : ∀ (v241 : BitVec 32) (k0_hw8 : k0_chk8 v241), (Rect.unit (s := S32x256x7168) (k0_off8 v241) S1x2x7168.size (k0_off8_inb v241 k0_hw8)).WholeWords (EltTy.packing .bf16) := fun v241 k0_hw8 => k0_hw8.2 (k0_off8_inb v241 k0_hw8)

def k0_off9 (v264 : BitVec 32) : Fin 3 → Nat :=
  let c8_i32_169 : BitVec 32 := 8#32
  let c1_i32_161 : BitVec 32 := 1#32
  let v265 : BitVec 32 := Scalar.subi v264 c1_i32_161
  let c0_i32_163 : BitVec 32 := 0#32
  let v267 : BitVec 1 := Scalar.cmpi .sgt v265 c0_i32_163
  let v268 : BitVec 32 := Scalar.extui v267
  let c0_i32_164 : BitVec 32 := 0#32
  let v269 : BitVec 1 := Scalar.cmpi .slt v265 c0_i32_164
  let v270 : BitVec 32 := Scalar.extui v269
  let v271 : BitVec 32 := Scalar.subi v268 v270
  let c2_i32_162 : BitVec 32 := 2#32
  let c0_i32_165 : BitVec 32 := 0#32
  let v272 : BitVec 1 := Scalar.cmpi .sgt c2_i32_162 c0_i32_165
  let v273 : BitVec 32 := Scalar.extui v272
  let c0_i32_166 : BitVec 32 := 0#32
  let v274 : BitVec 1 := Scalar.cmpi .slt c2_i32_162 c0_i32_166
  let v275 : BitVec 32 := Scalar.extui v274
  let v276 : BitVec 32 := Scalar.subi v273 v275
  let v277 : BitVec 1 := Scalar.cmpi .ne v271 v276
  let v278 : BitVec 32 := Scalar.remsi v265 c2_i32_162
  let c0_i32_167 : BitVec 32 := 0#32
  let v279 : BitVec 1 := Scalar.cmpi .ne v278 c0_i32_167
  let v280 : BitVec 1 := Scalar.andi v277 v279
  let v266 : BitVec 32 := Scalar.divsi v265 c2_i32_162
  let c1_i32_168 : BitVec 32 := 1#32
  let v281 : BitVec 32 := Scalar.subi v266 c1_i32_168
  let v282 : BitVec 32 := Scalar.select v280 v281 v266
  let c0_i32_172 : BitVec 32 := 0#32
  ![8, Nat.mul 2 v282.toNat, 0]

def k0_chk9 (v264 : BitVec 32) : Prop :=
  (∀ a, (k0_off9 v264) a + S1x2x7168.size a ≤ S32x256x7168.size a) ∧
  (∀ (hinb : ∀ a, (k0_off9 v264) a + S1x2x7168.size a ≤ S32x256x7168.size a), (Rect.unit (s := S32x256x7168) (k0_off9 v264) S1x2x7168.size hinb).WholeWords (EltTy.packing .bf16))
theorem k0_off9_inb : ∀ (v264 : BitVec 32) (k0_hw9 : k0_chk9 v264), ∀ a, (k0_off9 v264) a + S1x2x7168.size a ≤ S32x256x7168.size a := fun v264 k0_hw9 => k0_hw9.1
theorem k0_off9_wordsbf16 : ∀ (v264 : BitVec 32) (k0_hw9 : k0_chk9 v264), (Rect.unit (s := S32x256x7168) (k0_off9 v264) S1x2x7168.size (k0_off9_inb v264 k0_hw9)).WholeWords (EltTy.packing .bf16) := fun v264 k0_hw9 => k0_hw9.2 (k0_off9_inb v264 k0_hw9)

def k0_off10 (v287 : BitVec 32) : Fin 3 → Nat :=
  let c9_i32_181 : BitVec 32 := 9#32
  let c1_i32_173 : BitVec 32 := 1#32
  let v288 : BitVec 32 := Scalar.subi v287 c1_i32_173
  let c0_i32_175 : BitVec 32 := 0#32
  let v290 : BitVec 1 := Scalar.cmpi .sgt v288 c0_i32_175
  let v291 : BitVec 32 := Scalar.extui v290
  let c0_i32_176 : BitVec 32 := 0#32
  let v292 : BitVec 1 := Scalar.cmpi .slt v288 c0_i32_176
  let v293 : BitVec 32 := Scalar.extui v292
  let v294 : BitVec 32 := Scalar.subi v291 v293
  let c2_i32_174 : BitVec 32 := 2#32
  let c0_i32_177 : BitVec 32 := 0#32
  let v295 : BitVec 1 := Scalar.cmpi .sgt c2_i32_174 c0_i32_177
  let v296 : BitVec 32 := Scalar.extui v295
  let c0_i32_178 : BitVec 32 := 0#32
  let v297 : BitVec 1 := Scalar.cmpi .slt c2_i32_174 c0_i32_178
  let v298 : BitVec 32 := Scalar.extui v297
  let v299 : BitVec 32 := Scalar.subi v296 v298
  let v300 : BitVec 1 := Scalar.cmpi .ne v294 v299
  let v301 : BitVec 32 := Scalar.remsi v288 c2_i32_174
  let c0_i32_179 : BitVec 32 := 0#32
  let v302 : BitVec 1 := Scalar.cmpi .ne v301 c0_i32_179
  let v303 : BitVec 1 := Scalar.andi v300 v302
  let v289 : BitVec 32 := Scalar.divsi v288 c2_i32_174
  let c1_i32_180 : BitVec 32 := 1#32
  let v304 : BitVec 32 := Scalar.subi v289 c1_i32_180
  let v305 : BitVec 32 := Scalar.select v303 v304 v289
  let c0_i32_184 : BitVec 32 := 0#32
  ![9, Nat.mul 2 v305.toNat, 0]

def k0_chk10 (v287 : BitVec 32) : Prop :=
  (∀ a, (k0_off10 v287) a + S1x2x7168.size a ≤ S32x256x7168.size a) ∧
  (∀ (hinb : ∀ a, (k0_off10 v287) a + S1x2x7168.size a ≤ S32x256x7168.size a), (Rect.unit (s := S32x256x7168) (k0_off10 v287) S1x2x7168.size hinb).WholeWords (EltTy.packing .bf16))
theorem k0_off10_inb : ∀ (v287 : BitVec 32) (k0_hw10 : k0_chk10 v287), ∀ a, (k0_off10 v287) a + S1x2x7168.size a ≤ S32x256x7168.size a := fun v287 k0_hw10 => k0_hw10.1
theorem k0_off10_wordsbf16 : ∀ (v287 : BitVec 32) (k0_hw10 : k0_chk10 v287), (Rect.unit (s := S32x256x7168) (k0_off10 v287) S1x2x7168.size (k0_off10_inb v287 k0_hw10)).WholeWords (EltTy.packing .bf16) := fun v287 k0_hw10 => k0_hw10.2 (k0_off10_inb v287 k0_hw10)

def k0_off11 (v310 : BitVec 32) : Fin 3 → Nat :=
  let c10_i32_193 : BitVec 32 := 10#32
  let c1_i32_185 : BitVec 32 := 1#32
  let v311 : BitVec 32 := Scalar.subi v310 c1_i32_185
  let c0_i32_187 : BitVec 32 := 0#32
  let v313 : BitVec 1 := Scalar.cmpi .sgt v311 c0_i32_187
  let v314 : BitVec 32 := Scalar.extui v313
  let c0_i32_188 : BitVec 32 := 0#32
  let v315 : BitVec 1 := Scalar.cmpi .slt v311 c0_i32_188
  let v316 : BitVec 32 := Scalar.extui v315
  let v317 : BitVec 32 := Scalar.subi v314 v316
  let c2_i32_186 : BitVec 32 := 2#32
  let c0_i32_189 : BitVec 32 := 0#32
  let v318 : BitVec 1 := Scalar.cmpi .sgt c2_i32_186 c0_i32_189
  let v319 : BitVec 32 := Scalar.extui v318
  let c0_i32_190 : BitVec 32 := 0#32
  let v320 : BitVec 1 := Scalar.cmpi .slt c2_i32_186 c0_i32_190
  let v321 : BitVec 32 := Scalar.extui v320
  let v322 : BitVec 32 := Scalar.subi v319 v321
  let v323 : BitVec 1 := Scalar.cmpi .ne v317 v322
  let v324 : BitVec 32 := Scalar.remsi v311 c2_i32_186
  let c0_i32_191 : BitVec 32 := 0#32
  let v325 : BitVec 1 := Scalar.cmpi .ne v324 c0_i32_191
  let v326 : BitVec 1 := Scalar.andi v323 v325
  let v312 : BitVec 32 := Scalar.divsi v311 c2_i32_186
  let c1_i32_192 : BitVec 32 := 1#32
  let v327 : BitVec 32 := Scalar.subi v312 c1_i32_192
  let v328 : BitVec 32 := Scalar.select v326 v327 v312
  let c0_i32_196 : BitVec 32 := 0#32
  ![10, Nat.mul 2 v328.toNat, 0]

def k0_chk11 (v310 : BitVec 32) : Prop :=
  (∀ a, (k0_off11 v310) a + S1x2x7168.size a ≤ S32x256x7168.size a) ∧
  (∀ (hinb : ∀ a, (k0_off11 v310) a + S1x2x7168.size a ≤ S32x256x7168.size a), (Rect.unit (s := S32x256x7168) (k0_off11 v310) S1x2x7168.size hinb).WholeWords (EltTy.packing .bf16))
theorem k0_off11_inb : ∀ (v310 : BitVec 32) (k0_hw11 : k0_chk11 v310), ∀ a, (k0_off11 v310) a + S1x2x7168.size a ≤ S32x256x7168.size a := fun v310 k0_hw11 => k0_hw11.1
theorem k0_off11_wordsbf16 : ∀ (v310 : BitVec 32) (k0_hw11 : k0_chk11 v310), (Rect.unit (s := S32x256x7168) (k0_off11 v310) S1x2x7168.size (k0_off11_inb v310 k0_hw11)).WholeWords (EltTy.packing .bf16) := fun v310 k0_hw11 => k0_hw11.2 (k0_off11_inb v310 k0_hw11)

def k0_off12 (v333 : BitVec 32) : Fin 3 → Nat :=
  let c11_i32_205 : BitVec 32 := 11#32
  let c1_i32_197 : BitVec 32 := 1#32
  let v334 : BitVec 32 := Scalar.subi v333 c1_i32_197
  let c0_i32_199 : BitVec 32 := 0#32
  let v336 : BitVec 1 := Scalar.cmpi .sgt v334 c0_i32_199
  let v337 : BitVec 32 := Scalar.extui v336
  let c0_i32_200 : BitVec 32 := 0#32
  let v338 : BitVec 1 := Scalar.cmpi .slt v334 c0_i32_200
  let v339 : BitVec 32 := Scalar.extui v338
  let v340 : BitVec 32 := Scalar.subi v337 v339
  let c2_i32_198 : BitVec 32 := 2#32
  let c0_i32_201 : BitVec 32 := 0#32
  let v341 : BitVec 1 := Scalar.cmpi .sgt c2_i32_198 c0_i32_201
  let v342 : BitVec 32 := Scalar.extui v341
  let c0_i32_202 : BitVec 32 := 0#32
  let v343 : BitVec 1 := Scalar.cmpi .slt c2_i32_198 c0_i32_202
  let v344 : BitVec 32 := Scalar.extui v343
  let v345 : BitVec 32 := Scalar.subi v342 v344
  let v346 : BitVec 1 := Scalar.cmpi .ne v340 v345
  let v347 : BitVec 32 := Scalar.remsi v334 c2_i32_198
  let c0_i32_203 : BitVec 32 := 0#32
  let v348 : BitVec 1 := Scalar.cmpi .ne v347 c0_i32_203
  let v349 : BitVec 1 := Scalar.andi v346 v348
  let v335 : BitVec 32 := Scalar.divsi v334 c2_i32_198
  let c1_i32_204 : BitVec 32 := 1#32
  let v350 : BitVec 32 := Scalar.subi v335 c1_i32_204
  let v351 : BitVec 32 := Scalar.select v349 v350 v335
  let c0_i32_208 : BitVec 32 := 0#32
  ![11, Nat.mul 2 v351.toNat, 0]

def k0_chk12 (v333 : BitVec 32) : Prop :=
  (∀ a, (k0_off12 v333) a + S1x2x7168.size a ≤ S32x256x7168.size a) ∧
  (∀ (hinb : ∀ a, (k0_off12 v333) a + S1x2x7168.size a ≤ S32x256x7168.size a), (Rect.unit (s := S32x256x7168) (k0_off12 v333) S1x2x7168.size hinb).WholeWords (EltTy.packing .bf16))
theorem k0_off12_inb : ∀ (v333 : BitVec 32) (k0_hw12 : k0_chk12 v333), ∀ a, (k0_off12 v333) a + S1x2x7168.size a ≤ S32x256x7168.size a := fun v333 k0_hw12 => k0_hw12.1
theorem k0_off12_wordsbf16 : ∀ (v333 : BitVec 32) (k0_hw12 : k0_chk12 v333), (Rect.unit (s := S32x256x7168) (k0_off12 v333) S1x2x7168.size (k0_off12_inb v333 k0_hw12)).WholeWords (EltTy.packing .bf16) := fun v333 k0_hw12 => k0_hw12.2 (k0_off12_inb v333 k0_hw12)

def k0_off13 (v356 : BitVec 32) : Fin 3 → Nat :=
  let c12_i32_217 : BitVec 32 := 12#32
  let c1_i32_209 : BitVec 32 := 1#32
  let v357 : BitVec 32 := Scalar.subi v356 c1_i32_209
  let c0_i32_211 : BitVec 32 := 0#32
  let v359 : BitVec 1 := Scalar.cmpi .sgt v357 c0_i32_211
  let v360 : BitVec 32 := Scalar.extui v359
  let c0_i32_212 : BitVec 32 := 0#32
  let v361 : BitVec 1 := Scalar.cmpi .slt v357 c0_i32_212
  let v362 : BitVec 32 := Scalar.extui v361
  let v363 : BitVec 32 := Scalar.subi v360 v362
  let c2_i32_210 : BitVec 32 := 2#32
  let c0_i32_213 : BitVec 32 := 0#32
  let v364 : BitVec 1 := Scalar.cmpi .sgt c2_i32_210 c0_i32_213
  let v365 : BitVec 32 := Scalar.extui v364
  let c0_i32_214 : BitVec 32 := 0#32
  let v366 : BitVec 1 := Scalar.cmpi .slt c2_i32_210 c0_i32_214
  let v367 : BitVec 32 := Scalar.extui v366
  let v368 : BitVec 32 := Scalar.subi v365 v367
  let v369 : BitVec 1 := Scalar.cmpi .ne v363 v368
  let v370 : BitVec 32 := Scalar.remsi v357 c2_i32_210
  let c0_i32_215 : BitVec 32 := 0#32
  let v371 : BitVec 1 := Scalar.cmpi .ne v370 c0_i32_215
  let v372 : BitVec 1 := Scalar.andi v369 v371
  let v358 : BitVec 32 := Scalar.divsi v357 c2_i32_210
  let c1_i32_216 : BitVec 32 := 1#32
  let v373 : BitVec 32 := Scalar.subi v358 c1_i32_216
  let v374 : BitVec 32 := Scalar.select v372 v373 v358
  let c0_i32_220 : BitVec 32 := 0#32
  ![12, Nat.mul 2 v374.toNat, 0]

def k0_chk13 (v356 : BitVec 32) : Prop :=
  (∀ a, (k0_off13 v356) a + S1x2x7168.size a ≤ S32x256x7168.size a) ∧
  (∀ (hinb : ∀ a, (k0_off13 v356) a + S1x2x7168.size a ≤ S32x256x7168.size a), (Rect.unit (s := S32x256x7168) (k0_off13 v356) S1x2x7168.size hinb).WholeWords (EltTy.packing .bf16))
theorem k0_off13_inb : ∀ (v356 : BitVec 32) (k0_hw13 : k0_chk13 v356), ∀ a, (k0_off13 v356) a + S1x2x7168.size a ≤ S32x256x7168.size a := fun v356 k0_hw13 => k0_hw13.1
theorem k0_off13_wordsbf16 : ∀ (v356 : BitVec 32) (k0_hw13 : k0_chk13 v356), (Rect.unit (s := S32x256x7168) (k0_off13 v356) S1x2x7168.size (k0_off13_inb v356 k0_hw13)).WholeWords (EltTy.packing .bf16) := fun v356 k0_hw13 => k0_hw13.2 (k0_off13_inb v356 k0_hw13)

def k0_off14 (v379 : BitVec 32) : Fin 3 → Nat :=
  let c13_i32_229 : BitVec 32 := 13#32
  let c1_i32_221 : BitVec 32 := 1#32
  let v380 : BitVec 32 := Scalar.subi v379 c1_i32_221
  let c0_i32_223 : BitVec 32 := 0#32
  let v382 : BitVec 1 := Scalar.cmpi .sgt v380 c0_i32_223
  let v383 : BitVec 32 := Scalar.extui v382
  let c0_i32_224 : BitVec 32 := 0#32
  let v384 : BitVec 1 := Scalar.cmpi .slt v380 c0_i32_224
  let v385 : BitVec 32 := Scalar.extui v384
  let v386 : BitVec 32 := Scalar.subi v383 v385
  let c2_i32_222 : BitVec 32 := 2#32
  let c0_i32_225 : BitVec 32 := 0#32
  let v387 : BitVec 1 := Scalar.cmpi .sgt c2_i32_222 c0_i32_225
  let v388 : BitVec 32 := Scalar.extui v387
  let c0_i32_226 : BitVec 32 := 0#32
  let v389 : BitVec 1 := Scalar.cmpi .slt c2_i32_222 c0_i32_226
  let v390 : BitVec 32 := Scalar.extui v389
  let v391 : BitVec 32 := Scalar.subi v388 v390
  let v392 : BitVec 1 := Scalar.cmpi .ne v386 v391
  let v393 : BitVec 32 := Scalar.remsi v380 c2_i32_222
  let c0_i32_227 : BitVec 32 := 0#32
  let v394 : BitVec 1 := Scalar.cmpi .ne v393 c0_i32_227
  let v395 : BitVec 1 := Scalar.andi v392 v394
  let v381 : BitVec 32 := Scalar.divsi v380 c2_i32_222
  let c1_i32_228 : BitVec 32 := 1#32
  let v396 : BitVec 32 := Scalar.subi v381 c1_i32_228
  let v397 : BitVec 32 := Scalar.select v395 v396 v381
  let c0_i32_232 : BitVec 32 := 0#32
  ![13, Nat.mul 2 v397.toNat, 0]

def k0_chk14 (v379 : BitVec 32) : Prop :=
  (∀ a, (k0_off14 v379) a + S1x2x7168.size a ≤ S32x256x7168.size a) ∧
  (∀ (hinb : ∀ a, (k0_off14 v379) a + S1x2x7168.size a ≤ S32x256x7168.size a), (Rect.unit (s := S32x256x7168) (k0_off14 v379) S1x2x7168.size hinb).WholeWords (EltTy.packing .bf16))
theorem k0_off14_inb : ∀ (v379 : BitVec 32) (k0_hw14 : k0_chk14 v379), ∀ a, (k0_off14 v379) a + S1x2x7168.size a ≤ S32x256x7168.size a := fun v379 k0_hw14 => k0_hw14.1
theorem k0_off14_wordsbf16 : ∀ (v379 : BitVec 32) (k0_hw14 : k0_chk14 v379), (Rect.unit (s := S32x256x7168) (k0_off14 v379) S1x2x7168.size (k0_off14_inb v379 k0_hw14)).WholeWords (EltTy.packing .bf16) := fun v379 k0_hw14 => k0_hw14.2 (k0_off14_inb v379 k0_hw14)

def k0_off15 (v402 : BitVec 32) : Fin 3 → Nat :=
  let c14_i32_241 : BitVec 32 := 14#32
  let c1_i32_233 : BitVec 32 := 1#32
  let v403 : BitVec 32 := Scalar.subi v402 c1_i32_233
  let c0_i32_235 : BitVec 32 := 0#32
  let v405 : BitVec 1 := Scalar.cmpi .sgt v403 c0_i32_235
  let v406 : BitVec 32 := Scalar.extui v405
  let c0_i32_236 : BitVec 32 := 0#32
  let v407 : BitVec 1 := Scalar.cmpi .slt v403 c0_i32_236
  let v408 : BitVec 32 := Scalar.extui v407
  let v409 : BitVec 32 := Scalar.subi v406 v408
  let c2_i32_234 : BitVec 32 := 2#32
  let c0_i32_237 : BitVec 32 := 0#32
  let v410 : BitVec 1 := Scalar.cmpi .sgt c2_i32_234 c0_i32_237
  let v411 : BitVec 32 := Scalar.extui v410
  let c0_i32_238 : BitVec 32 := 0#32
  let v412 : BitVec 1 := Scalar.cmpi .slt c2_i32_234 c0_i32_238
  let v413 : BitVec 32 := Scalar.extui v412
  let v414 : BitVec 32 := Scalar.subi v411 v413
  let v415 : BitVec 1 := Scalar.cmpi .ne v409 v414
  let v416 : BitVec 32 := Scalar.remsi v403 c2_i32_234
  let c0_i32_239 : BitVec 32 := 0#32
  let v417 : BitVec 1 := Scalar.cmpi .ne v416 c0_i32_239
  let v418 : BitVec 1 := Scalar.andi v415 v417
  let v404 : BitVec 32 := Scalar.divsi v403 c2_i32_234
  let c1_i32_240 : BitVec 32 := 1#32
  let v419 : BitVec 32 := Scalar.subi v404 c1_i32_240
  let v420 : BitVec 32 := Scalar.select v418 v419 v404
  let c0_i32_244 : BitVec 32 := 0#32
  ![14, Nat.mul 2 v420.toNat, 0]

def k0_chk15 (v402 : BitVec 32) : Prop :=
  (∀ a, (k0_off15 v402) a + S1x2x7168.size a ≤ S32x256x7168.size a) ∧
  (∀ (hinb : ∀ a, (k0_off15 v402) a + S1x2x7168.size a ≤ S32x256x7168.size a), (Rect.unit (s := S32x256x7168) (k0_off15 v402) S1x2x7168.size hinb).WholeWords (EltTy.packing .bf16))
theorem k0_off15_inb : ∀ (v402 : BitVec 32) (k0_hw15 : k0_chk15 v402), ∀ a, (k0_off15 v402) a + S1x2x7168.size a ≤ S32x256x7168.size a := fun v402 k0_hw15 => k0_hw15.1
theorem k0_off15_wordsbf16 : ∀ (v402 : BitVec 32) (k0_hw15 : k0_chk15 v402), (Rect.unit (s := S32x256x7168) (k0_off15 v402) S1x2x7168.size (k0_off15_inb v402 k0_hw15)).WholeWords (EltTy.packing .bf16) := fun v402 k0_hw15 => k0_hw15.2 (k0_off15_inb v402 k0_hw15)

def k0_off16 (v425 : BitVec 32) : Fin 3 → Nat :=
  let c15_i32_253 : BitVec 32 := 15#32
  let c1_i32_245 : BitVec 32 := 1#32
  let v426 : BitVec 32 := Scalar.subi v425 c1_i32_245
  let c0_i32_247 : BitVec 32 := 0#32
  let v428 : BitVec 1 := Scalar.cmpi .sgt v426 c0_i32_247
  let v429 : BitVec 32 := Scalar.extui v428
  let c0_i32_248 : BitVec 32 := 0#32
  let v430 : BitVec 1 := Scalar.cmpi .slt v426 c0_i32_248
  let v431 : BitVec 32 := Scalar.extui v430
  let v432 : BitVec 32 := Scalar.subi v429 v431
  let c2_i32_246 : BitVec 32 := 2#32
  let c0_i32_249 : BitVec 32 := 0#32
  let v433 : BitVec 1 := Scalar.cmpi .sgt c2_i32_246 c0_i32_249
  let v434 : BitVec 32 := Scalar.extui v433
  let c0_i32_250 : BitVec 32 := 0#32
  let v435 : BitVec 1 := Scalar.cmpi .slt c2_i32_246 c0_i32_250
  let v436 : BitVec 32 := Scalar.extui v435
  let v437 : BitVec 32 := Scalar.subi v434 v436
  let v438 : BitVec 1 := Scalar.cmpi .ne v432 v437
  let v439 : BitVec 32 := Scalar.remsi v426 c2_i32_246
  let c0_i32_251 : BitVec 32 := 0#32
  let v440 : BitVec 1 := Scalar.cmpi .ne v439 c0_i32_251
  let v441 : BitVec 1 := Scalar.andi v438 v440
  let v427 : BitVec 32 := Scalar.divsi v426 c2_i32_246
  let c1_i32_252 : BitVec 32 := 1#32
  let v442 : BitVec 32 := Scalar.subi v427 c1_i32_252
  let v443 : BitVec 32 := Scalar.select v441 v442 v427
  let c0_i32_256 : BitVec 32 := 0#32
  ![15, Nat.mul 2 v443.toNat, 0]

def k0_chk16 (v425 : BitVec 32) : Prop :=
  (∀ a, (k0_off16 v425) a + S1x2x7168.size a ≤ S32x256x7168.size a) ∧
  (∀ (hinb : ∀ a, (k0_off16 v425) a + S1x2x7168.size a ≤ S32x256x7168.size a), (Rect.unit (s := S32x256x7168) (k0_off16 v425) S1x2x7168.size hinb).WholeWords (EltTy.packing .bf16))
theorem k0_off16_inb : ∀ (v425 : BitVec 32) (k0_hw16 : k0_chk16 v425), ∀ a, (k0_off16 v425) a + S1x2x7168.size a ≤ S32x256x7168.size a := fun v425 k0_hw16 => k0_hw16.1
theorem k0_off16_wordsbf16 : ∀ (v425 : BitVec 32) (k0_hw16 : k0_chk16 v425), (Rect.unit (s := S32x256x7168) (k0_off16 v425) S1x2x7168.size (k0_off16_inb v425 k0_hw16)).WholeWords (EltTy.packing .bf16) := fun v425 k0_hw16 => k0_hw16.2 (k0_off16_inb v425 k0_hw16)

def k0_off17 (v448 : BitVec 32) : Fin 3 → Nat :=
  let c16_i32 : BitVec 32 := 16#32
  let c1_i32_257 : BitVec 32 := 1#32
  let v449 : BitVec 32 := Scalar.subi v448 c1_i32_257
  let c0_i32_259 : BitVec 32 := 0#32
  let v451 : BitVec 1 := Scalar.cmpi .sgt v449 c0_i32_259
  let v452 : BitVec 32 := Scalar.extui v451
  let c0_i32_260 : BitVec 32 := 0#32
  let v453 : BitVec 1 := Scalar.cmpi .slt v449 c0_i32_260
  let v454 : BitVec 32 := Scalar.extui v453
  let v455 : BitVec 32 := Scalar.subi v452 v454
  let c2_i32_258 : BitVec 32 := 2#32
  let c0_i32_261 : BitVec 32 := 0#32
  let v456 : BitVec 1 := Scalar.cmpi .sgt c2_i32_258 c0_i32_261
  let v457 : BitVec 32 := Scalar.extui v456
  let c0_i32_262 : BitVec 32 := 0#32
  let v458 : BitVec 1 := Scalar.cmpi .slt c2_i32_258 c0_i32_262
  let v459 : BitVec 32 := Scalar.extui v458
  let v460 : BitVec 32 := Scalar.subi v457 v459
  let v461 : BitVec 1 := Scalar.cmpi .ne v455 v460
  let v462 : BitVec 32 := Scalar.remsi v449 c2_i32_258
  let c0_i32_263 : BitVec 32 := 0#32
  let v463 : BitVec 1 := Scalar.cmpi .ne v462 c0_i32_263
  let v464 : BitVec 1 := Scalar.andi v461 v463
  let v450 : BitVec 32 := Scalar.divsi v449 c2_i32_258
  let c1_i32_264 : BitVec 32 := 1#32
  let v465 : BitVec 32 := Scalar.subi v450 c1_i32_264
  let v466 : BitVec 32 := Scalar.select v464 v465 v450
  let c0_i32_267 : BitVec 32 := 0#32
  ![16, Nat.mul 2 v466.toNat, 0]

def k0_chk17 (v448 : BitVec 32) : Prop :=
  (∀ a, (k0_off17 v448) a + S1x2x7168.size a ≤ S32x256x7168.size a) ∧
  (∀ (hinb : ∀ a, (k0_off17 v448) a + S1x2x7168.size a ≤ S32x256x7168.size a), (Rect.unit (s := S32x256x7168) (k0_off17 v448) S1x2x7168.size hinb).WholeWords (EltTy.packing .bf16))
theorem k0_off17_inb : ∀ (v448 : BitVec 32) (k0_hw17 : k0_chk17 v448), ∀ a, (k0_off17 v448) a + S1x2x7168.size a ≤ S32x256x7168.size a := fun v448 k0_hw17 => k0_hw17.1
theorem k0_off17_wordsbf16 : ∀ (v448 : BitVec 32) (k0_hw17 : k0_chk17 v448), (Rect.unit (s := S32x256x7168) (k0_off17 v448) S1x2x7168.size (k0_off17_inb v448 k0_hw17)).WholeWords (EltTy.packing .bf16) := fun v448 k0_hw17 => k0_hw17.2 (k0_off17_inb v448 k0_hw17)

def k0_off18 (v471 : BitVec 32) : Fin 3 → Nat :=
  let c17_i32 : BitVec 32 := 17#32
  let c1_i32_268 : BitVec 32 := 1#32
  let v472 : BitVec 32 := Scalar.subi v471 c1_i32_268
  let c0_i32_270 : BitVec 32 := 0#32
  let v474 : BitVec 1 := Scalar.cmpi .sgt v472 c0_i32_270
  let v475 : BitVec 32 := Scalar.extui v474
  let c0_i32_271 : BitVec 32 := 0#32
  let v476 : BitVec 1 := Scalar.cmpi .slt v472 c0_i32_271
  let v477 : BitVec 32 := Scalar.extui v476
  let v478 : BitVec 32 := Scalar.subi v475 v477
  let c2_i32_269 : BitVec 32 := 2#32
  let c0_i32_272 : BitVec 32 := 0#32
  let v479 : BitVec 1 := Scalar.cmpi .sgt c2_i32_269 c0_i32_272
  let v480 : BitVec 32 := Scalar.extui v479
  let c0_i32_273 : BitVec 32 := 0#32
  let v481 : BitVec 1 := Scalar.cmpi .slt c2_i32_269 c0_i32_273
  let v482 : BitVec 32 := Scalar.extui v481
  let v483 : BitVec 32 := Scalar.subi v480 v482
  let v484 : BitVec 1 := Scalar.cmpi .ne v478 v483
  let v485 : BitVec 32 := Scalar.remsi v472 c2_i32_269
  let c0_i32_274 : BitVec 32 := 0#32
  let v486 : BitVec 1 := Scalar.cmpi .ne v485 c0_i32_274
  let v487 : BitVec 1 := Scalar.andi v484 v486
  let v473 : BitVec 32 := Scalar.divsi v472 c2_i32_269
  let c1_i32_275 : BitVec 32 := 1#32
  let v488 : BitVec 32 := Scalar.subi v473 c1_i32_275
  let v489 : BitVec 32 := Scalar.select v487 v488 v473
  let c0_i32_278 : BitVec 32 := 0#32
  ![17, Nat.mul 2 v489.toNat, 0]

def k0_chk18 (v471 : BitVec 32) : Prop :=
  (∀ a, (k0_off18 v471) a + S1x2x7168.size a ≤ S32x256x7168.size a) ∧
  (∀ (hinb : ∀ a, (k0_off18 v471) a + S1x2x7168.size a ≤ S32x256x7168.size a), (Rect.unit (s := S32x256x7168) (k0_off18 v471) S1x2x7168.size hinb).WholeWords (EltTy.packing .bf16))
theorem k0_off18_inb : ∀ (v471 : BitVec 32) (k0_hw18 : k0_chk18 v471), ∀ a, (k0_off18 v471) a + S1x2x7168.size a ≤ S32x256x7168.size a := fun v471 k0_hw18 => k0_hw18.1
theorem k0_off18_wordsbf16 : ∀ (v471 : BitVec 32) (k0_hw18 : k0_chk18 v471), (Rect.unit (s := S32x256x7168) (k0_off18 v471) S1x2x7168.size (k0_off18_inb v471 k0_hw18)).WholeWords (EltTy.packing .bf16) := fun v471 k0_hw18 => k0_hw18.2 (k0_off18_inb v471 k0_hw18)

def k0_off19 (v494 : BitVec 32) : Fin 3 → Nat :=
  let c18_i32 : BitVec 32 := 18#32
  let c1_i32_279 : BitVec 32 := 1#32
  let v495 : BitVec 32 := Scalar.subi v494 c1_i32_279
  let c0_i32_281 : BitVec 32 := 0#32
  let v497 : BitVec 1 := Scalar.cmpi .sgt v495 c0_i32_281
  let v498 : BitVec 32 := Scalar.extui v497
  let c0_i32_282 : BitVec 32 := 0#32
  let v499 : BitVec 1 := Scalar.cmpi .slt v495 c0_i32_282
  let v500 : BitVec 32 := Scalar.extui v499
  let v501 : BitVec 32 := Scalar.subi v498 v500
  let c2_i32_280 : BitVec 32 := 2#32
  let c0_i32_283 : BitVec 32 := 0#32
  let v502 : BitVec 1 := Scalar.cmpi .sgt c2_i32_280 c0_i32_283
  let v503 : BitVec 32 := Scalar.extui v502
  let c0_i32_284 : BitVec 32 := 0#32
  let v504 : BitVec 1 := Scalar.cmpi .slt c2_i32_280 c0_i32_284
  let v505 : BitVec 32 := Scalar.extui v504
  let v506 : BitVec 32 := Scalar.subi v503 v505
  let v507 : BitVec 1 := Scalar.cmpi .ne v501 v506
  let v508 : BitVec 32 := Scalar.remsi v495 c2_i32_280
  let c0_i32_285 : BitVec 32 := 0#32
  let v509 : BitVec 1 := Scalar.cmpi .ne v508 c0_i32_285
  let v510 : BitVec 1 := Scalar.andi v507 v509
  let v496 : BitVec 32 := Scalar.divsi v495 c2_i32_280
  let c1_i32_286 : BitVec 32 := 1#32
  let v511 : BitVec 32 := Scalar.subi v496 c1_i32_286
  let v512 : BitVec 32 := Scalar.select v510 v511 v496
  let c0_i32_289 : BitVec 32 := 0#32
  ![18, Nat.mul 2 v512.toNat, 0]

def k0_chk19 (v494 : BitVec 32) : Prop :=
  (∀ a, (k0_off19 v494) a + S1x2x7168.size a ≤ S32x256x7168.size a) ∧
  (∀ (hinb : ∀ a, (k0_off19 v494) a + S1x2x7168.size a ≤ S32x256x7168.size a), (Rect.unit (s := S32x256x7168) (k0_off19 v494) S1x2x7168.size hinb).WholeWords (EltTy.packing .bf16))
theorem k0_off19_inb : ∀ (v494 : BitVec 32) (k0_hw19 : k0_chk19 v494), ∀ a, (k0_off19 v494) a + S1x2x7168.size a ≤ S32x256x7168.size a := fun v494 k0_hw19 => k0_hw19.1
theorem k0_off19_wordsbf16 : ∀ (v494 : BitVec 32) (k0_hw19 : k0_chk19 v494), (Rect.unit (s := S32x256x7168) (k0_off19 v494) S1x2x7168.size (k0_off19_inb v494 k0_hw19)).WholeWords (EltTy.packing .bf16) := fun v494 k0_hw19 => k0_hw19.2 (k0_off19_inb v494 k0_hw19)

def k0_off20 (v517 : BitVec 32) : Fin 3 → Nat :=
  let c19_i32 : BitVec 32 := 19#32
  let c1_i32_290 : BitVec 32 := 1#32
  let v518 : BitVec 32 := Scalar.subi v517 c1_i32_290
  let c0_i32_292 : BitVec 32 := 0#32
  let v520 : BitVec 1 := Scalar.cmpi .sgt v518 c0_i32_292
  let v521 : BitVec 32 := Scalar.extui v520
  let c0_i32_293 : BitVec 32 := 0#32
  let v522 : BitVec 1 := Scalar.cmpi .slt v518 c0_i32_293
  let v523 : BitVec 32 := Scalar.extui v522
  let v524 : BitVec 32 := Scalar.subi v521 v523
  let c2_i32_291 : BitVec 32 := 2#32
  let c0_i32_294 : BitVec 32 := 0#32
  let v525 : BitVec 1 := Scalar.cmpi .sgt c2_i32_291 c0_i32_294
  let v526 : BitVec 32 := Scalar.extui v525
  let c0_i32_295 : BitVec 32 := 0#32
  let v527 : BitVec 1 := Scalar.cmpi .slt c2_i32_291 c0_i32_295
  let v528 : BitVec 32 := Scalar.extui v527
  let v529 : BitVec 32 := Scalar.subi v526 v528
  let v530 : BitVec 1 := Scalar.cmpi .ne v524 v529
  let v531 : BitVec 32 := Scalar.remsi v518 c2_i32_291
  let c0_i32_296 : BitVec 32 := 0#32
  let v532 : BitVec 1 := Scalar.cmpi .ne v531 c0_i32_296
  let v533 : BitVec 1 := Scalar.andi v530 v532
  let v519 : BitVec 32 := Scalar.divsi v518 c2_i32_291
  let c1_i32_297 : BitVec 32 := 1#32
  let v534 : BitVec 32 := Scalar.subi v519 c1_i32_297
  let v535 : BitVec 32 := Scalar.select v533 v534 v519
  let c0_i32_300 : BitVec 32 := 0#32
  ![19, Nat.mul 2 v535.toNat, 0]

def k0_chk20 (v517 : BitVec 32) : Prop :=
  (∀ a, (k0_off20 v517) a + S1x2x7168.size a ≤ S32x256x7168.size a) ∧
  (∀ (hinb : ∀ a, (k0_off20 v517) a + S1x2x7168.size a ≤ S32x256x7168.size a), (Rect.unit (s := S32x256x7168) (k0_off20 v517) S1x2x7168.size hinb).WholeWords (EltTy.packing .bf16))
theorem k0_off20_inb : ∀ (v517 : BitVec 32) (k0_hw20 : k0_chk20 v517), ∀ a, (k0_off20 v517) a + S1x2x7168.size a ≤ S32x256x7168.size a := fun v517 k0_hw20 => k0_hw20.1
theorem k0_off20_wordsbf16 : ∀ (v517 : BitVec 32) (k0_hw20 : k0_chk20 v517), (Rect.unit (s := S32x256x7168) (k0_off20 v517) S1x2x7168.size (k0_off20_inb v517 k0_hw20)).WholeWords (EltTy.packing .bf16) := fun v517 k0_hw20 => k0_hw20.2 (k0_off20_inb v517 k0_hw20)

def k0_off21 (v540 : BitVec 32) : Fin 3 → Nat :=
  let c20_i32 : BitVec 32 := 20#32
  let c1_i32_301 : BitVec 32 := 1#32
  let v541 : BitVec 32 := Scalar.subi v540 c1_i32_301
  let c0_i32_303 : BitVec 32 := 0#32
  let v543 : BitVec 1 := Scalar.cmpi .sgt v541 c0_i32_303
  let v544 : BitVec 32 := Scalar.extui v543
  let c0_i32_304 : BitVec 32 := 0#32
  let v545 : BitVec 1 := Scalar.cmpi .slt v541 c0_i32_304
  let v546 : BitVec 32 := Scalar.extui v545
  let v547 : BitVec 32 := Scalar.subi v544 v546
  let c2_i32_302 : BitVec 32 := 2#32
  let c0_i32_305 : BitVec 32 := 0#32
  let v548 : BitVec 1 := Scalar.cmpi .sgt c2_i32_302 c0_i32_305
  let v549 : BitVec 32 := Scalar.extui v548
  let c0_i32_306 : BitVec 32 := 0#32
  let v550 : BitVec 1 := Scalar.cmpi .slt c2_i32_302 c0_i32_306
  let v551 : BitVec 32 := Scalar.extui v550
  let v552 : BitVec 32 := Scalar.subi v549 v551
  let v553 : BitVec 1 := Scalar.cmpi .ne v547 v552
  let v554 : BitVec 32 := Scalar.remsi v541 c2_i32_302
  let c0_i32_307 : BitVec 32 := 0#32
  let v555 : BitVec 1 := Scalar.cmpi .ne v554 c0_i32_307
  let v556 : BitVec 1 := Scalar.andi v553 v555
  let v542 : BitVec 32 := Scalar.divsi v541 c2_i32_302
  let c1_i32_308 : BitVec 32 := 1#32
  let v557 : BitVec 32 := Scalar.subi v542 c1_i32_308
  let v558 : BitVec 32 := Scalar.select v556 v557 v542
  let c0_i32_311 : BitVec 32 := 0#32
  ![20, Nat.mul 2 v558.toNat, 0]

def k0_chk21 (v540 : BitVec 32) : Prop :=
  (∀ a, (k0_off21 v540) a + S1x2x7168.size a ≤ S32x256x7168.size a) ∧
  (∀ (hinb : ∀ a, (k0_off21 v540) a + S1x2x7168.size a ≤ S32x256x7168.size a), (Rect.unit (s := S32x256x7168) (k0_off21 v540) S1x2x7168.size hinb).WholeWords (EltTy.packing .bf16))
theorem k0_off21_inb : ∀ (v540 : BitVec 32) (k0_hw21 : k0_chk21 v540), ∀ a, (k0_off21 v540) a + S1x2x7168.size a ≤ S32x256x7168.size a := fun v540 k0_hw21 => k0_hw21.1
theorem k0_off21_wordsbf16 : ∀ (v540 : BitVec 32) (k0_hw21 : k0_chk21 v540), (Rect.unit (s := S32x256x7168) (k0_off21 v540) S1x2x7168.size (k0_off21_inb v540 k0_hw21)).WholeWords (EltTy.packing .bf16) := fun v540 k0_hw21 => k0_hw21.2 (k0_off21_inb v540 k0_hw21)

def k0_off22 (v563 : BitVec 32) : Fin 3 → Nat :=
  let c21_i32 : BitVec 32 := 21#32
  let c1_i32_312 : BitVec 32 := 1#32
  let v564 : BitVec 32 := Scalar.subi v563 c1_i32_312
  let c0_i32_314 : BitVec 32 := 0#32
  let v566 : BitVec 1 := Scalar.cmpi .sgt v564 c0_i32_314
  let v567 : BitVec 32 := Scalar.extui v566
  let c0_i32_315 : BitVec 32 := 0#32
  let v568 : BitVec 1 := Scalar.cmpi .slt v564 c0_i32_315
  let v569 : BitVec 32 := Scalar.extui v568
  let v570 : BitVec 32 := Scalar.subi v567 v569
  let c2_i32_313 : BitVec 32 := 2#32
  let c0_i32_316 : BitVec 32 := 0#32
  let v571 : BitVec 1 := Scalar.cmpi .sgt c2_i32_313 c0_i32_316
  let v572 : BitVec 32 := Scalar.extui v571
  let c0_i32_317 : BitVec 32 := 0#32
  let v573 : BitVec 1 := Scalar.cmpi .slt c2_i32_313 c0_i32_317
  let v574 : BitVec 32 := Scalar.extui v573
  let v575 : BitVec 32 := Scalar.subi v572 v574
  let v576 : BitVec 1 := Scalar.cmpi .ne v570 v575
  let v577 : BitVec 32 := Scalar.remsi v564 c2_i32_313
  let c0_i32_318 : BitVec 32 := 0#32
  let v578 : BitVec 1 := Scalar.cmpi .ne v577 c0_i32_318
  let v579 : BitVec 1 := Scalar.andi v576 v578
  let v565 : BitVec 32 := Scalar.divsi v564 c2_i32_313
  let c1_i32_319 : BitVec 32 := 1#32
  let v580 : BitVec 32 := Scalar.subi v565 c1_i32_319
  let v581 : BitVec 32 := Scalar.select v579 v580 v565
  let c0_i32_322 : BitVec 32 := 0#32
  ![21, Nat.mul 2 v581.toNat, 0]

def k0_chk22 (v563 : BitVec 32) : Prop :=
  (∀ a, (k0_off22 v563) a + S1x2x7168.size a ≤ S32x256x7168.size a) ∧
  (∀ (hinb : ∀ a, (k0_off22 v563) a + S1x2x7168.size a ≤ S32x256x7168.size a), (Rect.unit (s := S32x256x7168) (k0_off22 v563) S1x2x7168.size hinb).WholeWords (EltTy.packing .bf16))
theorem k0_off22_inb : ∀ (v563 : BitVec 32) (k0_hw22 : k0_chk22 v563), ∀ a, (k0_off22 v563) a + S1x2x7168.size a ≤ S32x256x7168.size a := fun v563 k0_hw22 => k0_hw22.1
theorem k0_off22_wordsbf16 : ∀ (v563 : BitVec 32) (k0_hw22 : k0_chk22 v563), (Rect.unit (s := S32x256x7168) (k0_off22 v563) S1x2x7168.size (k0_off22_inb v563 k0_hw22)).WholeWords (EltTy.packing .bf16) := fun v563 k0_hw22 => k0_hw22.2 (k0_off22_inb v563 k0_hw22)

def k0_off23 (v586 : BitVec 32) : Fin 3 → Nat :=
  let c22_i32 : BitVec 32 := 22#32
  let c1_i32_323 : BitVec 32 := 1#32
  let v587 : BitVec 32 := Scalar.subi v586 c1_i32_323
  let c0_i32_325 : BitVec 32 := 0#32
  let v589 : BitVec 1 := Scalar.cmpi .sgt v587 c0_i32_325
  let v590 : BitVec 32 := Scalar.extui v589
  let c0_i32_326 : BitVec 32 := 0#32
  let v591 : BitVec 1 := Scalar.cmpi .slt v587 c0_i32_326
  let v592 : BitVec 32 := Scalar.extui v591
  let v593 : BitVec 32 := Scalar.subi v590 v592
  let c2_i32_324 : BitVec 32 := 2#32
  let c0_i32_327 : BitVec 32 := 0#32
  let v594 : BitVec 1 := Scalar.cmpi .sgt c2_i32_324 c0_i32_327
  let v595 : BitVec 32 := Scalar.extui v594
  let c0_i32_328 : BitVec 32 := 0#32
  let v596 : BitVec 1 := Scalar.cmpi .slt c2_i32_324 c0_i32_328
  let v597 : BitVec 32 := Scalar.extui v596
  let v598 : BitVec 32 := Scalar.subi v595 v597
  let v599 : BitVec 1 := Scalar.cmpi .ne v593 v598
  let v600 : BitVec 32 := Scalar.remsi v587 c2_i32_324
  let c0_i32_329 : BitVec 32 := 0#32
  let v601 : BitVec 1 := Scalar.cmpi .ne v600 c0_i32_329
  let v602 : BitVec 1 := Scalar.andi v599 v601
  let v588 : BitVec 32 := Scalar.divsi v587 c2_i32_324
  let c1_i32_330 : BitVec 32 := 1#32
  let v603 : BitVec 32 := Scalar.subi v588 c1_i32_330
  let v604 : BitVec 32 := Scalar.select v602 v603 v588
  let c0_i32_333 : BitVec 32 := 0#32
  ![22, Nat.mul 2 v604.toNat, 0]

def k0_chk23 (v586 : BitVec 32) : Prop :=
  (∀ a, (k0_off23 v586) a + S1x2x7168.size a ≤ S32x256x7168.size a) ∧
  (∀ (hinb : ∀ a, (k0_off23 v586) a + S1x2x7168.size a ≤ S32x256x7168.size a), (Rect.unit (s := S32x256x7168) (k0_off23 v586) S1x2x7168.size hinb).WholeWords (EltTy.packing .bf16))
theorem k0_off23_inb : ∀ (v586 : BitVec 32) (k0_hw23 : k0_chk23 v586), ∀ a, (k0_off23 v586) a + S1x2x7168.size a ≤ S32x256x7168.size a := fun v586 k0_hw23 => k0_hw23.1
theorem k0_off23_wordsbf16 : ∀ (v586 : BitVec 32) (k0_hw23 : k0_chk23 v586), (Rect.unit (s := S32x256x7168) (k0_off23 v586) S1x2x7168.size (k0_off23_inb v586 k0_hw23)).WholeWords (EltTy.packing .bf16) := fun v586 k0_hw23 => k0_hw23.2 (k0_off23_inb v586 k0_hw23)

def k0_off24 (v609 : BitVec 32) : Fin 3 → Nat :=
  let c23_i32 : BitVec 32 := 23#32
  let c1_i32_334 : BitVec 32 := 1#32
  let v610 : BitVec 32 := Scalar.subi v609 c1_i32_334
  let c0_i32_336 : BitVec 32 := 0#32
  let v612 : BitVec 1 := Scalar.cmpi .sgt v610 c0_i32_336
  let v613 : BitVec 32 := Scalar.extui v612
  let c0_i32_337 : BitVec 32 := 0#32
  let v614 : BitVec 1 := Scalar.cmpi .slt v610 c0_i32_337
  let v615 : BitVec 32 := Scalar.extui v614
  let v616 : BitVec 32 := Scalar.subi v613 v615
  let c2_i32_335 : BitVec 32 := 2#32
  let c0_i32_338 : BitVec 32 := 0#32
  let v617 : BitVec 1 := Scalar.cmpi .sgt c2_i32_335 c0_i32_338
  let v618 : BitVec 32 := Scalar.extui v617
  let c0_i32_339 : BitVec 32 := 0#32
  let v619 : BitVec 1 := Scalar.cmpi .slt c2_i32_335 c0_i32_339
  let v620 : BitVec 32 := Scalar.extui v619
  let v621 : BitVec 32 := Scalar.subi v618 v620
  let v622 : BitVec 1 := Scalar.cmpi .ne v616 v621
  let v623 : BitVec 32 := Scalar.remsi v610 c2_i32_335
  let c0_i32_340 : BitVec 32 := 0#32
  let v624 : BitVec 1 := Scalar.cmpi .ne v623 c0_i32_340
  let v625 : BitVec 1 := Scalar.andi v622 v624
  let v611 : BitVec 32 := Scalar.divsi v610 c2_i32_335
  let c1_i32_341 : BitVec 32 := 1#32
  let v626 : BitVec 32 := Scalar.subi v611 c1_i32_341
  let v627 : BitVec 32 := Scalar.select v625 v626 v611
  let c0_i32_344 : BitVec 32 := 0#32
  ![23, Nat.mul 2 v627.toNat, 0]

def k0_chk24 (v609 : BitVec 32) : Prop :=
  (∀ a, (k0_off24 v609) a + S1x2x7168.size a ≤ S32x256x7168.size a) ∧
  (∀ (hinb : ∀ a, (k0_off24 v609) a + S1x2x7168.size a ≤ S32x256x7168.size a), (Rect.unit (s := S32x256x7168) (k0_off24 v609) S1x2x7168.size hinb).WholeWords (EltTy.packing .bf16))
theorem k0_off24_inb : ∀ (v609 : BitVec 32) (k0_hw24 : k0_chk24 v609), ∀ a, (k0_off24 v609) a + S1x2x7168.size a ≤ S32x256x7168.size a := fun v609 k0_hw24 => k0_hw24.1
theorem k0_off24_wordsbf16 : ∀ (v609 : BitVec 32) (k0_hw24 : k0_chk24 v609), (Rect.unit (s := S32x256x7168) (k0_off24 v609) S1x2x7168.size (k0_off24_inb v609 k0_hw24)).WholeWords (EltTy.packing .bf16) := fun v609 k0_hw24 => k0_hw24.2 (k0_off24_inb v609 k0_hw24)

def k0_off25 (v632 : BitVec 32) : Fin 3 → Nat :=
  let c24_i32 : BitVec 32 := 24#32
  let c1_i32_345 : BitVec 32 := 1#32
  let v633 : BitVec 32 := Scalar.subi v632 c1_i32_345
  let c0_i32_347 : BitVec 32 := 0#32
  let v635 : BitVec 1 := Scalar.cmpi .sgt v633 c0_i32_347
  let v636 : BitVec 32 := Scalar.extui v635
  let c0_i32_348 : BitVec 32 := 0#32
  let v637 : BitVec 1 := Scalar.cmpi .slt v633 c0_i32_348
  let v638 : BitVec 32 := Scalar.extui v637
  let v639 : BitVec 32 := Scalar.subi v636 v638
  let c2_i32_346 : BitVec 32 := 2#32
  let c0_i32_349 : BitVec 32 := 0#32
  let v640 : BitVec 1 := Scalar.cmpi .sgt c2_i32_346 c0_i32_349
  let v641 : BitVec 32 := Scalar.extui v640
  let c0_i32_350 : BitVec 32 := 0#32
  let v642 : BitVec 1 := Scalar.cmpi .slt c2_i32_346 c0_i32_350
  let v643 : BitVec 32 := Scalar.extui v642
  let v644 : BitVec 32 := Scalar.subi v641 v643
  let v645 : BitVec 1 := Scalar.cmpi .ne v639 v644
  let v646 : BitVec 32 := Scalar.remsi v633 c2_i32_346
  let c0_i32_351 : BitVec 32 := 0#32
  let v647 : BitVec 1 := Scalar.cmpi .ne v646 c0_i32_351
  let v648 : BitVec 1 := Scalar.andi v645 v647
  let v634 : BitVec 32 := Scalar.divsi v633 c2_i32_346
  let c1_i32_352 : BitVec 32 := 1#32
  let v649 : BitVec 32 := Scalar.subi v634 c1_i32_352
  let v650 : BitVec 32 := Scalar.select v648 v649 v634
  let c0_i32_355 : BitVec 32 := 0#32
  ![24, Nat.mul 2 v650.toNat, 0]

def k0_chk25 (v632 : BitVec 32) : Prop :=
  (∀ a, (k0_off25 v632) a + S1x2x7168.size a ≤ S32x256x7168.size a) ∧
  (∀ (hinb : ∀ a, (k0_off25 v632) a + S1x2x7168.size a ≤ S32x256x7168.size a), (Rect.unit (s := S32x256x7168) (k0_off25 v632) S1x2x7168.size hinb).WholeWords (EltTy.packing .bf16))
theorem k0_off25_inb : ∀ (v632 : BitVec 32) (k0_hw25 : k0_chk25 v632), ∀ a, (k0_off25 v632) a + S1x2x7168.size a ≤ S32x256x7168.size a := fun v632 k0_hw25 => k0_hw25.1
theorem k0_off25_wordsbf16 : ∀ (v632 : BitVec 32) (k0_hw25 : k0_chk25 v632), (Rect.unit (s := S32x256x7168) (k0_off25 v632) S1x2x7168.size (k0_off25_inb v632 k0_hw25)).WholeWords (EltTy.packing .bf16) := fun v632 k0_hw25 => k0_hw25.2 (k0_off25_inb v632 k0_hw25)

def k0_off26 (v655 : BitVec 32) : Fin 3 → Nat :=
  let c25_i32 : BitVec 32 := 25#32
  let c1_i32_356 : BitVec 32 := 1#32
  let v656 : BitVec 32 := Scalar.subi v655 c1_i32_356
  let c0_i32_358 : BitVec 32 := 0#32
  let v658 : BitVec 1 := Scalar.cmpi .sgt v656 c0_i32_358
  let v659 : BitVec 32 := Scalar.extui v658
  let c0_i32_359 : BitVec 32 := 0#32
  let v660 : BitVec 1 := Scalar.cmpi .slt v656 c0_i32_359
  let v661 : BitVec 32 := Scalar.extui v660
  let v662 : BitVec 32 := Scalar.subi v659 v661
  let c2_i32_357 : BitVec 32 := 2#32
  let c0_i32_360 : BitVec 32 := 0#32
  let v663 : BitVec 1 := Scalar.cmpi .sgt c2_i32_357 c0_i32_360
  let v664 : BitVec 32 := Scalar.extui v663
  let c0_i32_361 : BitVec 32 := 0#32
  let v665 : BitVec 1 := Scalar.cmpi .slt c2_i32_357 c0_i32_361
  let v666 : BitVec 32 := Scalar.extui v665
  let v667 : BitVec 32 := Scalar.subi v664 v666
  let v668 : BitVec 1 := Scalar.cmpi .ne v662 v667
  let v669 : BitVec 32 := Scalar.remsi v656 c2_i32_357
  let c0_i32_362 : BitVec 32 := 0#32
  let v670 : BitVec 1 := Scalar.cmpi .ne v669 c0_i32_362
  let v671 : BitVec 1 := Scalar.andi v668 v670
  let v657 : BitVec 32 := Scalar.divsi v656 c2_i32_357
  let c1_i32_363 : BitVec 32 := 1#32
  let v672 : BitVec 32 := Scalar.subi v657 c1_i32_363
  let v673 : BitVec 32 := Scalar.select v671 v672 v657
  let c0_i32_366 : BitVec 32 := 0#32
  ![25, Nat.mul 2 v673.toNat, 0]

def k0_chk26 (v655 : BitVec 32) : Prop :=
  (∀ a, (k0_off26 v655) a + S1x2x7168.size a ≤ S32x256x7168.size a) ∧
  (∀ (hinb : ∀ a, (k0_off26 v655) a + S1x2x7168.size a ≤ S32x256x7168.size a), (Rect.unit (s := S32x256x7168) (k0_off26 v655) S1x2x7168.size hinb).WholeWords (EltTy.packing .bf16))
theorem k0_off26_inb : ∀ (v655 : BitVec 32) (k0_hw26 : k0_chk26 v655), ∀ a, (k0_off26 v655) a + S1x2x7168.size a ≤ S32x256x7168.size a := fun v655 k0_hw26 => k0_hw26.1
theorem k0_off26_wordsbf16 : ∀ (v655 : BitVec 32) (k0_hw26 : k0_chk26 v655), (Rect.unit (s := S32x256x7168) (k0_off26 v655) S1x2x7168.size (k0_off26_inb v655 k0_hw26)).WholeWords (EltTy.packing .bf16) := fun v655 k0_hw26 => k0_hw26.2 (k0_off26_inb v655 k0_hw26)

def k0_off27 (v678 : BitVec 32) : Fin 3 → Nat :=
  let c26_i32 : BitVec 32 := 26#32
  let c1_i32_367 : BitVec 32 := 1#32
  let v679 : BitVec 32 := Scalar.subi v678 c1_i32_367
  let c0_i32_369 : BitVec 32 := 0#32
  let v681 : BitVec 1 := Scalar.cmpi .sgt v679 c0_i32_369
  let v682 : BitVec 32 := Scalar.extui v681
  let c0_i32_370 : BitVec 32 := 0#32
  let v683 : BitVec 1 := Scalar.cmpi .slt v679 c0_i32_370
  let v684 : BitVec 32 := Scalar.extui v683
  let v685 : BitVec 32 := Scalar.subi v682 v684
  let c2_i32_368 : BitVec 32 := 2#32
  let c0_i32_371 : BitVec 32 := 0#32
  let v686 : BitVec 1 := Scalar.cmpi .sgt c2_i32_368 c0_i32_371
  let v687 : BitVec 32 := Scalar.extui v686
  let c0_i32_372 : BitVec 32 := 0#32
  let v688 : BitVec 1 := Scalar.cmpi .slt c2_i32_368 c0_i32_372
  let v689 : BitVec 32 := Scalar.extui v688
  let v690 : BitVec 32 := Scalar.subi v687 v689
  let v691 : BitVec 1 := Scalar.cmpi .ne v685 v690
  let v692 : BitVec 32 := Scalar.remsi v679 c2_i32_368
  let c0_i32_373 : BitVec 32 := 0#32
  let v693 : BitVec 1 := Scalar.cmpi .ne v692 c0_i32_373
  let v694 : BitVec 1 := Scalar.andi v691 v693
  let v680 : BitVec 32 := Scalar.divsi v679 c2_i32_368
  let c1_i32_374 : BitVec 32 := 1#32
  let v695 : BitVec 32 := Scalar.subi v680 c1_i32_374
  let v696 : BitVec 32 := Scalar.select v694 v695 v680
  let c0_i32_377 : BitVec 32 := 0#32
  ![26, Nat.mul 2 v696.toNat, 0]

def k0_chk27 (v678 : BitVec 32) : Prop :=
  (∀ a, (k0_off27 v678) a + S1x2x7168.size a ≤ S32x256x7168.size a) ∧
  (∀ (hinb : ∀ a, (k0_off27 v678) a + S1x2x7168.size a ≤ S32x256x7168.size a), (Rect.unit (s := S32x256x7168) (k0_off27 v678) S1x2x7168.size hinb).WholeWords (EltTy.packing .bf16))
theorem k0_off27_inb : ∀ (v678 : BitVec 32) (k0_hw27 : k0_chk27 v678), ∀ a, (k0_off27 v678) a + S1x2x7168.size a ≤ S32x256x7168.size a := fun v678 k0_hw27 => k0_hw27.1
theorem k0_off27_wordsbf16 : ∀ (v678 : BitVec 32) (k0_hw27 : k0_chk27 v678), (Rect.unit (s := S32x256x7168) (k0_off27 v678) S1x2x7168.size (k0_off27_inb v678 k0_hw27)).WholeWords (EltTy.packing .bf16) := fun v678 k0_hw27 => k0_hw27.2 (k0_off27_inb v678 k0_hw27)

def k0_off28 (v701 : BitVec 32) : Fin 3 → Nat :=
  let c27_i32 : BitVec 32 := 27#32
  let c1_i32_378 : BitVec 32 := 1#32
  let v702 : BitVec 32 := Scalar.subi v701 c1_i32_378
  let c0_i32_380 : BitVec 32 := 0#32
  let v704 : BitVec 1 := Scalar.cmpi .sgt v702 c0_i32_380
  let v705 : BitVec 32 := Scalar.extui v704
  let c0_i32_381 : BitVec 32 := 0#32
  let v706 : BitVec 1 := Scalar.cmpi .slt v702 c0_i32_381
  let v707 : BitVec 32 := Scalar.extui v706
  let v708 : BitVec 32 := Scalar.subi v705 v707
  let c2_i32_379 : BitVec 32 := 2#32
  let c0_i32_382 : BitVec 32 := 0#32
  let v709 : BitVec 1 := Scalar.cmpi .sgt c2_i32_379 c0_i32_382
  let v710 : BitVec 32 := Scalar.extui v709
  let c0_i32_383 : BitVec 32 := 0#32
  let v711 : BitVec 1 := Scalar.cmpi .slt c2_i32_379 c0_i32_383
  let v712 : BitVec 32 := Scalar.extui v711
  let v713 : BitVec 32 := Scalar.subi v710 v712
  let v714 : BitVec 1 := Scalar.cmpi .ne v708 v713
  let v715 : BitVec 32 := Scalar.remsi v702 c2_i32_379
  let c0_i32_384 : BitVec 32 := 0#32
  let v716 : BitVec 1 := Scalar.cmpi .ne v715 c0_i32_384
  let v717 : BitVec 1 := Scalar.andi v714 v716
  let v703 : BitVec 32 := Scalar.divsi v702 c2_i32_379
  let c1_i32_385 : BitVec 32 := 1#32
  let v718 : BitVec 32 := Scalar.subi v703 c1_i32_385
  let v719 : BitVec 32 := Scalar.select v717 v718 v703
  let c0_i32_388 : BitVec 32 := 0#32
  ![27, Nat.mul 2 v719.toNat, 0]

def k0_chk28 (v701 : BitVec 32) : Prop :=
  (∀ a, (k0_off28 v701) a + S1x2x7168.size a ≤ S32x256x7168.size a) ∧
  (∀ (hinb : ∀ a, (k0_off28 v701) a + S1x2x7168.size a ≤ S32x256x7168.size a), (Rect.unit (s := S32x256x7168) (k0_off28 v701) S1x2x7168.size hinb).WholeWords (EltTy.packing .bf16))
theorem k0_off28_inb : ∀ (v701 : BitVec 32) (k0_hw28 : k0_chk28 v701), ∀ a, (k0_off28 v701) a + S1x2x7168.size a ≤ S32x256x7168.size a := fun v701 k0_hw28 => k0_hw28.1
theorem k0_off28_wordsbf16 : ∀ (v701 : BitVec 32) (k0_hw28 : k0_chk28 v701), (Rect.unit (s := S32x256x7168) (k0_off28 v701) S1x2x7168.size (k0_off28_inb v701 k0_hw28)).WholeWords (EltTy.packing .bf16) := fun v701 k0_hw28 => k0_hw28.2 (k0_off28_inb v701 k0_hw28)

def k0_off29 (v724 : BitVec 32) : Fin 3 → Nat :=
  let c28_i32 : BitVec 32 := 28#32
  let c1_i32_389 : BitVec 32 := 1#32
  let v725 : BitVec 32 := Scalar.subi v724 c1_i32_389
  let c0_i32_391 : BitVec 32 := 0#32
  let v727 : BitVec 1 := Scalar.cmpi .sgt v725 c0_i32_391
  let v728 : BitVec 32 := Scalar.extui v727
  let c0_i32_392 : BitVec 32 := 0#32
  let v729 : BitVec 1 := Scalar.cmpi .slt v725 c0_i32_392
  let v730 : BitVec 32 := Scalar.extui v729
  let v731 : BitVec 32 := Scalar.subi v728 v730
  let c2_i32_390 : BitVec 32 := 2#32
  let c0_i32_393 : BitVec 32 := 0#32
  let v732 : BitVec 1 := Scalar.cmpi .sgt c2_i32_390 c0_i32_393
  let v733 : BitVec 32 := Scalar.extui v732
  let c0_i32_394 : BitVec 32 := 0#32
  let v734 : BitVec 1 := Scalar.cmpi .slt c2_i32_390 c0_i32_394
  let v735 : BitVec 32 := Scalar.extui v734
  let v736 : BitVec 32 := Scalar.subi v733 v735
  let v737 : BitVec 1 := Scalar.cmpi .ne v731 v736
  let v738 : BitVec 32 := Scalar.remsi v725 c2_i32_390
  let c0_i32_395 : BitVec 32 := 0#32
  let v739 : BitVec 1 := Scalar.cmpi .ne v738 c0_i32_395
  let v740 : BitVec 1 := Scalar.andi v737 v739
  let v726 : BitVec 32 := Scalar.divsi v725 c2_i32_390
  let c1_i32_396 : BitVec 32 := 1#32
  let v741 : BitVec 32 := Scalar.subi v726 c1_i32_396
  let v742 : BitVec 32 := Scalar.select v740 v741 v726
  let c0_i32_399 : BitVec 32 := 0#32
  ![28, Nat.mul 2 v742.toNat, 0]

def k0_chk29 (v724 : BitVec 32) : Prop :=
  (∀ a, (k0_off29 v724) a + S1x2x7168.size a ≤ S32x256x7168.size a) ∧
  (∀ (hinb : ∀ a, (k0_off29 v724) a + S1x2x7168.size a ≤ S32x256x7168.size a), (Rect.unit (s := S32x256x7168) (k0_off29 v724) S1x2x7168.size hinb).WholeWords (EltTy.packing .bf16))
theorem k0_off29_inb : ∀ (v724 : BitVec 32) (k0_hw29 : k0_chk29 v724), ∀ a, (k0_off29 v724) a + S1x2x7168.size a ≤ S32x256x7168.size a := fun v724 k0_hw29 => k0_hw29.1
theorem k0_off29_wordsbf16 : ∀ (v724 : BitVec 32) (k0_hw29 : k0_chk29 v724), (Rect.unit (s := S32x256x7168) (k0_off29 v724) S1x2x7168.size (k0_off29_inb v724 k0_hw29)).WholeWords (EltTy.packing .bf16) := fun v724 k0_hw29 => k0_hw29.2 (k0_off29_inb v724 k0_hw29)

def k0_off30 (v747 : BitVec 32) : Fin 3 → Nat :=
  let c29_i32 : BitVec 32 := 29#32
  let c1_i32_400 : BitVec 32 := 1#32
  let v748 : BitVec 32 := Scalar.subi v747 c1_i32_400
  let c0_i32_402 : BitVec 32 := 0#32
  let v750 : BitVec 1 := Scalar.cmpi .sgt v748 c0_i32_402
  let v751 : BitVec 32 := Scalar.extui v750
  let c0_i32_403 : BitVec 32 := 0#32
  let v752 : BitVec 1 := Scalar.cmpi .slt v748 c0_i32_403
  let v753 : BitVec 32 := Scalar.extui v752
  let v754 : BitVec 32 := Scalar.subi v751 v753
  let c2_i32_401 : BitVec 32 := 2#32
  let c0_i32_404 : BitVec 32 := 0#32
  let v755 : BitVec 1 := Scalar.cmpi .sgt c2_i32_401 c0_i32_404
  let v756 : BitVec 32 := Scalar.extui v755
  let c0_i32_405 : BitVec 32 := 0#32
  let v757 : BitVec 1 := Scalar.cmpi .slt c2_i32_401 c0_i32_405
  let v758 : BitVec 32 := Scalar.extui v757
  let v759 : BitVec 32 := Scalar.subi v756 v758
  let v760 : BitVec 1 := Scalar.cmpi .ne v754 v759
  let v761 : BitVec 32 := Scalar.remsi v748 c2_i32_401
  let c0_i32_406 : BitVec 32 := 0#32
  let v762 : BitVec 1 := Scalar.cmpi .ne v761 c0_i32_406
  let v763 : BitVec 1 := Scalar.andi v760 v762
  let v749 : BitVec 32 := Scalar.divsi v748 c2_i32_401
  let c1_i32_407 : BitVec 32 := 1#32
  let v764 : BitVec 32 := Scalar.subi v749 c1_i32_407
  let v765 : BitVec 32 := Scalar.select v763 v764 v749
  let c0_i32_410 : BitVec 32 := 0#32
  ![29, Nat.mul 2 v765.toNat, 0]

def k0_chk30 (v747 : BitVec 32) : Prop :=
  (∀ a, (k0_off30 v747) a + S1x2x7168.size a ≤ S32x256x7168.size a) ∧
  (∀ (hinb : ∀ a, (k0_off30 v747) a + S1x2x7168.size a ≤ S32x256x7168.size a), (Rect.unit (s := S32x256x7168) (k0_off30 v747) S1x2x7168.size hinb).WholeWords (EltTy.packing .bf16))
theorem k0_off30_inb : ∀ (v747 : BitVec 32) (k0_hw30 : k0_chk30 v747), ∀ a, (k0_off30 v747) a + S1x2x7168.size a ≤ S32x256x7168.size a := fun v747 k0_hw30 => k0_hw30.1
theorem k0_off30_wordsbf16 : ∀ (v747 : BitVec 32) (k0_hw30 : k0_chk30 v747), (Rect.unit (s := S32x256x7168) (k0_off30 v747) S1x2x7168.size (k0_off30_inb v747 k0_hw30)).WholeWords (EltTy.packing .bf16) := fun v747 k0_hw30 => k0_hw30.2 (k0_off30_inb v747 k0_hw30)

def k0_off31 (v770 : BitVec 32) : Fin 3 → Nat :=
  let c30_i32 : BitVec 32 := 30#32
  let c1_i32_411 : BitVec 32 := 1#32
  let v771 : BitVec 32 := Scalar.subi v770 c1_i32_411
  let c0_i32_413 : BitVec 32 := 0#32
  let v773 : BitVec 1 := Scalar.cmpi .sgt v771 c0_i32_413
  let v774 : BitVec 32 := Scalar.extui v773
  let c0_i32_414 : BitVec 32 := 0#32
  let v775 : BitVec 1 := Scalar.cmpi .slt v771 c0_i32_414
  let v776 : BitVec 32 := Scalar.extui v775
  let v777 : BitVec 32 := Scalar.subi v774 v776
  let c2_i32_412 : BitVec 32 := 2#32
  let c0_i32_415 : BitVec 32 := 0#32
  let v778 : BitVec 1 := Scalar.cmpi .sgt c2_i32_412 c0_i32_415
  let v779 : BitVec 32 := Scalar.extui v778
  let c0_i32_416 : BitVec 32 := 0#32
  let v780 : BitVec 1 := Scalar.cmpi .slt c2_i32_412 c0_i32_416
  let v781 : BitVec 32 := Scalar.extui v780
  let v782 : BitVec 32 := Scalar.subi v779 v781
  let v783 : BitVec 1 := Scalar.cmpi .ne v777 v782
  let v784 : BitVec 32 := Scalar.remsi v771 c2_i32_412
  let c0_i32_417 : BitVec 32 := 0#32
  let v785 : BitVec 1 := Scalar.cmpi .ne v784 c0_i32_417
  let v786 : BitVec 1 := Scalar.andi v783 v785
  let v772 : BitVec 32 := Scalar.divsi v771 c2_i32_412
  let c1_i32_418 : BitVec 32 := 1#32
  let v787 : BitVec 32 := Scalar.subi v772 c1_i32_418
  let v788 : BitVec 32 := Scalar.select v786 v787 v772
  let c0_i32_421 : BitVec 32 := 0#32
  ![30, Nat.mul 2 v788.toNat, 0]

def k0_chk31 (v770 : BitVec 32) : Prop :=
  (∀ a, (k0_off31 v770) a + S1x2x7168.size a ≤ S32x256x7168.size a) ∧
  (∀ (hinb : ∀ a, (k0_off31 v770) a + S1x2x7168.size a ≤ S32x256x7168.size a), (Rect.unit (s := S32x256x7168) (k0_off31 v770) S1x2x7168.size hinb).WholeWords (EltTy.packing .bf16))
theorem k0_off31_inb : ∀ (v770 : BitVec 32) (k0_hw31 : k0_chk31 v770), ∀ a, (k0_off31 v770) a + S1x2x7168.size a ≤ S32x256x7168.size a := fun v770 k0_hw31 => k0_hw31.1
theorem k0_off31_wordsbf16 : ∀ (v770 : BitVec 32) (k0_hw31 : k0_chk31 v770), (Rect.unit (s := S32x256x7168) (k0_off31 v770) S1x2x7168.size (k0_off31_inb v770 k0_hw31)).WholeWords (EltTy.packing .bf16) := fun v770 k0_hw31 => k0_hw31.2 (k0_off31_inb v770 k0_hw31)

def k0_off32 (v793 : BitVec 32) : Fin 3 → Nat :=
  let c31_i32 : BitVec 32 := 31#32
  let c1_i32_422 : BitVec 32 := 1#32
  let v794 : BitVec 32 := Scalar.subi v793 c1_i32_422
  let c0_i32_424 : BitVec 32 := 0#32
  let v796 : BitVec 1 := Scalar.cmpi .sgt v794 c0_i32_424
  let v797 : BitVec 32 := Scalar.extui v796
  let c0_i32_425 : BitVec 32 := 0#32
  let v798 : BitVec 1 := Scalar.cmpi .slt v794 c0_i32_425
  let v799 : BitVec 32 := Scalar.extui v798
  let v800 : BitVec 32 := Scalar.subi v797 v799
  let c2_i32_423 : BitVec 32 := 2#32
  let c0_i32_426 : BitVec 32 := 0#32
  let v801 : BitVec 1 := Scalar.cmpi .sgt c2_i32_423 c0_i32_426
  let v802 : BitVec 32 := Scalar.extui v801
  let c0_i32_427 : BitVec 32 := 0#32
  let v803 : BitVec 1 := Scalar.cmpi .slt c2_i32_423 c0_i32_427
  let v804 : BitVec 32 := Scalar.extui v803
  let v805 : BitVec 32 := Scalar.subi v802 v804
  let v806 : BitVec 1 := Scalar.cmpi .ne v800 v805
  let v807 : BitVec 32 := Scalar.remsi v794 c2_i32_423
  let c0_i32_428 : BitVec 32 := 0#32
  let v808 : BitVec 1 := Scalar.cmpi .ne v807 c0_i32_428
  let v809 : BitVec 1 := Scalar.andi v806 v808
  let v795 : BitVec 32 := Scalar.divsi v794 c2_i32_423
  let c1_i32_429 : BitVec 32 := 1#32
  let v810 : BitVec 32 := Scalar.subi v795 c1_i32_429
  let v811 : BitVec 32 := Scalar.select v809 v810 v795
  let c0_i32_432 : BitVec 32 := 0#32
  ![31, Nat.mul 2 v811.toNat, 0]

def k0_chk32 (v793 : BitVec 32) : Prop :=
  (∀ a, (k0_off32 v793) a + S1x2x7168.size a ≤ S32x256x7168.size a) ∧
  (∀ (hinb : ∀ a, (k0_off32 v793) a + S1x2x7168.size a ≤ S32x256x7168.size a), (Rect.unit (s := S32x256x7168) (k0_off32 v793) S1x2x7168.size hinb).WholeWords (EltTy.packing .bf16))
theorem k0_off32_inb : ∀ (v793 : BitVec 32) (k0_hw32 : k0_chk32 v793), ∀ a, (k0_off32 v793) a + S1x2x7168.size a ≤ S32x256x7168.size a := fun v793 k0_hw32 => k0_hw32.1
theorem k0_off32_wordsbf16 : ∀ (v793 : BitVec 32) (k0_hw32 : k0_chk32 v793), (Rect.unit (s := S32x256x7168) (k0_off32 v793) S1x2x7168.size (k0_off32_inb v793 k0_hw32)).WholeWords (EltTy.packing .bf16) := fun v793 k0_hw32 => k0_hw32.2 (k0_off32_inb v793 k0_hw32)

def k0_off33 (v816 : BitVec 32) : Fin 3 → Nat :=
  let c0_i32_442 : BitVec 32 := 0#32
  let c1_i32_434 : BitVec 32 := 1#32
  let v817 : BitVec 32 := Scalar.subi v816 c1_i32_434
  let c0_i32_436 : BitVec 32 := 0#32
  let v819 : BitVec 1 := Scalar.cmpi .sgt v817 c0_i32_436
  let v820 : BitVec 32 := Scalar.extui v819
  let c0_i32_437 : BitVec 32 := 0#32
  let v821 : BitVec 1 := Scalar.cmpi .slt v817 c0_i32_437
  let v822 : BitVec 32 := Scalar.extui v821
  let v823 : BitVec 32 := Scalar.subi v820 v822
  let c2_i32_435 : BitVec 32 := 2#32
  let c0_i32_438 : BitVec 32 := 0#32
  let v824 : BitVec 1 := Scalar.cmpi .sgt c2_i32_435 c0_i32_438
  let v825 : BitVec 32 := Scalar.extui v824
  let c0_i32_439 : BitVec 32 := 0#32
  let v826 : BitVec 1 := Scalar.cmpi .slt c2_i32_435 c0_i32_439
  let v827 : BitVec 32 := Scalar.extui v826
  let v828 : BitVec 32 := Scalar.subi v825 v827
  let v829 : BitVec 1 := Scalar.cmpi .ne v823 v828
  let v830 : BitVec 32 := Scalar.remsi v817 c2_i32_435
  let c0_i32_440 : BitVec 32 := 0#32
  let v831 : BitVec 1 := Scalar.cmpi .ne v830 c0_i32_440
  let v832 : BitVec 1 := Scalar.andi v829 v831
  let v818 : BitVec 32 := Scalar.divsi v817 c2_i32_435
  let c1_i32_441 : BitVec 32 := 1#32
  let v833 : BitVec 32 := Scalar.subi v818 c1_i32_441
  let v834 : BitVec 32 := Scalar.select v832 v833 v818
  let c0_i32_445 : BitVec 32 := 0#32
  ![0, Nat.mul 2 v834.toNat, 0]

def k0_chk33 (v816 : BitVec 32) : Prop :=
  (∀ a, (k0_off33 v816) a + S1x2x7168.size a ≤ S32x256x7168.size a) ∧
  (∀ (hinb : ∀ a, (k0_off33 v816) a + S1x2x7168.size a ≤ S32x256x7168.size a), (Rect.unit (s := S32x256x7168) (k0_off33 v816) S1x2x7168.size hinb).WholeWords (EltTy.packing .bf16))
theorem k0_off33_inb : ∀ (v816 : BitVec 32) (k0_hw33 : k0_chk33 v816), ∀ a, (k0_off33 v816) a + S1x2x7168.size a ≤ S32x256x7168.size a := fun v816 k0_hw33 => k0_hw33.1
theorem k0_off33_wordsbf16 : ∀ (v816 : BitVec 32) (k0_hw33 : k0_chk33 v816), (Rect.unit (s := S32x256x7168) (k0_off33 v816) S1x2x7168.size (k0_off33_inb v816 k0_hw33)).WholeWords (EltTy.packing .bf16) := fun v816 k0_hw33 => k0_hw33.2 (k0_off33_inb v816 k0_hw33)

def k0_off34 (v839 : BitVec 32) : Fin 3 → Nat :=
  let c1_i32_455 : BitVec 32 := 1#32
  let c1_i32_447 : BitVec 32 := 1#32
  let v840 : BitVec 32 := Scalar.subi v839 c1_i32_447
  let c0_i32_449 : BitVec 32 := 0#32
  let v842 : BitVec 1 := Scalar.cmpi .sgt v840 c0_i32_449
  let v843 : BitVec 32 := Scalar.extui v842
  let c0_i32_450 : BitVec 32 := 0#32
  let v844 : BitVec 1 := Scalar.cmpi .slt v840 c0_i32_450
  let v845 : BitVec 32 := Scalar.extui v844
  let v846 : BitVec 32 := Scalar.subi v843 v845
  let c2_i32_448 : BitVec 32 := 2#32
  let c0_i32_451 : BitVec 32 := 0#32
  let v847 : BitVec 1 := Scalar.cmpi .sgt c2_i32_448 c0_i32_451
  let v848 : BitVec 32 := Scalar.extui v847
  let c0_i32_452 : BitVec 32 := 0#32
  let v849 : BitVec 1 := Scalar.cmpi .slt c2_i32_448 c0_i32_452
  let v850 : BitVec 32 := Scalar.extui v849
  let v851 : BitVec 32 := Scalar.subi v848 v850
  let v852 : BitVec 1 := Scalar.cmpi .ne v846 v851
  let v853 : BitVec 32 := Scalar.remsi v840 c2_i32_448
  let c0_i32_453 : BitVec 32 := 0#32
  let v854 : BitVec 1 := Scalar.cmpi .ne v853 c0_i32_453
  let v855 : BitVec 1 := Scalar.andi v852 v854
  let v841 : BitVec 32 := Scalar.divsi v840 c2_i32_448
  let c1_i32_454 : BitVec 32 := 1#32
  let v856 : BitVec 32 := Scalar.subi v841 c1_i32_454
  let v857 : BitVec 32 := Scalar.select v855 v856 v841
  let c0_i32_458 : BitVec 32 := 0#32
  ![1, Nat.mul 2 v857.toNat, 0]

def k0_chk34 (v839 : BitVec 32) : Prop :=
  (∀ a, (k0_off34 v839) a + S1x2x7168.size a ≤ S32x256x7168.size a) ∧
  (∀ (hinb : ∀ a, (k0_off34 v839) a + S1x2x7168.size a ≤ S32x256x7168.size a), (Rect.unit (s := S32x256x7168) (k0_off34 v839) S1x2x7168.size hinb).WholeWords (EltTy.packing .bf16))
theorem k0_off34_inb : ∀ (v839 : BitVec 32) (k0_hw34 : k0_chk34 v839), ∀ a, (k0_off34 v839) a + S1x2x7168.size a ≤ S32x256x7168.size a := fun v839 k0_hw34 => k0_hw34.1
theorem k0_off34_wordsbf16 : ∀ (v839 : BitVec 32) (k0_hw34 : k0_chk34 v839), (Rect.unit (s := S32x256x7168) (k0_off34 v839) S1x2x7168.size (k0_off34_inb v839 k0_hw34)).WholeWords (EltTy.packing .bf16) := fun v839 k0_hw34 => k0_hw34.2 (k0_off34_inb v839 k0_hw34)

def k0_off35 (v862 : BitVec 32) : Fin 3 → Nat :=
  let c2_i32_468 : BitVec 32 := 2#32
  let c1_i32_460 : BitVec 32 := 1#32
  let v863 : BitVec 32 := Scalar.subi v862 c1_i32_460
  let c0_i32_462 : BitVec 32 := 0#32
  let v865 : BitVec 1 := Scalar.cmpi .sgt v863 c0_i32_462
  let v866 : BitVec 32 := Scalar.extui v865
  let c0_i32_463 : BitVec 32 := 0#32
  let v867 : BitVec 1 := Scalar.cmpi .slt v863 c0_i32_463
  let v868 : BitVec 32 := Scalar.extui v867
  let v869 : BitVec 32 := Scalar.subi v866 v868
  let c2_i32_461 : BitVec 32 := 2#32
  let c0_i32_464 : BitVec 32 := 0#32
  let v870 : BitVec 1 := Scalar.cmpi .sgt c2_i32_461 c0_i32_464
  let v871 : BitVec 32 := Scalar.extui v870
  let c0_i32_465 : BitVec 32 := 0#32
  let v872 : BitVec 1 := Scalar.cmpi .slt c2_i32_461 c0_i32_465
  let v873 : BitVec 32 := Scalar.extui v872
  let v874 : BitVec 32 := Scalar.subi v871 v873
  let v875 : BitVec 1 := Scalar.cmpi .ne v869 v874
  let v876 : BitVec 32 := Scalar.remsi v863 c2_i32_461
  let c0_i32_466 : BitVec 32 := 0#32
  let v877 : BitVec 1 := Scalar.cmpi .ne v876 c0_i32_466
  let v878 : BitVec 1 := Scalar.andi v875 v877
  let v864 : BitVec 32 := Scalar.divsi v863 c2_i32_461
  let c1_i32_467 : BitVec 32 := 1#32
  let v879 : BitVec 32 := Scalar.subi v864 c1_i32_467
  let v880 : BitVec 32 := Scalar.select v878 v879 v864
  let c0_i32_471 : BitVec 32 := 0#32
  ![2, Nat.mul 2 v880.toNat, 0]

def k0_chk35 (v862 : BitVec 32) : Prop :=
  (∀ a, (k0_off35 v862) a + S1x2x7168.size a ≤ S32x256x7168.size a) ∧
  (∀ (hinb : ∀ a, (k0_off35 v862) a + S1x2x7168.size a ≤ S32x256x7168.size a), (Rect.unit (s := S32x256x7168) (k0_off35 v862) S1x2x7168.size hinb).WholeWords (EltTy.packing .bf16))
theorem k0_off35_inb : ∀ (v862 : BitVec 32) (k0_hw35 : k0_chk35 v862), ∀ a, (k0_off35 v862) a + S1x2x7168.size a ≤ S32x256x7168.size a := fun v862 k0_hw35 => k0_hw35.1
theorem k0_off35_wordsbf16 : ∀ (v862 : BitVec 32) (k0_hw35 : k0_chk35 v862), (Rect.unit (s := S32x256x7168) (k0_off35 v862) S1x2x7168.size (k0_off35_inb v862 k0_hw35)).WholeWords (EltTy.packing .bf16) := fun v862 k0_hw35 => k0_hw35.2 (k0_off35_inb v862 k0_hw35)

def k0_off36 (v885 : BitVec 32) : Fin 3 → Nat :=
  let c3_i32_481 : BitVec 32 := 3#32
  let c1_i32_473 : BitVec 32 := 1#32
  let v886 : BitVec 32 := Scalar.subi v885 c1_i32_473
  let c0_i32_475 : BitVec 32 := 0#32
  let v888 : BitVec 1 := Scalar.cmpi .sgt v886 c0_i32_475
  let v889 : BitVec 32 := Scalar.extui v888
  let c0_i32_476 : BitVec 32 := 0#32
  let v890 : BitVec 1 := Scalar.cmpi .slt v886 c0_i32_476
  let v891 : BitVec 32 := Scalar.extui v890
  let v892 : BitVec 32 := Scalar.subi v889 v891
  let c2_i32_474 : BitVec 32 := 2#32
  let c0_i32_477 : BitVec 32 := 0#32
  let v893 : BitVec 1 := Scalar.cmpi .sgt c2_i32_474 c0_i32_477
  let v894 : BitVec 32 := Scalar.extui v893
  let c0_i32_478 : BitVec 32 := 0#32
  let v895 : BitVec 1 := Scalar.cmpi .slt c2_i32_474 c0_i32_478
  let v896 : BitVec 32 := Scalar.extui v895
  let v897 : BitVec 32 := Scalar.subi v894 v896
  let v898 : BitVec 1 := Scalar.cmpi .ne v892 v897
  let v899 : BitVec 32 := Scalar.remsi v886 c2_i32_474
  let c0_i32_479 : BitVec 32 := 0#32
  let v900 : BitVec 1 := Scalar.cmpi .ne v899 c0_i32_479
  let v901 : BitVec 1 := Scalar.andi v898 v900
  let v887 : BitVec 32 := Scalar.divsi v886 c2_i32_474
  let c1_i32_480 : BitVec 32 := 1#32
  let v902 : BitVec 32 := Scalar.subi v887 c1_i32_480
  let v903 : BitVec 32 := Scalar.select v901 v902 v887
  let c0_i32_484 : BitVec 32 := 0#32
  ![3, Nat.mul 2 v903.toNat, 0]

def k0_chk36 (v885 : BitVec 32) : Prop :=
  (∀ a, (k0_off36 v885) a + S1x2x7168.size a ≤ S32x256x7168.size a) ∧
  (∀ (hinb : ∀ a, (k0_off36 v885) a + S1x2x7168.size a ≤ S32x256x7168.size a), (Rect.unit (s := S32x256x7168) (k0_off36 v885) S1x2x7168.size hinb).WholeWords (EltTy.packing .bf16))
theorem k0_off36_inb : ∀ (v885 : BitVec 32) (k0_hw36 : k0_chk36 v885), ∀ a, (k0_off36 v885) a + S1x2x7168.size a ≤ S32x256x7168.size a := fun v885 k0_hw36 => k0_hw36.1
theorem k0_off36_wordsbf16 : ∀ (v885 : BitVec 32) (k0_hw36 : k0_chk36 v885), (Rect.unit (s := S32x256x7168) (k0_off36 v885) S1x2x7168.size (k0_off36_inb v885 k0_hw36)).WholeWords (EltTy.packing .bf16) := fun v885 k0_hw36 => k0_hw36.2 (k0_off36_inb v885 k0_hw36)

def k0_off37 (v908 : BitVec 32) : Fin 3 → Nat :=
  let c4_i32_494 : BitVec 32 := 4#32
  let c1_i32_486 : BitVec 32 := 1#32
  let v909 : BitVec 32 := Scalar.subi v908 c1_i32_486
  let c0_i32_488 : BitVec 32 := 0#32
  let v911 : BitVec 1 := Scalar.cmpi .sgt v909 c0_i32_488
  let v912 : BitVec 32 := Scalar.extui v911
  let c0_i32_489 : BitVec 32 := 0#32
  let v913 : BitVec 1 := Scalar.cmpi .slt v909 c0_i32_489
  let v914 : BitVec 32 := Scalar.extui v913
  let v915 : BitVec 32 := Scalar.subi v912 v914
  let c2_i32_487 : BitVec 32 := 2#32
  let c0_i32_490 : BitVec 32 := 0#32
  let v916 : BitVec 1 := Scalar.cmpi .sgt c2_i32_487 c0_i32_490
  let v917 : BitVec 32 := Scalar.extui v916
  let c0_i32_491 : BitVec 32 := 0#32
  let v918 : BitVec 1 := Scalar.cmpi .slt c2_i32_487 c0_i32_491
  let v919 : BitVec 32 := Scalar.extui v918
  let v920 : BitVec 32 := Scalar.subi v917 v919
  let v921 : BitVec 1 := Scalar.cmpi .ne v915 v920
  let v922 : BitVec 32 := Scalar.remsi v909 c2_i32_487
  let c0_i32_492 : BitVec 32 := 0#32
  let v923 : BitVec 1 := Scalar.cmpi .ne v922 c0_i32_492
  let v924 : BitVec 1 := Scalar.andi v921 v923
  let v910 : BitVec 32 := Scalar.divsi v909 c2_i32_487
  let c1_i32_493 : BitVec 32 := 1#32
  let v925 : BitVec 32 := Scalar.subi v910 c1_i32_493
  let v926 : BitVec 32 := Scalar.select v924 v925 v910
  let c0_i32_497 : BitVec 32 := 0#32
  ![4, Nat.mul 2 v926.toNat, 0]

def k0_chk37 (v908 : BitVec 32) : Prop :=
  (∀ a, (k0_off37 v908) a + S1x2x7168.size a ≤ S32x256x7168.size a) ∧
  (∀ (hinb : ∀ a, (k0_off37 v908) a + S1x2x7168.size a ≤ S32x256x7168.size a), (Rect.unit (s := S32x256x7168) (k0_off37 v908) S1x2x7168.size hinb).WholeWords (EltTy.packing .bf16))
theorem k0_off37_inb : ∀ (v908 : BitVec 32) (k0_hw37 : k0_chk37 v908), ∀ a, (k0_off37 v908) a + S1x2x7168.size a ≤ S32x256x7168.size a := fun v908 k0_hw37 => k0_hw37.1
theorem k0_off37_wordsbf16 : ∀ (v908 : BitVec 32) (k0_hw37 : k0_chk37 v908), (Rect.unit (s := S32x256x7168) (k0_off37 v908) S1x2x7168.size (k0_off37_inb v908 k0_hw37)).WholeWords (EltTy.packing .bf16) := fun v908 k0_hw37 => k0_hw37.2 (k0_off37_inb v908 k0_hw37)

def k0_off38 (v931 : BitVec 32) : Fin 3 → Nat :=
  let c5_i32_507 : BitVec 32 := 5#32
  let c1_i32_499 : BitVec 32 := 1#32
  let v932 : BitVec 32 := Scalar.subi v931 c1_i32_499
  let c0_i32_501 : BitVec 32 := 0#32
  let v934 : BitVec 1 := Scalar.cmpi .sgt v932 c0_i32_501
  let v935 : BitVec 32 := Scalar.extui v934
  let c0_i32_502 : BitVec 32 := 0#32
  let v936 : BitVec 1 := Scalar.cmpi .slt v932 c0_i32_502
  let v937 : BitVec 32 := Scalar.extui v936
  let v938 : BitVec 32 := Scalar.subi v935 v937
  let c2_i32_500 : BitVec 32 := 2#32
  let c0_i32_503 : BitVec 32 := 0#32
  let v939 : BitVec 1 := Scalar.cmpi .sgt c2_i32_500 c0_i32_503
  let v940 : BitVec 32 := Scalar.extui v939
  let c0_i32_504 : BitVec 32 := 0#32
  let v941 : BitVec 1 := Scalar.cmpi .slt c2_i32_500 c0_i32_504
  let v942 : BitVec 32 := Scalar.extui v941
  let v943 : BitVec 32 := Scalar.subi v940 v942
  let v944 : BitVec 1 := Scalar.cmpi .ne v938 v943
  let v945 : BitVec 32 := Scalar.remsi v932 c2_i32_500
  let c0_i32_505 : BitVec 32 := 0#32
  let v946 : BitVec 1 := Scalar.cmpi .ne v945 c0_i32_505
  let v947 : BitVec 1 := Scalar.andi v944 v946
  let v933 : BitVec 32 := Scalar.divsi v932 c2_i32_500
  let c1_i32_506 : BitVec 32 := 1#32
  let v948 : BitVec 32 := Scalar.subi v933 c1_i32_506
  let v949 : BitVec 32 := Scalar.select v947 v948 v933
  let c0_i32_510 : BitVec 32 := 0#32
  ![5, Nat.mul 2 v949.toNat, 0]

def k0_chk38 (v931 : BitVec 32) : Prop :=
  (∀ a, (k0_off38 v931) a + S1x2x7168.size a ≤ S32x256x7168.size a) ∧
  (∀ (hinb : ∀ a, (k0_off38 v931) a + S1x2x7168.size a ≤ S32x256x7168.size a), (Rect.unit (s := S32x256x7168) (k0_off38 v931) S1x2x7168.size hinb).WholeWords (EltTy.packing .bf16))
theorem k0_off38_inb : ∀ (v931 : BitVec 32) (k0_hw38 : k0_chk38 v931), ∀ a, (k0_off38 v931) a + S1x2x7168.size a ≤ S32x256x7168.size a := fun v931 k0_hw38 => k0_hw38.1
theorem k0_off38_wordsbf16 : ∀ (v931 : BitVec 32) (k0_hw38 : k0_chk38 v931), (Rect.unit (s := S32x256x7168) (k0_off38 v931) S1x2x7168.size (k0_off38_inb v931 k0_hw38)).WholeWords (EltTy.packing .bf16) := fun v931 k0_hw38 => k0_hw38.2 (k0_off38_inb v931 k0_hw38)

def k0_off39 (v954 : BitVec 32) : Fin 3 → Nat :=
  let c6_i32_520 : BitVec 32 := 6#32
  let c1_i32_512 : BitVec 32 := 1#32
  let v955 : BitVec 32 := Scalar.subi v954 c1_i32_512
  let c0_i32_514 : BitVec 32 := 0#32
  let v957 : BitVec 1 := Scalar.cmpi .sgt v955 c0_i32_514
  let v958 : BitVec 32 := Scalar.extui v957
  let c0_i32_515 : BitVec 32 := 0#32
  let v959 : BitVec 1 := Scalar.cmpi .slt v955 c0_i32_515
  let v960 : BitVec 32 := Scalar.extui v959
  let v961 : BitVec 32 := Scalar.subi v958 v960
  let c2_i32_513 : BitVec 32 := 2#32
  let c0_i32_516 : BitVec 32 := 0#32
  let v962 : BitVec 1 := Scalar.cmpi .sgt c2_i32_513 c0_i32_516
  let v963 : BitVec 32 := Scalar.extui v962
  let c0_i32_517 : BitVec 32 := 0#32
  let v964 : BitVec 1 := Scalar.cmpi .slt c2_i32_513 c0_i32_517
  let v965 : BitVec 32 := Scalar.extui v964
  let v966 : BitVec 32 := Scalar.subi v963 v965
  let v967 : BitVec 1 := Scalar.cmpi .ne v961 v966
  let v968 : BitVec 32 := Scalar.remsi v955 c2_i32_513
  let c0_i32_518 : BitVec 32 := 0#32
  let v969 : BitVec 1 := Scalar.cmpi .ne v968 c0_i32_518
  let v970 : BitVec 1 := Scalar.andi v967 v969
  let v956 : BitVec 32 := Scalar.divsi v955 c2_i32_513
  let c1_i32_519 : BitVec 32 := 1#32
  let v971 : BitVec 32 := Scalar.subi v956 c1_i32_519
  let v972 : BitVec 32 := Scalar.select v970 v971 v956
  let c0_i32_523 : BitVec 32 := 0#32
  ![6, Nat.mul 2 v972.toNat, 0]

def k0_chk39 (v954 : BitVec 32) : Prop :=
  (∀ a, (k0_off39 v954) a + S1x2x7168.size a ≤ S32x256x7168.size a) ∧
  (∀ (hinb : ∀ a, (k0_off39 v954) a + S1x2x7168.size a ≤ S32x256x7168.size a), (Rect.unit (s := S32x256x7168) (k0_off39 v954) S1x2x7168.size hinb).WholeWords (EltTy.packing .bf16))
theorem k0_off39_inb : ∀ (v954 : BitVec 32) (k0_hw39 : k0_chk39 v954), ∀ a, (k0_off39 v954) a + S1x2x7168.size a ≤ S32x256x7168.size a := fun v954 k0_hw39 => k0_hw39.1
theorem k0_off39_wordsbf16 : ∀ (v954 : BitVec 32) (k0_hw39 : k0_chk39 v954), (Rect.unit (s := S32x256x7168) (k0_off39 v954) S1x2x7168.size (k0_off39_inb v954 k0_hw39)).WholeWords (EltTy.packing .bf16) := fun v954 k0_hw39 => k0_hw39.2 (k0_off39_inb v954 k0_hw39)

def k0_off40 (v977 : BitVec 32) : Fin 3 → Nat :=
  let c7_i32_533 : BitVec 32 := 7#32
  let c1_i32_525 : BitVec 32 := 1#32
  let v978 : BitVec 32 := Scalar.subi v977 c1_i32_525
  let c0_i32_527 : BitVec 32 := 0#32
  let v980 : BitVec 1 := Scalar.cmpi .sgt v978 c0_i32_527
  let v981 : BitVec 32 := Scalar.extui v980
  let c0_i32_528 : BitVec 32 := 0#32
  let v982 : BitVec 1 := Scalar.cmpi .slt v978 c0_i32_528
  let v983 : BitVec 32 := Scalar.extui v982
  let v984 : BitVec 32 := Scalar.subi v981 v983
  let c2_i32_526 : BitVec 32 := 2#32
  let c0_i32_529 : BitVec 32 := 0#32
  let v985 : BitVec 1 := Scalar.cmpi .sgt c2_i32_526 c0_i32_529
  let v986 : BitVec 32 := Scalar.extui v985
  let c0_i32_530 : BitVec 32 := 0#32
  let v987 : BitVec 1 := Scalar.cmpi .slt c2_i32_526 c0_i32_530
  let v988 : BitVec 32 := Scalar.extui v987
  let v989 : BitVec 32 := Scalar.subi v986 v988
  let v990 : BitVec 1 := Scalar.cmpi .ne v984 v989
  let v991 : BitVec 32 := Scalar.remsi v978 c2_i32_526
  let c0_i32_531 : BitVec 32 := 0#32
  let v992 : BitVec 1 := Scalar.cmpi .ne v991 c0_i32_531
  let v993 : BitVec 1 := Scalar.andi v990 v992
  let v979 : BitVec 32 := Scalar.divsi v978 c2_i32_526
  let c1_i32_532 : BitVec 32 := 1#32
  let v994 : BitVec 32 := Scalar.subi v979 c1_i32_532
  let v995 : BitVec 32 := Scalar.select v993 v994 v979
  let c0_i32_536 : BitVec 32 := 0#32
  ![7, Nat.mul 2 v995.toNat, 0]

def k0_chk40 (v977 : BitVec 32) : Prop :=
  (∀ a, (k0_off40 v977) a + S1x2x7168.size a ≤ S32x256x7168.size a) ∧
  (∀ (hinb : ∀ a, (k0_off40 v977) a + S1x2x7168.size a ≤ S32x256x7168.size a), (Rect.unit (s := S32x256x7168) (k0_off40 v977) S1x2x7168.size hinb).WholeWords (EltTy.packing .bf16))
theorem k0_off40_inb : ∀ (v977 : BitVec 32) (k0_hw40 : k0_chk40 v977), ∀ a, (k0_off40 v977) a + S1x2x7168.size a ≤ S32x256x7168.size a := fun v977 k0_hw40 => k0_hw40.1
theorem k0_off40_wordsbf16 : ∀ (v977 : BitVec 32) (k0_hw40 : k0_chk40 v977), (Rect.unit (s := S32x256x7168) (k0_off40 v977) S1x2x7168.size (k0_off40_inb v977 k0_hw40)).WholeWords (EltTy.packing .bf16) := fun v977 k0_hw40 => k0_hw40.2 (k0_off40_inb v977 k0_hw40)

def k0_off41 (v1000 : BitVec 32) : Fin 3 → Nat :=
  let c8_i32_546 : BitVec 32 := 8#32
  let c1_i32_538 : BitVec 32 := 1#32
  let v1001 : BitVec 32 := Scalar.subi v1000 c1_i32_538
  let c0_i32_540 : BitVec 32 := 0#32
  let v1003 : BitVec 1 := Scalar.cmpi .sgt v1001 c0_i32_540
  let v1004 : BitVec 32 := Scalar.extui v1003
  let c0_i32_541 : BitVec 32 := 0#32
  let v1005 : BitVec 1 := Scalar.cmpi .slt v1001 c0_i32_541
  let v1006 : BitVec 32 := Scalar.extui v1005
  let v1007 : BitVec 32 := Scalar.subi v1004 v1006
  let c2_i32_539 : BitVec 32 := 2#32
  let c0_i32_542 : BitVec 32 := 0#32
  let v1008 : BitVec 1 := Scalar.cmpi .sgt c2_i32_539 c0_i32_542
  let v1009 : BitVec 32 := Scalar.extui v1008
  let c0_i32_543 : BitVec 32 := 0#32
  let v1010 : BitVec 1 := Scalar.cmpi .slt c2_i32_539 c0_i32_543
  let v1011 : BitVec 32 := Scalar.extui v1010
  let v1012 : BitVec 32 := Scalar.subi v1009 v1011
  let v1013 : BitVec 1 := Scalar.cmpi .ne v1007 v1012
  let v1014 : BitVec 32 := Scalar.remsi v1001 c2_i32_539
  let c0_i32_544 : BitVec 32 := 0#32
  let v1015 : BitVec 1 := Scalar.cmpi .ne v1014 c0_i32_544
  let v1016 : BitVec 1 := Scalar.andi v1013 v1015
  let v1002 : BitVec 32 := Scalar.divsi v1001 c2_i32_539
  let c1_i32_545 : BitVec 32 := 1#32
  let v1017 : BitVec 32 := Scalar.subi v1002 c1_i32_545
  let v1018 : BitVec 32 := Scalar.select v1016 v1017 v1002
  let c0_i32_549 : BitVec 32 := 0#32
  ![8, Nat.mul 2 v1018.toNat, 0]

def k0_chk41 (v1000 : BitVec 32) : Prop :=
  (∀ a, (k0_off41 v1000) a + S1x2x7168.size a ≤ S32x256x7168.size a) ∧
  (∀ (hinb : ∀ a, (k0_off41 v1000) a + S1x2x7168.size a ≤ S32x256x7168.size a), (Rect.unit (s := S32x256x7168) (k0_off41 v1000) S1x2x7168.size hinb).WholeWords (EltTy.packing .bf16))
theorem k0_off41_inb : ∀ (v1000 : BitVec 32) (k0_hw41 : k0_chk41 v1000), ∀ a, (k0_off41 v1000) a + S1x2x7168.size a ≤ S32x256x7168.size a := fun v1000 k0_hw41 => k0_hw41.1
theorem k0_off41_wordsbf16 : ∀ (v1000 : BitVec 32) (k0_hw41 : k0_chk41 v1000), (Rect.unit (s := S32x256x7168) (k0_off41 v1000) S1x2x7168.size (k0_off41_inb v1000 k0_hw41)).WholeWords (EltTy.packing .bf16) := fun v1000 k0_hw41 => k0_hw41.2 (k0_off41_inb v1000 k0_hw41)

def k0_off42 (v1023 : BitVec 32) : Fin 3 → Nat :=
  let c9_i32_559 : BitVec 32 := 9#32
  let c1_i32_551 : BitVec 32 := 1#32
  let v1024 : BitVec 32 := Scalar.subi v1023 c1_i32_551
  let c0_i32_553 : BitVec 32 := 0#32
  let v1026 : BitVec 1 := Scalar.cmpi .sgt v1024 c0_i32_553
  let v1027 : BitVec 32 := Scalar.extui v1026
  let c0_i32_554 : BitVec 32 := 0#32
  let v1028 : BitVec 1 := Scalar.cmpi .slt v1024 c0_i32_554
  let v1029 : BitVec 32 := Scalar.extui v1028
  let v1030 : BitVec 32 := Scalar.subi v1027 v1029
  let c2_i32_552 : BitVec 32 := 2#32
  let c0_i32_555 : BitVec 32 := 0#32
  let v1031 : BitVec 1 := Scalar.cmpi .sgt c2_i32_552 c0_i32_555
  let v1032 : BitVec 32 := Scalar.extui v1031
  let c0_i32_556 : BitVec 32 := 0#32
  let v1033 : BitVec 1 := Scalar.cmpi .slt c2_i32_552 c0_i32_556
  let v1034 : BitVec 32 := Scalar.extui v1033
  let v1035 : BitVec 32 := Scalar.subi v1032 v1034
  let v1036 : BitVec 1 := Scalar.cmpi .ne v1030 v1035
  let v1037 : BitVec 32 := Scalar.remsi v1024 c2_i32_552
  let c0_i32_557 : BitVec 32 := 0#32
  let v1038 : BitVec 1 := Scalar.cmpi .ne v1037 c0_i32_557
  let v1039 : BitVec 1 := Scalar.andi v1036 v1038
  let v1025 : BitVec 32 := Scalar.divsi v1024 c2_i32_552
  let c1_i32_558 : BitVec 32 := 1#32
  let v1040 : BitVec 32 := Scalar.subi v1025 c1_i32_558
  let v1041 : BitVec 32 := Scalar.select v1039 v1040 v1025
  let c0_i32_562 : BitVec 32 := 0#32
  ![9, Nat.mul 2 v1041.toNat, 0]

def k0_chk42 (v1023 : BitVec 32) : Prop :=
  (∀ a, (k0_off42 v1023) a + S1x2x7168.size a ≤ S32x256x7168.size a) ∧
  (∀ (hinb : ∀ a, (k0_off42 v1023) a + S1x2x7168.size a ≤ S32x256x7168.size a), (Rect.unit (s := S32x256x7168) (k0_off42 v1023) S1x2x7168.size hinb).WholeWords (EltTy.packing .bf16))
theorem k0_off42_inb : ∀ (v1023 : BitVec 32) (k0_hw42 : k0_chk42 v1023), ∀ a, (k0_off42 v1023) a + S1x2x7168.size a ≤ S32x256x7168.size a := fun v1023 k0_hw42 => k0_hw42.1
theorem k0_off42_wordsbf16 : ∀ (v1023 : BitVec 32) (k0_hw42 : k0_chk42 v1023), (Rect.unit (s := S32x256x7168) (k0_off42 v1023) S1x2x7168.size (k0_off42_inb v1023 k0_hw42)).WholeWords (EltTy.packing .bf16) := fun v1023 k0_hw42 => k0_hw42.2 (k0_off42_inb v1023 k0_hw42)

def k0_off43 (v1046 : BitVec 32) : Fin 3 → Nat :=
  let c10_i32_572 : BitVec 32 := 10#32
  let c1_i32_564 : BitVec 32 := 1#32
  let v1047 : BitVec 32 := Scalar.subi v1046 c1_i32_564
  let c0_i32_566 : BitVec 32 := 0#32
  let v1049 : BitVec 1 := Scalar.cmpi .sgt v1047 c0_i32_566
  let v1050 : BitVec 32 := Scalar.extui v1049
  let c0_i32_567 : BitVec 32 := 0#32
  let v1051 : BitVec 1 := Scalar.cmpi .slt v1047 c0_i32_567
  let v1052 : BitVec 32 := Scalar.extui v1051
  let v1053 : BitVec 32 := Scalar.subi v1050 v1052
  let c2_i32_565 : BitVec 32 := 2#32
  let c0_i32_568 : BitVec 32 := 0#32
  let v1054 : BitVec 1 := Scalar.cmpi .sgt c2_i32_565 c0_i32_568
  let v1055 : BitVec 32 := Scalar.extui v1054
  let c0_i32_569 : BitVec 32 := 0#32
  let v1056 : BitVec 1 := Scalar.cmpi .slt c2_i32_565 c0_i32_569
  let v1057 : BitVec 32 := Scalar.extui v1056
  let v1058 : BitVec 32 := Scalar.subi v1055 v1057
  let v1059 : BitVec 1 := Scalar.cmpi .ne v1053 v1058
  let v1060 : BitVec 32 := Scalar.remsi v1047 c2_i32_565
  let c0_i32_570 : BitVec 32 := 0#32
  let v1061 : BitVec 1 := Scalar.cmpi .ne v1060 c0_i32_570
  let v1062 : BitVec 1 := Scalar.andi v1059 v1061
  let v1048 : BitVec 32 := Scalar.divsi v1047 c2_i32_565
  let c1_i32_571 : BitVec 32 := 1#32
  let v1063 : BitVec 32 := Scalar.subi v1048 c1_i32_571
  let v1064 : BitVec 32 := Scalar.select v1062 v1063 v1048
  let c0_i32_575 : BitVec 32 := 0#32
  ![10, Nat.mul 2 v1064.toNat, 0]

def k0_chk43 (v1046 : BitVec 32) : Prop :=
  (∀ a, (k0_off43 v1046) a + S1x2x7168.size a ≤ S32x256x7168.size a) ∧
  (∀ (hinb : ∀ a, (k0_off43 v1046) a + S1x2x7168.size a ≤ S32x256x7168.size a), (Rect.unit (s := S32x256x7168) (k0_off43 v1046) S1x2x7168.size hinb).WholeWords (EltTy.packing .bf16))
theorem k0_off43_inb : ∀ (v1046 : BitVec 32) (k0_hw43 : k0_chk43 v1046), ∀ a, (k0_off43 v1046) a + S1x2x7168.size a ≤ S32x256x7168.size a := fun v1046 k0_hw43 => k0_hw43.1
theorem k0_off43_wordsbf16 : ∀ (v1046 : BitVec 32) (k0_hw43 : k0_chk43 v1046), (Rect.unit (s := S32x256x7168) (k0_off43 v1046) S1x2x7168.size (k0_off43_inb v1046 k0_hw43)).WholeWords (EltTy.packing .bf16) := fun v1046 k0_hw43 => k0_hw43.2 (k0_off43_inb v1046 k0_hw43)

def k0_off44 (v1069 : BitVec 32) : Fin 3 → Nat :=
  let c11_i32_585 : BitVec 32 := 11#32
  let c1_i32_577 : BitVec 32 := 1#32
  let v1070 : BitVec 32 := Scalar.subi v1069 c1_i32_577
  let c0_i32_579 : BitVec 32 := 0#32
  let v1072 : BitVec 1 := Scalar.cmpi .sgt v1070 c0_i32_579
  let v1073 : BitVec 32 := Scalar.extui v1072
  let c0_i32_580 : BitVec 32 := 0#32
  let v1074 : BitVec 1 := Scalar.cmpi .slt v1070 c0_i32_580
  let v1075 : BitVec 32 := Scalar.extui v1074
  let v1076 : BitVec 32 := Scalar.subi v1073 v1075
  let c2_i32_578 : BitVec 32 := 2#32
  let c0_i32_581 : BitVec 32 := 0#32
  let v1077 : BitVec 1 := Scalar.cmpi .sgt c2_i32_578 c0_i32_581
  let v1078 : BitVec 32 := Scalar.extui v1077
  let c0_i32_582 : BitVec 32 := 0#32
  let v1079 : BitVec 1 := Scalar.cmpi .slt c2_i32_578 c0_i32_582
  let v1080 : BitVec 32 := Scalar.extui v1079
  let v1081 : BitVec 32 := Scalar.subi v1078 v1080
  let v1082 : BitVec 1 := Scalar.cmpi .ne v1076 v1081
  let v1083 : BitVec 32 := Scalar.remsi v1070 c2_i32_578
  let c0_i32_583 : BitVec 32 := 0#32
  let v1084 : BitVec 1 := Scalar.cmpi .ne v1083 c0_i32_583
  let v1085 : BitVec 1 := Scalar.andi v1082 v1084
  let v1071 : BitVec 32 := Scalar.divsi v1070 c2_i32_578
  let c1_i32_584 : BitVec 32 := 1#32
  let v1086 : BitVec 32 := Scalar.subi v1071 c1_i32_584
  let v1087 : BitVec 32 := Scalar.select v1085 v1086 v1071
  let c0_i32_588 : BitVec 32 := 0#32
  ![11, Nat.mul 2 v1087.toNat, 0]

def k0_chk44 (v1069 : BitVec 32) : Prop :=
  (∀ a, (k0_off44 v1069) a + S1x2x7168.size a ≤ S32x256x7168.size a) ∧
  (∀ (hinb : ∀ a, (k0_off44 v1069) a + S1x2x7168.size a ≤ S32x256x7168.size a), (Rect.unit (s := S32x256x7168) (k0_off44 v1069) S1x2x7168.size hinb).WholeWords (EltTy.packing .bf16))
theorem k0_off44_inb : ∀ (v1069 : BitVec 32) (k0_hw44 : k0_chk44 v1069), ∀ a, (k0_off44 v1069) a + S1x2x7168.size a ≤ S32x256x7168.size a := fun v1069 k0_hw44 => k0_hw44.1
theorem k0_off44_wordsbf16 : ∀ (v1069 : BitVec 32) (k0_hw44 : k0_chk44 v1069), (Rect.unit (s := S32x256x7168) (k0_off44 v1069) S1x2x7168.size (k0_off44_inb v1069 k0_hw44)).WholeWords (EltTy.packing .bf16) := fun v1069 k0_hw44 => k0_hw44.2 (k0_off44_inb v1069 k0_hw44)

def k0_off45 (v1092 : BitVec 32) : Fin 3 → Nat :=
  let c12_i32_598 : BitVec 32 := 12#32
  let c1_i32_590 : BitVec 32 := 1#32
  let v1093 : BitVec 32 := Scalar.subi v1092 c1_i32_590
  let c0_i32_592 : BitVec 32 := 0#32
  let v1095 : BitVec 1 := Scalar.cmpi .sgt v1093 c0_i32_592
  let v1096 : BitVec 32 := Scalar.extui v1095
  let c0_i32_593 : BitVec 32 := 0#32
  let v1097 : BitVec 1 := Scalar.cmpi .slt v1093 c0_i32_593
  let v1098 : BitVec 32 := Scalar.extui v1097
  let v1099 : BitVec 32 := Scalar.subi v1096 v1098
  let c2_i32_591 : BitVec 32 := 2#32
  let c0_i32_594 : BitVec 32 := 0#32
  let v1100 : BitVec 1 := Scalar.cmpi .sgt c2_i32_591 c0_i32_594
  let v1101 : BitVec 32 := Scalar.extui v1100
  let c0_i32_595 : BitVec 32 := 0#32
  let v1102 : BitVec 1 := Scalar.cmpi .slt c2_i32_591 c0_i32_595
  let v1103 : BitVec 32 := Scalar.extui v1102
  let v1104 : BitVec 32 := Scalar.subi v1101 v1103
  let v1105 : BitVec 1 := Scalar.cmpi .ne v1099 v1104
  let v1106 : BitVec 32 := Scalar.remsi v1093 c2_i32_591
  let c0_i32_596 : BitVec 32 := 0#32
  let v1107 : BitVec 1 := Scalar.cmpi .ne v1106 c0_i32_596
  let v1108 : BitVec 1 := Scalar.andi v1105 v1107
  let v1094 : BitVec 32 := Scalar.divsi v1093 c2_i32_591
  let c1_i32_597 : BitVec 32 := 1#32
  let v1109 : BitVec 32 := Scalar.subi v1094 c1_i32_597
  let v1110 : BitVec 32 := Scalar.select v1108 v1109 v1094
  let c0_i32_601 : BitVec 32 := 0#32
  ![12, Nat.mul 2 v1110.toNat, 0]

def k0_chk45 (v1092 : BitVec 32) : Prop :=
  (∀ a, (k0_off45 v1092) a + S1x2x7168.size a ≤ S32x256x7168.size a) ∧
  (∀ (hinb : ∀ a, (k0_off45 v1092) a + S1x2x7168.size a ≤ S32x256x7168.size a), (Rect.unit (s := S32x256x7168) (k0_off45 v1092) S1x2x7168.size hinb).WholeWords (EltTy.packing .bf16))
theorem k0_off45_inb : ∀ (v1092 : BitVec 32) (k0_hw45 : k0_chk45 v1092), ∀ a, (k0_off45 v1092) a + S1x2x7168.size a ≤ S32x256x7168.size a := fun v1092 k0_hw45 => k0_hw45.1
theorem k0_off45_wordsbf16 : ∀ (v1092 : BitVec 32) (k0_hw45 : k0_chk45 v1092), (Rect.unit (s := S32x256x7168) (k0_off45 v1092) S1x2x7168.size (k0_off45_inb v1092 k0_hw45)).WholeWords (EltTy.packing .bf16) := fun v1092 k0_hw45 => k0_hw45.2 (k0_off45_inb v1092 k0_hw45)

def k0_off46 (v1115 : BitVec 32) : Fin 3 → Nat :=
  let c13_i32_611 : BitVec 32 := 13#32
  let c1_i32_603 : BitVec 32 := 1#32
  let v1116 : BitVec 32 := Scalar.subi v1115 c1_i32_603
  let c0_i32_605 : BitVec 32 := 0#32
  let v1118 : BitVec 1 := Scalar.cmpi .sgt v1116 c0_i32_605
  let v1119 : BitVec 32 := Scalar.extui v1118
  let c0_i32_606 : BitVec 32 := 0#32
  let v1120 : BitVec 1 := Scalar.cmpi .slt v1116 c0_i32_606
  let v1121 : BitVec 32 := Scalar.extui v1120
  let v1122 : BitVec 32 := Scalar.subi v1119 v1121
  let c2_i32_604 : BitVec 32 := 2#32
  let c0_i32_607 : BitVec 32 := 0#32
  let v1123 : BitVec 1 := Scalar.cmpi .sgt c2_i32_604 c0_i32_607
  let v1124 : BitVec 32 := Scalar.extui v1123
  let c0_i32_608 : BitVec 32 := 0#32
  let v1125 : BitVec 1 := Scalar.cmpi .slt c2_i32_604 c0_i32_608
  let v1126 : BitVec 32 := Scalar.extui v1125
  let v1127 : BitVec 32 := Scalar.subi v1124 v1126
  let v1128 : BitVec 1 := Scalar.cmpi .ne v1122 v1127
  let v1129 : BitVec 32 := Scalar.remsi v1116 c2_i32_604
  let c0_i32_609 : BitVec 32 := 0#32
  let v1130 : BitVec 1 := Scalar.cmpi .ne v1129 c0_i32_609
  let v1131 : BitVec 1 := Scalar.andi v1128 v1130
  let v1117 : BitVec 32 := Scalar.divsi v1116 c2_i32_604
  let c1_i32_610 : BitVec 32 := 1#32
  let v1132 : BitVec 32 := Scalar.subi v1117 c1_i32_610
  let v1133 : BitVec 32 := Scalar.select v1131 v1132 v1117
  let c0_i32_614 : BitVec 32 := 0#32
  ![13, Nat.mul 2 v1133.toNat, 0]

def k0_chk46 (v1115 : BitVec 32) : Prop :=
  (∀ a, (k0_off46 v1115) a + S1x2x7168.size a ≤ S32x256x7168.size a) ∧
  (∀ (hinb : ∀ a, (k0_off46 v1115) a + S1x2x7168.size a ≤ S32x256x7168.size a), (Rect.unit (s := S32x256x7168) (k0_off46 v1115) S1x2x7168.size hinb).WholeWords (EltTy.packing .bf16))
theorem k0_off46_inb : ∀ (v1115 : BitVec 32) (k0_hw46 : k0_chk46 v1115), ∀ a, (k0_off46 v1115) a + S1x2x7168.size a ≤ S32x256x7168.size a := fun v1115 k0_hw46 => k0_hw46.1
theorem k0_off46_wordsbf16 : ∀ (v1115 : BitVec 32) (k0_hw46 : k0_chk46 v1115), (Rect.unit (s := S32x256x7168) (k0_off46 v1115) S1x2x7168.size (k0_off46_inb v1115 k0_hw46)).WholeWords (EltTy.packing .bf16) := fun v1115 k0_hw46 => k0_hw46.2 (k0_off46_inb v1115 k0_hw46)

def k0_off47 (v1138 : BitVec 32) : Fin 3 → Nat :=
  let c14_i32_624 : BitVec 32 := 14#32
  let c1_i32_616 : BitVec 32 := 1#32
  let v1139 : BitVec 32 := Scalar.subi v1138 c1_i32_616
  let c0_i32_618 : BitVec 32 := 0#32
  let v1141 : BitVec 1 := Scalar.cmpi .sgt v1139 c0_i32_618
  let v1142 : BitVec 32 := Scalar.extui v1141
  let c0_i32_619 : BitVec 32 := 0#32
  let v1143 : BitVec 1 := Scalar.cmpi .slt v1139 c0_i32_619
  let v1144 : BitVec 32 := Scalar.extui v1143
  let v1145 : BitVec 32 := Scalar.subi v1142 v1144
  let c2_i32_617 : BitVec 32 := 2#32
  let c0_i32_620 : BitVec 32 := 0#32
  let v1146 : BitVec 1 := Scalar.cmpi .sgt c2_i32_617 c0_i32_620
  let v1147 : BitVec 32 := Scalar.extui v1146
  let c0_i32_621 : BitVec 32 := 0#32
  let v1148 : BitVec 1 := Scalar.cmpi .slt c2_i32_617 c0_i32_621
  let v1149 : BitVec 32 := Scalar.extui v1148
  let v1150 : BitVec 32 := Scalar.subi v1147 v1149
  let v1151 : BitVec 1 := Scalar.cmpi .ne v1145 v1150
  let v1152 : BitVec 32 := Scalar.remsi v1139 c2_i32_617
  let c0_i32_622 : BitVec 32 := 0#32
  let v1153 : BitVec 1 := Scalar.cmpi .ne v1152 c0_i32_622
  let v1154 : BitVec 1 := Scalar.andi v1151 v1153
  let v1140 : BitVec 32 := Scalar.divsi v1139 c2_i32_617
  let c1_i32_623 : BitVec 32 := 1#32
  let v1155 : BitVec 32 := Scalar.subi v1140 c1_i32_623
  let v1156 : BitVec 32 := Scalar.select v1154 v1155 v1140
  let c0_i32_627 : BitVec 32 := 0#32
  ![14, Nat.mul 2 v1156.toNat, 0]

def k0_chk47 (v1138 : BitVec 32) : Prop :=
  (∀ a, (k0_off47 v1138) a + S1x2x7168.size a ≤ S32x256x7168.size a) ∧
  (∀ (hinb : ∀ a, (k0_off47 v1138) a + S1x2x7168.size a ≤ S32x256x7168.size a), (Rect.unit (s := S32x256x7168) (k0_off47 v1138) S1x2x7168.size hinb).WholeWords (EltTy.packing .bf16))
theorem k0_off47_inb : ∀ (v1138 : BitVec 32) (k0_hw47 : k0_chk47 v1138), ∀ a, (k0_off47 v1138) a + S1x2x7168.size a ≤ S32x256x7168.size a := fun v1138 k0_hw47 => k0_hw47.1
theorem k0_off47_wordsbf16 : ∀ (v1138 : BitVec 32) (k0_hw47 : k0_chk47 v1138), (Rect.unit (s := S32x256x7168) (k0_off47 v1138) S1x2x7168.size (k0_off47_inb v1138 k0_hw47)).WholeWords (EltTy.packing .bf16) := fun v1138 k0_hw47 => k0_hw47.2 (k0_off47_inb v1138 k0_hw47)

def k0_off48 (v1161 : BitVec 32) : Fin 3 → Nat :=
  let c15_i32_637 : BitVec 32 := 15#32
  let c1_i32_629 : BitVec 32 := 1#32
  let v1162 : BitVec 32 := Scalar.subi v1161 c1_i32_629
  let c0_i32_631 : BitVec 32 := 0#32
  let v1164 : BitVec 1 := Scalar.cmpi .sgt v1162 c0_i32_631
  let v1165 : BitVec 32 := Scalar.extui v1164
  let c0_i32_632 : BitVec 32 := 0#32
  let v1166 : BitVec 1 := Scalar.cmpi .slt v1162 c0_i32_632
  let v1167 : BitVec 32 := Scalar.extui v1166
  let v1168 : BitVec 32 := Scalar.subi v1165 v1167
  let c2_i32_630 : BitVec 32 := 2#32
  let c0_i32_633 : BitVec 32 := 0#32
  let v1169 : BitVec 1 := Scalar.cmpi .sgt c2_i32_630 c0_i32_633
  let v1170 : BitVec 32 := Scalar.extui v1169
  let c0_i32_634 : BitVec 32 := 0#32
  let v1171 : BitVec 1 := Scalar.cmpi .slt c2_i32_630 c0_i32_634
  let v1172 : BitVec 32 := Scalar.extui v1171
  let v1173 : BitVec 32 := Scalar.subi v1170 v1172
  let v1174 : BitVec 1 := Scalar.cmpi .ne v1168 v1173
  let v1175 : BitVec 32 := Scalar.remsi v1162 c2_i32_630
  let c0_i32_635 : BitVec 32 := 0#32
  let v1176 : BitVec 1 := Scalar.cmpi .ne v1175 c0_i32_635
  let v1177 : BitVec 1 := Scalar.andi v1174 v1176
  let v1163 : BitVec 32 := Scalar.divsi v1162 c2_i32_630
  let c1_i32_636 : BitVec 32 := 1#32
  let v1178 : BitVec 32 := Scalar.subi v1163 c1_i32_636
  let v1179 : BitVec 32 := Scalar.select v1177 v1178 v1163
  let c0_i32_640 : BitVec 32 := 0#32
  ![15, Nat.mul 2 v1179.toNat, 0]

def k0_chk48 (v1161 : BitVec 32) : Prop :=
  (∀ a, (k0_off48 v1161) a + S1x2x7168.size a ≤ S32x256x7168.size a) ∧
  (∀ (hinb : ∀ a, (k0_off48 v1161) a + S1x2x7168.size a ≤ S32x256x7168.size a), (Rect.unit (s := S32x256x7168) (k0_off48 v1161) S1x2x7168.size hinb).WholeWords (EltTy.packing .bf16))
theorem k0_off48_inb : ∀ (v1161 : BitVec 32) (k0_hw48 : k0_chk48 v1161), ∀ a, (k0_off48 v1161) a + S1x2x7168.size a ≤ S32x256x7168.size a := fun v1161 k0_hw48 => k0_hw48.1
theorem k0_off48_wordsbf16 : ∀ (v1161 : BitVec 32) (k0_hw48 : k0_chk48 v1161), (Rect.unit (s := S32x256x7168) (k0_off48 v1161) S1x2x7168.size (k0_off48_inb v1161 k0_hw48)).WholeWords (EltTy.packing .bf16) := fun v1161 k0_hw48 => k0_hw48.2 (k0_off48_inb v1161 k0_hw48)

def k0_off49 (v1184 : BitVec 32) : Fin 3 → Nat :=
  let c16_i32_650 : BitVec 32 := 16#32
  let c1_i32_642 : BitVec 32 := 1#32
  let v1185 : BitVec 32 := Scalar.subi v1184 c1_i32_642
  let c0_i32_644 : BitVec 32 := 0#32
  let v1187 : BitVec 1 := Scalar.cmpi .sgt v1185 c0_i32_644
  let v1188 : BitVec 32 := Scalar.extui v1187
  let c0_i32_645 : BitVec 32 := 0#32
  let v1189 : BitVec 1 := Scalar.cmpi .slt v1185 c0_i32_645
  let v1190 : BitVec 32 := Scalar.extui v1189
  let v1191 : BitVec 32 := Scalar.subi v1188 v1190
  let c2_i32_643 : BitVec 32 := 2#32
  let c0_i32_646 : BitVec 32 := 0#32
  let v1192 : BitVec 1 := Scalar.cmpi .sgt c2_i32_643 c0_i32_646
  let v1193 : BitVec 32 := Scalar.extui v1192
  let c0_i32_647 : BitVec 32 := 0#32
  let v1194 : BitVec 1 := Scalar.cmpi .slt c2_i32_643 c0_i32_647
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_643
  let c0_i32_648 : BitVec 32 := 0#32
  let v1199 : BitVec 1 := Scalar.cmpi .ne v1198 c0_i32_648
  let v1200 : BitVec 1 := Scalar.andi v1197 v1199
  let v1186 : BitVec 32 := Scalar.divsi v1185 c2_i32_643
  let c1_i32_649 : BitVec 32 := 1#32
  let v1201 : BitVec 32 := Scalar.subi v1186 c1_i32_649
  let v1202 : BitVec 32 := Scalar.select v1200 v1201 v1186
  let c0_i32_653 : BitVec 32 := 0#32
  ![16, Nat.mul 2 v1202.toNat, 0]

def k0_chk49 (v1184 : BitVec 32) : Prop :=
  (∀ a, (k0_off49 v1184) a + S1x2x7168.size a ≤ S32x256x7168.size a) ∧
  (∀ (hinb : ∀ a, (k0_off49 v1184) a + S1x2x7168.size a ≤ S32x256x7168.size a), (Rect.unit (s := S32x256x7168) (k0_off49 v1184) S1x2x7168.size hinb).WholeWords (EltTy.packing .bf16))
theorem k0_off49_inb : ∀ (v1184 : BitVec 32) (k0_hw49 : k0_chk49 v1184), ∀ a, (k0_off49 v1184) a + S1x2x7168.size a ≤ S32x256x7168.size a := fun v1184 k0_hw49 => k0_hw49.1
theorem k0_off49_wordsbf16 : ∀ (v1184 : BitVec 32) (k0_hw49 : k0_chk49 v1184), (Rect.unit (s := S32x256x7168) (k0_off49 v1184) S1x2x7168.size (k0_off49_inb v1184 k0_hw49)).WholeWords (EltTy.packing .bf16) := fun v1184 k0_hw49 => k0_hw49.2 (k0_off49_inb v1184 k0_hw49)

def k0_off50 (v1207 : BitVec 32) : Fin 3 → Nat :=
  let c17_i32_663 : BitVec 32 := 17#32
  let c1_i32_655 : BitVec 32 := 1#32
  let v1208 : BitVec 32 := Scalar.subi v1207 c1_i32_655
  let c0_i32_657 : BitVec 32 := 0#32
  let v1210 : BitVec 1 := Scalar.cmpi .sgt v1208 c0_i32_657
  let v1211 : BitVec 32 := Scalar.extui v1210
  let c0_i32_658 : BitVec 32 := 0#32
  let v1212 : BitVec 1 := Scalar.cmpi .slt v1208 c0_i32_658
  let v1213 : BitVec 32 := Scalar.extui v1212
  let v1214 : BitVec 32 := Scalar.subi v1211 v1213
  let c2_i32_656 : BitVec 32 := 2#32
  let c0_i32_659 : BitVec 32 := 0#32
  let v1215 : BitVec 1 := Scalar.cmpi .sgt c2_i32_656 c0_i32_659
  let v1216 : BitVec 32 := Scalar.extui v1215
  let c0_i32_660 : BitVec 32 := 0#32
  let v1217 : BitVec 1 := Scalar.cmpi .slt c2_i32_656 c0_i32_660
  let v1218 : BitVec 32 := Scalar.extui v1217
  let v1219 : BitVec 32 := Scalar.subi v1216 v1218
  let v1220 : BitVec 1 := Scalar.cmpi .ne v1214 v1219
  let v1221 : BitVec 32 := Scalar.remsi v1208 c2_i32_656
  let c0_i32_661 : BitVec 32 := 0#32
  let v1222 : BitVec 1 := Scalar.cmpi .ne v1221 c0_i32_661
  let v1223 : BitVec 1 := Scalar.andi v1220 v1222
  let v1209 : BitVec 32 := Scalar.divsi v1208 c2_i32_656
  let c1_i32_662 : BitVec 32 := 1#32
  let v1224 : BitVec 32 := Scalar.subi v1209 c1_i32_662
  let v1225 : BitVec 32 := Scalar.select v1223 v1224 v1209
  let c0_i32_666 : BitVec 32 := 0#32
  ![17, Nat.mul 2 v1225.toNat, 0]

def k0_chk50 (v1207 : BitVec 32) : Prop :=
  (∀ a, (k0_off50 v1207) a + S1x2x7168.size a ≤ S32x256x7168.size a) ∧
  (∀ (hinb : ∀ a, (k0_off50 v1207) a + S1x2x7168.size a ≤ S32x256x7168.size a), (Rect.unit (s := S32x256x7168) (k0_off50 v1207) S1x2x7168.size hinb).WholeWords (EltTy.packing .bf16))
theorem k0_off50_inb : ∀ (v1207 : BitVec 32) (k0_hw50 : k0_chk50 v1207), ∀ a, (k0_off50 v1207) a + S1x2x7168.size a ≤ S32x256x7168.size a := fun v1207 k0_hw50 => k0_hw50.1
theorem k0_off50_wordsbf16 : ∀ (v1207 : BitVec 32) (k0_hw50 : k0_chk50 v1207), (Rect.unit (s := S32x256x7168) (k0_off50 v1207) S1x2x7168.size (k0_off50_inb v1207 k0_hw50)).WholeWords (EltTy.packing .bf16) := fun v1207 k0_hw50 => k0_hw50.2 (k0_off50_inb v1207 k0_hw50)

def k0_off51 (v1230 : BitVec 32) : Fin 3 → Nat :=
  let c18_i32_676 : BitVec 32 := 18#32
  let c1_i32_668 : BitVec 32 := 1#32
  let v1231 : BitVec 32 := Scalar.subi v1230 c1_i32_668
  let c0_i32_670 : BitVec 32 := 0#32
  let v1233 : BitVec 1 := Scalar.cmpi .sgt v1231 c0_i32_670
  let v1234 : BitVec 32 := Scalar.extui v1233
  let c0_i32_671 : BitVec 32 := 0#32
  let v1235 : BitVec 1 := Scalar.cmpi .slt v1231 c0_i32_671
  let v1236 : BitVec 32 := Scalar.extui v1235
  let v1237 : BitVec 32 := Scalar.subi v1234 v1236
  let c2_i32_669 : BitVec 32 := 2#32
  let c0_i32_672 : BitVec 32 := 0#32
  let v1238 : BitVec 1 := Scalar.cmpi .sgt c2_i32_669 c0_i32_672
  let v1239 : BitVec 32 := Scalar.extui v1238
  let c0_i32_673 : BitVec 32 := 0#32
  let v1240 : BitVec 1 := Scalar.cmpi .slt c2_i32_669 c0_i32_673
  let v1241 : BitVec 32 := Scalar.extui v1240
  let v1242 : BitVec 32 := Scalar.subi v1239 v1241
  let v1243 : BitVec 1 := Scalar.cmpi .ne v1237 v1242
  let v1244 : BitVec 32 := Scalar.remsi v1231 c2_i32_669
  let c0_i32_674 : BitVec 32 := 0#32
  let v1245 : BitVec 1 := Scalar.cmpi .ne v1244 c0_i32_674
  let v1246 : BitVec 1 := Scalar.andi v1243 v1245
  let v1232 : BitVec 32 := Scalar.divsi v1231 c2_i32_669
  let c1_i32_675 : BitVec 32 := 1#32
  let v1247 : BitVec 32 := Scalar.subi v1232 c1_i32_675
  let v1248 : BitVec 32 := Scalar.select v1246 v1247 v1232
  let c0_i32_679 : BitVec 32 := 0#32
  ![18, Nat.mul 2 v1248.toNat, 0]

def k0_chk51 (v1230 : BitVec 32) : Prop :=
  (∀ a, (k0_off51 v1230) a + S1x2x7168.size a ≤ S32x256x7168.size a) ∧
  (∀ (hinb : ∀ a, (k0_off51 v1230) a + S1x2x7168.size a ≤ S32x256x7168.size a), (Rect.unit (s := S32x256x7168) (k0_off51 v1230) S1x2x7168.size hinb).WholeWords (EltTy.packing .bf16))
theorem k0_off51_inb : ∀ (v1230 : BitVec 32) (k0_hw51 : k0_chk51 v1230), ∀ a, (k0_off51 v1230) a + S1x2x7168.size a ≤ S32x256x7168.size a := fun v1230 k0_hw51 => k0_hw51.1
theorem k0_off51_wordsbf16 : ∀ (v1230 : BitVec 32) (k0_hw51 : k0_chk51 v1230), (Rect.unit (s := S32x256x7168) (k0_off51 v1230) S1x2x7168.size (k0_off51_inb v1230 k0_hw51)).WholeWords (EltTy.packing .bf16) := fun v1230 k0_hw51 => k0_hw51.2 (k0_off51_inb v1230 k0_hw51)

def k0_off52 (v1253 : BitVec 32) : Fin 3 → Nat :=
  let c19_i32_689 : BitVec 32 := 19#32
  let c1_i32_681 : BitVec 32 := 1#32
  let v1254 : BitVec 32 := Scalar.subi v1253 c1_i32_681
  let c0_i32_683 : BitVec 32 := 0#32
  let v1256 : BitVec 1 := Scalar.cmpi .sgt v1254 c0_i32_683
  let v1257 : BitVec 32 := Scalar.extui v1256
  let c0_i32_684 : BitVec 32 := 0#32
  let v1258 : BitVec 1 := Scalar.cmpi .slt v1254 c0_i32_684
  let v1259 : BitVec 32 := Scalar.extui v1258
  let v1260 : BitVec 32 := Scalar.subi v1257 v1259
  let c2_i32_682 : BitVec 32 := 2#32
  let c0_i32_685 : BitVec 32 := 0#32
  let v1261 : BitVec 1 := Scalar.cmpi .sgt c2_i32_682 c0_i32_685
  let v1262 : BitVec 32 := Scalar.extui v1261
  let c0_i32_686 : BitVec 32 := 0#32
  let v1263 : BitVec 1 := Scalar.cmpi .slt c2_i32_682 c0_i32_686
  let v1264 : BitVec 32 := Scalar.extui v1263
  let v1265 : BitVec 32 := Scalar.subi v1262 v1264
  let v1266 : BitVec 1 := Scalar.cmpi .ne v1260 v1265
  let v1267 : BitVec 32 := Scalar.remsi v1254 c2_i32_682
  let c0_i32_687 : BitVec 32 := 0#32
  let v1268 : BitVec 1 := Scalar.cmpi .ne v1267 c0_i32_687
  let v1269 : BitVec 1 := Scalar.andi v1266 v1268
  let v1255 : BitVec 32 := Scalar.divsi v1254 c2_i32_682
  let c1_i32_688 : BitVec 32 := 1#32
  let v1270 : BitVec 32 := Scalar.subi v1255 c1_i32_688
  let v1271 : BitVec 32 := Scalar.select v1269 v1270 v1255
  let c0_i32_692 : BitVec 32 := 0#32
  ![19, Nat.mul 2 v1271.toNat, 0]

def k0_chk52 (v1253 : BitVec 32) : Prop :=
  (∀ a, (k0_off52 v1253) a + S1x2x7168.size a ≤ S32x256x7168.size a) ∧
  (∀ (hinb : ∀ a, (k0_off52 v1253) a + S1x2x7168.size a ≤ S32x256x7168.size a), (Rect.unit (s := S32x256x7168) (k0_off52 v1253) S1x2x7168.size hinb).WholeWords (EltTy.packing .bf16))
theorem k0_off52_inb : ∀ (v1253 : BitVec 32) (k0_hw52 : k0_chk52 v1253), ∀ a, (k0_off52 v1253) a + S1x2x7168.size a ≤ S32x256x7168.size a := fun v1253 k0_hw52 => k0_hw52.1
theorem k0_off52_wordsbf16 : ∀ (v1253 : BitVec 32) (k0_hw52 : k0_chk52 v1253), (Rect.unit (s := S32x256x7168) (k0_off52 v1253) S1x2x7168.size (k0_off52_inb v1253 k0_hw52)).WholeWords (EltTy.packing .bf16) := fun v1253 k0_hw52 => k0_hw52.2 (k0_off52_inb v1253 k0_hw52)

def k0_off53 (v1276 : BitVec 32) : Fin 3 → Nat :=
  let c20_i32_702 : BitVec 32 := 20#32
  let c1_i32_694 : BitVec 32 := 1#32
  let v1277 : BitVec 32 := Scalar.subi v1276 c1_i32_694
  let c0_i32_696 : BitVec 32 := 0#32
  let v1279 : BitVec 1 := Scalar.cmpi .sgt v1277 c0_i32_696
  let v1280 : BitVec 32 := Scalar.extui v1279
  let c0_i32_697 : BitVec 32 := 0#32
  let v1281 : BitVec 1 := Scalar.cmpi .slt v1277 c0_i32_697
  let v1282 : BitVec 32 := Scalar.extui v1281
  let v1283 : BitVec 32 := Scalar.subi v1280 v1282
  let c2_i32_695 : BitVec 32 := 2#32
  let c0_i32_698 : BitVec 32 := 0#32
  let v1284 : BitVec 1 := Scalar.cmpi .sgt c2_i32_695 c0_i32_698
  let v1285 : BitVec 32 := Scalar.extui v1284
  let c0_i32_699 : BitVec 32 := 0#32
  let v1286 : BitVec 1 := Scalar.cmpi .slt c2_i32_695 c0_i32_699
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_695
  let c0_i32_700 : BitVec 32 := 0#32
  let v1291 : BitVec 1 := Scalar.cmpi .ne v1290 c0_i32_700
  let v1292 : BitVec 1 := Scalar.andi v1289 v1291
  let v1278 : BitVec 32 := Scalar.divsi v1277 c2_i32_695
  let c1_i32_701 : BitVec 32 := 1#32
  let v1293 : BitVec 32 := Scalar.subi v1278 c1_i32_701
  let v1294 : BitVec 32 := Scalar.select v1292 v1293 v1278
  let c0_i32_705 : BitVec 32 := 0#32
  ![20, Nat.mul 2 v1294.toNat, 0]

def k0_chk53 (v1276 : BitVec 32) : Prop :=
  (∀ a, (k0_off53 v1276) a + S1x2x7168.size a ≤ S32x256x7168.size a) ∧
  (∀ (hinb : ∀ a, (k0_off53 v1276) a + S1x2x7168.size a ≤ S32x256x7168.size a), (Rect.unit (s := S32x256x7168) (k0_off53 v1276) S1x2x7168.size hinb).WholeWords (EltTy.packing .bf16))
theorem k0_off53_inb : ∀ (v1276 : BitVec 32) (k0_hw53 : k0_chk53 v1276), ∀ a, (k0_off53 v1276) a + S1x2x7168.size a ≤ S32x256x7168.size a := fun v1276 k0_hw53 => k0_hw53.1
theorem k0_off53_wordsbf16 : ∀ (v1276 : BitVec 32) (k0_hw53 : k0_chk53 v1276), (Rect.unit (s := S32x256x7168) (k0_off53 v1276) S1x2x7168.size (k0_off53_inb v1276 k0_hw53)).WholeWords (EltTy.packing .bf16) := fun v1276 k0_hw53 => k0_hw53.2 (k0_off53_inb v1276 k0_hw53)

def k0_off54 (v1299 : BitVec 32) : Fin 3 → Nat :=
  let c21_i32_715 : BitVec 32 := 21#32
  let c1_i32_707 : BitVec 32 := 1#32
  let v1300 : BitVec 32 := Scalar.subi v1299 c1_i32_707
  let c0_i32_709 : BitVec 32 := 0#32
  let v1302 : BitVec 1 := Scalar.cmpi .sgt v1300 c0_i32_709
  let v1303 : BitVec 32 := Scalar.extui v1302
  let c0_i32_710 : BitVec 32 := 0#32
  let v1304 : BitVec 1 := Scalar.cmpi .slt v1300 c0_i32_710
  let v1305 : BitVec 32 := Scalar.extui v1304
  let v1306 : BitVec 32 := Scalar.subi v1303 v1305
  let c2_i32_708 : BitVec 32 := 2#32
  let c0_i32_711 : BitVec 32 := 0#32
  let v1307 : BitVec 1 := Scalar.cmpi .sgt c2_i32_708 c0_i32_711
  let v1308 : BitVec 32 := Scalar.extui v1307
  let c0_i32_712 : BitVec 32 := 0#32
  let v1309 : BitVec 1 := Scalar.cmpi .slt c2_i32_708 c0_i32_712
  let v1310 : BitVec 32 := Scalar.extui v1309
  let v1311 : BitVec 32 := Scalar.subi v1308 v1310
  let v1312 : BitVec 1 := Scalar.cmpi .ne v1306 v1311
  let v1313 : BitVec 32 := Scalar.remsi v1300 c2_i32_708
  let c0_i32_713 : BitVec 32 := 0#32
  let v1314 : BitVec 1 := Scalar.cmpi .ne v1313 c0_i32_713
  let v1315 : BitVec 1 := Scalar.andi v1312 v1314
  let v1301 : BitVec 32 := Scalar.divsi v1300 c2_i32_708
  let c1_i32_714 : BitVec 32 := 1#32
  let v1316 : BitVec 32 := Scalar.subi v1301 c1_i32_714
  let v1317 : BitVec 32 := Scalar.select v1315 v1316 v1301
  let c0_i32_718 : BitVec 32 := 0#32
  ![21, Nat.mul 2 v1317.toNat, 0]

def k0_chk54 (v1299 : BitVec 32) : Prop :=
  (∀ a, (k0_off54 v1299) a + S1x2x7168.size a ≤ S32x256x7168.size a) ∧
  (∀ (hinb : ∀ a, (k0_off54 v1299) a + S1x2x7168.size a ≤ S32x256x7168.size a), (Rect.unit (s := S32x256x7168) (k0_off54 v1299) S1x2x7168.size hinb).WholeWords (EltTy.packing .bf16))
theorem k0_off54_inb : ∀ (v1299 : BitVec 32) (k0_hw54 : k0_chk54 v1299), ∀ a, (k0_off54 v1299) a + S1x2x7168.size a ≤ S32x256x7168.size a := fun v1299 k0_hw54 => k0_hw54.1
theorem k0_off54_wordsbf16 : ∀ (v1299 : BitVec 32) (k0_hw54 : k0_chk54 v1299), (Rect.unit (s := S32x256x7168) (k0_off54 v1299) S1x2x7168.size (k0_off54_inb v1299 k0_hw54)).WholeWords (EltTy.packing .bf16) := fun v1299 k0_hw54 => k0_hw54.2 (k0_off54_inb v1299 k0_hw54)

def k0_off55 (v1322 : BitVec 32) : Fin 3 → Nat :=
  let c22_i32_728 : BitVec 32 := 22#32
  let c1_i32_720 : BitVec 32 := 1#32
  let v1323 : BitVec 32 := Scalar.subi v1322 c1_i32_720
  let c0_i32_722 : BitVec 32 := 0#32
  let v1325 : BitVec 1 := Scalar.cmpi .sgt v1323 c0_i32_722
  let v1326 : BitVec 32 := Scalar.extui v1325
  let c0_i32_723 : BitVec 32 := 0#32
  let v1327 : BitVec 1 := Scalar.cmpi .slt v1323 c0_i32_723
  let v1328 : BitVec 32 := Scalar.extui v1327
  let v1329 : BitVec 32 := Scalar.subi v1326 v1328
  let c2_i32_721 : BitVec 32 := 2#32
  let c0_i32_724 : BitVec 32 := 0#32
  let v1330 : BitVec 1 := Scalar.cmpi .sgt c2_i32_721 c0_i32_724
  let v1331 : BitVec 32 := Scalar.extui v1330
  let c0_i32_725 : BitVec 32 := 0#32
  let v1332 : BitVec 1 := Scalar.cmpi .slt c2_i32_721 c0_i32_725
  let v1333 : BitVec 32 := Scalar.extui v1332
  let v1334 : BitVec 32 := Scalar.subi v1331 v1333
  let v1335 : BitVec 1 := Scalar.cmpi .ne v1329 v1334
  let v1336 : BitVec 32 := Scalar.remsi v1323 c2_i32_721
  let c0_i32_726 : BitVec 32 := 0#32
  let v1337 : BitVec 1 := Scalar.cmpi .ne v1336 c0_i32_726
  let v1338 : BitVec 1 := Scalar.andi v1335 v1337
  let v1324 : BitVec 32 := Scalar.divsi v1323 c2_i32_721
  let c1_i32_727 : BitVec 32 := 1#32
  let v1339 : BitVec 32 := Scalar.subi v1324 c1_i32_727
  let v1340 : BitVec 32 := Scalar.select v1338 v1339 v1324
  let c0_i32_731 : BitVec 32 := 0#32
  ![22, Nat.mul 2 v1340.toNat, 0]

def k0_chk55 (v1322 : BitVec 32) : Prop :=
  (∀ a, (k0_off55 v1322) a + S1x2x7168.size a ≤ S32x256x7168.size a) ∧
  (∀ (hinb : ∀ a, (k0_off55 v1322) a + S1x2x7168.size a ≤ S32x256x7168.size a), (Rect.unit (s := S32x256x7168) (k0_off55 v1322) S1x2x7168.size hinb).WholeWords (EltTy.packing .bf16))
theorem k0_off55_inb : ∀ (v1322 : BitVec 32) (k0_hw55 : k0_chk55 v1322), ∀ a, (k0_off55 v1322) a + S1x2x7168.size a ≤ S32x256x7168.size a := fun v1322 k0_hw55 => k0_hw55.1
theorem k0_off55_wordsbf16 : ∀ (v1322 : BitVec 32) (k0_hw55 : k0_chk55 v1322), (Rect.unit (s := S32x256x7168) (k0_off55 v1322) S1x2x7168.size (k0_off55_inb v1322 k0_hw55)).WholeWords (EltTy.packing .bf16) := fun v1322 k0_hw55 => k0_hw55.2 (k0_off55_inb v1322 k0_hw55)

def k0_off56 (v1345 : BitVec 32) : Fin 3 → Nat :=
  let c23_i32_741 : BitVec 32 := 23#32
  let c1_i32_733 : BitVec 32 := 1#32
  let v1346 : BitVec 32 := Scalar.subi v1345 c1_i32_733
  let c0_i32_735 : BitVec 32 := 0#32
  let v1348 : BitVec 1 := Scalar.cmpi .sgt v1346 c0_i32_735
  let v1349 : BitVec 32 := Scalar.extui v1348
  let c0_i32_736 : BitVec 32 := 0#32
  let v1350 : BitVec 1 := Scalar.cmpi .slt v1346 c0_i32_736
  let v1351 : BitVec 32 := Scalar.extui v1350
  let v1352 : BitVec 32 := Scalar.subi v1349 v1351
  let c2_i32_734 : BitVec 32 := 2#32
  let c0_i32_737 : BitVec 32 := 0#32
  let v1353 : BitVec 1 := Scalar.cmpi .sgt c2_i32_734 c0_i32_737
  let v1354 : BitVec 32 := Scalar.extui v1353
  let c0_i32_738 : BitVec 32 := 0#32
  let v1355 : BitVec 1 := Scalar.cmpi .slt c2_i32_734 c0_i32_738
  let v1356 : BitVec 32 := Scalar.extui v1355
  let v1357 : BitVec 32 := Scalar.subi v1354 v1356
  let v1358 : BitVec 1 := Scalar.cmpi .ne v1352 v1357
  let v1359 : BitVec 32 := Scalar.remsi v1346 c2_i32_734
  let c0_i32_739 : BitVec 32 := 0#32
  let v1360 : BitVec 1 := Scalar.cmpi .ne v1359 c0_i32_739
  let v1361 : BitVec 1 := Scalar.andi v1358 v1360
  let v1347 : BitVec 32 := Scalar.divsi v1346 c2_i32_734
  let c1_i32_740 : BitVec 32 := 1#32
  let v1362 : BitVec 32 := Scalar.subi v1347 c1_i32_740
  let v1363 : BitVec 32 := Scalar.select v1361 v1362 v1347
  let c0_i32_744 : BitVec 32 := 0#32
  ![23, Nat.mul 2 v1363.toNat, 0]

def k0_chk56 (v1345 : BitVec 32) : Prop :=
  (∀ a, (k0_off56 v1345) a + S1x2x7168.size a ≤ S32x256x7168.size a) ∧
  (∀ (hinb : ∀ a, (k0_off56 v1345) a + S1x2x7168.size a ≤ S32x256x7168.size a), (Rect.unit (s := S32x256x7168) (k0_off56 v1345) S1x2x7168.size hinb).WholeWords (EltTy.packing .bf16))
theorem k0_off56_inb : ∀ (v1345 : BitVec 32) (k0_hw56 : k0_chk56 v1345), ∀ a, (k0_off56 v1345) a + S1x2x7168.size a ≤ S32x256x7168.size a := fun v1345 k0_hw56 => k0_hw56.1
theorem k0_off56_wordsbf16 : ∀ (v1345 : BitVec 32) (k0_hw56 : k0_chk56 v1345), (Rect.unit (s := S32x256x7168) (k0_off56 v1345) S1x2x7168.size (k0_off56_inb v1345 k0_hw56)).WholeWords (EltTy.packing .bf16) := fun v1345 k0_hw56 => k0_hw56.2 (k0_off56_inb v1345 k0_hw56)

def k0_off57 (v1368 : BitVec 32) : Fin 3 → Nat :=
  let c24_i32_754 : BitVec 32 := 24#32
  let c1_i32_746 : BitVec 32 := 1#32
  let v1369 : BitVec 32 := Scalar.subi v1368 c1_i32_746
  let c0_i32_748 : BitVec 32 := 0#32
  let v1371 : BitVec 1 := Scalar.cmpi .sgt v1369 c0_i32_748
  let v1372 : BitVec 32 := Scalar.extui v1371
  let c0_i32_749 : BitVec 32 := 0#32
  let v1373 : BitVec 1 := Scalar.cmpi .slt v1369 c0_i32_749
  let v1374 : BitVec 32 := Scalar.extui v1373
  let v1375 : BitVec 32 := Scalar.subi v1372 v1374
  let c2_i32_747 : BitVec 32 := 2#32
  let c0_i32_750 : BitVec 32 := 0#32
  let v1376 : BitVec 1 := Scalar.cmpi .sgt c2_i32_747 c0_i32_750
  let v1377 : BitVec 32 := Scalar.extui v1376
  let c0_i32_751 : BitVec 32 := 0#32
  let v1378 : BitVec 1 := Scalar.cmpi .slt c2_i32_747 c0_i32_751
  let v1379 : BitVec 32 := Scalar.extui v1378
  let v1380 : BitVec 32 := Scalar.subi v1377 v1379
  let v1381 : BitVec 1 := Scalar.cmpi .ne v1375 v1380
  let v1382 : BitVec 32 := Scalar.remsi v1369 c2_i32_747
  let c0_i32_752 : BitVec 32 := 0#32
  let v1383 : BitVec 1 := Scalar.cmpi .ne v1382 c0_i32_752
  let v1384 : BitVec 1 := Scalar.andi v1381 v1383
  let v1370 : BitVec 32 := Scalar.divsi v1369 c2_i32_747
  let c1_i32_753 : BitVec 32 := 1#32
  let v1385 : BitVec 32 := Scalar.subi v1370 c1_i32_753
  let v1386 : BitVec 32 := Scalar.select v1384 v1385 v1370
  let c0_i32_757 : BitVec 32 := 0#32
  ![24, Nat.mul 2 v1386.toNat, 0]

def k0_chk57 (v1368 : BitVec 32) : Prop :=
  (∀ a, (k0_off57 v1368) a + S1x2x7168.size a ≤ S32x256x7168.size a) ∧
  (∀ (hinb : ∀ a, (k0_off57 v1368) a + S1x2x7168.size a ≤ S32x256x7168.size a), (Rect.unit (s := S32x256x7168) (k0_off57 v1368) S1x2x7168.size hinb).WholeWords (EltTy.packing .bf16))
theorem k0_off57_inb : ∀ (v1368 : BitVec 32) (k0_hw57 : k0_chk57 v1368), ∀ a, (k0_off57 v1368) a + S1x2x7168.size a ≤ S32x256x7168.size a := fun v1368 k0_hw57 => k0_hw57.1
theorem k0_off57_wordsbf16 : ∀ (v1368 : BitVec 32) (k0_hw57 : k0_chk57 v1368), (Rect.unit (s := S32x256x7168) (k0_off57 v1368) S1x2x7168.size (k0_off57_inb v1368 k0_hw57)).WholeWords (EltTy.packing .bf16) := fun v1368 k0_hw57 => k0_hw57.2 (k0_off57_inb v1368 k0_hw57)

def k0_off58 (v1391 : BitVec 32) : Fin 3 → Nat :=
  let c25_i32_767 : BitVec 32 := 25#32
  let c1_i32_759 : BitVec 32 := 1#32
  let v1392 : BitVec 32 := Scalar.subi v1391 c1_i32_759
  let c0_i32_761 : BitVec 32 := 0#32
  let v1394 : BitVec 1 := Scalar.cmpi .sgt v1392 c0_i32_761
  let v1395 : BitVec 32 := Scalar.extui v1394
  let c0_i32_762 : BitVec 32 := 0#32
  let v1396 : BitVec 1 := Scalar.cmpi .slt v1392 c0_i32_762
  let v1397 : BitVec 32 := Scalar.extui v1396
  let v1398 : BitVec 32 := Scalar.subi v1395 v1397
  let c2_i32_760 : BitVec 32 := 2#32
  let c0_i32_763 : BitVec 32 := 0#32
  let v1399 : BitVec 1 := Scalar.cmpi .sgt c2_i32_760 c0_i32_763
  let v1400 : BitVec 32 := Scalar.extui v1399
  let c0_i32_764 : BitVec 32 := 0#32
  let v1401 : BitVec 1 := Scalar.cmpi .slt c2_i32_760 c0_i32_764
  let v1402 : BitVec 32 := Scalar.extui v1401
  let v1403 : BitVec 32 := Scalar.subi v1400 v1402
  let v1404 : BitVec 1 := Scalar.cmpi .ne v1398 v1403
  let v1405 : BitVec 32 := Scalar.remsi v1392 c2_i32_760
  let c0_i32_765 : BitVec 32 := 0#32
  let v1406 : BitVec 1 := Scalar.cmpi .ne v1405 c0_i32_765
  let v1407 : BitVec 1 := Scalar.andi v1404 v1406
  let v1393 : BitVec 32 := Scalar.divsi v1392 c2_i32_760
  let c1_i32_766 : BitVec 32 := 1#32
  let v1408 : BitVec 32 := Scalar.subi v1393 c1_i32_766
  let v1409 : BitVec 32 := Scalar.select v1407 v1408 v1393
  let c0_i32_770 : BitVec 32 := 0#32
  ![25, Nat.mul 2 v1409.toNat, 0]

def k0_chk58 (v1391 : BitVec 32) : Prop :=
  (∀ a, (k0_off58 v1391) a + S1x2x7168.size a ≤ S32x256x7168.size a) ∧
  (∀ (hinb : ∀ a, (k0_off58 v1391) a + S1x2x7168.size a ≤ S32x256x7168.size a), (Rect.unit (s := S32x256x7168) (k0_off58 v1391) S1x2x7168.size hinb).WholeWords (EltTy.packing .bf16))
theorem k0_off58_inb : ∀ (v1391 : BitVec 32) (k0_hw58 : k0_chk58 v1391), ∀ a, (k0_off58 v1391) a + S1x2x7168.size a ≤ S32x256x7168.size a := fun v1391 k0_hw58 => k0_hw58.1
theorem k0_off58_wordsbf16 : ∀ (v1391 : BitVec 32) (k0_hw58 : k0_chk58 v1391), (Rect.unit (s := S32x256x7168) (k0_off58 v1391) S1x2x7168.size (k0_off58_inb v1391 k0_hw58)).WholeWords (EltTy.packing .bf16) := fun v1391 k0_hw58 => k0_hw58.2 (k0_off58_inb v1391 k0_hw58)

def k0_off59 (v1414 : BitVec 32) : Fin 3 → Nat :=
  let c26_i32_780 : BitVec 32 := 26#32
  let c1_i32_772 : BitVec 32 := 1#32
  let v1415 : BitVec 32 := Scalar.subi v1414 c1_i32_772
  let c0_i32_774 : BitVec 32 := 0#32
  let v1417 : BitVec 1 := Scalar.cmpi .sgt v1415 c0_i32_774
  let v1418 : BitVec 32 := Scalar.extui v1417
  let c0_i32_775 : BitVec 32 := 0#32
  let v1419 : BitVec 1 := Scalar.cmpi .slt v1415 c0_i32_775
  let v1420 : BitVec 32 := Scalar.extui v1419
  let v1421 : BitVec 32 := Scalar.subi v1418 v1420
  let c2_i32_773 : BitVec 32 := 2#32
  let c0_i32_776 : BitVec 32 := 0#32
  let v1422 : BitVec 1 := Scalar.cmpi .sgt c2_i32_773 c0_i32_776
  let v1423 : BitVec 32 := Scalar.extui v1422
  let c0_i32_777 : BitVec 32 := 0#32
  let v1424 : BitVec 1 := Scalar.cmpi .slt c2_i32_773 c0_i32_777
  let v1425 : BitVec 32 := Scalar.extui v1424
  let v1426 : BitVec 32 := Scalar.subi v1423 v1425
  let v1427 : BitVec 1 := Scalar.cmpi .ne v1421 v1426
  let v1428 : BitVec 32 := Scalar.remsi v1415 c2_i32_773
  let c0_i32_778 : BitVec 32 := 0#32
  let v1429 : BitVec 1 := Scalar.cmpi .ne v1428 c0_i32_778
  let v1430 : BitVec 1 := Scalar.andi v1427 v1429
  let v1416 : BitVec 32 := Scalar.divsi v1415 c2_i32_773
  let c1_i32_779 : BitVec 32 := 1#32
  let v1431 : BitVec 32 := Scalar.subi v1416 c1_i32_779
  let v1432 : BitVec 32 := Scalar.select v1430 v1431 v1416
  let c0_i32_783 : BitVec 32 := 0#32
  ![26, Nat.mul 2 v1432.toNat, 0]

def k0_chk59 (v1414 : BitVec 32) : Prop :=
  (∀ a, (k0_off59 v1414) a + S1x2x7168.size a ≤ S32x256x7168.size a) ∧
  (∀ (hinb : ∀ a, (k0_off59 v1414) a + S1x2x7168.size a ≤ S32x256x7168.size a), (Rect.unit (s := S32x256x7168) (k0_off59 v1414) S1x2x7168.size hinb).WholeWords (EltTy.packing .bf16))
theorem k0_off59_inb : ∀ (v1414 : BitVec 32) (k0_hw59 : k0_chk59 v1414), ∀ a, (k0_off59 v1414) a + S1x2x7168.size a ≤ S32x256x7168.size a := fun v1414 k0_hw59 => k0_hw59.1
theorem k0_off59_wordsbf16 : ∀ (v1414 : BitVec 32) (k0_hw59 : k0_chk59 v1414), (Rect.unit (s := S32x256x7168) (k0_off59 v1414) S1x2x7168.size (k0_off59_inb v1414 k0_hw59)).WholeWords (EltTy.packing .bf16) := fun v1414 k0_hw59 => k0_hw59.2 (k0_off59_inb v1414 k0_hw59)

def k0_off60 (v1437 : BitVec 32) : Fin 3 → Nat :=
  let c27_i32_793 : BitVec 32 := 27#32
  let c1_i32_785 : BitVec 32 := 1#32
  let v1438 : BitVec 32 := Scalar.subi v1437 c1_i32_785
  let c0_i32_787 : BitVec 32 := 0#32
  let v1440 : BitVec 1 := Scalar.cmpi .sgt v1438 c0_i32_787
  let v1441 : BitVec 32 := Scalar.extui v1440
  let c0_i32_788 : BitVec 32 := 0#32
  let v1442 : BitVec 1 := Scalar.cmpi .slt v1438 c0_i32_788
  let v1443 : BitVec 32 := Scalar.extui v1442
  let v1444 : BitVec 32 := Scalar.subi v1441 v1443
  let c2_i32_786 : BitVec 32 := 2#32
  let c0_i32_789 : BitVec 32 := 0#32
  let v1445 : BitVec 1 := Scalar.cmpi .sgt c2_i32_786 c0_i32_789
  let v1446 : BitVec 32 := Scalar.extui v1445
  let c0_i32_790 : BitVec 32 := 0#32
  let v1447 : BitVec 1 := Scalar.cmpi .slt c2_i32_786 c0_i32_790
  let v1448 : BitVec 32 := Scalar.extui v1447
  let v1449 : BitVec 32 := Scalar.subi v1446 v1448
  let v1450 : BitVec 1 := Scalar.cmpi .ne v1444 v1449
  let v1451 : BitVec 32 := Scalar.remsi v1438 c2_i32_786
  let c0_i32_791 : BitVec 32 := 0#32
  let v1452 : BitVec 1 := Scalar.cmpi .ne v1451 c0_i32_791
  let v1453 : BitVec 1 := Scalar.andi v1450 v1452
  let v1439 : BitVec 32 := Scalar.divsi v1438 c2_i32_786
  let c1_i32_792 : BitVec 32 := 1#32
  let v1454 : BitVec 32 := Scalar.subi v1439 c1_i32_792
  let v1455 : BitVec 32 := Scalar.select v1453 v1454 v1439
  let c0_i32_796 : BitVec 32 := 0#32
  ![27, Nat.mul 2 v1455.toNat, 0]

def k0_chk60 (v1437 : BitVec 32) : Prop :=
  (∀ a, (k0_off60 v1437) a + S1x2x7168.size a ≤ S32x256x7168.size a) ∧
  (∀ (hinb : ∀ a, (k0_off60 v1437) a + S1x2x7168.size a ≤ S32x256x7168.size a), (Rect.unit (s := S32x256x7168) (k0_off60 v1437) S1x2x7168.size hinb).WholeWords (EltTy.packing .bf16))
theorem k0_off60_inb : ∀ (v1437 : BitVec 32) (k0_hw60 : k0_chk60 v1437), ∀ a, (k0_off60 v1437) a + S1x2x7168.size a ≤ S32x256x7168.size a := fun v1437 k0_hw60 => k0_hw60.1
theorem k0_off60_wordsbf16 : ∀ (v1437 : BitVec 32) (k0_hw60 : k0_chk60 v1437), (Rect.unit (s := S32x256x7168) (k0_off60 v1437) S1x2x7168.size (k0_off60_inb v1437 k0_hw60)).WholeWords (EltTy.packing .bf16) := fun v1437 k0_hw60 => k0_hw60.2 (k0_off60_inb v1437 k0_hw60)

def k0_off61 (v1460 : BitVec 32) : Fin 3 → Nat :=
  let c28_i32_806 : BitVec 32 := 28#32
  let c1_i32_798 : BitVec 32 := 1#32
  let v1461 : BitVec 32 := Scalar.subi v1460 c1_i32_798
  let c0_i32_800 : BitVec 32 := 0#32
  let v1463 : BitVec 1 := Scalar.cmpi .sgt v1461 c0_i32_800
  let v1464 : BitVec 32 := Scalar.extui v1463
  let c0_i32_801 : BitVec 32 := 0#32
  let v1465 : BitVec 1 := Scalar.cmpi .slt v1461 c0_i32_801
  let v1466 : BitVec 32 := Scalar.extui v1465
  let v1467 : BitVec 32 := Scalar.subi v1464 v1466
  let c2_i32_799 : BitVec 32 := 2#32
  let c0_i32_802 : BitVec 32 := 0#32
  let v1468 : BitVec 1 := Scalar.cmpi .sgt c2_i32_799 c0_i32_802
  let v1469 : BitVec 32 := Scalar.extui v1468
  let c0_i32_803 : BitVec 32 := 0#32
  let v1470 : BitVec 1 := Scalar.cmpi .slt c2_i32_799 c0_i32_803
  let v1471 : BitVec 32 := Scalar.extui v1470
  let v1472 : BitVec 32 := Scalar.subi v1469 v1471
  let v1473 : BitVec 1 := Scalar.cmpi .ne v1467 v1472
  let v1474 : BitVec 32 := Scalar.remsi v1461 c2_i32_799
  let c0_i32_804 : BitVec 32 := 0#32
  let v1475 : BitVec 1 := Scalar.cmpi .ne v1474 c0_i32_804
  let v1476 : BitVec 1 := Scalar.andi v1473 v1475
  let v1462 : BitVec 32 := Scalar.divsi v1461 c2_i32_799
  let c1_i32_805 : BitVec 32 := 1#32
  let v1477 : BitVec 32 := Scalar.subi v1462 c1_i32_805
  let v1478 : BitVec 32 := Scalar.select v1476 v1477 v1462
  let c0_i32_809 : BitVec 32 := 0#32
  ![28, Nat.mul 2 v1478.toNat, 0]

def k0_chk61 (v1460 : BitVec 32) : Prop :=
  (∀ a, (k0_off61 v1460) a + S1x2x7168.size a ≤ S32x256x7168.size a) ∧
  (∀ (hinb : ∀ a, (k0_off61 v1460) a + S1x2x7168.size a ≤ S32x256x7168.size a), (Rect.unit (s := S32x256x7168) (k0_off61 v1460) S1x2x7168.size hinb).WholeWords (EltTy.packing .bf16))
theorem k0_off61_inb : ∀ (v1460 : BitVec 32) (k0_hw61 : k0_chk61 v1460), ∀ a, (k0_off61 v1460) a + S1x2x7168.size a ≤ S32x256x7168.size a := fun v1460 k0_hw61 => k0_hw61.1
theorem k0_off61_wordsbf16 : ∀ (v1460 : BitVec 32) (k0_hw61 : k0_chk61 v1460), (Rect.unit (s := S32x256x7168) (k0_off61 v1460) S1x2x7168.size (k0_off61_inb v1460 k0_hw61)).WholeWords (EltTy.packing .bf16) := fun v1460 k0_hw61 => k0_hw61.2 (k0_off61_inb v1460 k0_hw61)

def k0_off62 (v1483 : BitVec 32) : Fin 3 → Nat :=
  let c29_i32_819 : BitVec 32 := 29#32
  let c1_i32_811 : BitVec 32 := 1#32
  let v1484 : BitVec 32 := Scalar.subi v1483 c1_i32_811
  let c0_i32_813 : BitVec 32 := 0#32
  let v1486 : BitVec 1 := Scalar.cmpi .sgt v1484 c0_i32_813
  let v1487 : BitVec 32 := Scalar.extui v1486
  let c0_i32_814 : BitVec 32 := 0#32
  let v1488 : BitVec 1 := Scalar.cmpi .slt v1484 c0_i32_814
  let v1489 : BitVec 32 := Scalar.extui v1488
  let v1490 : BitVec 32 := Scalar.subi v1487 v1489
  let c2_i32_812 : BitVec 32 := 2#32
  let c0_i32_815 : BitVec 32 := 0#32
  let v1491 : BitVec 1 := Scalar.cmpi .sgt c2_i32_812 c0_i32_815
  let v1492 : BitVec 32 := Scalar.extui v1491
  let c0_i32_816 : BitVec 32 := 0#32
  let v1493 : BitVec 1 := Scalar.cmpi .slt c2_i32_812 c0_i32_816
  let v1494 : BitVec 32 := Scalar.extui v1493
  let v1495 : BitVec 32 := Scalar.subi v1492 v1494
  let v1496 : BitVec 1 := Scalar.cmpi .ne v1490 v1495
  let v1497 : BitVec 32 := Scalar.remsi v1484 c2_i32_812
  let c0_i32_817 : BitVec 32 := 0#32
  let v1498 : BitVec 1 := Scalar.cmpi .ne v1497 c0_i32_817
  let v1499 : BitVec 1 := Scalar.andi v1496 v1498
  let v1485 : BitVec 32 := Scalar.divsi v1484 c2_i32_812
  let c1_i32_818 : BitVec 32 := 1#32
  let v1500 : BitVec 32 := Scalar.subi v1485 c1_i32_818
  let v1501 : BitVec 32 := Scalar.select v1499 v1500 v1485
  let c0_i32_822 : BitVec 32 := 0#32
  ![29, Nat.mul 2 v1501.toNat, 0]

def k0_chk62 (v1483 : BitVec 32) : Prop :=
  (∀ a, (k0_off62 v1483) a + S1x2x7168.size a ≤ S32x256x7168.size a) ∧
  (∀ (hinb : ∀ a, (k0_off62 v1483) a + S1x2x7168.size a ≤ S32x256x7168.size a), (Rect.unit (s := S32x256x7168) (k0_off62 v1483) S1x2x7168.size hinb).WholeWords (EltTy.packing .bf16))
theorem k0_off62_inb : ∀ (v1483 : BitVec 32) (k0_hw62 : k0_chk62 v1483), ∀ a, (k0_off62 v1483) a + S1x2x7168.size a ≤ S32x256x7168.size a := fun v1483 k0_hw62 => k0_hw62.1
theorem k0_off62_wordsbf16 : ∀ (v1483 : BitVec 32) (k0_hw62 : k0_chk62 v1483), (Rect.unit (s := S32x256x7168) (k0_off62 v1483) S1x2x7168.size (k0_off62_inb v1483 k0_hw62)).WholeWords (EltTy.packing .bf16) := fun v1483 k0_hw62 => k0_hw62.2 (k0_off62_inb v1483 k0_hw62)

def k0_off63 (v1506 : BitVec 32) : Fin 3 → Nat :=
  let c30_i32_832 : BitVec 32 := 30#32
  let c1_i32_824 : BitVec 32 := 1#32
  let v1507 : BitVec 32 := Scalar.subi v1506 c1_i32_824
  let c0_i32_826 : BitVec 32 := 0#32
  let v1509 : BitVec 1 := Scalar.cmpi .sgt v1507 c0_i32_826
  let v1510 : BitVec 32 := Scalar.extui v1509
  let c0_i32_827 : BitVec 32 := 0#32
  let v1511 : BitVec 1 := Scalar.cmpi .slt v1507 c0_i32_827
  let v1512 : BitVec 32 := Scalar.extui v1511
  let v1513 : BitVec 32 := Scalar.subi v1510 v1512
  let c2_i32_825 : BitVec 32 := 2#32
  let c0_i32_828 : BitVec 32 := 0#32
  let v1514 : BitVec 1 := Scalar.cmpi .sgt c2_i32_825 c0_i32_828
  let v1515 : BitVec 32 := Scalar.extui v1514
  let c0_i32_829 : BitVec 32 := 0#32
  let v1516 : BitVec 1 := Scalar.cmpi .slt c2_i32_825 c0_i32_829
  let v1517 : BitVec 32 := Scalar.extui v1516
  let v1518 : BitVec 32 := Scalar.subi v1515 v1517
  let v1519 : BitVec 1 := Scalar.cmpi .ne v1513 v1518
  let v1520 : BitVec 32 := Scalar.remsi v1507 c2_i32_825
  let c0_i32_830 : BitVec 32 := 0#32
  let v1521 : BitVec 1 := Scalar.cmpi .ne v1520 c0_i32_830
  let v1522 : BitVec 1 := Scalar.andi v1519 v1521
  let v1508 : BitVec 32 := Scalar.divsi v1507 c2_i32_825
  let c1_i32_831 : BitVec 32 := 1#32
  let v1523 : BitVec 32 := Scalar.subi v1508 c1_i32_831
  let v1524 : BitVec 32 := Scalar.select v1522 v1523 v1508
  let c0_i32_835 : BitVec 32 := 0#32
  ![30, Nat.mul 2 v1524.toNat, 0]

def k0_chk63 (v1506 : BitVec 32) : Prop :=
  (∀ a, (k0_off63 v1506) a + S1x2x7168.size a ≤ S32x256x7168.size a) ∧
  (∀ (hinb : ∀ a, (k0_off63 v1506) a + S1x2x7168.size a ≤ S32x256x7168.size a), (Rect.unit (s := S32x256x7168) (k0_off63 v1506) S1x2x7168.size hinb).WholeWords (EltTy.packing .bf16))
theorem k0_off63_inb : ∀ (v1506 : BitVec 32) (k0_hw63 : k0_chk63 v1506), ∀ a, (k0_off63 v1506) a + S1x2x7168.size a ≤ S32x256x7168.size a := fun v1506 k0_hw63 => k0_hw63.1
theorem k0_off63_wordsbf16 : ∀ (v1506 : BitVec 32) (k0_hw63 : k0_chk63 v1506), (Rect.unit (s := S32x256x7168) (k0_off63 v1506) S1x2x7168.size (k0_off63_inb v1506 k0_hw63)).WholeWords (EltTy.packing .bf16) := fun v1506 k0_hw63 => k0_hw63.2 (k0_off63_inb v1506 k0_hw63)

def k0_off64 (v1529 : BitVec 32) : Fin 3 → Nat :=
  let c31_i32_845 : BitVec 32 := 31#32
  let c1_i32_837 : BitVec 32 := 1#32
  let v1530 : BitVec 32 := Scalar.subi v1529 c1_i32_837
  let c0_i32_839 : BitVec 32 := 0#32
  let v1532 : BitVec 1 := Scalar.cmpi .sgt v1530 c0_i32_839
  let v1533 : BitVec 32 := Scalar.extui v1532
  let c0_i32_840 : BitVec 32 := 0#32
  let v1534 : BitVec 1 := Scalar.cmpi .slt v1530 c0_i32_840
  let v1535 : BitVec 32 := Scalar.extui v1534
  let v1536 : BitVec 32 := Scalar.subi v1533 v1535
  let c2_i32_838 : BitVec 32 := 2#32
  let c0_i32_841 : BitVec 32 := 0#32
  let v1537 : BitVec 1 := Scalar.cmpi .sgt c2_i32_838 c0_i32_841
  let v1538 : BitVec 32 := Scalar.extui v1537
  let c0_i32_842 : BitVec 32 := 0#32
  let v1539 : BitVec 1 := Scalar.cmpi .slt c2_i32_838 c0_i32_842
  let v1540 : BitVec 32 := Scalar.extui v1539
  let v1541 : BitVec 32 := Scalar.subi v1538 v1540
  let v1542 : BitVec 1 := Scalar.cmpi .ne v1536 v1541
  let v1543 : BitVec 32 := Scalar.remsi v1530 c2_i32_838
  let c0_i32_843 : BitVec 32 := 0#32
  let v1544 : BitVec 1 := Scalar.cmpi .ne v1543 c0_i32_843
  let v1545 : BitVec 1 := Scalar.andi v1542 v1544
  let v1531 : BitVec 32 := Scalar.divsi v1530 c2_i32_838
  let c1_i32_844 : BitVec 32 := 1#32
  let v1546 : BitVec 32 := Scalar.subi v1531 c1_i32_844
  let v1547 : BitVec 32 := Scalar.select v1545 v1546 v1531
  let c0_i32_848 : BitVec 32 := 0#32
  ![31, Nat.mul 2 v1547.toNat, 0]

def k0_chk64 (v1529 : BitVec 32) : Prop :=
  (∀ a, (k0_off64 v1529) a + S1x2x7168.size a ≤ S32x256x7168.size a) ∧
  (∀ (hinb : ∀ a, (k0_off64 v1529) a + S1x2x7168.size a ≤ S32x256x7168.size a), (Rect.unit (s := S32x256x7168) (k0_off64 v1529) S1x2x7168.size hinb).WholeWords (EltTy.packing .bf16))
theorem k0_off64_inb : ∀ (v1529 : BitVec 32) (k0_hw64 : k0_chk64 v1529), ∀ a, (k0_off64 v1529) a + S1x2x7168.size a ≤ S32x256x7168.size a := fun v1529 k0_hw64 => k0_hw64.1
theorem k0_off64_wordsbf16 : ∀ (v1529 : BitVec 32) (k0_hw64 : k0_chk64 v1529), (Rect.unit (s := S32x256x7168) (k0_off64 v1529) S1x2x7168.size (k0_off64_inb v1529 k0_hw64)).WholeWords (EltTy.packing .bf16) := fun v1529 k0_hw64 => k0_hw64.2 (k0_off64_inb v1529 k0_hw64)

@[reducible] def k0_t1_loop : Scf.Loop 32 :=
  let c0_i32_1742 : BitVec 32 := 0#32
  let c16_i32_1743 : BitVec 32 := 16#32
  let v3629 : BitVec 32 := Scalar.addi c0_i32_1742 c16_i32_1743
  let c1_i32_1744 : BitVec 32 := 1#32
  ⟨c0_i32_1742, v3629, c1_i32_1744⟩
def k0_off65 (k0_t1 : Fin k0_t1_loop.trips) : Fin 1 → Nat :=
  let c0_i32_1742 : BitVec 32 := 0#32
  let c1_i32_1744 : BitVec 32 := 1#32
  let arg21 : BitVec 32 := Scf.iv c0_i32_1742 c1_i32_1744 k0_t1
  ![arg21.toNat]
def k0_off66 (k0_t1 : Fin k0_t1_loop.trips) : Fin 3 → Nat :=
  let c0_i32_1742 : BitVec 32 := 0#32
  let c1_i32_1744 : BitVec 32 := 1#32
  let arg21 : BitVec 32 := Scf.iv c0_i32_1742 c1_i32_1744 k0_t1
  let c0_i32_1749 : BitVec 32 := 0#32
  let c0_i32_1750 : BitVec 32 := 0#32
  ![arg21.toNat, 0, 0]
def k0_off67 (k0_t1 : Fin k0_t1_loop.trips) : Fin 2 → Nat :=
  let c0_i32_1751 : BitVec 32 := 0#32
  let c0_i32_1742 : BitVec 32 := 0#32
  let c1_i32_1744 : BitVec 32 := 1#32
  let arg21 : BitVec 32 := Scf.iv c0_i32_1742 c1_i32_1744 k0_t1
  let c512_i32_1748 : BitVec 32 := 512#32
  let v3634 : BitVec 32 := Scalar.muli arg21 c512_i32_1748
  ![0, v3634.toNat]
def k0_off68 (k0_t1 : Fin k0_t1_loop.trips) : Fin 3 → Nat :=
  let c0_i32_1742 : BitVec 32 := 0#32
  let c1_i32_1744 : BitVec 32 := 1#32
  let arg21 : BitVec 32 := Scf.iv c0_i32_1742 c1_i32_1744 k0_t1
  let v3641 : Index := Scalar.indexCast arg21
  let c0_1754 : Index := 0#32
  let c0_1755 : Index := 0#32
  ![v3641.toNat, 0, 0]
def k0_mult1 (k0_t1 : Fin k0_t1_loop.trips) : BitVec 32 :=
  let c0_i32_1742 : BitVec 32 := 0#32
  let c1_i32_1744 : BitVec 32 := 1#32
  let arg21 : BitVec 32 := Scf.iv c0_i32_1742 c1_i32_1744 k0_t1
  let c512_i32_1757 : BitVec 32 := 512#32
  let v3645 : BitVec 32 := Scalar.muli arg21 c512_i32_1757
  v3645
def k0_off69 (k0_t1 : Fin k0_t1_loop.trips) : Fin 2 → Nat :=
  let c0_1760 : Index := 0#32
  let c0_i32_1742 : BitVec 32 := 0#32
  let c1_i32_1744 : BitVec 32 := 1#32
  let arg21 : BitVec 32 := Scf.iv c0_i32_1742 c1_i32_1744 k0_t1
  let c512_i32_1757 : BitVec 32 := 512#32
  let v3645 : BitVec 32 := Scalar.muli arg21 c512_i32_1757
  let v3646 : BitVec 32 := v3645
  let v3650 : Index := Scalar.indexCast v3646
  ![0, v3650.toNat]
def k0_off70 (k0_t1 : Fin k0_t1_loop.trips) : Fin 2 → Nat :=
  let c0_1761 : Index := 0#32
  let c0_i32_1742 : BitVec 32 := 0#32
  let c1_i32_1744 : BitVec 32 := 1#32
  let arg21 : BitVec 32 := Scf.iv c0_i32_1742 c1_i32_1744 k0_t1
  let c512_i32_1757 : BitVec 32 := 512#32
  let v3645 : BitVec 32 := Scalar.muli arg21 c512_i32_1757
  let v3646 : BitVec 32 := v3645
  let v3655 : Index := Scalar.indexCast v3646
  ![0, v3655.toNat]
def k0_off71 (k0_t1 : Fin k0_t1_loop.trips) : Fin 2 → Nat :=
  let c0_i32_1763 : BitVec 32 := 0#32
  let c0_i32_1742 : BitVec 32 := 0#32
  let c1_i32_1744 : BitVec 32 := 1#32
  let arg21 : BitVec 32 := Scf.iv c0_i32_1742 c1_i32_1744 k0_t1
  let c512_i32_1762 : BitVec 32 := 512#32
  let v3659 : BitVec 32 := Scalar.muli arg21 c512_i32_1762
  ![0, v3659.toNat]
-- ==== KernelIdeal.lean ====
abbrev S32x256x7168 : Shape := ⟨3, ![32, 256, 7168]⟩
abbrev S32 : Shape := ⟨1, ![32]⟩
abbrev S7168x8192 : Shape := ⟨2, ![7168, 8192]⟩
abbrev S8192 : Shape := ⟨1, ![8192]⟩
abbrev S1x8192 : Shape := ⟨2, ![1, 8192]⟩
abbrev S32x8192 : Shape := ⟨2, ![32, 8192]⟩
abbrev S32x7168 : Shape := ⟨2, ![32, 7168]⟩
abbrev S16x7168x512 : Shape := ⟨3, ![16, 7168, 512]⟩
abbrev S32x2x7168 : Shape := ⟨3, ![32, 2, 7168]⟩
abbrev S32x1x7168 : Shape := ⟨3, ![32, 1, 7168]⟩
abbrev S32x128 : Shape := ⟨2, ![32, 128]⟩
abbrev S16 : Shape := ⟨1, ![16]⟩
abbrev S_ : Shape := ⟨0, ![]⟩
abbrev S2 : Shape := ⟨1, ![2]⟩
abbrev S1 : Shape := ⟨1, ![1]⟩
abbrev S1x7168x512 : Shape := ⟨3, ![1, 7168, 512]⟩
abbrev S7168x512 : Shape := ⟨2, ![7168, 512]⟩
abbrev S1x2x7168 : Shape := ⟨3, ![1, 2, 7168]⟩
abbrev S32x128x7168 : Shape := ⟨3, ![32, 128, 7168]⟩
abbrev S1x1x7168 : Shape := ⟨3, ![1, 1, 7168]⟩
abbrev S2x7168 : Shape := ⟨2, ![2, 7168]⟩
abbrev S1x7168 : Shape := ⟨2, ![1, 7168]⟩
abbrev S32x2x128 : Shape := ⟨3, ![32, 2, 128]⟩
abbrev S32x1x128 : Shape := ⟨3, ![32, 1, 128]⟩
abbrev S64x128 : Shape := ⟨2, ![64, 128]⟩
abbrev S32x1 : Shape := ⟨2, ![32, 1]⟩
abbrev S128 : Shape := ⟨1, ![128]⟩
abbrev S32x512 : Shape := ⟨2, ![32, 512]⟩
abbrev S1x512 : Shape := ⟨2, ![1, 512]⟩

abbrev nBuf : Space → Nat
  | .hbm => 8
  | .vmem => 7
  | .smem => 1
  | _ => 0

abbrev bufTy : (tb : Table) → Fin (tcTables nBuf tb) → BufTy
  | .hbm, ⟨0, _⟩ => ⟨S32x256x7168, .bf16⟩
  | .hbm, ⟨1, _⟩ => ⟨S32, .i32⟩
  | .hbm, ⟨2, _⟩ => ⟨S7168x8192, .fp8e4m3⟩
  | .hbm, ⟨3, _⟩ => ⟨S8192, .f32⟩
  | .hbm, ⟨4, _⟩ => ⟨S1x8192, .f32⟩
  | .hbm, ⟨5, _⟩ => ⟨S32x8192, .bf16⟩
  | .hbm, ⟨6, _⟩ => ⟨S32x7168, .fp8e4m3⟩
  | .hbm, ⟨7, _⟩ => ⟨S32, .f32⟩
  | .local _ .vmem, ⟨0, _⟩ => ⟨S16x7168x512, .fp8e4m3⟩
  | .local _ .vmem, ⟨1, _⟩ => ⟨S32x2x7168, .bf16⟩
  | .local _ .vmem, ⟨2, _⟩ => ⟨S32x7168, .fp8e4m3⟩
  | .local _ .vmem, ⟨3, _⟩ => ⟨S1x8192, .f32⟩
  | .local _ .vmem, ⟨4, _⟩ => ⟨S32x8192, .bf16⟩
  | .local _ .vmem, ⟨5, _⟩ => ⟨S32, .f32⟩
  | .local _ .vmem, ⟨6, _⟩ => ⟨S32x128, .f32⟩
  | .local _ .smem, ⟨0, _⟩ => ⟨S32, .i32⟩
  | _, _ => ⟨S32x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.smem, 0, rfl⟩

abbrev nD : Nat := 1
abbrev τ : Topo := Topo.v7x

variable {F : FTy → Type} [FloatOps F]

abbrev grid0 : Pipeline.Grid := .none

def k0_off1 (v80 : BitVec 32) : Fin 3 → Nat :=
  let c0_i32_73 : BitVec 32 := 0#32
  let c1_i32_65 : BitVec 32 := 1#32
  let v81 : BitVec 32 := Scalar.subi v80 c1_i32_65
  let c0_i32_67 : BitVec 32 := 0#32
  let v83 : BitVec 1 := Scalar.cmpi .sgt v81 c0_i32_67
  let v84 : BitVec 32 := Scalar.extui v83
  let c0_i32_68 : BitVec 32 := 0#32
  let v85 : BitVec 1 := Scalar.cmpi .slt v81 c0_i32_68
  let v86 : BitVec 32 := Scalar.extui v85
  let v87 : BitVec 32 := Scalar.subi v84 v86
  let c2_i32_66 : BitVec 32 := 2#32
  let c0_i32_69 : BitVec 32 := 0#32
  let v88 : BitVec 1 := Scalar.cmpi .sgt c2_i32_66 c0_i32_69
  let v89 : BitVec 32 := Scalar.extui v88
  let c0_i32_70 : BitVec 32 := 0#32
  let v90 : BitVec 1 := Scalar.cmpi .slt c2_i32_66 c0_i32_70
  let v91 : BitVec 32 := Scalar.extui v90
  let v92 : BitVec 32 := Scalar.subi v89 v91
  let v93 : BitVec 1 := Scalar.cmpi .ne v87 v92
  let v94 : BitVec 32 := Scalar.remsi v81 c2_i32_66
  let c0_i32_71 : BitVec 32 := 0#32
  let v95 : BitVec 1 := Scalar.cmpi .ne v94 c0_i32_71
  let v96 : BitVec 1 := Scalar.andi v93 v95
  let v82 : BitVec 32 := Scalar.divsi v81 c2_i32_66
  let c1_i32_72 : BitVec 32 := 1#32
  let v97 : BitVec 32 := Scalar.subi v82 c1_i32_72
  let v98 : BitVec 32 := Scalar.select v96 v97 v82
  let c0_i32_76 : BitVec 32 := 0#32
  ![0, Nat.mul 2 v98.toNat, 0]

def k0_chk1 (v80 : BitVec 32) : Prop :=
  (∀ a, (k0_off1 v80) a + S1x2x7168.size a ≤ S32x256x7168.size a) ∧
  (∀ (hinb : ∀ a, (k0_off1 v80) a + S1x2x7168.size a ≤ S32x256x7168.size a), (Rect.unit (s := S32x256x7168) (k0_off1 v80) S1x2x7168.size hinb).WholeWords (EltTy.packing .bf16)) ∧
  (∀ (hinb : ∀ a, (k0_off1 v80) a + S1x2x7168.size a ≤ S32x256x7168.size a), (Rect.unit (s := S32x256x7168) (k0_off1 v80) S1x2x7168.size hinb).LeadingBlock)
theorem k0_off1_inb : ∀ (v80 : BitVec 32) (k0_hw1 : k0_chk1 v80), ∀ a, (k0_off1 v80) a + S1x2x7168.size a ≤ S32x256x7168.size a := fun v80 k0_hw1 => k0_hw1.1
theorem k0_off1_wordsbf16 : ∀ (v80 : BitVec 32) (k0_hw1 : k0_chk1 v80), (Rect.unit (s := S32x256x7168) (k0_off1 v80) S1x2x7168.size (k0_off1_inb v80 k0_hw1)).WholeWords (EltTy.packing .bf16) := fun v80 k0_hw1 => k0_hw1.2.1 (k0_off1_inb v80 k0_hw1)
theorem k0_off1_leadingbf16 : ∀ (v80 : BitVec 32) (k0_hw1 : k0_chk1 v80), (Rect.unit (s := S32x256x7168) (k0_off1 v80) S1x2x7168.size (k0_off1_inb v80 k0_hw1)).LeadingBlock := fun v80 k0_hw1 => k0_hw1.2.2 (k0_off1_inb v80 k0_hw1)

def k0_off2 (v103 : BitVec 32) : Fin 3 → Nat :=
  let c1_i32_85 : BitVec 32 := 1#32
  let c1_i32_77 : BitVec 32 := 1#32
  let v104 : BitVec 32 := Scalar.subi v103 c1_i32_77
  let c0_i32_79 : BitVec 32 := 0#32
  let v106 : BitVec 1 := Scalar.cmpi .sgt v104 c0_i32_79
  let v107 : BitVec 32 := Scalar.extui v106
  let c0_i32_80 : BitVec 32 := 0#32
  let v108 : BitVec 1 := Scalar.cmpi .slt v104 c0_i32_80
  let v109 : BitVec 32 := Scalar.extui v108
  let v110 : BitVec 32 := Scalar.subi v107 v109
  let c2_i32_78 : BitVec 32 := 2#32
  let c0_i32_81 : BitVec 32 := 0#32
  let v111 : BitVec 1 := Scalar.cmpi .sgt c2_i32_78 c0_i32_81
  let v112 : BitVec 32 := Scalar.extui v111
  let c0_i32_82 : BitVec 32 := 0#32
  let v113 : BitVec 1 := Scalar.cmpi .slt c2_i32_78 c0_i32_82
  let v114 : BitVec 32 := Scalar.extui v113
  let v115 : BitVec 32 := Scalar.subi v112 v114
  let v116 : BitVec 1 := Scalar.cmpi .ne v110 v115
  let v117 : BitVec 32 := Scalar.remsi v104 c2_i32_78
  let c0_i32_83 : BitVec 32 := 0#32
  let v118 : BitVec 1 := Scalar.cmpi .ne v117 c0_i32_83
  let v119 : BitVec 1 := Scalar.andi v116 v118
  let v105 : BitVec 32 := Scalar.divsi v104 c2_i32_78
  let c1_i32_84 : BitVec 32 := 1#32
  let v120 : BitVec 32 := Scalar.subi v105 c1_i32_84
  let v121 : BitVec 32 := Scalar.select v119 v120 v105
  let c0_i32_88 : BitVec 32 := 0#32
  ![1, Nat.mul 2 v121.toNat, 0]

def k0_chk2 (v103 : BitVec 32) : Prop :=
  (∀ a, (k0_off2 v103) a + S1x2x7168.size a ≤ S32x256x7168.size a) ∧
  (∀ (hinb : ∀ a, (k0_off2 v103) a + S1x2x7168.size a ≤ S32x256x7168.size a), (Rect.unit (s := S32x256x7168) (k0_off2 v103) S1x2x7168.size hinb).WholeWords (EltTy.packing .bf16)) ∧
  (∀ (hinb : ∀ a, (k0_off2 v103) a + S1x2x7168.size a ≤ S32x256x7168.size a), (Rect.unit (s := S32x256x7168) (k0_off2 v103) S1x2x7168.size hinb).LeadingBlock)
theorem k0_off2_inb : ∀ (v103 : BitVec 32) (k0_hw2 : k0_chk2 v103), ∀ a, (k0_off2 v103) a + S1x2x7168.size a ≤ S32x256x7168.size a := fun v103 k0_hw2 => k0_hw2.1
theorem k0_off2_wordsbf16 : ∀ (v103 : BitVec 32) (k0_hw2 : k0_chk2 v103), (Rect.unit (s := S32x256x7168) (k0_off2 v103) S1x2x7168.size (k0_off2_inb v103 k0_hw2)).WholeWords (EltTy.packing .bf16) := fun v103 k0_hw2 => k0_hw2.2.1 (k0_off2_inb v103 k0_hw2)
theorem k0_off2_leadingbf16 : ∀ (v103 : BitVec 32) (k0_hw2 : k0_chk2 v103), (Rect.unit (s := S32x256x7168) (k0_off2 v103) S1x2x7168.size (k0_off2_inb v103 k0_hw2)).LeadingBlock := fun v103 k0_hw2 => k0_hw2.2.2 (k0_off2_inb v103 k0_hw2)

def k0_off3 (v126 : BitVec 32) : Fin 3 → Nat :=
  let c2_i32_97 : BitVec 32 := 2#32
  let c1_i32_89 : BitVec 32 := 1#32
  let v127 : BitVec 32 := Scalar.subi v126 c1_i32_89
  let c0_i32_91 : BitVec 32 := 0#32
  let v129 : BitVec 1 := Scalar.cmpi .sgt v127 c0_i32_91
  let v130 : BitVec 32 := Scalar.extui v129
  let c0_i32_92 : BitVec 32 := 0#32
  let v131 : BitVec 1 := Scalar.cmpi .slt v127 c0_i32_92
  let v132 : BitVec 32 := Scalar.extui v131
  let v133 : BitVec 32 := Scalar.subi v130 v132
  let c2_i32_90 : BitVec 32 := 2#32
  let c0_i32_93 : BitVec 32 := 0#32
  let v134 : BitVec 1 := Scalar.cmpi .sgt c2_i32_90 c0_i32_93
  let v135 : BitVec 32 := Scalar.extui v134
  let c0_i32_94 : BitVec 32 := 0#32
  let v136 : BitVec 1 := Scalar.cmpi .slt c2_i32_90 c0_i32_94
  let v137 : BitVec 32 := Scalar.extui v136
  let v138 : BitVec 32 := Scalar.subi v135 v137
  let v139 : BitVec 1 := Scalar.cmpi .ne v133 v138
  let v140 : BitVec 32 := Scalar.remsi v127 c2_i32_90
  let c0_i32_95 : BitVec 32 := 0#32
  let v141 : BitVec 1 := Scalar.cmpi .ne v140 c0_i32_95
  let v142 : BitVec 1 := Scalar.andi v139 v141
  let v128 : BitVec 32 := Scalar.divsi v127 c2_i32_90
  let c1_i32_96 : BitVec 32 := 1#32
  let v143 : BitVec 32 := Scalar.subi v128 c1_i32_96
  let v144 : BitVec 32 := Scalar.select v142 v143 v128
  let c0_i32_100 : BitVec 32 := 0#32
  ![2, Nat.mul 2 v144.toNat, 0]

def k0_chk3 (v126 : BitVec 32) : Prop :=
  (∀ a, (k0_off3 v126) a + S1x2x7168.size a ≤ S32x256x7168.size a) ∧
  (∀ (hinb : ∀ a, (k0_off3 v126) a + S1x2x7168.size a ≤ S32x256x7168.size a), (Rect.unit (s := S32x256x7168) (k0_off3 v126) S1x2x7168.size hinb).WholeWords (EltTy.packing .bf16)) ∧
  (∀ (hinb : ∀ a, (k0_off3 v126) a + S1x2x7168.size a ≤ S32x256x7168.size a), (Rect.unit (s := S32x256x7168) (k0_off3 v126) S1x2x7168.size hinb).LeadingBlock)
theorem k0_off3_inb : ∀ (v126 : BitVec 32) (k0_hw3 : k0_chk3 v126), ∀ a, (k0_off3 v126) a + S1x2x7168.size a ≤ S32x256x7168.size a := fun v126 k0_hw3 => k0_hw3.1
theorem k0_off3_wordsbf16 : ∀ (v126 : BitVec 32) (k0_hw3 : k0_chk3 v126), (Rect.unit (s := S32x256x7168) (k0_off3 v126) S1x2x7168.size (k0_off3_inb v126 k0_hw3)).WholeWords (EltTy.packing .bf16) := fun v126 k0_hw3 => k0_hw3.2.1 (k0_off3_inb v126 k0_hw3)
theorem k0_off3_leadingbf16 : ∀ (v126 : BitVec 32) (k0_hw3 : k0_chk3 v126), (Rect.unit (s := S32x256x7168) (k0_off3 v126) S1x2x7168.size (k0_off3_inb v126 k0_hw3)).LeadingBlock := fun v126 k0_hw3 => k0_hw3.2.2 (k0_off3_inb v126 k0_hw3)

def k0_off4 (v149 : BitVec 32) : Fin 3 → Nat :=
  let c3_i32_109 : BitVec 32 := 3#32
  let c1_i32_101 : BitVec 32 := 1#32
  let v150 : BitVec 32 := Scalar.subi v149 c1_i32_101
  let c0_i32_103 : BitVec 32 := 0#32
  let v152 : BitVec 1 := Scalar.cmpi .sgt v150 c0_i32_103
  let v153 : BitVec 32 := Scalar.extui v152
  let c0_i32_104 : BitVec 32 := 0#32
  let v154 : BitVec 1 := Scalar.cmpi .slt v150 c0_i32_104
  let v155 : BitVec 32 := Scalar.extui v154
  let v156 : BitVec 32 := Scalar.subi v153 v155
  let c2_i32_102 : BitVec 32 := 2#32
  let c0_i32_105 : BitVec 32 := 0#32
  let v157 : BitVec 1 := Scalar.cmpi .sgt c2_i32_102 c0_i32_105
  let v158 : BitVec 32 := Scalar.extui v157
  let c0_i32_106 : BitVec 32 := 0#32
  let v159 : BitVec 1 := Scalar.cmpi .slt c2_i32_102 c0_i32_106
  let v160 : BitVec 32 := Scalar.extui v159
  let v161 : BitVec 32 := Scalar.subi v158 v160
  let v162 : BitVec 1 := Scalar.cmpi .ne v156 v161
  let v163 : BitVec 32 := Scalar.remsi v150 c2_i32_102
  let c0_i32_107 : BitVec 32 := 0#32
  let v164 : BitVec 1 := Scalar.cmpi .ne v163 c0_i32_107
  let v165 : BitVec 1 := Scalar.andi v162 v164
  let v151 : BitVec 32 := Scalar.divsi v150 c2_i32_102
  let c1_i32_108 : BitVec 32 := 1#32
  let v166 : BitVec 32 := Scalar.subi v151 c1_i32_108
  let v167 : BitVec 32 := Scalar.select v165 v166 v151
  let c0_i32_112 : BitVec 32 := 0#32
  ![3, Nat.mul 2 v167.toNat, 0]

def k0_chk4 (v149 : BitVec 32) : Prop :=
  (∀ a, (k0_off4 v149) a + S1x2x7168.size a ≤ S32x256x7168.size a) ∧
  (∀ (hinb : ∀ a, (k0_off4 v149) a + S1x2x7168.size a ≤ S32x256x7168.size a), (Rect.unit (s := S32x256x7168) (k0_off4 v149) S1x2x7168.size hinb).WholeWords (EltTy.packing .bf16)) ∧
  (∀ (hinb : ∀ a, (k0_off4 v149) a + S1x2x7168.size a ≤ S32x256x7168.size a), (Rect.unit (s := S32x256x7168) (k0_off4 v149) S1x2x7168.size hinb).LeadingBlock)
theorem k0_off4_inb : ∀ (v149 : BitVec 32) (k0_hw4 : k0_chk4 v149), ∀ a, (k0_off4 v149) a + S1x2x7168.size a ≤ S32x256x7168.size a := fun v149 k0_hw4 => k0_hw4.1
theorem k0_off4_wordsbf16 : ∀ (v149 : BitVec 32) (k0_hw4 : k0_chk4 v149), (Rect.unit (s := S32x256x7168) (k0_off4 v149) S1x2x7168.size (k0_off4_inb v149 k0_hw4)).WholeWords (EltTy.packing .bf16) := fun v149 k0_hw4 => k0_hw4.2.1 (k0_off4_inb v149 k0_hw4)
theorem k0_off4_leadingbf16 : ∀ (v149 : BitVec 32) (k0_hw4 : k0_chk4 v149), (Rect.unit (s := S32x256x7168) (k0_off4 v149) S1x2x7168.size (k0_off4_inb v149 k0_hw4)).LeadingBlock := fun v149 k0_hw4 => k0_hw4.2.2 (k0_off4_inb v149 k0_hw4)

def k0_off5 (v172 : BitVec 32) : Fin 3 → Nat :=
  let c4_i32_121 : BitVec 32 := 4#32
  let c1_i32_113 : BitVec 32 := 1#32
  let v173 : BitVec 32 := Scalar.subi v172 c1_i32_113
  let c0_i32_115 : BitVec 32 := 0#32
  let v175 : BitVec 1 := Scalar.cmpi .sgt v173 c0_i32_115
  let v176 : BitVec 32 := Scalar.extui v175
  let c0_i32_116 : BitVec 32 := 0#32
  let v177 : BitVec 1 := Scalar.cmpi .slt v173 c0_i32_116
  let v178 : BitVec 32 := Scalar.extui v177
  let v179 : BitVec 32 := Scalar.subi v176 v178
  let c2_i32_114 : BitVec 32 := 2#32
  let c0_i32_117 : BitVec 32 := 0#32
  let v180 : BitVec 1 := Scalar.cmpi .sgt c2_i32_114 c0_i32_117
  let v181 : BitVec 32 := Scalar.extui v180
  let c0_i32_118 : BitVec 32 := 0#32
  let v182 : BitVec 1 := Scalar.cmpi .slt c2_i32_114 c0_i32_118
  let v183 : BitVec 32 := Scalar.extui v182
  let v184 : BitVec 32 := Scalar.subi v181 v183
  let v185 : BitVec 1 := Scalar.cmpi .ne v179 v184
  let v186 : BitVec 32 := Scalar.remsi v173 c2_i32_114
  let c0_i32_119 : BitVec 32 := 0#32
  let v187 : BitVec 1 := Scalar.cmpi .ne v186 c0_i32_119
  let v188 : BitVec 1 := Scalar.andi v185 v187
  let v174 : BitVec 32 := Scalar.divsi v173 c2_i32_114
  let c1_i32_120 : BitVec 32 := 1#32
  let v189 : BitVec 32 := Scalar.subi v174 c1_i32_120
  let v190 : BitVec 32 := Scalar.select v188 v189 v174
  let c0_i32_124 : BitVec 32 := 0#32
  ![4, Nat.mul 2 v190.toNat, 0]

def k0_chk5 (v172 : BitVec 32) : Prop :=
  (∀ a, (k0_off5 v172) a + S1x2x7168.size a ≤ S32x256x7168.size a) ∧
  (∀ (hinb : ∀ a, (k0_off5 v172) a + S1x2x7168.size a ≤ S32x256x7168.size a), (Rect.unit (s := S32x256x7168) (k0_off5 v172) S1x2x7168.size hinb).WholeWords (EltTy.packing .bf16)) ∧
  (∀ (hinb : ∀ a, (k0_off5 v172) a + S1x2x7168.size a ≤ S32x256x7168.size a), (Rect.unit (s := S32x256x7168) (k0_off5 v172) S1x2x7168.size hinb).LeadingBlock)
theorem k0_off5_inb : ∀ (v172 : BitVec 32) (k0_hw5 : k0_chk5 v172), ∀ a, (k0_off5 v172) a + S1x2x7168.size a ≤ S32x256x7168.size a := fun v172 k0_hw5 => k0_hw5.1
theorem k0_off5_wordsbf16 : ∀ (v172 : BitVec 32) (k0_hw5 : k0_chk5 v172), (Rect.unit (s := S32x256x7168) (k0_off5 v172) S1x2x7168.size (k0_off5_inb v172 k0_hw5)).WholeWords (EltTy.packing .bf16) := fun v172 k0_hw5 => k0_hw5.2.1 (k0_off5_inb v172 k0_hw5)
theorem k0_off5_leadingbf16 : ∀ (v172 : BitVec 32) (k0_hw5 : k0_chk5 v172), (Rect.unit (s := S32x256x7168) (k0_off5 v172) S1x2x7168.size (k0_off5_inb v172 k0_hw5)).LeadingBlock := fun v172 k0_hw5 => k0_hw5.2.2 (k0_off5_inb v172 k0_hw5)

def k0_off6 (v195 : BitVec 32) : Fin 3 → Nat :=
  let c5_i32_133 : BitVec 32 := 5#32
  let c1_i32_125 : BitVec 32 := 1#32
  let v196 : BitVec 32 := Scalar.subi v195 c1_i32_125
  let c0_i32_127 : BitVec 32 := 0#32
  let v198 : BitVec 1 := Scalar.cmpi .sgt v196 c0_i32_127
  let v199 : BitVec 32 := Scalar.extui v198
  let c0_i32_128 : BitVec 32 := 0#32
  let v200 : BitVec 1 := Scalar.cmpi .slt v196 c0_i32_128
  let v201 : BitVec 32 := Scalar.extui v200
  let v202 : BitVec 32 := Scalar.subi v199 v201
  let c2_i32_126 : BitVec 32 := 2#32
  let c0_i32_129 : BitVec 32 := 0#32
  let v203 : BitVec 1 := Scalar.cmpi .sgt c2_i32_126 c0_i32_129
  let v204 : BitVec 32 := Scalar.extui v203
  let c0_i32_130 : BitVec 32 := 0#32
  let v205 : BitVec 1 := Scalar.cmpi .slt c2_i32_126 c0_i32_130
  let v206 : BitVec 32 := Scalar.extui v205
  let v207 : BitVec 32 := Scalar.subi v204 v206
  let v208 : BitVec 1 := Scalar.cmpi .ne v202 v207
  let v209 : BitVec 32 := Scalar.remsi v196 c2_i32_126
  let c0_i32_131 : BitVec 32 := 0#32
  let v210 : BitVec 1 := Scalar.cmpi .ne v209 c0_i32_131
  let v211 : BitVec 1 := Scalar.andi v208 v210
  let v197 : BitVec 32 := Scalar.divsi v196 c2_i32_126
  let c1_i32_132 : BitVec 32 := 1#32
  let v212 : BitVec 32 := Scalar.subi v197 c1_i32_132
  let v213 : BitVec 32 := Scalar.select v211 v212 v197
  let c0_i32_136 : BitVec 32 := 0#32
  ![5, Nat.mul 2 v213.toNat, 0]

def k0_chk6 (v195 : BitVec 32) : Prop :=
  (∀ a, (k0_off6 v195) a + S1x2x7168.size a ≤ S32x256x7168.size a) ∧
  (∀ (hinb : ∀ a, (k0_off6 v195) a + S1x2x7168.size a ≤ S32x256x7168.size a), (Rect.unit (s := S32x256x7168) (k0_off6 v195) S1x2x7168.size hinb).WholeWords (EltTy.packing .bf16)) ∧
  (∀ (hinb : ∀ a, (k0_off6 v195) a + S1x2x7168.size a ≤ S32x256x7168.size a), (Rect.unit (s := S32x256x7168) (k0_off6 v195) S1x2x7168.size hinb).LeadingBlock)
theorem k0_off6_inb : ∀ (v195 : BitVec 32) (k0_hw6 : k0_chk6 v195), ∀ a, (k0_off6 v195) a + S1x2x7168.size a ≤ S32x256x7168.size a := fun v195 k0_hw6 => k0_hw6.1
theorem k0_off6_wordsbf16 : ∀ (v195 : BitVec 32) (k0_hw6 : k0_chk6 v195), (Rect.unit (s := S32x256x7168) (k0_off6 v195) S1x2x7168.size (k0_off6_inb v195 k0_hw6)).WholeWords (EltTy.packing .bf16) := fun v195 k0_hw6 => k0_hw6.2.1 (k0_off6_inb v195 k0_hw6)
theorem k0_off6_leadingbf16 : ∀ (v195 : BitVec 32) (k0_hw6 : k0_chk6 v195), (Rect.unit (s := S32x256x7168) (k0_off6 v195) S1x2x7168.size (k0_off6_inb v195 k0_hw6)).LeadingBlock := fun v195 k0_hw6 => k0_hw6.2.2 (k0_off6_inb v195 k0_hw6)

def k0_off7 (v218 : BitVec 32) : Fin 3 → Nat :=
  let c6_i32_145 : BitVec 32 := 6#32
  let c1_i32_137 : BitVec 32 := 1#32
  let v219 : BitVec 32 := Scalar.subi v218 c1_i32_137
  let c0_i32_139 : BitVec 32 := 0#32
  let v221 : BitVec 1 := Scalar.cmpi .sgt v219 c0_i32_139
  let v222 : BitVec 32 := Scalar.extui v221
  let c0_i32_140 : BitVec 32 := 0#32
  let v223 : BitVec 1 := Scalar.cmpi .slt v219 c0_i32_140
  let v224 : BitVec 32 := Scalar.extui v223
  let v225 : BitVec 32 := Scalar.subi v222 v224
  let c2_i32_138 : BitVec 32 := 2#32
  let c0_i32_141 : BitVec 32 := 0#32
  let v226 : BitVec 1 := Scalar.cmpi .sgt c2_i32_138 c0_i32_141
  let v227 : BitVec 32 := Scalar.extui v226
  let c0_i32_142 : BitVec 32 := 0#32
  let v228 : BitVec 1 := Scalar.cmpi .slt c2_i32_138 c0_i32_142
  let v229 : BitVec 32 := Scalar.extui v228
  let v230 : BitVec 32 := Scalar.subi v227 v229
  let v231 : BitVec 1 := Scalar.cmpi .ne v225 v230
  let v232 : BitVec 32 := Scalar.remsi v219 c2_i32_138
  let c0_i32_143 : BitVec 32 := 0#32
  let v233 : BitVec 1 := Scalar.cmpi .ne v232 c0_i32_143
  let v234 : BitVec 1 := Scalar.andi v231 v233
  let v220 : BitVec 32 := Scalar.divsi v219 c2_i32_138
  let c1_i32_144 : BitVec 32 := 1#32
  let v235 : BitVec 32 := Scalar.subi v220 c1_i32_144
  let v236 : BitVec 32 := Scalar.select v234 v235 v220
  let c0_i32_148 : BitVec 32 := 0#32
  ![6, Nat.mul 2 v236.toNat, 0]

def k0_chk7 (v218 : BitVec 32) : Prop :=
  (∀ a, (k0_off7 v218) a + S1x2x7168.size a ≤ S32x256x7168.size a) ∧
  (∀ (hinb : ∀ a, (k0_off7 v218) a + S1x2x7168.size a ≤ S32x256x7168.size a), (Rect.unit (s := S32x256x7168) (k0_off7 v218) S1x2x7168.size hinb).WholeWords (EltTy.packing .bf16)) ∧
  (∀ (hinb : ∀ a, (k0_off7 v218) a + S1x2x7168.size a ≤ S32x256x7168.size a), (Rect.unit (s := S32x256x7168) (k0_off7 v218) S1x2x7168.size hinb).LeadingBlock)
theorem k0_off7_inb : ∀ (v218 : BitVec 32) (k0_hw7 : k0_chk7 v218), ∀ a, (k0_off7 v218) a + S1x2x7168.size a ≤ S32x256x7168.size a := fun v218 k0_hw7 => k0_hw7.1
theorem k0_off7_wordsbf16 : ∀ (v218 : BitVec 32) (k0_hw7 : k0_chk7 v218), (Rect.unit (s := S32x256x7168) (k0_off7 v218) S1x2x7168.size (k0_off7_inb v218 k0_hw7)).WholeWords (EltTy.packing .bf16) := fun v218 k0_hw7 => k0_hw7.2.1 (k0_off7_inb v218 k0_hw7)
theorem k0_off7_leadingbf16 : ∀ (v218 : BitVec 32) (k0_hw7 : k0_chk7 v218), (Rect.unit (s := S32x256x7168) (k0_off7 v218) S1x2x7168.size (k0_off7_inb v218 k0_hw7)).LeadingBlock := fun v218 k0_hw7 => k0_hw7.2.2 (k0_off7_inb v218 k0_hw7)

def k0_off8 (v241 : BitVec 32) : Fin 3 → Nat :=
  let c7_i32_157 : BitVec 32 := 7#32
  let c1_i32_149 : BitVec 32 := 1#32
  let v242 : BitVec 32 := Scalar.subi v241 c1_i32_149
  let c0_i32_151 : BitVec 32 := 0#32
  let v244 : BitVec 1 := Scalar.cmpi .sgt v242 c0_i32_151
  let v245 : BitVec 32 := Scalar.extui v244
  let c0_i32_152 : BitVec 32 := 0#32
  let v246 : BitVec 1 := Scalar.cmpi .slt v242 c0_i32_152
  let v247 : BitVec 32 := Scalar.extui v246
  let v248 : BitVec 32 := Scalar.subi v245 v247
  let c2_i32_150 : BitVec 32 := 2#32
  let c0_i32_153 : BitVec 32 := 0#32
  let v249 : BitVec 1 := Scalar.cmpi .sgt c2_i32_150 c0_i32_153
  let v250 : BitVec 32 := Scalar.extui v249
  let c0_i32_154 : BitVec 32 := 0#32
  let v251 : BitVec 1 := Scalar.cmpi .slt c2_i32_150 c0_i32_154
  let v252 : BitVec 32 := Scalar.extui v251
  let v253 : BitVec 32 := Scalar.subi v250 v252
  let v254 : BitVec 1 := Scalar.cmpi .ne v248 v253
  let v255 : BitVec 32 := Scalar.remsi v242 c2_i32_150
  let c0_i32_155 : BitVec 32 := 0#32
  let v256 : BitVec 1 := Scalar.cmpi .ne v255 c0_i32_155
  let v257 : BitVec 1 := Scalar.andi v254 v256
  let v243 : BitVec 32 := Scalar.divsi v242 c2_i32_150
  let c1_i32_156 : BitVec 32 := 1#32
  let v258 : BitVec 32 := Scalar.subi v243 c1_i32_156
  let v259 : BitVec 32 := Scalar.select v257 v258 v243
  let c0_i32_160 : BitVec 32 := 0#32
  ![7, Nat.mul 2 v259.toNat, 0]

def k0_chk8 (v241 : BitVec 32) : Prop :=
  (∀ a, (k0_off8 v241) a + S1x2x7168.size a ≤ S32x256x7168.size a) ∧
  (∀ (hinb : ∀ a, (k0_off8 v241) a + S1x2x7168.size a ≤ S32x256x7168.size a), (Rect.unit (s := S32x256x7168) (k0_off8 v241) S1x2x7168.size hinb).WholeWords (EltTy.packing .bf16)) ∧
  (∀ (hinb : ∀ a, (k0_off8 v241) a + S1x2x7168.size a ≤ S32x256x7168.size a), (Rect.unit (s := S32x256x7168) (k0_off8 v241) S1x2x7168.size hinb).LeadingBlock)
theorem k0_off8_inb : ∀ (v241 : BitVec 32) (k0_hw8 : k0_chk8 v241), ∀ a, (k0_off8 v241) a + S1x2x7168.size a ≤ S32x256x7168.size a := fun v241 k0_hw8 => k0_hw8.1
theorem k0_off8_wordsbf16 : ∀ (v241 : BitVec 32) (k0_hw8 : k0_chk8 v241), (Rect.unit (s := S32x256x7168) (k0_off8 v241) S1x2x7168.size (k0_off8_inb v241 k0_hw8)).WholeWords (EltTy.packing .bf16) := fun v241 k0_hw8 => k0_hw8.2.1 (k0_off8_inb v241 k0_hw8)
theorem k0_off8_leadingbf16 : ∀ (v241 : BitVec 32) (k0_hw8 : k0_chk8 v241), (Rect.unit (s := S32x256x7168) (k0_off8 v241) S1x2x7168.size (k0_off8_inb v241 k0_hw8)).LeadingBlock := fun v241 k0_hw8 => k0_hw8.2.2 (k0_off8_inb v241 k0_hw8)

def k0_off9 (v264 : BitVec 32) : Fin 3 → Nat :=
  let c8_i32_169 : BitVec 32 := 8#32
  let c1_i32_161 : BitVec 32 := 1#32
  let v265 : BitVec 32 := Scalar.subi v264 c1_i32_161
  let c0_i32_163 : BitVec 32 := 0#32
  let v267 : BitVec 1 := Scalar.cmpi .sgt v265 c0_i32_163
  let v268 : BitVec 32 := Scalar.extui v267
  let c0_i32_164 : BitVec 32 := 0#32
  let v269 : BitVec 1 := Scalar.cmpi .slt v265 c0_i32_164
  let v270 : BitVec 32 := Scalar.extui v269
  let v271 : BitVec 32 := Scalar.subi v268 v270
  let c2_i32_162 : BitVec 32 := 2#32
  let c0_i32_165 : BitVec 32 := 0#32
  let v272 : BitVec 1 := Scalar.cmpi .sgt c2_i32_162 c0_i32_165
  let v273 : BitVec 32 := Scalar.extui v272
  let c0_i32_166 : BitVec 32 := 0#32
  let v274 : BitVec 1 := Scalar.cmpi .slt c2_i32_162 c0_i32_166
  let v275 : BitVec 32 := Scalar.extui v274
  let v276 : BitVec 32 := Scalar.subi v273 v275
  let v277 : BitVec 1 := Scalar.cmpi .ne v271 v276
  let v278 : BitVec 32 := Scalar.remsi v265 c2_i32_162
  let c0_i32_167 : BitVec 32 := 0#32
  let v279 : BitVec 1 := Scalar.cmpi .ne v278 c0_i32_167
  let v280 : BitVec 1 := Scalar.andi v277 v279
  let v266 : BitVec 32 := Scalar.divsi v265 c2_i32_162
  let c1_i32_168 : BitVec 32 := 1#32
  let v281 : BitVec 32 := Scalar.subi v266 c1_i32_168
  let v282 : BitVec 32 := Scalar.select v280 v281 v266
  let c0_i32_172 : BitVec 32 := 0#32
  ![8, Nat.mul 2 v282.toNat, 0]

def k0_chk9 (v264 : BitVec 32) : Prop :=
  (∀ a, (k0_off9 v264) a + S1x2x7168.size a ≤ S32x256x7168.size a) ∧
  (∀ (hinb : ∀ a, (k0_off9 v264) a + S1x2x7168.size a ≤ S32x256x7168.size a), (Rect.unit (s := S32x256x7168) (k0_off9 v264) S1x2x7168.size hinb).WholeWords (EltTy.packing .bf16)) ∧
  (∀ (hinb : ∀ a, (k0_off9 v264) a + S1x2x7168.size a ≤ S32x256x7168.size a), (Rect.unit (s := S32x256x7168) (k0_off9 v264) S1x2x7168.size hinb).LeadingBlock)
theorem k0_off9_inb : ∀ (v264 : BitVec 32) (k0_hw9 : k0_chk9 v264), ∀ a, (k0_off9 v264) a + S1x2x7168.size a ≤ S32x256x7168.size a := fun v264 k0_hw9 => k0_hw9.1
theorem k0_off9_wordsbf16 : ∀ (v264 : BitVec 32) (k0_hw9 : k0_chk9 v264), (Rect.unit (s := S32x256x7168) (k0_off9 v264) S1x2x7168.size (k0_off9_inb v264 k0_hw9)).WholeWords (EltTy.packing .bf16) := fun v264 k0_hw9 => k0_hw9.2.1 (k0_off9_inb v264 k0_hw9)
theorem k0_off9_leadingbf16 : ∀ (v264 : BitVec 32) (k0_hw9 : k0_chk9 v264), (Rect.unit (s := S32x256x7168) (k0_off9 v264) S1x2x7168.size (k0_off9_inb v264 k0_hw9)).LeadingBlock := fun v264 k0_hw9 => k0_hw9.2.2 (k0_off9_inb v264 k0_hw9)

def k0_off10 (v287 : BitVec 32) : Fin 3 → Nat :=
  let c9_i32_181 : BitVec 32 := 9#32
  let c1_i32_173 : BitVec 32 := 1#32
  let v288 : BitVec 32 := Scalar.subi v287 c1_i32_173
  let c0_i32_175 : BitVec 32 := 0#32
  let v290 : BitVec 1 := Scalar.cmpi .sgt v288 c0_i32_175
  let v291 : BitVec 32 := Scalar.extui v290
  let c0_i32_176 : BitVec 32 := 0#32
  let v292 : BitVec 1 := Scalar.cmpi .slt v288 c0_i32_176
  let v293 : BitVec 32 := Scalar.extui v292
  let v294 : BitVec 32 := Scalar.subi v291 v293
  let c2_i32_174 : BitVec 32 := 2#32
  let c0_i32_177 : BitVec 32 := 0#32
  let v295 : BitVec 1 := Scalar.cmpi .sgt c2_i32_174 c0_i32_177
  let v296 : BitVec 32 := Scalar.extui v295
  let c0_i32_178 : BitVec 32 := 0#32
  let v297 : BitVec 1 := Scalar.cmpi .slt c2_i32_174 c0_i32_178
  let v298 : BitVec 32 := Scalar.extui v297
  let v299 : BitVec 32 := Scalar.subi v296 v298
  let v300 : BitVec 1 := Scalar.cmpi .ne v294 v299
  let v301 : BitVec 32 := Scalar.remsi v288 c2_i32_174
  let c0_i32_179 : BitVec 32 := 0#32
  let v302 : BitVec 1 := Scalar.cmpi .ne v301 c0_i32_179
  let v303 : BitVec 1 := Scalar.andi v300 v302
  let v289 : BitVec 32 := Scalar.divsi v288 c2_i32_174
  let c1_i32_180 : BitVec 32 := 1#32
  let v304 : BitVec 32 := Scalar.subi v289 c1_i32_180
  let v305 : BitVec 32 := Scalar.select v303 v304 v289
  let c0_i32_184 : BitVec 32 := 0#32
  ![9, Nat.mul 2 v305.toNat, 0]

def k0_chk10 (v287 : BitVec 32) : Prop :=
  (∀ a, (k0_off10 v287) a + S1x2x7168.size a ≤ S32x256x7168.size a) ∧
  (∀ (hinb : ∀ a, (k0_off10 v287) a + S1x2x7168.size a ≤ S32x256x7168.size a), (Rect.unit (s := S32x256x7168) (k0_off10 v287) S1x2x7168.size hinb).WholeWords (EltTy.packing .bf16)) ∧
  (∀ (hinb : ∀ a, (k0_off10 v287) a + S1x2x7168.size a ≤ S32x256x7168.size a), (Rect.unit (s := S32x256x7168) (k0_off10 v287) S1x2x7168.size hinb).LeadingBlock)
theorem k0_off10_inb : ∀ (v287 : BitVec 32) (k0_hw10 : k0_chk10 v287), ∀ a, (k0_off10 v287) a + S1x2x7168.size a ≤ S32x256x7168.size a := fun v287 k0_hw10 => k0_hw10.1
theorem k0_off10_wordsbf16 : ∀ (v287 : BitVec 32) (k0_hw10 : k0_chk10 v287), (Rect.unit (s := S32x256x7168) (k0_off10 v287) S1x2x7168.size (k0_off10_inb v287 k0_hw10)).WholeWords (EltTy.packing .bf16) := fun v287 k0_hw10 => k0_hw10.2.1 (k0_off10_inb v287 k0_hw10)
theorem k0_off10_leadingbf16 : ∀ (v287 : BitVec 32) (k0_hw10 : k0_chk10 v287), (Rect.unit (s := S32x256x7168) (k0_off10 v287) S1x2x7168.size (k0_off10_inb v287 k0_hw10)).LeadingBlock := fun v287 k0_hw10 => k0_hw10.2.2 (k0_off10_inb v287 k0_hw10)

def k0_off11 (v310 : BitVec 32) : Fin 3 → Nat :=
  let c10_i32_193 : BitVec 32 := 10#32
  let c1_i32_185 : BitVec 32 := 1#32
  let v311 : BitVec 32 := Scalar.subi v310 c1_i32_185
  let c0_i32_187 : BitVec 32 := 0#32
  let v313 : BitVec 1 := Scalar.cmpi .sgt v311 c0_i32_187
  let v314 : BitVec 32 := Scalar.extui v313
  let c0_i32_188 : BitVec 32 := 0#32
  let v315 : BitVec 1 := Scalar.cmpi .slt v311 c0_i32_188
  let v316 : BitVec 32 := Scalar.extui v315
  let v317 : BitVec 32 := Scalar.subi v314 v316
  let c2_i32_186 : BitVec 32 := 2#32
  let c0_i32_189 : BitVec 32 := 0#32
  let v318 : BitVec 1 := Scalar.cmpi .sgt c2_i32_186 c0_i32_189
  let v319 : BitVec 32 := Scalar.extui v318
  let c0_i32_190 : BitVec 32 := 0#32
  let v320 : BitVec 1 := Scalar.cmpi .slt c2_i32_186 c0_i32_190
  let v321 : BitVec 32 := Scalar.extui v320
  let v322 : BitVec 32 := Scalar.subi v319 v321
  let v323 : BitVec 1 := Scalar.cmpi .ne v317 v322
  let v324 : BitVec 32 := Scalar.remsi v311 c2_i32_186
  let c0_i32_191 : BitVec 32 := 0#32
  let v325 : BitVec 1 := Scalar.cmpi .ne v324 c0_i32_191
  let v326 : BitVec 1 := Scalar.andi v323 v325
  let v312 : BitVec 32 := Scalar.divsi v311 c2_i32_186
  let c1_i32_192 : BitVec 32 := 1#32
  let v327 : BitVec 32 := Scalar.subi v312 c1_i32_192
  let v328 : BitVec 32 := Scalar.select v326 v327 v312
  let c0_i32_196 : BitVec 32 := 0#32
  ![10, Nat.mul 2 v328.toNat, 0]

def k0_chk11 (v310 : BitVec 32) : Prop :=
  (∀ a, (k0_off11 v310) a + S1x2x7168.size a ≤ S32x256x7168.size a) ∧
  (∀ (hinb : ∀ a, (k0_off11 v310) a + S1x2x7168.size a ≤ S32x256x7168.size a), (Rect.unit (s := S32x256x7168) (k0_off11 v310) S1x2x7168.size hinb).WholeWords (EltTy.packing .bf16)) ∧
  (∀ (hinb : ∀ a, (k0_off11 v310) a + S1x2x7168.size a ≤ S32x256x7168.size a), (Rect.unit (s := S32x256x7168) (k0_off11 v310) S1x2x7168.size hinb).LeadingBlock)
theorem k0_off11_inb : ∀ (v310 : BitVec 32) (k0_hw11 : k0_chk11 v310), ∀ a, (k0_off11 v310) a + S1x2x7168.size a ≤ S32x256x7168.size a := fun v310 k0_hw11 => k0_hw11.1
theorem k0_off11_wordsbf16 : ∀ (v310 : BitVec 32) (k0_hw11 : k0_chk11 v310), (Rect.unit (s := S32x256x7168) (k0_off11 v310) S1x2x7168.size (k0_off11_inb v310 k0_hw11)).WholeWords (EltTy.packing .bf16) := fun v310 k0_hw11 => k0_hw11.2.1 (k0_off11_inb v310 k0_hw11)
theorem k0_off11_leadingbf16 : ∀ (v310 : BitVec 32) (k0_hw11 : k0_chk11 v310), (Rect.unit (s := S32x256x7168) (k0_off11 v310) S1x2x7168.size (k0_off11_inb v310 k0_hw11)).LeadingBlock := fun v310 k0_hw11 => k0_hw11.2.2 (k0_off11_inb v310 k0_hw11)

def k0_off12 (v333 : BitVec 32) : Fin 3 → Nat :=
  let c11_i32_205 : BitVec 32 := 11#32
  let c1_i32_197 : BitVec 32 := 1#32
  let v334 : BitVec 32 := Scalar.subi v333 c1_i32_197
  let c0_i32_199 : BitVec 32 := 0#32
  let v336 : BitVec 1 := Scalar.cmpi .sgt v334 c0_i32_199
  let v337 : BitVec 32 := Scalar.extui v336
  let c0_i32_200 : BitVec 32 := 0#32
  let v338 : BitVec 1 := Scalar.cmpi .slt v334 c0_i32_200
  let v339 : BitVec 32 := Scalar.extui v338
  let v340 : BitVec 32 := Scalar.subi v337 v339
  let c2_i32_198 : BitVec 32 := 2#32
  let c0_i32_201 : BitVec 32 := 0#32
  let v341 : BitVec 1 := Scalar.cmpi .sgt c2_i32_198 c0_i32_201
  let v342 : BitVec 32 := Scalar.extui v341
  let c0_i32_202 : BitVec 32 := 0#32
  let v343 : BitVec 1 := Scalar.cmpi .slt c2_i32_198 c0_i32_202
  let v344 : BitVec 32 := Scalar.extui v343
  let v345 : BitVec 32 := Scalar.subi v342 v344
  let v346 : BitVec 1 := Scalar.cmpi .ne v340 v345
  let v347 : BitVec 32 := Scalar.remsi v334 c2_i32_198
  let c0_i32_203 : BitVec 32 := 0#32
  let v348 : BitVec 1 := Scalar.cmpi .ne v347 c0_i32_203
  let v349 : BitVec 1 := Scalar.andi v346 v348
  let v335 : BitVec 32 := Scalar.divsi v334 c2_i32_198
  let c1_i32_204 : BitVec 32 := 1#32
  let v350 : BitVec 32 := Scalar.subi v335 c1_i32_204
  let v351 : BitVec 32 := Scalar.select v349 v350 v335
  let c0_i32_208 : BitVec 32 := 0#32
  ![11, Nat.mul 2 v351.toNat, 0]

def k0_chk12 (v333 : BitVec 32) : Prop :=
  (∀ a, (k0_off12 v333) a + S1x2x7168.size a ≤ S32x256x7168.size a) ∧
  (∀ (hinb : ∀ a, (k0_off12 v333) a + S1x2x7168.size a ≤ S32x256x7168.size a), (Rect.unit (s := S32x256x7168) (k0_off12 v333) S1x2x7168.size hinb).WholeWords (EltTy.packing .bf16)) ∧
  (∀ (hinb : ∀ a, (k0_off12 v333) a + S1x2x7168.size a ≤ S32x256x7168.size a), (Rect.unit (s := S32x256x7168) (k0_off12 v333) S1x2x7168.size hinb).LeadingBlock)
theorem k0_off12_inb : ∀ (v333 : BitVec 32) (k0_hw12 : k0_chk12 v333), ∀ a, (k0_off12 v333) a + S1x2x7168.size a ≤ S32x256x7168.size a := fun v333 k0_hw12 => k0_hw12.1
theorem k0_off12_wordsbf16 : ∀ (v333 : BitVec 32) (k0_hw12 : k0_chk12 v333), (Rect.unit (s := S32x256x7168) (k0_off12 v333) S1x2x7168.size (k0_off12_inb v333 k0_hw12)).WholeWords (EltTy.packing .bf16) := fun v333 k0_hw12 => k0_hw12.2.1 (k0_off12_inb v333 k0_hw12)
theorem k0_off12_leadingbf16 : ∀ (v333 : BitVec 32) (k0_hw12 : k0_chk12 v333), (Rect.unit (s := S32x256x7168) (k0_off12 v333) S1x2x7168.size (k0_off12_inb v333 k0_hw12)).LeadingBlock := fun v333 k0_hw12 => k0_hw12.2.2 (k0_off12_inb v333 k0_hw12)

def k0_off13 (v356 : BitVec 32) : Fin 3 → Nat :=
  let c12_i32_217 : BitVec 32 := 12#32
  let c1_i32_209 : BitVec 32 := 1#32
  let v357 : BitVec 32 := Scalar.subi v356 c1_i32_209
  let c0_i32_211 : BitVec 32 := 0#32
  let v359 : BitVec 1 := Scalar.cmpi .sgt v357 c0_i32_211
  let v360 : BitVec 32 := Scalar.extui v359
  let c0_i32_212 : BitVec 32 := 0#32
  let v361 : BitVec 1 := Scalar.cmpi .slt v357 c0_i32_212
  let v362 : BitVec 32 := Scalar.extui v361
  let v363 : BitVec 32 := Scalar.subi v360 v362
  let c2_i32_210 : BitVec 32 := 2#32
  let c0_i32_213 : BitVec 32 := 0#32
  let v364 : BitVec 1 := Scalar.cmpi .sgt c2_i32_210 c0_i32_213
  let v365 : BitVec 32 := Scalar.extui v364
  let c0_i32_214 : BitVec 32 := 0#32
  let v366 : BitVec 1 := Scalar.cmpi .slt c2_i32_210 c0_i32_214
  let v367 : BitVec 32 := Scalar.extui v366
  let v368 : BitVec 32 := Scalar.subi v365 v367
  let v369 : BitVec 1 := Scalar.cmpi .ne v363 v368
  let v370 : BitVec 32 := Scalar.remsi v357 c2_i32_210
  let c0_i32_215 : BitVec 32 := 0#32
  let v371 : BitVec 1 := Scalar.cmpi .ne v370 c0_i32_215
  let v372 : BitVec 1 := Scalar.andi v369 v371
  let v358 : BitVec 32 := Scalar.divsi v357 c2_i32_210
  let c1_i32_216 : BitVec 32 := 1#32
  let v373 : BitVec 32 := Scalar.subi v358 c1_i32_216
  let v374 : BitVec 32 := Scalar.select v372 v373 v358
  let c0_i32_220 : BitVec 32 := 0#32
  ![12, Nat.mul 2 v374.toNat, 0]

def k0_chk13 (v356 : BitVec 32) : Prop :=
  (∀ a, (k0_off13 v356) a + S1x2x7168.size a ≤ S32x256x7168.size a) ∧
  (∀ (hinb : ∀ a, (k0_off13 v356) a + S1x2x7168.size a ≤ S32x256x7168.size a), (Rect.unit (s := S32x256x7168) (k0_off13 v356) S1x2x7168.size hinb).WholeWords (EltTy.packing .bf16)) ∧
  (∀ (hinb : ∀ a, (k0_off13 v356) a + S1x2x7168.size a ≤ S32x256x7168.size a), (Rect.unit (s := S32x256x7168) (k0_off13 v356) S1x2x7168.size hinb).LeadingBlock)
theorem k0_off13_inb : ∀ (v356 : BitVec 32) (k0_hw13 : k0_chk13 v356), ∀ a, (k0_off13 v356) a + S1x2x7168.size a ≤ S32x256x7168.size a := fun v356 k0_hw13 => k0_hw13.1
theorem k0_off13_wordsbf16 : ∀ (v356 : BitVec 32) (k0_hw13 : k0_chk13 v356), (Rect.unit (s := S32x256x7168) (k0_off13 v356) S1x2x7168.size (k0_off13_inb v356 k0_hw13)).WholeWords (EltTy.packing .bf16) := fun v356 k0_hw13 => k0_hw13.2.1 (k0_off13_inb v356 k0_hw13)
theorem k0_off13_leadingbf16 : ∀ (v356 : BitVec 32) (k0_hw13 : k0_chk13 v356), (Rect.unit (s := S32x256x7168) (k0_off13 v356) S1x2x7168.size (k0_off13_inb v356 k0_hw13)).LeadingBlock := fun v356 k0_hw13 => k0_hw13.2.2 (k0_off13_inb v356 k0_hw13)

def k0_off14 (v379 : BitVec 32) : Fin 3 → Nat :=
  let c13_i32_229 : BitVec 32 := 13#32
  let c1_i32_221 : BitVec 32 := 1#32
  let v380 : BitVec 32 := Scalar.subi v379 c1_i32_221
  let c0_i32_223 : BitVec 32 := 0#32
  let v382 : BitVec 1 := Scalar.cmpi .sgt v380 c0_i32_223
  let v383 : BitVec 32 := Scalar.extui v382
  let c0_i32_224 : BitVec 32 := 0#32
  let v384 : BitVec 1 := Scalar.cmpi .slt v380 c0_i32_224
  let v385 : BitVec 32 := Scalar.extui v384
  let v386 : BitVec 32 := Scalar.subi v383 v385
  let c2_i32_222 : BitVec 32 := 2#32
  let c0_i32_225 : BitVec 32 := 0#32
  let v387 : BitVec 1 := Scalar.cmpi .sgt c2_i32_222 c0_i32_225
  let v388 : BitVec 32 := Scalar.extui v387
  let c0_i32_226 : BitVec 32 := 0#32
  let v389 : BitVec 1 := Scalar.cmpi .slt c2_i32_222 c0_i32_226
  let v390 : BitVec 32 := Scalar.extui v389
  let v391 : BitVec 32 := Scalar.subi v388 v390
  let v392 : BitVec 1 := Scalar.cmpi .ne v386 v391
  let v393 : BitVec 32 := Scalar.remsi v380 c2_i32_222
  let c0_i32_227 : BitVec 32 := 0#32
  let v394 : BitVec 1 := Scalar.cmpi .ne v393 c0_i32_227
  let v395 : BitVec 1 := Scalar.andi v392 v394
  let v381 : BitVec 32 := Scalar.divsi v380 c2_i32_222
  let c1_i32_228 : BitVec 32 := 1#32
  let v396 : BitVec 32 := Scalar.subi v381 c1_i32_228
  let v397 : BitVec 32 := Scalar.select v395 v396 v381
  let c0_i32_232 : BitVec 32 := 0#32
  ![13, Nat.mul 2 v397.toNat, 0]

def k0_chk14 (v379 : BitVec 32) : Prop :=
  (∀ a, (k0_off14 v379) a + S1x2x7168.size a ≤ S32x256x7168.size a) ∧
  (∀ (hinb : ∀ a, (k0_off14 v379) a + S1x2x7168.size a ≤ S32x256x7168.size a), (Rect.unit (s := S32x256x7168) (k0_off14 v379) S1x2x7168.size hinb).WholeWords (EltTy.packing .bf16)) ∧
  (∀ (hinb : ∀ a, (k0_off14 v379) a + S1x2x7168.size a ≤ S32x256x7168.size a), (Rect.unit (s := S32x256x7168) (k0_off14 v379) S1x2x7168.size hinb).LeadingBlock)
theorem k0_off14_inb : ∀ (v379 : BitVec 32) (k0_hw14 : k0_chk14 v379), ∀ a, (k0_off14 v379) a + S1x2x7168.size a ≤ S32x256x7168.size a := fun v379 k0_hw14 => k0_hw14.1
theorem k0_off14_wordsbf16 : ∀ (v379 : BitVec 32) (k0_hw14 : k0_chk14 v379), (Rect.unit (s := S32x256x7168) (k0_off14 v379) S1x2x7168.size (k0_off14_inb v379 k0_hw14)).WholeWords (EltTy.packing .bf16) := fun v379 k0_hw14 => k0_hw14.2.1 (k0_off14_inb v379 k0_hw14)
theorem k0_off14_leadingbf16 : ∀ (v379 : BitVec 32) (k0_hw14 : k0_chk14 v379), (Rect.unit (s := S32x256x7168) (k0_off14 v379) S1x2x7168.size (k0_off14_inb v379 k0_hw14)).LeadingBlock := fun v379 k0_hw14 => k0_hw14.2.2 (k0_off14_inb v379 k0_hw14)

def k0_off15 (v402 : BitVec 32) : Fin 3 → Nat :=
  let c14_i32_241 : BitVec 32 := 14#32
  let c1_i32_233 : BitVec 32 := 1#32
  let v403 : BitVec 32 := Scalar.subi v402 c1_i32_233
  let c0_i32_235 : BitVec 32 := 0#32
  let v405 : BitVec 1 := Scalar.cmpi .sgt v403 c0_i32_235
  let v406 : BitVec 32 := Scalar.extui v405
  let c0_i32_236 : BitVec 32 := 0#32
  let v407 : BitVec 1 := Scalar.cmpi .slt v403 c0_i32_236
  let v408 : BitVec 32 := Scalar.extui v407
  let v409 : BitVec 32 := Scalar.subi v406 v408
  let c2_i32_234 : BitVec 32 := 2#32
  let c0_i32_237 : BitVec 32 := 0#32
  let v410 : BitVec 1 := Scalar.cmpi .sgt c2_i32_234 c0_i32_237
  let v411 : BitVec 32 := Scalar.extui v410
  let c0_i32_238 : BitVec 32 := 0#32
  let v412 : BitVec 1 := Scalar.cmpi .slt c2_i32_234 c0_i32_238
  let v413 : BitVec 32 := Scalar.extui v412
  let v414 : BitVec 32 := Scalar.subi v411 v413
  let v415 : BitVec 1 := Scalar.cmpi .ne v409 v414
  let v416 : BitVec 32 := Scalar.remsi v403 c2_i32_234
  let c0_i32_239 : BitVec 32 := 0#32
  let v417 : BitVec 1 := Scalar.cmpi .ne v416 c0_i32_239
  let v418 : BitVec 1 := Scalar.andi v415 v417
  let v404 : BitVec 32 := Scalar.divsi v403 c2_i32_234
  let c1_i32_240 : BitVec 32 := 1#32
  let v419 : BitVec 32 := Scalar.subi v404 c1_i32_240
  let v420 : BitVec 32 := Scalar.select v418 v419 v404
  let c0_i32_244 : BitVec 32 := 0#32
  ![14, Nat.mul 2 v420.toNat, 0]

def k0_chk15 (v402 : BitVec 32) : Prop :=
  (∀ a, (k0_off15 v402) a + S1x2x7168.size a ≤ S32x256x7168.size a) ∧
  (∀ (hinb : ∀ a, (k0_off15 v402) a + S1x2x7168.size a ≤ S32x256x7168.size a), (Rect.unit (s := S32x256x7168) (k0_off15 v402) S1x2x7168.size hinb).WholeWords (EltTy.packing .bf16)) ∧
  (∀ (hinb : ∀ a, (k0_off15 v402) a + S1x2x7168.size a ≤ S32x256x7168.size a), (Rect.unit (s := S32x256x7168) (k0_off15 v402) S1x2x7168.size hinb).LeadingBlock)
theorem k0_off15_inb : ∀ (v402 : BitVec 32) (k0_hw15 : k0_chk15 v402), ∀ a, (k0_off15 v402) a + S1x2x7168.size a ≤ S32x256x7168.size a := fun v402 k0_hw15 => k0_hw15.1
theorem k0_off15_wordsbf16 : ∀ (v402 : BitVec 32) (k0_hw15 : k0_chk15 v402), (Rect.unit (s := S32x256x7168) (k0_off15 v402) S1x2x7168.size (k0_off15_inb v402 k0_hw15)).WholeWords (EltTy.packing .bf16) := fun v402 k0_hw15 => k0_hw15.2.1 (k0_off15_inb v402 k0_hw15)
theorem k0_off15_leadingbf16 : ∀ (v402 : BitVec 32) (k0_hw15 : k0_chk15 v402), (Rect.unit (s := S32x256x7168) (k0_off15 v402) S1x2x7168.size (k0_off15_inb v402 k0_hw15)).LeadingBlock := fun v402 k0_hw15 => k0_hw15.2.2 (k0_off15_inb v402 k0_hw15)

def k0_off16 (v425 : BitVec 32) : Fin 3 → Nat :=
  let c15_i32_253 : BitVec 32 := 15#32
  let c1_i32_245 : BitVec 32 := 1#32
  let v426 : BitVec 32 := Scalar.subi v425 c1_i32_245
  let c0_i32_247 : BitVec 32 := 0#32
  let v428 : BitVec 1 := Scalar.cmpi .sgt v426 c0_i32_247
  let v429 : BitVec 32 := Scalar.extui v428
  let c0_i32_248 : BitVec 32 := 0#32
  let v430 : BitVec 1 := Scalar.cmpi .slt v426 c0_i32_248
  let v431 : BitVec 32 := Scalar.extui v430
  let v432 : BitVec 32 := Scalar.subi v429 v431
  let c2_i32_246 : BitVec 32 := 2#32
  let c0_i32_249 : BitVec 32 := 0#32
  let v433 : BitVec 1 := Scalar.cmpi .sgt c2_i32_246 c0_i32_249
  let v434 : BitVec 32 := Scalar.extui v433
  let c0_i32_250 : BitVec 32 := 0#32
  let v435 : BitVec 1 := Scalar.cmpi .slt c2_i32_246 c0_i32_250
  let v436 : BitVec 32 := Scalar.extui v435
  let v437 : BitVec 32 := Scalar.subi v434 v436
  let v438 : BitVec 1 := Scalar.cmpi .ne v432 v437
  let v439 : BitVec 32 := Scalar.remsi v426 c2_i32_246
  let c0_i32_251 : BitVec 32 := 0#32
  let v440 : BitVec 1 := Scalar.cmpi .ne v439 c0_i32_251
  let v441 : BitVec 1 := Scalar.andi v438 v440
  let v427 : BitVec 32 := Scalar.divsi v426 c2_i32_246
  let c1_i32_252 : BitVec 32 := 1#32
  let v442 : BitVec 32 := Scalar.subi v427 c1_i32_252
  let v443 : BitVec 32 := Scalar.select v441 v442 v427
  let c0_i32_256 : BitVec 32 := 0#32
  ![15, Nat.mul 2 v443.toNat, 0]

def k0_chk16 (v425 : BitVec 32) : Prop :=
  (∀ a, (k0_off16 v425) a + S1x2x7168.size a ≤ S32x256x7168.size a) ∧
  (∀ (hinb : ∀ a, (k0_off16 v425) a + S1x2x7168.size a ≤ S32x256x7168.size a), (Rect.unit (s := S32x256x7168) (k0_off16 v425) S1x2x7168.size hinb).WholeWords (EltTy.packing .bf16)) ∧
  (∀ (hinb : ∀ a, (k0_off16 v425) a + S1x2x7168.size a ≤ S32x256x7168.size a), (Rect.unit (s := S32x256x7168) (k0_off16 v425) S1x2x7168.size hinb).LeadingBlock)
theorem k0_off16_inb : ∀ (v425 : BitVec 32) (k0_hw16 : k0_chk16 v425), ∀ a, (k0_off16 v425) a + S1x2x7168.size a ≤ S32x256x7168.size a := fun v425 k0_hw16 => k0_hw16.1
theorem k0_off16_wordsbf16 : ∀ (v425 : BitVec 32) (k0_hw16 : k0_chk16 v425), (Rect.unit (s := S32x256x7168) (k0_off16 v425) S1x2x7168.size (k0_off16_inb v425 k0_hw16)).WholeWords (EltTy.packing .bf16) := fun v425 k0_hw16 => k0_hw16.2.1 (k0_off16_inb v425 k0_hw16)
theorem k0_off16_leadingbf16 : ∀ (v425 : BitVec 32) (k0_hw16 : k0_chk16 v425), (Rect.unit (s := S32x256x7168) (k0_off16 v425) S1x2x7168.size (k0_off16_inb v425 k0_hw16)).LeadingBlock := fun v425 k0_hw16 => k0_hw16.2.2 (k0_off16_inb v425 k0_hw16)

def k0_off17 (v448 : BitVec 32) : Fin 3 → Nat :=
  let c16_i32 : BitVec 32 := 16#32
  let c1_i32_257 : BitVec 32 := 1#32
  let v449 : BitVec 32 := Scalar.subi v448 c1_i32_257
  let c0_i32_259 : BitVec 32 := 0#32
  let v451 : BitVec 1 := Scalar.cmpi .sgt v449 c0_i32_259
  let v452 : BitVec 32 := Scalar.extui v451
  let c0_i32_260 : BitVec 32 := 0#32
  let v453 : BitVec 1 := Scalar.cmpi .slt v449 c0_i32_260
  let v454 : BitVec 32 := Scalar.extui v453
  let v455 : BitVec 32 := Scalar.subi v452 v454
  let c2_i32_258 : BitVec 32 := 2#32
  let c0_i32_261 : BitVec 32 := 0#32
  let v456 : BitVec 1 := Scalar.cmpi .sgt c2_i32_258 c0_i32_261
  let v457 : BitVec 32 := Scalar.extui v456
  let c0_i32_262 : BitVec 32 := 0#32
  let v458 : BitVec 1 := Scalar.cmpi .slt c2_i32_258 c0_i32_262
  let v459 : BitVec 32 := Scalar.extui v458
  let v460 : BitVec 32 := Scalar.subi v457 v459
  let v461 : BitVec 1 := Scalar.cmpi .ne v455 v460
  let v462 : BitVec 32 := Scalar.remsi v449 c2_i32_258
  let c0_i32_263 : BitVec 32 := 0#32
  let v463 : BitVec 1 := Scalar.cmpi .ne v462 c0_i32_263
  let v464 : BitVec 1 := Scalar.andi v461 v463
  let v450 : BitVec 32 := Scalar.divsi v449 c2_i32_258
  let c1_i32_264 : BitVec 32 := 1#32
  let v465 : BitVec 32 := Scalar.subi v450 c1_i32_264
  let v466 : BitVec 32 := Scalar.select v464 v465 v450
  let c0_i32_267 : BitVec 32 := 0#32
  ![16, Nat.mul 2 v466.toNat, 0]

def k0_chk17 (v448 : BitVec 32) : Prop :=
  (∀ a, (k0_off17 v448) a + S1x2x7168.size a ≤ S32x256x7168.size a) ∧
  (∀ (hinb : ∀ a, (k0_off17 v448) a + S1x2x7168.size a ≤ S32x256x7168.size a), (Rect.unit (s := S32x256x7168) (k0_off17 v448) S1x2x7168.size hinb).WholeWords (EltTy.packing .bf16)) ∧
  (∀ (hinb : ∀ a, (k0_off17 v448) a + S1x2x7168.size a ≤ S32x256x7168.size a), (Rect.unit (s := S32x256x7168) (k0_off17 v448) S1x2x7168.size hinb).LeadingBlock)
theorem k0_off17_inb : ∀ (v448 : BitVec 32) (k0_hw17 : k0_chk17 v448), ∀ a, (k0_off17 v448) a + S1x2x7168.size a ≤ S32x256x7168.size a := fun v448 k0_hw17 => k0_hw17.1
theorem k0_off17_wordsbf16 : ∀ (v448 : BitVec 32) (k0_hw17 : k0_chk17 v448), (Rect.unit (s := S32x256x7168) (k0_off17 v448) S1x2x7168.size (k0_off17_inb v448 k0_hw17)).WholeWords (EltTy.packing .bf16) := fun v448 k0_hw17 => k0_hw17.2.1 (k0_off17_inb v448 k0_hw17)
theorem k0_off17_leadingbf16 : ∀ (v448 : BitVec 32) (k0_hw17 : k0_chk17 v448), (Rect.unit (s := S32x256x7168) (k0_off17 v448) S1x2x7168.size (k0_off17_inb v448 k0_hw17)).LeadingBlock := fun v448 k0_hw17 => k0_hw17.2.2 (k0_off17_inb v448 k0_hw17)

def k0_off18 (v471 : BitVec 32) : Fin 3 → Nat :=
  let c17_i32 : BitVec 32 := 17#32
  let c1_i32_268 : BitVec 32 := 1#32
  let v472 : BitVec 32 := Scalar.subi v471 c1_i32_268
  let c0_i32_270 : BitVec 32 := 0#32
  let v474 : BitVec 1 := Scalar.cmpi .sgt v472 c0_i32_270
  let v475 : BitVec 32 := Scalar.extui v474
  let c0_i32_271 : BitVec 32 := 0#32
  let v476 : BitVec 1 := Scalar.cmpi .slt v472 c0_i32_271
  let v477 : BitVec 32 := Scalar.extui v476
  let v478 : BitVec 32 := Scalar.subi v475 v477
  let c2_i32_269 : BitVec 32 := 2#32
  let c0_i32_272 : BitVec 32 := 0#32
  let v479 : BitVec 1 := Scalar.cmpi .sgt c2_i32_269 c0_i32_272
  let v480 : BitVec 32 := Scalar.extui v479
  let c0_i32_273 : BitVec 32 := 0#32
  let v481 : BitVec 1 := Scalar.cmpi .slt c2_i32_269 c0_i32_273
  let v482 : BitVec 32 := Scalar.extui v481
  let v483 : BitVec 32 := Scalar.subi v480 v482
  let v484 : BitVec 1 := Scalar.cmpi .ne v478 v483
  let v485 : BitVec 32 := Scalar.remsi v472 c2_i32_269
  let c0_i32_274 : BitVec 32 := 0#32
  let v486 : BitVec 1 := Scalar.cmpi .ne v485 c0_i32_274
  let v487 : BitVec 1 := Scalar.andi v484 v486
  let v473 : BitVec 32 := Scalar.divsi v472 c2_i32_269
  let c1_i32_275 : BitVec 32 := 1#32
  let v488 : BitVec 32 := Scalar.subi v473 c1_i32_275
  let v489 : BitVec 32 := Scalar.select v487 v488 v473
  let c0_i32_278 : BitVec 32 := 0#32
  ![17, Nat.mul 2 v489.toNat, 0]

def k0_chk18 (v471 : BitVec 32) : Prop :=
  (∀ a, (k0_off18 v471) a + S1x2x7168.size a ≤ S32x256x7168.size a) ∧
  (∀ (hinb : ∀ a, (k0_off18 v471) a + S1x2x7168.size a ≤ S32x256x7168.size a), (Rect.unit (s := S32x256x7168) (k0_off18 v471) S1x2x7168.size hinb).WholeWords (EltTy.packing .bf16)) ∧
  (∀ (hinb : ∀ a, (k0_off18 v471) a + S1x2x7168.size a ≤ S32x256x7168.size a), (Rect.unit (s := S32x256x7168) (k0_off18 v471) S1x2x7168.size hinb).LeadingBlock)
theorem k0_off18_inb : ∀ (v471 : BitVec 32) (k0_hw18 : k0_chk18 v471), ∀ a, (k0_off18 v471) a + S1x2x7168.size a ≤ S32x256x7168.size a := fun v471 k0_hw18 => k0_hw18.1
theorem k0_off18_wordsbf16 : ∀ (v471 : BitVec 32) (k0_hw18 : k0_chk18 v471), (Rect.unit (s := S32x256x7168) (k0_off18 v471) S1x2x7168.size (k0_off18_inb v471 k0_hw18)).WholeWords (EltTy.packing .bf16) := fun v471 k0_hw18 => k0_hw18.2.1 (k0_off18_inb v471 k0_hw18)
theorem k0_off18_leadingbf16 : ∀ (v471 : BitVec 32) (k0_hw18 : k0_chk18 v471), (Rect.unit (s := S32x256x7168) (k0_off18 v471) S1x2x7168.size (k0_off18_inb v471 k0_hw18)).LeadingBlock := fun v471 k0_hw18 => k0_hw18.2.2 (k0_off18_inb v471 k0_hw18)

def k0_off19 (v494 : BitVec 32) : Fin 3 → Nat :=
  let c18_i32 : BitVec 32 := 18#32
  let c1_i32_279 : BitVec 32 := 1#32
  let v495 : BitVec 32 := Scalar.subi v494 c1_i32_279
  let c0_i32_281 : BitVec 32 := 0#32
  let v497 : BitVec 1 := Scalar.cmpi .sgt v495 c0_i32_281
  let v498 : BitVec 32 := Scalar.extui v497
  let c0_i32_282 : BitVec 32 := 0#32
  let v499 : BitVec 1 := Scalar.cmpi .slt v495 c0_i32_282
  let v500 : BitVec 32 := Scalar.extui v499
  let v501 : BitVec 32 := Scalar.subi v498 v500
  let c2_i32_280 : BitVec 32 := 2#32
  let c0_i32_283 : BitVec 32 := 0#32
  let v502 : BitVec 1 := Scalar.cmpi .sgt c2_i32_280 c0_i32_283
  let v503 : BitVec 32 := Scalar.extui v502
  let c0_i32_284 : BitVec 32 := 0#32
  let v504 : BitVec 1 := Scalar.cmpi .slt c2_i32_280 c0_i32_284
  let v505 : BitVec 32 := Scalar.extui v504
  let v506 : BitVec 32 := Scalar.subi v503 v505
  let v507 : BitVec 1 := Scalar.cmpi .ne v501 v506
  let v508 : BitVec 32 := Scalar.remsi v495 c2_i32_280
  let c0_i32_285 : BitVec 32 := 0#32
  let v509 : BitVec 1 := Scalar.cmpi .ne v508 c0_i32_285
  let v510 : BitVec 1 := Scalar.andi v507 v509
  let v496 : BitVec 32 := Scalar.divsi v495 c2_i32_280
  let c1_i32_286 : BitVec 32 := 1#32
  let v511 : BitVec 32 := Scalar.subi v496 c1_i32_286
  let v512 : BitVec 32 := Scalar.select v510 v511 v496
  let c0_i32_289 : BitVec 32 := 0#32
  ![18, Nat.mul 2 v512.toNat, 0]

def k0_chk19 (v494 : BitVec 32) : Prop :=
  (∀ a, (k0_off19 v494) a + S1x2x7168.size a ≤ S32x256x7168.size a) ∧
  (∀ (hinb : ∀ a, (k0_off19 v494) a + S1x2x7168.size a ≤ S32x256x7168.size a), (Rect.unit (s := S32x256x7168) (k0_off19 v494) S1x2x7168.size hinb).WholeWords (EltTy.packing .bf16)) ∧
  (∀ (hinb : ∀ a, (k0_off19 v494) a + S1x2x7168.size a ≤ S32x256x7168.size a), (Rect.unit (s := S32x256x7168) (k0_off19 v494) S1x2x7168.size hinb).LeadingBlock)
theorem k0_off19_inb : ∀ (v494 : BitVec 32) (k0_hw19 : k0_chk19 v494), ∀ a, (k0_off19 v494) a + S1x2x7168.size a ≤ S32x256x7168.size a := fun v494 k0_hw19 => k0_hw19.1
theorem k0_off19_wordsbf16 : ∀ (v494 : BitVec 32) (k0_hw19 : k0_chk19 v494), (Rect.unit (s := S32x256x7168) (k0_off19 v494) S1x2x7168.size (k0_off19_inb v494 k0_hw19)).WholeWords (EltTy.packing .bf16) := fun v494 k0_hw19 => k0_hw19.2.1 (k0_off19_inb v494 k0_hw19)
theorem k0_off19_leadingbf16 : ∀ (v494 : BitVec 32) (k0_hw19 : k0_chk19 v494), (Rect.unit (s := S32x256x7168) (k0_off19 v494) S1x2x7168.size (k0_off19_inb v494 k0_hw19)).LeadingBlock := fun v494 k0_hw19 => k0_hw19.2.2 (k0_off19_inb v494 k0_hw19)

def k0_off20 (v517 : BitVec 32) : Fin 3 → Nat :=
  let c19_i32 : BitVec 32 := 19#32
  let c1_i32_290 : BitVec 32 := 1#32
  let v518 : BitVec 32 := Scalar.subi v517 c1_i32_290
  let c0_i32_292 : BitVec 32 := 0#32
  let v520 : BitVec 1 := Scalar.cmpi .sgt v518 c0_i32_292
  let v521 : BitVec 32 := Scalar.extui v520
  let c0_i32_293 : BitVec 32 := 0#32
  let v522 : BitVec 1 := Scalar.cmpi .slt v518 c0_i32_293
  let v523 : BitVec 32 := Scalar.extui v522
  let v524 : BitVec 32 := Scalar.subi v521 v523
  let c2_i32_291 : BitVec 32 := 2#32
  let c0_i32_294 : BitVec 32 := 0#32
  let v525 : BitVec 1 := Scalar.cmpi .sgt c2_i32_291 c0_i32_294
  let v526 : BitVec 32 := Scalar.extui v525
  let c0_i32_295 : BitVec 32 := 0#32
  let v527 : BitVec 1 := Scalar.cmpi .slt c2_i32_291 c0_i32_295
  let v528 : BitVec 32 := Scalar.extui v527
  let v529 : BitVec 32 := Scalar.subi v526 v528
  let v530 : BitVec 1 := Scalar.cmpi .ne v524 v529
  let v531 : BitVec 32 := Scalar.remsi v518 c2_i32_291
  let c0_i32_296 : BitVec 32 := 0#32
  let v532 : BitVec 1 := Scalar.cmpi .ne v531 c0_i32_296
  let v533 : BitVec 1 := Scalar.andi v530 v532
  let v519 : BitVec 32 := Scalar.divsi v518 c2_i32_291
  let c1_i32_297 : BitVec 32 := 1#32
  let v534 : BitVec 32 := Scalar.subi v519 c1_i32_297
  let v535 : BitVec 32 := Scalar.select v533 v534 v519
  let c0_i32_300 : BitVec 32 := 0#32
  ![19, Nat.mul 2 v535.toNat, 0]

def k0_chk20 (v517 : BitVec 32) : Prop :=
  (∀ a, (k0_off20 v517) a + S1x2x7168.size a ≤ S32x256x7168.size a) ∧
  (∀ (hinb : ∀ a, (k0_off20 v517) a + S1x2x7168.size a ≤ S32x256x7168.size a), (Rect.unit (s := S32x256x7168) (k0_off20 v517) S1x2x7168.size hinb).WholeWords (EltTy.packing .bf16)) ∧
  (∀ (hinb : ∀ a, (k0_off20 v517) a + S1x2x7168.size a ≤ S32x256x7168.size a), (Rect.unit (s := S32x256x7168) (k0_off20 v517) S1x2x7168.size hinb).LeadingBlock)
theorem k0_off20_inb : ∀ (v517 : BitVec 32) (k0_hw20 : k0_chk20 v517), ∀ a, (k0_off20 v517) a + S1x2x7168.size a ≤ S32x256x7168.size a := fun v517 k0_hw20 => k0_hw20.1
theorem k0_off20_wordsbf16 : ∀ (v517 : BitVec 32) (k0_hw20 : k0_chk20 v517), (Rect.unit (s := S32x256x7168) (k0_off20 v517) S1x2x7168.size (k0_off20_inb v517 k0_hw20)).WholeWords (EltTy.packing .bf16) := fun v517 k0_hw20 => k0_hw20.2.1 (k0_off20_inb v517 k0_hw20)
theorem k0_off20_leadingbf16 : ∀ (v517 : BitVec 32) (k0_hw20 : k0_chk20 v517), (Rect.unit (s := S32x256x7168) (k0_off20 v517) S1x2x7168.size (k0_off20_inb v517 k0_hw20)).LeadingBlock := fun v517 k0_hw20 => k0_hw20.2.2 (k0_off20_inb v517 k0_hw20)

def k0_off21 (v540 : BitVec 32) : Fin 3 → Nat :=
  let c20_i32 : BitVec 32 := 20#32
  let c1_i32_301 : BitVec 32 := 1#32
  let v541 : BitVec 32 := Scalar.subi v540 c1_i32_301
  let c0_i32_303 : BitVec 32 := 0#32
  let v543 : BitVec 1 := Scalar.cmpi .sgt v541 c0_i32_303
  let v544 : BitVec 32 := Scalar.extui v543
  let c0_i32_304 : BitVec 32 := 0#32
  let v545 : BitVec 1 := Scalar.cmpi .slt v541 c0_i32_304
  let v546 : BitVec 32 := Scalar.extui v545
  let v547 : BitVec 32 := Scalar.subi v544 v546
  let c2_i32_302 : BitVec 32 := 2#32
  let c0_i32_305 : BitVec 32 := 0#32
  let v548 : BitVec 1 := Scalar.cmpi .sgt c2_i32_302 c0_i32_305
  let v549 : BitVec 32 := Scalar.extui v548
  let c0_i32_306 : BitVec 32 := 0#32
  let v550 : BitVec 1 := Scalar.cmpi .slt c2_i32_302 c0_i32_306
  let v551 : BitVec 32 := Scalar.extui v550
  let v552 : BitVec 32 := Scalar.subi v549 v551
  let v553 : BitVec 1 := Scalar.cmpi .ne v547 v552
  let v554 : BitVec 32 := Scalar.remsi v541 c2_i32_302
  let c0_i32_307 : BitVec 32 := 0#32
  let v555 : BitVec 1 := Scalar.cmpi .ne v554 c0_i32_307
  let v556 : BitVec 1 := Scalar.andi v553 v555
  let v542 : BitVec 32 := Scalar.divsi v541 c2_i32_302
  let c1_i32_308 : BitVec 32 := 1#32
  let v557 : BitVec 32 := Scalar.subi v542 c1_i32_308
  let v558 : BitVec 32 := Scalar.select v556 v557 v542
  let c0_i32_311 : BitVec 32 := 0#32
  ![20, Nat.mul 2 v558.toNat, 0]

def k0_chk21 (v540 : BitVec 32) : Prop :=
  (∀ a, (k0_off21 v540) a + S1x2x7168.size a ≤ S32x256x7168.size a) ∧
  (∀ (hinb : ∀ a, (k0_off21 v540) a + S1x2x7168.size a ≤ S32x256x7168.size a), (Rect.unit (s := S32x256x7168) (k0_off21 v540) S1x2x7168.size hinb).WholeWords (EltTy.packing .bf16)) ∧
  (∀ (hinb : ∀ a, (k0_off21 v540) a + S1x2x7168.size a ≤ S32x256x7168.size a), (Rect.unit (s := S32x256x7168) (k0_off21 v540) S1x2x7168.size hinb).LeadingBlock)
theorem k0_off21_inb : ∀ (v540 : BitVec 32) (k0_hw21 : k0_chk21 v540), ∀ a, (k0_off21 v540) a + S1x2x7168.size a ≤ S32x256x7168.size a := fun v540 k0_hw21 => k0_hw21.1
theorem k0_off21_wordsbf16 : ∀ (v540 : BitVec 32) (k0_hw21 : k0_chk21 v540), (Rect.unit (s := S32x256x7168) (k0_off21 v540) S1x2x7168.size (k0_off21_inb v540 k0_hw21)).WholeWords (EltTy.packing .bf16) := fun v540 k0_hw21 => k0_hw21.2.1 (k0_off21_inb v540 k0_hw21)
theorem k0_off21_leadingbf16 : ∀ (v540 : BitVec 32) (k0_hw21 : k0_chk21 v540), (Rect.unit (s := S32x256x7168) (k0_off21 v540) S1x2x7168.size (k0_off21_inb v540 k0_hw21)).LeadingBlock := fun v540 k0_hw21 => k0_hw21.2.2 (k0_off21_inb v540 k0_hw21)

def k0_off22 (v563 : BitVec 32) : Fin 3 → Nat :=
  let c21_i32 : BitVec 32 := 21#32
  let c1_i32_312 : BitVec 32 := 1#32
  let v564 : BitVec 32 := Scalar.subi v563 c1_i32_312
  let c0_i32_314 : BitVec 32 := 0#32
  let v566 : BitVec 1 := Scalar.cmpi .sgt v564 c0_i32_314
  let v567 : BitVec 32 := Scalar.extui v566
  let c0_i32_315 : BitVec 32 := 0#32
  let v568 : BitVec 1 := Scalar.cmpi .slt v564 c0_i32_315
  let v569 : BitVec 32 := Scalar.extui v568
  let v570 : BitVec 32 := Scalar.subi v567 v569
  let c2_i32_313 : BitVec 32 := 2#32
  let c0_i32_316 : BitVec 32 := 0#32
  let v571 : BitVec 1 := Scalar.cmpi .sgt c2_i32_313 c0_i32_316
  let v572 : BitVec 32 := Scalar.extui v571
  let c0_i32_317 : BitVec 32 := 0#32
  let v573 : BitVec 1 := Scalar.cmpi .slt c2_i32_313 c0_i32_317
  let v574 : BitVec 32 := Scalar.extui v573
  let v575 : BitVec 32 := Scalar.subi v572 v574
  let v576 : BitVec 1 := Scalar.cmpi .ne v570 v575
  let v577 : BitVec 32 := Scalar.remsi v564 c2_i32_313
  let c0_i32_318 : BitVec 32 := 0#32
  let v578 : BitVec 1 := Scalar.cmpi .ne v577 c0_i32_318
  let v579 : BitVec 1 := Scalar.andi v576 v578
  let v565 : BitVec 32 := Scalar.divsi v564 c2_i32_313
  let c1_i32_319 : BitVec 32 := 1#32
  let v580 : BitVec 32 := Scalar.subi v565 c1_i32_319
  let v581 : BitVec 32 := Scalar.select v579 v580 v565
  let c0_i32_322 : BitVec 32 := 0#32
  ![21, Nat.mul 2 v581.toNat, 0]

def k0_chk22 (v563 : BitVec 32) : Prop :=
  (∀ a, (k0_off22 v563) a + S1x2x7168.size a ≤ S32x256x7168.size a) ∧
  (∀ (hinb : ∀ a, (k0_off22 v563) a + S1x2x7168.size a ≤ S32x256x7168.size a), (Rect.unit (s := S32x256x7168) (k0_off22 v563) S1x2x7168.size hinb).WholeWords (EltTy.packing .bf16)) ∧
  (∀ (hinb : ∀ a, (k0_off22 v563) a + S1x2x7168.size a ≤ S32x256x7168.size a), (Rect.unit (s := S32x256x7168) (k0_off22 v563) S1x2x7168.size hinb).LeadingBlock)
theorem k0_off22_inb : ∀ (v563 : BitVec 32) (k0_hw22 : k0_chk22 v563), ∀ a, (k0_off22 v563) a + S1x2x7168.size a ≤ S32x256x7168.size a := fun v563 k0_hw22 => k0_hw22.1
theorem k0_off22_wordsbf16 : ∀ (v563 : BitVec 32) (k0_hw22 : k0_chk22 v563), (Rect.unit (s := S32x256x7168) (k0_off22 v563) S1x2x7168.size (k0_off22_inb v563 k0_hw22)).WholeWords (EltTy.packing .bf16) := fun v563 k0_hw22 => k0_hw22.2.1 (k0_off22_inb v563 k0_hw22)
theorem k0_off22_leadingbf16 : ∀ (v563 : BitVec 32) (k0_hw22 : k0_chk22 v563), (Rect.unit (s := S32x256x7168) (k0_off22 v563) S1x2x7168.size (k0_off22_inb v563 k0_hw22)).LeadingBlock := fun v563 k0_hw22 => k0_hw22.2.2 (k0_off22_inb v563 k0_hw22)

def k0_off23 (v586 : BitVec 32) : Fin 3 → Nat :=
  let c22_i32 : BitVec 32 := 22#32
  let c1_i32_323 : BitVec 32 := 1#32
  let v587 : BitVec 32 := Scalar.subi v586 c1_i32_323
  let c0_i32_325 : BitVec 32 := 0#32
  let v589 : BitVec 1 := Scalar.cmpi .sgt v587 c0_i32_325
  let v590 : BitVec 32 := Scalar.extui v589
  let c0_i32_326 : BitVec 32 := 0#32
  let v591 : BitVec 1 := Scalar.cmpi .slt v587 c0_i32_326
  let v592 : BitVec 32 := Scalar.extui v591
  let v593 : BitVec 32 := Scalar.subi v590 v592
  let c2_i32_324 : BitVec 32 := 2#32
  let c0_i32_327 : BitVec 32 := 0#32
  let v594 : BitVec 1 := Scalar.cmpi .sgt c2_i32_324 c0_i32_327
  let v595 : BitVec 32 := Scalar.extui v594
  let c0_i32_328 : BitVec 32 := 0#32
  let v596 : BitVec 1 := Scalar.cmpi .slt c2_i32_324 c0_i32_328
  let v597 : BitVec 32 := Scalar.extui v596
  let v598 : BitVec 32 := Scalar.subi v595 v597
  let v599 : BitVec 1 := Scalar.cmpi .ne v593 v598
  let v600 : BitVec 32 := Scalar.remsi v587 c2_i32_324
  let c0_i32_329 : BitVec 32 := 0#32
  let v601 : BitVec 1 := Scalar.cmpi .ne v600 c0_i32_329
  let v602 : BitVec 1 := Scalar.andi v599 v601
  let v588 : BitVec 32 := Scalar.divsi v587 c2_i32_324
  let c1_i32_330 : BitVec 32 := 1#32
  let v603 : BitVec 32 := Scalar.subi v588 c1_i32_330
  let v604 : BitVec 32 := Scalar.select v602 v603 v588
  let c0_i32_333 : BitVec 32 := 0#32
  ![22, Nat.mul 2 v604.toNat, 0]

def k0_chk23 (v586 : BitVec 32) : Prop :=
  (∀ a, (k0_off23 v586) a + S1x2x7168.size a ≤ S32x256x7168.size a) ∧
  (∀ (hinb : ∀ a, (k0_off23 v586) a + S1x2x7168.size a ≤ S32x256x7168.size a), (Rect.unit (s := S32x256x7168) (k0_off23 v586) S1x2x7168.size hinb).WholeWords (EltTy.packing .bf16)) ∧
  (∀ (hinb : ∀ a, (k0_off23 v586) a + S1x2x7168.size a ≤ S32x256x7168.size a), (Rect.unit (s := S32x256x7168) (k0_off23 v586) S1x2x7168.size hinb).LeadingBlock)
theorem k0_off23_inb : ∀ (v586 : BitVec 32) (k0_hw23 : k0_chk23 v586), ∀ a, (k0_off23 v586) a + S1x2x7168.size a ≤ S32x256x7168.size a := fun v586 k0_hw23 => k0_hw23.1
theorem k0_off23_wordsbf16 : ∀ (v586 : BitVec 32) (k0_hw23 : k0_chk23 v586), (Rect.unit (s := S32x256x7168) (k0_off23 v586) S1x2x7168.size (k0_off23_inb v586 k0_hw23)).WholeWords (EltTy.packing .bf16) := fun v586 k0_hw23 => k0_hw23.2.1 (k0_off23_inb v586 k0_hw23)
theorem k0_off23_leadingbf16 : ∀ (v586 : BitVec 32) (k0_hw23 : k0_chk23 v586), (Rect.unit (s := S32x256x7168) (k0_off23 v586) S1x2x7168.size (k0_off23_inb v586 k0_hw23)).LeadingBlock := fun v586 k0_hw23 => k0_hw23.2.2 (k0_off23_inb v586 k0_hw23)

def k0_off24 (v609 : BitVec 32) : Fin 3 → Nat :=
  let c23_i32 : BitVec 32 := 23#32
  let c1_i32_334 : BitVec 32 := 1#32
  let v610 : BitVec 32 := Scalar.subi v609 c1_i32_334
  let c0_i32_336 : BitVec 32 := 0#32
  let v612 : BitVec 1 := Scalar.cmpi .sgt v610 c0_i32_336
  let v613 : BitVec 32 := Scalar.extui v612
  let c0_i32_337 : BitVec 32 := 0#32
  let v614 : BitVec 1 := Scalar.cmpi .slt v610 c0_i32_337
  let v615 : BitVec 32 := Scalar.extui v614
  let v616 : BitVec 32 := Scalar.subi v613 v615
  let c2_i32_335 : BitVec 32 := 2#32
  let c0_i32_338 : BitVec 32 := 0#32
  let v617 : BitVec 1 := Scalar.cmpi .sgt c2_i32_335 c0_i32_338
  let v618 : BitVec 32 := Scalar.extui v617
  let c0_i32_339 : BitVec 32 := 0#32
  let v619 : BitVec 1 := Scalar.cmpi .slt c2_i32_335 c0_i32_339
  let v620 : BitVec 32 := Scalar.extui v619
  let v621 : BitVec 32 := Scalar.subi v618 v620
  let v622 : BitVec 1 := Scalar.cmpi .ne v616 v621
  let v623 : BitVec 32 := Scalar.remsi v610 c2_i32_335
  let c0_i32_340 : BitVec 32 := 0#32
  let v624 : BitVec 1 := Scalar.cmpi .ne v623 c0_i32_340
  let v625 : BitVec 1 := Scalar.andi v622 v624
  let v611 : BitVec 32 := Scalar.divsi v610 c2_i32_335
  let c1_i32_341 : BitVec 32 := 1#32
  let v626 : BitVec 32 := Scalar.subi v611 c1_i32_341
  let v627 : BitVec 32 := Scalar.select v625 v626 v611
  let c0_i32_344 : BitVec 32 := 0#32
  ![23, Nat.mul 2 v627.toNat, 0]

def k0_chk24 (v609 : BitVec 32) : Prop :=
  (∀ a, (k0_off24 v609) a + S1x2x7168.size a ≤ S32x256x7168.size a) ∧
  (∀ (hinb : ∀ a, (k0_off24 v609) a + S1x2x7168.size a ≤ S32x256x7168.size a), (Rect.unit (s := S32x256x7168) (k0_off24 v609) S1x2x7168.size hinb).WholeWords (EltTy.packing .bf16)) ∧
  (∀ (hinb : ∀ a, (k0_off24 v609) a + S1x2x7168.size a ≤ S32x256x7168.size a), (Rect.unit (s := S32x256x7168) (k0_off24 v609) S1x2x7168.size hinb).LeadingBlock)
theorem k0_off24_inb : ∀ (v609 : BitVec 32) (k0_hw24 : k0_chk24 v609), ∀ a, (k0_off24 v609) a + S1x2x7168.size a ≤ S32x256x7168.size a := fun v609 k0_hw24 => k0_hw24.1
theorem k0_off24_wordsbf16 : ∀ (v609 : BitVec 32) (k0_hw24 : k0_chk24 v609), (Rect.unit (s := S32x256x7168) (k0_off24 v609) S1x2x7168.size (k0_off24_inb v609 k0_hw24)).WholeWords (EltTy.packing .bf16) := fun v609 k0_hw24 => k0_hw24.2.1 (k0_off24_inb v609 k0_hw24)
theorem k0_off24_leadingbf16 : ∀ (v609 : BitVec 32) (k0_hw24 : k0_chk24 v609), (Rect.unit (s := S32x256x7168) (k0_off24 v609) S1x2x7168.size (k0_off24_inb v609 k0_hw24)).LeadingBlock := fun v609 k0_hw24 => k0_hw24.2.2 (k0_off24_inb v609 k0_hw24)

def k0_off25 (v632 : BitVec 32) : Fin 3 → Nat :=
  let c24_i32 : BitVec 32 := 24#32
  let c1_i32_345 : BitVec 32 := 1#32
  let v633 : BitVec 32 := Scalar.subi v632 c1_i32_345
  let c0_i32_347 : BitVec 32 := 0#32
  let v635 : BitVec 1 := Scalar.cmpi .sgt v633 c0_i32_347
  let v636 : BitVec 32 := Scalar.extui v635
  let c0_i32_348 : BitVec 32 := 0#32
  let v637 : BitVec 1 := Scalar.cmpi .slt v633 c0_i32_348
  let v638 : BitVec 32 := Scalar.extui v637
  let v639 : BitVec 32 := Scalar.subi v636 v638
  let c2_i32_346 : BitVec 32 := 2#32
  let c0_i32_349 : BitVec 32 := 0#32
  let v640 : BitVec 1 := Scalar.cmpi .sgt c2_i32_346 c0_i32_349
  let v641 : BitVec 32 := Scalar.extui v640
  let c0_i32_350 : BitVec 32 := 0#32
  let v642 : BitVec 1 := Scalar.cmpi .slt c2_i32_346 c0_i32_350
  let v643 : BitVec 32 := Scalar.extui v642
  let v644 : BitVec 32 := Scalar.subi v641 v643
  let v645 : BitVec 1 := Scalar.cmpi .ne v639 v644
  let v646 : BitVec 32 := Scalar.remsi v633 c2_i32_346
  let c0_i32_351 : BitVec 32 := 0#32
  let v647 : BitVec 1 := Scalar.cmpi .ne v646 c0_i32_351
  let v648 : BitVec 1 := Scalar.andi v645 v647
  let v634 : BitVec 32 := Scalar.divsi v633 c2_i32_346
  let c1_i32_352 : BitVec 32 := 1#32
  let v649 : BitVec 32 := Scalar.subi v634 c1_i32_352
  let v650 : BitVec 32 := Scalar.select v648 v649 v634
  let c0_i32_355 : BitVec 32 := 0#32
  ![24, Nat.mul 2 v650.toNat, 0]

def k0_chk25 (v632 : BitVec 32) : Prop :=
  (∀ a, (k0_off25 v632) a + S1x2x7168.size a ≤ S32x256x7168.size a) ∧
  (∀ (hinb : ∀ a, (k0_off25 v632) a + S1x2x7168.size a ≤ S32x256x7168.size a), (Rect.unit (s := S32x256x7168) (k0_off25 v632) S1x2x7168.size hinb).WholeWords (EltTy.packing .bf16)) ∧
  (∀ (hinb : ∀ a, (k0_off25 v632) a + S1x2x7168.size a ≤ S32x256x7168.size a), (Rect.unit (s := S32x256x7168) (k0_off25 v632) S1x2x7168.size hinb).LeadingBlock)
theorem k0_off25_inb : ∀ (v632 : BitVec 32) (k0_hw25 : k0_chk25 v632), ∀ a, (k0_off25 v632) a + S1x2x7168.size a ≤ S32x256x7168.size a := fun v632 k0_hw25 => k0_hw25.1
theorem k0_off25_wordsbf16 : ∀ (v632 : BitVec 32) (k0_hw25 : k0_chk25 v632), (Rect.unit (s := S32x256x7168) (k0_off25 v632) S1x2x7168.size (k0_off25_inb v632 k0_hw25)).WholeWords (EltTy.packing .bf16) := fun v632 k0_hw25 => k0_hw25.2.1 (k0_off25_inb v632 k0_hw25)
theorem k0_off25_leadingbf16 : ∀ (v632 : BitVec 32) (k0_hw25 : k0_chk25 v632), (Rect.unit (s := S32x256x7168) (k0_off25 v632) S1x2x7168.size (k0_off25_inb v632 k0_hw25)).LeadingBlock := fun v632 k0_hw25 => k0_hw25.2.2 (k0_off25_inb v632 k0_hw25)

def k0_off26 (v655 : BitVec 32) : Fin 3 → Nat :=
  let c25_i32 : BitVec 32 := 25#32
  let c1_i32_356 : BitVec 32 := 1#32
  let v656 : BitVec 32 := Scalar.subi v655 c1_i32_356
  let c0_i32_358 : BitVec 32 := 0#32
  let v658 : BitVec 1 := Scalar.cmpi .sgt v656 c0_i32_358
  let v659 : BitVec 32 := Scalar.extui v658
  let c0_i32_359 : BitVec 32 := 0#32
  let v660 : BitVec 1 := Scalar.cmpi .slt v656 c0_i32_359
  let v661 : BitVec 32 := Scalar.extui v660
  let v662 : BitVec 32 := Scalar.subi v659 v661
  let c2_i32_357 : BitVec 32 := 2#32
  let c0_i32_360 : BitVec 32 := 0#32
  let v663 : BitVec 1 := Scalar.cmpi .sgt c2_i32_357 c0_i32_360
  let v664 : BitVec 32 := Scalar.extui v663
  let c0_i32_361 : BitVec 32 := 0#32
  let v665 : BitVec 1 := Scalar.cmpi .slt c2_i32_357 c0_i32_361
  let v666 : BitVec 32 := Scalar.extui v665
  let v667 : BitVec 32 := Scalar.subi v664 v666
  let v668 : BitVec 1 := Scalar.cmpi .ne v662 v667
  let v669 : BitVec 32 := Scalar.remsi v656 c2_i32_357
  let c0_i32_362 : BitVec 32 := 0#32
  let v670 : BitVec 1 := Scalar.cmpi .ne v669 c0_i32_362
  let v671 : BitVec 1 := Scalar.andi v668 v670
  let v657 : BitVec 32 := Scalar.divsi v656 c2_i32_357
  let c1_i32_363 : BitVec 32 := 1#32
  let v672 : BitVec 32 := Scalar.subi v657 c1_i32_363
  let v673 : BitVec 32 := Scalar.select v671 v672 v657
  let c0_i32_366 : BitVec 32 := 0#32
  ![25, Nat.mul 2 v673.toNat, 0]

def k0_chk26 (v655 : BitVec 32) : Prop :=
  (∀ a, (k0_off26 v655) a + S1x2x7168.size a ≤ S32x256x7168.size a) ∧
  (∀ (hinb : ∀ a, (k0_off26 v655) a + S1x2x7168.size a ≤ S32x256x7168.size a), (Rect.unit (s := S32x256x7168) (k0_off26 v655) S1x2x7168.size hinb).WholeWords (EltTy.packing .bf16)) ∧
  (∀ (hinb : ∀ a, (k0_off26 v655) a + S1x2x7168.size a ≤ S32x256x7168.size a), (Rect.unit (s := S32x256x7168) (k0_off26 v655) S1x2x7168.size hinb).LeadingBlock)
theorem k0_off26_inb : ∀ (v655 : BitVec 32) (k0_hw26 : k0_chk26 v655), ∀ a, (k0_off26 v655) a + S1x2x7168.size a ≤ S32x256x7168.size a := fun v655 k0_hw26 => k0_hw26.1
theorem k0_off26_wordsbf16 : ∀ (v655 : BitVec 32) (k0_hw26 : k0_chk26 v655), (Rect.unit (s := S32x256x7168) (k0_off26 v655) S1x2x7168.size (k0_off26_inb v655 k0_hw26)).WholeWords (EltTy.packing .bf16) := fun v655 k0_hw26 => k0_hw26.2.1 (k0_off26_inb v655 k0_hw26)
theorem k0_off26_leadingbf16 : ∀ (v655 : BitVec 32) (k0_hw26 : k0_chk26 v655), (Rect.unit (s := S32x256x7168) (k0_off26 v655) S1x2x7168.size (k0_off26_inb v655 k0_hw26)).LeadingBlock := fun v655 k0_hw26 => k0_hw26.2.2 (k0_off26_inb v655 k0_hw26)

def k0_off27 (v678 : BitVec 32) : Fin 3 → Nat :=
  let c26_i32 : BitVec 32 := 26#32
  let c1_i32_367 : BitVec 32 := 1#32
  let v679 : BitVec 32 := Scalar.subi v678 c1_i32_367
  let c0_i32_369 : BitVec 32 := 0#32
  let v681 : BitVec 1 := Scalar.cmpi .sgt v679 c0_i32_369
  let v682 : BitVec 32 := Scalar.extui v681
  let c0_i32_370 : BitVec 32 := 0#32
  let v683 : BitVec 1 := Scalar.cmpi .slt v679 c0_i32_370
  let v684 : BitVec 32 := Scalar.extui v683
  let v685 : BitVec 32 := Scalar.subi v682 v684
  let c2_i32_368 : BitVec 32 := 2#32
  let c0_i32_371 : BitVec 32 := 0#32
  let v686 : BitVec 1 := Scalar.cmpi .sgt c2_i32_368 c0_i32_371
  let v687 : BitVec 32 := Scalar.extui v686
  let c0_i32_372 : BitVec 32 := 0#32
  let v688 : BitVec 1 := Scalar.cmpi .slt c2_i32_368 c0_i32_372
  let v689 : BitVec 32 := Scalar.extui v688
  let v690 : BitVec 32 := Scalar.subi v687 v689
  let v691 : BitVec 1 := Scalar.cmpi .ne v685 v690
  let v692 : BitVec 32 := Scalar.remsi v679 c2_i32_368
  let c0_i32_373 : BitVec 32 := 0#32
  let v693 : BitVec 1 := Scalar.cmpi .ne v692 c0_i32_373
  let v694 : BitVec 1 := Scalar.andi v691 v693
  let v680 : BitVec 32 := Scalar.divsi v679 c2_i32_368
  let c1_i32_374 : BitVec 32 := 1#32
  let v695 : BitVec 32 := Scalar.subi v680 c1_i32_374
  let v696 : BitVec 32 := Scalar.select v694 v695 v680
  let c0_i32_377 : BitVec 32 := 0#32
  ![26, Nat.mul 2 v696.toNat, 0]

def k0_chk27 (v678 : BitVec 32) : Prop :=
  (∀ a, (k0_off27 v678) a + S1x2x7168.size a ≤ S32x256x7168.size a) ∧
  (∀ (hinb : ∀ a, (k0_off27 v678) a + S1x2x7168.size a ≤ S32x256x7168.size a), (Rect.unit (s := S32x256x7168) (k0_off27 v678) S1x2x7168.size hinb).WholeWords (EltTy.packing .bf16)) ∧
  (∀ (hinb : ∀ a, (k0_off27 v678) a + S1x2x7168.size a ≤ S32x256x7168.size a), (Rect.unit (s := S32x256x7168) (k0_off27 v678) S1x2x7168.size hinb).LeadingBlock)
theorem k0_off27_inb : ∀ (v678 : BitVec 32) (k0_hw27 : k0_chk27 v678), ∀ a, (k0_off27 v678) a + S1x2x7168.size a ≤ S32x256x7168.size a := fun v678 k0_hw27 => k0_hw27.1
theorem k0_off27_wordsbf16 : ∀ (v678 : BitVec 32) (k0_hw27 : k0_chk27 v678), (Rect.unit (s := S32x256x7168) (k0_off27 v678) S1x2x7168.size (k0_off27_inb v678 k0_hw27)).WholeWords (EltTy.packing .bf16) := fun v678 k0_hw27 => k0_hw27.2.1 (k0_off27_inb v678 k0_hw27)
theorem k0_off27_leadingbf16 : ∀ (v678 : BitVec 32) (k0_hw27 : k0_chk27 v678), (Rect.unit (s := S32x256x7168) (k0_off27 v678) S1x2x7168.size (k0_off27_inb v678 k0_hw27)).LeadingBlock := fun v678 k0_hw27 => k0_hw27.2.2 (k0_off27_inb v678 k0_hw27)

def k0_off28 (v701 : BitVec 32) : Fin 3 → Nat :=
  let c27_i32 : BitVec 32 := 27#32
  let c1_i32_378 : BitVec 32 := 1#32
  let v702 : BitVec 32 := Scalar.subi v701 c1_i32_378
  let c0_i32_380 : BitVec 32 := 0#32
  let v704 : BitVec 1 := Scalar.cmpi .sgt v702 c0_i32_380
  let v705 : BitVec 32 := Scalar.extui v704
  let c0_i32_381 : BitVec 32 := 0#32
  let v706 : BitVec 1 := Scalar.cmpi .slt v702 c0_i32_381
  let v707 : BitVec 32 := Scalar.extui v706
  let v708 : BitVec 32 := Scalar.subi v705 v707
  let c2_i32_379 : BitVec 32 := 2#32
  let c0_i32_382 : BitVec 32 := 0#32
  let v709 : BitVec 1 := Scalar.cmpi .sgt c2_i32_379 c0_i32_382
  let v710 : BitVec 32 := Scalar.extui v709
  let c0_i32_383 : BitVec 32 := 0#32
  let v711 : BitVec 1 := Scalar.cmpi .slt c2_i32_379 c0_i32_383
  let v712 : BitVec 32 := Scalar.extui v711
  let v713 : BitVec 32 := Scalar.subi v710 v712
  let v714 : BitVec 1 := Scalar.cmpi .ne v708 v713
  let v715 : BitVec 32 := Scalar.remsi v702 c2_i32_379
  let c0_i32_384 : BitVec 32 := 0#32
  let v716 : BitVec 1 := Scalar.cmpi .ne v715 c0_i32_384
  let v717 : BitVec 1 := Scalar.andi v714 v716
  let v703 : BitVec 32 := Scalar.divsi v702 c2_i32_379
  let c1_i32_385 : BitVec 32 := 1#32
  let v718 : BitVec 32 := Scalar.subi v703 c1_i32_385
  let v719 : BitVec 32 := Scalar.select v717 v718 v703
  let c0_i32_388 : BitVec 32 := 0#32
  ![27, Nat.mul 2 v719.toNat, 0]

def k0_chk28 (v701 : BitVec 32) : Prop :=
  (∀ a, (k0_off28 v701) a + S1x2x7168.size a ≤ S32x256x7168.size a) ∧
  (∀ (hinb : ∀ a, (k0_off28 v701) a + S1x2x7168.size a ≤ S32x256x7168.size a), (Rect.unit (s := S32x256x7168) (k0_off28 v701) S1x2x7168.size hinb).WholeWords (EltTy.packing .bf16)) ∧
  (∀ (hinb : ∀ a, (k0_off28 v701) a + S1x2x7168.size a ≤ S32x256x7168.size a), (Rect.unit (s := S32x256x7168) (k0_off28 v701) S1x2x7168.size hinb).LeadingBlock)
theorem k0_off28_inb : ∀ (v701 : BitVec 32) (k0_hw28 : k0_chk28 v701), ∀ a, (k0_off28 v701) a + S1x2x7168.size a ≤ S32x256x7168.size a := fun v701 k0_hw28 => k0_hw28.1
theorem k0_off28_wordsbf16 : ∀ (v701 : BitVec 32) (k0_hw28 : k0_chk28 v701), (Rect.unit (s := S32x256x7168) (k0_off28 v701) S1x2x7168.size (k0_off28_inb v701 k0_hw28)).WholeWords (EltTy.packing .bf16) := fun v701 k0_hw28 => k0_hw28.2.1 (k0_off28_inb v701 k0_hw28)
theorem k0_off28_leadingbf16 : ∀ (v701 : BitVec 32) (k0_hw28 : k0_chk28 v701), (Rect.unit (s := S32x256x7168) (k0_off28 v701) S1x2x7168.size (k0_off28_inb v701 k0_hw28)).LeadingBlock := fun v701 k0_hw28 => k0_hw28.2.2 (k0_off28_inb v701 k0_hw28)

def k0_off29 (v724 : BitVec 32) : Fin 3 → Nat :=
  let c28_i32 : BitVec 32 := 28#32
  let c1_i32_389 : BitVec 32 := 1#32
  let v725 : BitVec 32 := Scalar.subi v724 c1_i32_389
  let c0_i32_391 : BitVec 32 := 0#32
  let v727 : BitVec 1 := Scalar.cmpi .sgt v725 c0_i32_391
  let v728 : BitVec 32 := Scalar.extui v727
  let c0_i32_392 : BitVec 32 := 0#32
  let v729 : BitVec 1 := Scalar.cmpi .slt v725 c0_i32_392
  let v730 : BitVec 32 := Scalar.extui v729
  let v731 : BitVec 32 := Scalar.subi v728 v730
  let c2_i32_390 : BitVec 32 := 2#32
  let c0_i32_393 : BitVec 32 := 0#32
  let v732 : BitVec 1 := Scalar.cmpi .sgt c2_i32_390 c0_i32_393
  let v733 : BitVec 32 := Scalar.extui v732
  let c0_i32_394 : BitVec 32 := 0#32
  let v734 : BitVec 1 := Scalar.cmpi .slt c2_i32_390 c0_i32_394
  let v735 : BitVec 32 := Scalar.extui v734
  let v736 : BitVec 32 := Scalar.subi v733 v735
  let v737 : BitVec 1 := Scalar.cmpi .ne v731 v736
  let v738 : BitVec 32 := Scalar.remsi v725 c2_i32_390
  let c0_i32_395 : BitVec 32 := 0#32
  let v739 : BitVec 1 := Scalar.cmpi .ne v738 c0_i32_395
  let v740 : BitVec 1 := Scalar.andi v737 v739
  let v726 : BitVec 32 := Scalar.divsi v725 c2_i32_390
  let c1_i32_396 : BitVec 32 := 1#32
  let v741 : BitVec 32 := Scalar.subi v726 c1_i32_396
  let v742 : BitVec 32 := Scalar.select v740 v741 v726
  let c0_i32_399 : BitVec 32 := 0#32
  ![28, Nat.mul 2 v742.toNat, 0]

def k0_chk29 (v724 : BitVec 32) : Prop :=
  (∀ a, (k0_off29 v724) a + S1x2x7168.size a ≤ S32x256x7168.size a) ∧
  (∀ (hinb : ∀ a, (k0_off29 v724) a + S1x2x7168.size a ≤ S32x256x7168.size a), (Rect.unit (s := S32x256x7168) (k0_off29 v724) S1x2x7168.size hinb).WholeWords (EltTy.packing .bf16)) ∧
  (∀ (hinb : ∀ a, (k0_off29 v724) a + S1x2x7168.size a ≤ S32x256x7168.size a), (Rect.unit (s := S32x256x7168) (k0_off29 v724) S1x2x7168.size hinb).LeadingBlock)
theorem k0_off29_inb : ∀ (v724 : BitVec 32) (k0_hw29 : k0_chk29 v724), ∀ a, (k0_off29 v724) a + S1x2x7168.size a ≤ S32x256x7168.size a := fun v724 k0_hw29 => k0_hw29.1
theorem k0_off29_wordsbf16 : ∀ (v724 : BitVec 32) (k0_hw29 : k0_chk29 v724), (Rect.unit (s := S32x256x7168) (k0_off29 v724) S1x2x7168.size (k0_off29_inb v724 k0_hw29)).WholeWords (EltTy.packing .bf16) := fun v724 k0_hw29 => k0_hw29.2.1 (k0_off29_inb v724 k0_hw29)
theorem k0_off29_leadingbf16 : ∀ (v724 : BitVec 32) (k0_hw29 : k0_chk29 v724), (Rect.unit (s := S32x256x7168) (k0_off29 v724) S1x2x7168.size (k0_off29_inb v724 k0_hw29)).LeadingBlock := fun v724 k0_hw29 => k0_hw29.2.2 (k0_off29_inb v724 k0_hw29)

def k0_off30 (v747 : BitVec 32) : Fin 3 → Nat :=
  let c29_i32 : BitVec 32 := 29#32
  let c1_i32_400 : BitVec 32 := 1#32
  let v748 : BitVec 32 := Scalar.subi v747 c1_i32_400
  let c0_i32_402 : BitVec 32 := 0#32
  let v750 : BitVec 1 := Scalar.cmpi .sgt v748 c0_i32_402
  let v751 : BitVec 32 := Scalar.extui v750
  let c0_i32_403 : BitVec 32 := 0#32
  let v752 : BitVec 1 := Scalar.cmpi .slt v748 c0_i32_403
  let v753 : BitVec 32 := Scalar.extui v752
  let v754 : BitVec 32 := Scalar.subi v751 v753
  let c2_i32_401 : BitVec 32 := 2#32
  let c0_i32_404 : BitVec 32 := 0#32
  let v755 : BitVec 1 := Scalar.cmpi .sgt c2_i32_401 c0_i32_404
  let v756 : BitVec 32 := Scalar.extui v755
  let c0_i32_405 : BitVec 32 := 0#32
  let v757 : BitVec 1 := Scalar.cmpi .slt c2_i32_401 c0_i32_405
  let v758 : BitVec 32 := Scalar.extui v757
  let v759 : BitVec 32 := Scalar.subi v756 v758
  let v760 : BitVec 1 := Scalar.cmpi .ne v754 v759
  let v761 : BitVec 32 := Scalar.remsi v748 c2_i32_401
  let c0_i32_406 : BitVec 32 := 0#32
  let v762 : BitVec 1 := Scalar.cmpi .ne v761 c0_i32_406
  let v763 : BitVec 1 := Scalar.andi v760 v762
  let v749 : BitVec 32 := Scalar.divsi v748 c2_i32_401
  let c1_i32_407 : BitVec 32 := 1#32
  let v764 : BitVec 32 := Scalar.subi v749 c1_i32_407
  let v765 : BitVec 32 := Scalar.select v763 v764 v749
  let c0_i32_410 : BitVec 32 := 0#32
  ![29, Nat.mul 2 v765.toNat, 0]

def k0_chk30 (v747 : BitVec 32) : Prop :=
  (∀ a, (k0_off30 v747) a + S1x2x7168.size a ≤ S32x256x7168.size a) ∧
  (∀ (hinb : ∀ a, (k0_off30 v747) a + S1x2x7168.size a ≤ S32x256x7168.size a), (Rect.unit (s := S32x256x7168) (k0_off30 v747) S1x2x7168.size hinb).WholeWords (EltTy.packing .bf16)) ∧
  (∀ (hinb : ∀ a, (k0_off30 v747) a + S1x2x7168.size a ≤ S32x256x7168.size a), (Rect.unit (s := S32x256x7168) (k0_off30 v747) S1x2x7168.size hinb).LeadingBlock)
theorem k0_off30_inb : ∀ (v747 : BitVec 32) (k0_hw30 : k0_chk30 v747), ∀ a, (k0_off30 v747) a + S1x2x7168.size a ≤ S32x256x7168.size a := fun v747 k0_hw30 => k0_hw30.1
theorem k0_off30_wordsbf16 : ∀ (v747 : BitVec 32) (k0_hw30 : k0_chk30 v747), (Rect.unit (s := S32x256x7168) (k0_off30 v747) S1x2x7168.size (k0_off30_inb v747 k0_hw30)).WholeWords (EltTy.packing .bf16) := fun v747 k0_hw30 => k0_hw30.2.1 (k0_off30_inb v747 k0_hw30)
theorem k0_off30_leadingbf16 : ∀ (v747 : BitVec 32) (k0_hw30 : k0_chk30 v747), (Rect.unit (s := S32x256x7168) (k0_off30 v747) S1x2x7168.size (k0_off30_inb v747 k0_hw30)).LeadingBlock := fun v747 k0_hw30 => k0_hw30.2.2 (k0_off30_inb v747 k0_hw30)

def k0_off31 (v770 : BitVec 32) : Fin 3 → Nat :=
  let c30_i32 : BitVec 32 := 30#32
  let c1_i32_411 : BitVec 32 := 1#32
  let v771 : BitVec 32 := Scalar.subi v770 c1_i32_411
  let c0_i32_413 : BitVec 32 := 0#32
  let v773 : BitVec 1 := Scalar.cmpi .sgt v771 c0_i32_413
  let v774 : BitVec 32 := Scalar.extui v773
  let c0_i32_414 : BitVec 32 := 0#32
  let v775 : BitVec 1 := Scalar.cmpi .slt v771 c0_i32_414
  let v776 : BitVec 32 := Scalar.extui v775
  let v777 : BitVec 32 := Scalar.subi v774 v776
  let c2_i32_412 : BitVec 32 := 2#32
  let c0_i32_415 : BitVec 32 := 0#32
  let v778 : BitVec 1 := Scalar.cmpi .sgt c2_i32_412 c0_i32_415
  let v779 : BitVec 32 := Scalar.extui v778
  let c0_i32_416 : BitVec 32 := 0#32
  let v780 : BitVec 1 := Scalar.cmpi .slt c2_i32_412 c0_i32_416
  let v781 : BitVec 32 := Scalar.extui v780
  let v782 : BitVec 32 := Scalar.subi v779 v781
  let v783 : BitVec 1 := Scalar.cmpi .ne v777 v782
  let v784 : BitVec 32 := Scalar.remsi v771 c2_i32_412
  let c0_i32_417 : BitVec 32 := 0#32
  let v785 : BitVec 1 := Scalar.cmpi .ne v784 c0_i32_417
  let v786 : BitVec 1 := Scalar.andi v783 v785
  let v772 : BitVec 32 := Scalar.divsi v771 c2_i32_412
  let c1_i32_418 : BitVec 32 := 1#32
  let v787 : BitVec 32 := Scalar.subi v772 c1_i32_418
  let v788 : BitVec 32 := Scalar.select v786 v787 v772
  let c0_i32_421 : BitVec 32 := 0#32
  ![30, Nat.mul 2 v788.toNat, 0]

def k0_chk31 (v770 : BitVec 32) : Prop :=
  (∀ a, (k0_off31 v770) a + S1x2x7168.size a ≤ S32x256x7168.size a) ∧
  (∀ (hinb : ∀ a, (k0_off31 v770) a + S1x2x7168.size a ≤ S32x256x7168.size a), (Rect.unit (s := S32x256x7168) (k0_off31 v770) S1x2x7168.size hinb).WholeWords (EltTy.packing .bf16)) ∧
  (∀ (hinb : ∀ a, (k0_off31 v770) a + S1x2x7168.size a ≤ S32x256x7168.size a), (Rect.unit (s := S32x256x7168) (k0_off31 v770) S1x2x7168.size hinb).LeadingBlock)
theorem k0_off31_inb : ∀ (v770 : BitVec 32) (k0_hw31 : k0_chk31 v770), ∀ a, (k0_off31 v770) a + S1x2x7168.size a ≤ S32x256x7168.size a := fun v770 k0_hw31 => k0_hw31.1
theorem k0_off31_wordsbf16 : ∀ (v770 : BitVec 32) (k0_hw31 : k0_chk31 v770), (Rect.unit (s := S32x256x7168) (k0_off31 v770) S1x2x7168.size (k0_off31_inb v770 k0_hw31)).WholeWords (EltTy.packing .bf16) := fun v770 k0_hw31 => k0_hw31.2.1 (k0_off31_inb v770 k0_hw31)
theorem k0_off31_leadingbf16 : ∀ (v770 : BitVec 32) (k0_hw31 : k0_chk31 v770), (Rect.unit (s := S32x256x7168) (k0_off31 v770) S1x2x7168.size (k0_off31_inb v770 k0_hw31)).LeadingBlock := fun v770 k0_hw31 => k0_hw31.2.2 (k0_off31_inb v770 k0_hw31)

def k0_off32 (v793 : BitVec 32) : Fin 3 → Nat :=
  let c31_i32 : BitVec 32 := 31#32
  let c1_i32_422 : BitVec 32 := 1#32
  let v794 : BitVec 32 := Scalar.subi v793 c1_i32_422
  let c0_i32_424 : BitVec 32 := 0#32
  let v796 : BitVec 1 := Scalar.cmpi .sgt v794 c0_i32_424
  let v797 : BitVec 32 := Scalar.extui v796
  let c0_i32_425 : BitVec 32 := 0#32
  let v798 : BitVec 1 := Scalar.cmpi .slt v794 c0_i32_425
  let v799 : BitVec 32 := Scalar.extui v798
  let v800 : BitVec 32 := Scalar.subi v797 v799
  let c2_i32_423 : BitVec 32 := 2#32
  let c0_i32_426 : BitVec 32 := 0#32
  let v801 : BitVec 1 := Scalar.cmpi .sgt c2_i32_423 c0_i32_426
  let v802 : BitVec 32 := Scalar.extui v801
  let c0_i32_427 : BitVec 32 := 0#32
  let v803 : BitVec 1 := Scalar.cmpi .slt c2_i32_423 c0_i32_427
  let v804 : BitVec 32 := Scalar.extui v803
  let v805 : BitVec 32 := Scalar.subi v802 v804
  let v806 : BitVec 1 := Scalar.cmpi .ne v800 v805
  let v807 : BitVec 32 := Scalar.remsi v794 c2_i32_423
  let c0_i32_428 : BitVec 32 := 0#32
  let v808 : BitVec 1 := Scalar.cmpi .ne v807 c0_i32_428
  let v809 : BitVec 1 := Scalar.andi v806 v808
  let v795 : BitVec 32 := Scalar.divsi v794 c2_i32_423
  let c1_i32_429 : BitVec 32 := 1#32
  let v810 : BitVec 32 := Scalar.subi v795 c1_i32_429
  let v811 : BitVec 32 := Scalar.select v809 v810 v795
  let c0_i32_432 : BitVec 32 := 0#32
  ![31, Nat.mul 2 v811.toNat, 0]

def k0_chk32 (v793 : BitVec 32) : Prop :=
  (∀ a, (k0_off32 v793) a + S1x2x7168.size a ≤ S32x256x7168.size a) ∧
  (∀ (hinb : ∀ a, (k0_off32 v793) a + S1x2x7168.size a ≤ S32x256x7168.size a), (Rect.unit (s := S32x256x7168) (k0_off32 v793) S1x2x7168.size hinb).WholeWords (EltTy.packing .bf16)) ∧
  (∀ (hinb : ∀ a, (k0_off32 v793) a + S1x2x7168.size a ≤ S32x256x7168.size a), (Rect.unit (s := S32x256x7168) (k0_off32 v793) S1x2x7168.size hinb).LeadingBlock)
theorem k0_off32_inb : ∀ (v793 : BitVec 32) (k0_hw32 : k0_chk32 v793), ∀ a, (k0_off32 v793) a + S1x2x7168.size a ≤ S32x256x7168.size a := fun v793 k0_hw32 => k0_hw32.1
theorem k0_off32_wordsbf16 : ∀ (v793 : BitVec 32) (k0_hw32 : k0_chk32 v793), (Rect.unit (s := S32x256x7168) (k0_off32 v793) S1x2x7168.size (k0_off32_inb v793 k0_hw32)).WholeWords (EltTy.packing .bf16) := fun v793 k0_hw32 => k0_hw32.2.1 (k0_off32_inb v793 k0_hw32)
theorem k0_off32_leadingbf16 : ∀ (v793 : BitVec 32) (k0_hw32 : k0_chk32 v793), (Rect.unit (s := S32x256x7168) (k0_off32 v793) S1x2x7168.size (k0_off32_inb v793 k0_hw32)).LeadingBlock := fun v793 k0_hw32 => k0_hw32.2.2 (k0_off32_inb v793 k0_hw32)

def k0_off33 (v816 : BitVec 32) : Fin 3 → Nat :=
  let c0_i32_442 : BitVec 32 := 0#32
  let c1_i32_434 : BitVec 32 := 1#32
  let v817 : BitVec 32 := Scalar.subi v816 c1_i32_434
  let c0_i32_436 : BitVec 32 := 0#32
  let v819 : BitVec 1 := Scalar.cmpi .sgt v817 c0_i32_436
  let v820 : BitVec 32 := Scalar.extui v819
  let c0_i32_437 : BitVec 32 := 0#32
  let v821 : BitVec 1 := Scalar.cmpi .slt v817 c0_i32_437
  let v822 : BitVec 32 := Scalar.extui v821
  let v823 : BitVec 32 := Scalar.subi v820 v822
  let c2_i32_435 : BitVec 32 := 2#32
  let c0_i32_438 : BitVec 32 := 0#32
  let v824 : BitVec 1 := Scalar.cmpi .sgt c2_i32_435 c0_i32_438
  let v825 : BitVec 32 := Scalar.extui v824
  let c0_i32_439 : BitVec 32 := 0#32
  let v826 : BitVec 1 := Scalar.cmpi .slt c2_i32_435 c0_i32_439
  let v827 : BitVec 32 := Scalar.extui v826
  let v828 : BitVec 32 := Scalar.subi v825 v827
  let v829 : BitVec 1 := Scalar.cmpi .ne v823 v828
  let v830 : BitVec 32 := Scalar.remsi v817 c2_i32_435
  let c0_i32_440 : BitVec 32 := 0#32
  let v831 : BitVec 1 := Scalar.cmpi .ne v830 c0_i32_440
  let v832 : BitVec 1 := Scalar.andi v829 v831
  let v818 : BitVec 32 := Scalar.divsi v817 c2_i32_435
  let c1_i32_441 : BitVec 32 := 1#32
  let v833 : BitVec 32 := Scalar.subi v818 c1_i32_441
  let v834 : BitVec 32 := Scalar.select v832 v833 v818
  let c0_i32_445 : BitVec 32 := 0#32
  ![0, Nat.mul 2 v834.toNat, 0]

def k0_chk33 (v816 : BitVec 32) : Prop :=
  (∀ a, (k0_off33 v816) a + S1x2x7168.size a ≤ S32x256x7168.size a) ∧
  (∀ (hinb : ∀ a, (k0_off33 v816) a + S1x2x7168.size a ≤ S32x256x7168.size a), (Rect.unit (s := S32x256x7168) (k0_off33 v816) S1x2x7168.size hinb).WholeWords (EltTy.packing .bf16))
theorem k0_off33_inb : ∀ (v816 : BitVec 32) (k0_hw33 : k0_chk33 v816), ∀ a, (k0_off33 v816) a + S1x2x7168.size a ≤ S32x256x7168.size a := fun v816 k0_hw33 => k0_hw33.1
theorem k0_off33_wordsbf16 : ∀ (v816 : BitVec 32) (k0_hw33 : k0_chk33 v816), (Rect.unit (s := S32x256x7168) (k0_off33 v816) S1x2x7168.size (k0_off33_inb v816 k0_hw33)).WholeWords (EltTy.packing .bf16) := fun v816 k0_hw33 => k0_hw33.2 (k0_off33_inb v816 k0_hw33)

def k0_off34 (v839 : BitVec 32) : Fin 3 → Nat :=
  let c1_i32_455 : BitVec 32 := 1#32
  let c1_i32_447 : BitVec 32 := 1#32
  let v840 : BitVec 32 := Scalar.subi v839 c1_i32_447
  let c0_i32_449 : BitVec 32 := 0#32
  let v842 : BitVec 1 := Scalar.cmpi .sgt v840 c0_i32_449
  let v843 : BitVec 32 := Scalar.extui v842
  let c0_i32_450 : BitVec 32 := 0#32
  let v844 : BitVec 1 := Scalar.cmpi .slt v840 c0_i32_450
  let v845 : BitVec 32 := Scalar.extui v844
  let v846 : BitVec 32 := Scalar.subi v843 v845
  let c2_i32_448 : BitVec 32 := 2#32
  let c0_i32_451 : BitVec 32 := 0#32
  let v847 : BitVec 1 := Scalar.cmpi .sgt c2_i32_448 c0_i32_451
  let v848 : BitVec 32 := Scalar.extui v847
  let c0_i32_452 : BitVec 32 := 0#32
  let v849 : BitVec 1 := Scalar.cmpi .slt c2_i32_448 c0_i32_452
  let v850 : BitVec 32 := Scalar.extui v849
  let v851 : BitVec 32 := Scalar.subi v848 v850
  let v852 : BitVec 1 := Scalar.cmpi .ne v846 v851
  let v853 : BitVec 32 := Scalar.remsi v840 c2_i32_448
  let c0_i32_453 : BitVec 32 := 0#32
  let v854 : BitVec 1 := Scalar.cmpi .ne v853 c0_i32_453
  let v855 : BitVec 1 := Scalar.andi v852 v854
  let v841 : BitVec 32 := Scalar.divsi v840 c2_i32_448
  let c1_i32_454 : BitVec 32 := 1#32
  let v856 : BitVec 32 := Scalar.subi v841 c1_i32_454
  let v857 : BitVec 32 := Scalar.select v855 v856 v841
  let c0_i32_458 : BitVec 32 := 0#32
  ![1, Nat.mul 2 v857.toNat, 0]

def k0_chk34 (v839 : BitVec 32) : Prop :=
  (∀ a, (k0_off34 v839) a + S1x2x7168.size a ≤ S32x256x7168.size a) ∧
  (∀ (hinb : ∀ a, (k0_off34 v839) a + S1x2x7168.size a ≤ S32x256x7168.size a), (Rect.unit (s := S32x256x7168) (k0_off34 v839) S1x2x7168.size hinb).WholeWords (EltTy.packing .bf16))
theorem k0_off34_inb : ∀ (v839 : BitVec 32) (k0_hw34 : k0_chk34 v839), ∀ a, (k0_off34 v839) a + S1x2x7168.size a ≤ S32x256x7168.size a := fun v839 k0_hw34 => k0_hw34.1
theorem k0_off34_wordsbf16 : ∀ (v839 : BitVec 32) (k0_hw34 : k0_chk34 v839), (Rect.unit (s := S32x256x7168) (k0_off34 v839) S1x2x7168.size (k0_off34_inb v839 k0_hw34)).WholeWords (EltTy.packing .bf16) := fun v839 k0_hw34 => k0_hw34.2 (k0_off34_inb v839 k0_hw34)

def k0_off35 (v862 : BitVec 32) : Fin 3 → Nat :=
  let c2_i32_468 : BitVec 32 := 2#32
  let c1_i32_460 : BitVec 32 := 1#32
  let v863 : BitVec 32 := Scalar.subi v862 c1_i32_460
  let c0_i32_462 : BitVec 32 := 0#32
  let v865 : BitVec 1 := Scalar.cmpi .sgt v863 c0_i32_462
  let v866 : BitVec 32 := Scalar.extui v865
  let c0_i32_463 : BitVec 32 := 0#32
  let v867 : BitVec 1 := Scalar.cmpi .slt v863 c0_i32_463
  let v868 : BitVec 32 := Scalar.extui v867
  let v869 : BitVec 32 := Scalar.subi v866 v868
  let c2_i32_461 : BitVec 32 := 2#32
  let c0_i32_464 : BitVec 32 := 0#32
  let v870 : BitVec 1 := Scalar.cmpi .sgt c2_i32_461 c0_i32_464
  let v871 : BitVec 32 := Scalar.extui v870
  let c0_i32_465 : BitVec 32 := 0#32
  let v872 : BitVec 1 := Scalar.cmpi .slt c2_i32_461 c0_i32_465
  let v873 : BitVec 32 := Scalar.extui v872
  let v874 : BitVec 32 := Scalar.subi v871 v873
  let v875 : BitVec 1 := Scalar.cmpi .ne v869 v874
  let v876 : BitVec 32 := Scalar.remsi v863 c2_i32_461
  let c0_i32_466 : BitVec 32 := 0#32
  let v877 : BitVec 1 := Scalar.cmpi .ne v876 c0_i32_466
  let v878 : BitVec 1 := Scalar.andi v875 v877
  let v864 : BitVec 32 := Scalar.divsi v863 c2_i32_461
  let c1_i32_467 : BitVec 32 := 1#32
  let v879 : BitVec 32 := Scalar.subi v864 c1_i32_467
  let v880 : BitVec 32 := Scalar.select v878 v879 v864
  let c0_i32_471 : BitVec 32 := 0#32
  ![2, Nat.mul 2 v880.toNat, 0]

def k0_chk35 (v862 : BitVec 32) : Prop :=
  (∀ a, (k0_off35 v862) a + S1x2x7168.size a ≤ S32x256x7168.size a) ∧
  (∀ (hinb : ∀ a, (k0_off35 v862) a + S1x2x7168.size a ≤ S32x256x7168.size a), (Rect.unit (s := S32x256x7168) (k0_off35 v862) S1x2x7168.size hinb).WholeWords (EltTy.packing .bf16))
theorem k0_off35_inb : ∀ (v862 : BitVec 32) (k0_hw35 : k0_chk35 v862), ∀ a, (k0_off35 v862) a + S1x2x7168.size a ≤ S32x256x7168.size a := fun v862 k0_hw35 => k0_hw35.1
theorem k0_off35_wordsbf16 : ∀ (v862 : BitVec 32) (k0_hw35 : k0_chk35 v862), (Rect.unit (s := S32x256x7168) (k0_off35 v862) S1x2x7168.size (k0_off35_inb v862 k0_hw35)).WholeWords (EltTy.packing .bf16) := fun v862 k0_hw35 => k0_hw35.2 (k0_off35_inb v862 k0_hw35)

def k0_off36 (v885 : BitVec 32) : Fin 3 → Nat :=
  let c3_i32_481 : BitVec 32 := 3#32
  let c1_i32_473 : BitVec 32 := 1#32
  let v886 : BitVec 32 := Scalar.subi v885 c1_i32_473
  let c0_i32_475 : BitVec 32 := 0#32
  let v888 : BitVec 1 := Scalar.cmpi .sgt v886 c0_i32_475
  let v889 : BitVec 32 := Scalar.extui v888
  let c0_i32_476 : BitVec 32 := 0#32
  let v890 : BitVec 1 := Scalar.cmpi .slt v886 c0_i32_476
  let v891 : BitVec 32 := Scalar.extui v890
  let v892 : BitVec 32 := Scalar.subi v889 v891
  let c2_i32_474 : BitVec 32 := 2#32
  let c0_i32_477 : BitVec 32 := 0#32
  let v893 : BitVec 1 := Scalar.cmpi .sgt c2_i32_474 c0_i32_477
  let v894 : BitVec 32 := Scalar.extui v893
  let c0_i32_478 : BitVec 32 := 0#32
  let v895 : BitVec 1 := Scalar.cmpi .slt c2_i32_474 c0_i32_478
  let v896 : BitVec 32 := Scalar.extui v895
  let v897 : BitVec 32 := Scalar.subi v894 v896
  let v898 : BitVec 1 := Scalar.cmpi .ne v892 v897
  let v899 : BitVec 32 := Scalar.remsi v886 c2_i32_474
  let c0_i32_479 : BitVec 32 := 0#32
  let v900 : BitVec 1 := Scalar.cmpi .ne v899 c0_i32_479
  let v901 : BitVec 1 := Scalar.andi v898 v900
  let v887 : BitVec 32 := Scalar.divsi v886 c2_i32_474
  let c1_i32_480 : BitVec 32 := 1#32
  let v902 : BitVec 32 := Scalar.subi v887 c1_i32_480
  let v903 : BitVec 32 := Scalar.select v901 v902 v887
  let c0_i32_484 : BitVec 32 := 0#32
  ![3, Nat.mul 2 v903.toNat, 0]

def k0_chk36 (v885 : BitVec 32) : Prop :=
  (∀ a, (k0_off36 v885) a + S1x2x7168.size a ≤ S32x256x7168.size a) ∧
  (∀ (hinb : ∀ a, (k0_off36 v885) a + S1x2x7168.size a ≤ S32x256x7168.size a), (Rect.unit (s := S32x256x7168) (k0_off36 v885) S1x2x7168.size hinb).WholeWords (EltTy.packing .bf16))
theorem k0_off36_inb : ∀ (v885 : BitVec 32) (k0_hw36 : k0_chk36 v885), ∀ a, (k0_off36 v885) a + S1x2x7168.size a ≤ S32x256x7168.size a := fun v885 k0_hw36 => k0_hw36.1
theorem k0_off36_wordsbf16 : ∀ (v885 : BitVec 32) (k0_hw36 : k0_chk36 v885), (Rect.unit (s := S32x256x7168) (k0_off36 v885) S1x2x7168.size (k0_off36_inb v885 k0_hw36)).WholeWords (EltTy.packing .bf16) := fun v885 k0_hw36 => k0_hw36.2 (k0_off36_inb v885 k0_hw36)

def k0_off37 (v908 : BitVec 32) : Fin 3 → Nat :=
  let c4_i32_494 : BitVec 32 := 4#32
  let c1_i32_486 : BitVec 32 := 1#32
  let v909 : BitVec 32 := Scalar.subi v908 c1_i32_486
  let c0_i32_488 : BitVec 32 := 0#32
  let v911 : BitVec 1 := Scalar.cmpi .sgt v909 c0_i32_488
  let v912 : BitVec 32 := Scalar.extui v911
  let c0_i32_489 : BitVec 32 := 0#32
  let v913 : BitVec 1 := Scalar.cmpi .slt v909 c0_i32_489
  let v914 : BitVec 32 := Scalar.extui v913
  let v915 : BitVec 32 := Scalar.subi v912 v914
  let c2_i32_487 : BitVec 32 := 2#32
  let c0_i32_490 : BitVec 32 := 0#32
  let v916 : BitVec 1 := Scalar.cmpi .sgt c2_i32_487 c0_i32_490
  let v917 : BitVec 32 := Scalar.extui v916
  let c0_i32_491 : BitVec 32 := 0#32
  let v918 : BitVec 1 := Scalar.cmpi .slt c2_i32_487 c0_i32_491
  let v919 : BitVec 32 := Scalar.extui v918
  let v920 : BitVec 32 := Scalar.subi v917 v919
  let v921 : BitVec 1 := Scalar.cmpi .ne v915 v920
  let v922 : BitVec 32 := Scalar.remsi v909 c2_i32_487
  let c0_i32_492 : BitVec 32 := 0#32
  let v923 : BitVec 1 := Scalar.cmpi .ne v922 c0_i32_492
  let v924 : BitVec 1 := Scalar.andi v921 v923
  let v910 : BitVec 32 := Scalar.divsi v909 c2_i32_487
  let c1_i32_493 : BitVec 32 := 1#32
  let v925 : BitVec 32 := Scalar.subi v910 c1_i32_493
  let v926 : BitVec 32 := Scalar.select v924 v925 v910
  let c0_i32_497 : BitVec 32 := 0#32
  ![4, Nat.mul 2 v926.toNat, 0]

def k0_chk37 (v908 : BitVec 32) : Prop :=
  (∀ a, (k0_off37 v908) a + S1x2x7168.size a ≤ S32x256x7168.size a) ∧
  (∀ (hinb : ∀ a, (k0_off37 v908) a + S1x2x7168.size a ≤ S32x256x7168.size a), (Rect.unit (s := S32x256x7168) (k0_off37 v908) S1x2x7168.size hinb).WholeWords (EltTy.packing .bf16))
theorem k0_off37_inb : ∀ (v908 : BitVec 32) (k0_hw37 : k0_chk37 v908), ∀ a, (k0_off37 v908) a + S1x2x7168.size a ≤ S32x256x7168.size a := fun v908 k0_hw37 => k0_hw37.1
theorem k0_off37_wordsbf16 : ∀ (v908 : BitVec 32) (k0_hw37 : k0_chk37 v908), (Rect.unit (s := S32x256x7168) (k0_off37 v908) S1x2x7168.size (k0_off37_inb v908 k0_hw37)).WholeWords (EltTy.packing .bf16) := fun v908 k0_hw37 => k0_hw37.2 (k0_off37_inb v908 k0_hw37)

def k0_off38 (v931 : BitVec 32) : Fin 3 → Nat :=
  let c5_i32_507 : BitVec 32 := 5#32
  let c1_i32_499 : BitVec 32 := 1#32
  let v932 : BitVec 32 := Scalar.subi v931 c1_i32_499
  let c0_i32_501 : BitVec 32 := 0#32
  let v934 : BitVec 1 := Scalar.cmpi .sgt v932 c0_i32_501
  let v935 : BitVec 32 := Scalar.extui v934
  let c0_i32_502 : BitVec 32 := 0#32
  let v936 : BitVec 1 := Scalar.cmpi .slt v932 c0_i32_502
  let v937 : BitVec 32 := Scalar.extui v936
  let v938 : BitVec 32 := Scalar.subi v935 v937
  let c2_i32_500 : BitVec 32 := 2#32
  let c0_i32_503 : BitVec 32 := 0#32
  let v939 : BitVec 1 := Scalar.cmpi .sgt c2_i32_500 c0_i32_503
  let v940 : BitVec 32 := Scalar.extui v939
  let c0_i32_504 : BitVec 32 := 0#32
  let v941 : BitVec 1 := Scalar.cmpi .slt c2_i32_500 c0_i32_504
  let v942 : BitVec 32 := Scalar.extui v941
  let v943 : BitVec 32 := Scalar.subi v940 v942
  let v944 : BitVec 1 := Scalar.cmpi .ne v938 v943
  let v945 : BitVec 32 := Scalar.remsi v932 c2_i32_500
  let c0_i32_505 : BitVec 32 := 0#32
  let v946 : BitVec 1 := Scalar.cmpi .ne v945 c0_i32_505
  let v947 : BitVec 1 := Scalar.andi v944 v946
  let v933 : BitVec 32 := Scalar.divsi v932 c2_i32_500
  let c1_i32_506 : BitVec 32 := 1#32
  let v948 : BitVec 32 := Scalar.subi v933 c1_i32_506
  let v949 : BitVec 32 := Scalar.select v947 v948 v933
  let c0_i32_510 : BitVec 32 := 0#32
  ![5, Nat.mul 2 v949.toNat, 0]

def k0_chk38 (v931 : BitVec 32) : Prop :=
  (∀ a, (k0_off38 v931) a + S1x2x7168.size a ≤ S32x256x7168.size a) ∧
  (∀ (hinb : ∀ a, (k0_off38 v931) a + S1x2x7168.size a ≤ S32x256x7168.size a), (Rect.unit (s := S32x256x7168) (k0_off38 v931) S1x2x7168.size hinb).WholeWords (EltTy.packing .bf16))
theorem k0_off38_inb : ∀ (v931 : BitVec 32) (k0_hw38 : k0_chk38 v931), ∀ a, (k0_off38 v931) a + S1x2x7168.size a ≤ S32x256x7168.size a := fun v931 k0_hw38 => k0_hw38.1
theorem k0_off38_wordsbf16 : ∀ (v931 : BitVec 32) (k0_hw38 : k0_chk38 v931), (Rect.unit (s := S32x256x7168) (k0_off38 v931) S1x2x7168.size (k0_off38_inb v931 k0_hw38)).WholeWords (EltTy.packing .bf16) := fun v931 k0_hw38 => k0_hw38.2 (k0_off38_inb v931 k0_hw38)

def k0_off39 (v954 : BitVec 32) : Fin 3 → Nat :=
  let c6_i32_520 : BitVec 32 := 6#32
  let c1_i32_512 : BitVec 32 := 1#32
  let v955 : BitVec 32 := Scalar.subi v954 c1_i32_512
  let c0_i32_514 : BitVec 32 := 0#32
  let v957 : BitVec 1 := Scalar.cmpi .sgt v955 c0_i32_514
  let v958 : BitVec 32 := Scalar.extui v957
  let c0_i32_515 : BitVec 32 := 0#32
  let v959 : BitVec 1 := Scalar.cmpi .slt v955 c0_i32_515
  let v960 : BitVec 32 := Scalar.extui v959
  let v961 : BitVec 32 := Scalar.subi v958 v960
  let c2_i32_513 : BitVec 32 := 2#32
  let c0_i32_516 : BitVec 32 := 0#32
  let v962 : BitVec 1 := Scalar.cmpi .sgt c2_i32_513 c0_i32_516
  let v963 : BitVec 32 := Scalar.extui v962
  let c0_i32_517 : BitVec 32 := 0#32
  let v964 : BitVec 1 := Scalar.cmpi .slt c2_i32_513 c0_i32_517
  let v965 : BitVec 32 := Scalar.extui v964
  let v966 : BitVec 32 := Scalar.subi v963 v965
  let v967 : BitVec 1 := Scalar.cmpi .ne v961 v966
  let v968 : BitVec 32 := Scalar.remsi v955 c2_i32_513
  let c0_i32_518 : BitVec 32 := 0#32
  let v969 : BitVec 1 := Scalar.cmpi .ne v968 c0_i32_518
  let v970 : BitVec 1 := Scalar.andi v967 v969
  let v956 : BitVec 32 := Scalar.divsi v955 c2_i32_513
  let c1_i32_519 : BitVec 32 := 1#32
  let v971 : BitVec 32 := Scalar.subi v956 c1_i32_519
  let v972 : BitVec 32 := Scalar.select v970 v971 v956
  let c0_i32_523 : BitVec 32 := 0#32
  ![6, Nat.mul 2 v972.toNat, 0]

def k0_chk39 (v954 : BitVec 32) : Prop :=
  (∀ a, (k0_off39 v954) a + S1x2x7168.size a ≤ S32x256x7168.size a) ∧
  (∀ (hinb : ∀ a, (k0_off39 v954) a + S1x2x7168.size a ≤ S32x256x7168.size a), (Rect.unit (s := S32x256x7168) (k0_off39 v954) S1x2x7168.size hinb).WholeWords (EltTy.packing .bf16))
theorem k0_off39_inb : ∀ (v954 : BitVec 32) (k0_hw39 : k0_chk39 v954), ∀ a, (k0_off39 v954) a + S1x2x7168.size a ≤ S32x256x7168.size a := fun v954 k0_hw39 => k0_hw39.1
theorem k0_off39_wordsbf16 : ∀ (v954 : BitVec 32) (k0_hw39 : k0_chk39 v954), (Rect.unit (s := S32x256x7168) (k0_off39 v954) S1x2x7168.size (k0_off39_inb v954 k0_hw39)).WholeWords (EltTy.packing .bf16) := fun v954 k0_hw39 => k0_hw39.2 (k0_off39_inb v954 k0_hw39)

def k0_off40 (v977 : BitVec 32) : Fin 3 → Nat :=
  let c7_i32_533 : BitVec 32 := 7#32
  let c1_i32_525 : BitVec 32 := 1#32
  let v978 : BitVec 32 := Scalar.subi v977 c1_i32_525
  let c0_i32_527 : BitVec 32 := 0#32
  let v980 : BitVec 1 := Scalar.cmpi .sgt v978 c0_i32_527
  let v981 : BitVec 32 := Scalar.extui v980
  let c0_i32_528 : BitVec 32 := 0#32
  let v982 : BitVec 1 := Scalar.cmpi .slt v978 c0_i32_528
  let v983 : BitVec 32 := Scalar.extui v982
  let v984 : BitVec 32 := Scalar.subi v981 v983
  let c2_i32_526 : BitVec 32 := 2#32
  let c0_i32_529 : BitVec 32 := 0#32
  let v985 : BitVec 1 := Scalar.cmpi .sgt c2_i32_526 c0_i32_529
  let v986 : BitVec 32 := Scalar.extui v985
  let c0_i32_530 : BitVec 32 := 0#32
  let v987 : BitVec 1 := Scalar.cmpi .slt c2_i32_526 c0_i32_530
  let v988 : BitVec 32 := Scalar.extui v987
  let v989 : BitVec 32 := Scalar.subi v986 v988
  let v990 : BitVec 1 := Scalar.cmpi .ne v984 v989
  let v991 : BitVec 32 := Scalar.remsi v978 c2_i32_526
  let c0_i32_531 : BitVec 32 := 0#32
  let v992 : BitVec 1 := Scalar.cmpi .ne v991 c0_i32_531
  let v993 : BitVec 1 := Scalar.andi v990 v992
  let v979 : BitVec 32 := Scalar.divsi v978 c2_i32_526
  let c1_i32_532 : BitVec 32 := 1#32
  let v994 : BitVec 32 := Scalar.subi v979 c1_i32_532
  let v995 : BitVec 32 := Scalar.select v993 v994 v979
  let c0_i32_536 : BitVec 32 := 0#32
  ![7, Nat.mul 2 v995.toNat, 0]

def k0_chk40 (v977 : BitVec 32) : Prop :=
  (∀ a, (k0_off40 v977) a + S1x2x7168.size a ≤ S32x256x7168.size a) ∧
  (∀ (hinb : ∀ a, (k0_off40 v977) a + S1x2x7168.size a ≤ S32x256x7168.size a), (Rect.unit (s := S32x256x7168) (k0_off40 v977) S1x2x7168.size hinb).WholeWords (EltTy.packing .bf16))
theorem k0_off40_inb : ∀ (v977 : BitVec 32) (k0_hw40 : k0_chk40 v977), ∀ a, (k0_off40 v977) a + S1x2x7168.size a ≤ S32x256x7168.size a := fun v977 k0_hw40 => k0_hw40.1
theorem k0_off40_wordsbf16 : ∀ (v977 : BitVec 32) (k0_hw40 : k0_chk40 v977), (Rect.unit (s := S32x256x7168) (k0_off40 v977) S1x2x7168.size (k0_off40_inb v977 k0_hw40)).WholeWords (EltTy.packing .bf16) := fun v977 k0_hw40 => k0_hw40.2 (k0_off40_inb v977 k0_hw40)

def k0_off41 (v1000 : BitVec 32) : Fin 3 → Nat :=
  let c8_i32_546 : BitVec 32 := 8#32
  let c1_i32_538 : BitVec 32 := 1#32
  let v1001 : BitVec 32 := Scalar.subi v1000 c1_i32_538
  let c0_i32_540 : BitVec 32 := 0#32
  let v1003 : BitVec 1 := Scalar.cmpi .sgt v1001 c0_i32_540
  let v1004 : BitVec 32 := Scalar.extui v1003
  let c0_i32_541 : BitVec 32 := 0#32
  let v1005 : BitVec 1 := Scalar.cmpi .slt v1001 c0_i32_541
  let v1006 : BitVec 32 := Scalar.extui v1005
  let v1007 : BitVec 32 := Scalar.subi v1004 v1006
  let c2_i32_539 : BitVec 32 := 2#32
  let c0_i32_542 : BitVec 32 := 0#32
  let v1008 : BitVec 1 := Scalar.cmpi .sgt c2_i32_539 c0_i32_542
  let v1009 : BitVec 32 := Scalar.extui v1008
  let c0_i32_543 : BitVec 32 := 0#32
  let v1010 : BitVec 1 := Scalar.cmpi .slt c2_i32_539 c0_i32_543
  let v1011 : BitVec 32 := Scalar.extui v1010
  let v1012 : BitVec 32 := Scalar.subi v1009 v1011
  let v1013 : BitVec 1 := Scalar.cmpi .ne v1007 v1012
  let v1014 : BitVec 32 := Scalar.remsi v1001 c2_i32_539
  let c0_i32_544 : BitVec 32 := 0#32
  let v1015 : BitVec 1 := Scalar.cmpi .ne v1014 c0_i32_544
  let v1016 : BitVec 1 := Scalar.andi v1013 v1015
  let v1002 : BitVec 32 := Scalar.divsi v1001 c2_i32_539
  let c1_i32_545 : BitVec 32 := 1#32
  let v1017 : BitVec 32 := Scalar.subi v1002 c1_i32_545
  let v1018 : BitVec 32 := Scalar.select v1016 v1017 v1002
  let c0_i32_549 : BitVec 32 := 0#32
  ![8, Nat.mul 2 v1018.toNat, 0]

def k0_chk41 (v1000 : BitVec 32) : Prop :=
  (∀ a, (k0_off41 v1000) a + S1x2x7168.size a ≤ S32x256x7168.size a) ∧
  (∀ (hinb : ∀ a, (k0_off41 v1000) a + S1x2x7168.size a ≤ S32x256x7168.size a), (Rect.unit (s := S32x256x7168) (k0_off41 v1000) S1x2x7168.size hinb).WholeWords (EltTy.packing .bf16))
theorem k0_off41_inb : ∀ (v1000 : BitVec 32) (k0_hw41 : k0_chk41 v1000), ∀ a, (k0_off41 v1000) a + S1x2x7168.size a ≤ S32x256x7168.size a := fun v1000 k0_hw41 => k0_hw41.1
theorem k0_off41_wordsbf16 : ∀ (v1000 : BitVec 32) (k0_hw41 : k0_chk41 v1000), (Rect.unit (s := S32x256x7168) (k0_off41 v1000) S1x2x7168.size (k0_off41_inb v1000 k0_hw41)).WholeWords (EltTy.packing .bf16) := fun v1000 k0_hw41 => k0_hw41.2 (k0_off41_inb v1000 k0_hw41)

def k0_off42 (v1023 : BitVec 32) : Fin 3 → Nat :=
  let c9_i32_559 : BitVec 32 := 9#32
  let c1_i32_551 : BitVec 32 := 1#32
  let v1024 : BitVec 32 := Scalar.subi v1023 c1_i32_551
  let c0_i32_553 : BitVec 32 := 0#32
  let v1026 : BitVec 1 := Scalar.cmpi .sgt v1024 c0_i32_553
  let v1027 : BitVec 32 := Scalar.extui v1026
  let c0_i32_554 : BitVec 32 := 0#32
  let v1028 : BitVec 1 := Scalar.cmpi .slt v1024 c0_i32_554
  let v1029 : BitVec 32 := Scalar.extui v1028
  let v1030 : BitVec 32 := Scalar.subi v1027 v1029
  let c2_i32_552 : BitVec 32 := 2#32
  let c0_i32_555 : BitVec 32 := 0#32
  let v1031 : BitVec 1 := Scalar.cmpi .sgt c2_i32_552 c0_i32_555
  let v1032 : BitVec 32 := Scalar.extui v1031
  let c0_i32_556 : BitVec 32 := 0#32
  let v1033 : BitVec 1 := Scalar.cmpi .slt c2_i32_552 c0_i32_556
  let v1034 : BitVec 32 := Scalar.extui v1033
  let v1035 : BitVec 32 := Scalar.subi v1032 v1034
  let v1036 : BitVec 1 := Scalar.cmpi .ne v1030 v1035
  let v1037 : BitVec 32 := Scalar.remsi v1024 c2_i32_552
  let c0_i32_557 : BitVec 32 := 0#32
  let v1038 : BitVec 1 := Scalar.cmpi .ne v1037 c0_i32_557
  let v1039 : BitVec 1 := Scalar.andi v1036 v1038
  let v1025 : BitVec 32 := Scalar.divsi v1024 c2_i32_552
  let c1_i32_558 : BitVec 32 := 1#32
  let v1040 : BitVec 32 := Scalar.subi v1025 c1_i32_558
  let v1041 : BitVec 32 := Scalar.select v1039 v1040 v1025
  let c0_i32_562 : BitVec 32 := 0#32
  ![9, Nat.mul 2 v1041.toNat, 0]

def k0_chk42 (v1023 : BitVec 32) : Prop :=
  (∀ a, (k0_off42 v1023) a + S1x2x7168.size a ≤ S32x256x7168.size a) ∧
  (∀ (hinb : ∀ a, (k0_off42 v1023) a + S1x2x7168.size a ≤ S32x256x7168.size a), (Rect.unit (s := S32x256x7168) (k0_off42 v1023) S1x2x7168.size hinb).WholeWords (EltTy.packing .bf16))
theorem k0_off42_inb : ∀ (v1023 : BitVec 32) (k0_hw42 : k0_chk42 v1023), ∀ a, (k0_off42 v1023) a + S1x2x7168.size a ≤ S32x256x7168.size a := fun v1023 k0_hw42 => k0_hw42.1
theorem k0_off42_wordsbf16 : ∀ (v1023 : BitVec 32) (k0_hw42 : k0_chk42 v1023), (Rect.unit (s := S32x256x7168) (k0_off42 v1023) S1x2x7168.size (k0_off42_inb v1023 k0_hw42)).WholeWords (EltTy.packing .bf16) := fun v1023 k0_hw42 => k0_hw42.2 (k0_off42_inb v1023 k0_hw42)

def k0_off43 (v1046 : BitVec 32) : Fin 3 → Nat :=
  let c10_i32_572 : BitVec 32 := 10#32
  let c1_i32_564 : BitVec 32 := 1#32
  let v1047 : BitVec 32 := Scalar.subi v1046 c1_i32_564
  let c0_i32_566 : BitVec 32 := 0#32
  let v1049 : BitVec 1 := Scalar.cmpi .sgt v1047 c0_i32_566
  let v1050 : BitVec 32 := Scalar.extui v1049
  let c0_i32_567 : BitVec 32 := 0#32
  let v1051 : BitVec 1 := Scalar.cmpi .slt v1047 c0_i32_567
  let v1052 : BitVec 32 := Scalar.extui v1051
  let v1053 : BitVec 32 := Scalar.subi v1050 v1052
  let c2_i32_565 : BitVec 32 := 2#32
  let c0_i32_568 : BitVec 32 := 0#32
  let v1054 : BitVec 1 := Scalar.cmpi .sgt c2_i32_565 c0_i32_568
  let v1055 : BitVec 32 := Scalar.extui v1054
  let c0_i32_569 : BitVec 32 := 0#32
  let v1056 : BitVec 1 := Scalar.cmpi .slt c2_i32_565 c0_i32_569
  let v1057 : BitVec 32 := Scalar.extui v1056
  let v1058 : BitVec 32 := Scalar.subi v1055 v1057
  let v1059 : BitVec 1 := Scalar.cmpi .ne v1053 v1058
  let v1060 : BitVec 32 := Scalar.remsi v1047 c2_i32_565
  let c0_i32_570 : BitVec 32 := 0#32
  let v1061 : BitVec 1 := Scalar.cmpi .ne v1060 c0_i32_570
  let v1062 : BitVec 1 := Scalar.andi v1059 v1061
  let v1048 : BitVec 32 := Scalar.divsi v1047 c2_i32_565
  let c1_i32_571 : BitVec 32 := 1#32
  let v1063 : BitVec 32 := Scalar.subi v1048 c1_i32_571
  let v1064 : BitVec 32 := Scalar.select v1062 v1063 v1048
  let c0_i32_575 : BitVec 32 := 0#32
  ![10, Nat.mul 2 v1064.toNat, 0]

def k0_chk43 (v1046 : BitVec 32) : Prop :=
  (∀ a, (k0_off43 v1046) a + S1x2x7168.size a ≤ S32x256x7168.size a) ∧
  (∀ (hinb : ∀ a, (k0_off43 v1046) a + S1x2x7168.size a ≤ S32x256x7168.size a), (Rect.unit (s := S32x256x7168) (k0_off43 v1046) S1x2x7168.size hinb).WholeWords (EltTy.packing .bf16))
theorem k0_off43_inb : ∀ (v1046 : BitVec 32) (k0_hw43 : k0_chk43 v1046), ∀ a, (k0_off43 v1046) a + S1x2x7168.size a ≤ S32x256x7168.size a := fun v1046 k0_hw43 => k0_hw43.1
theorem k0_off43_wordsbf16 : ∀ (v1046 : BitVec 32) (k0_hw43 : k0_chk43 v1046), (Rect.unit (s := S32x256x7168) (k0_off43 v1046) S1x2x7168.size (k0_off43_inb v1046 k0_hw43)).WholeWords (EltTy.packing .bf16) := fun v1046 k0_hw43 => k0_hw43.2 (k0_off43_inb v1046 k0_hw43)

def k0_off44 (v1069 : BitVec 32) : Fin 3 → Nat :=
  let c11_i32_585 : BitVec 32 := 11#32
  let c1_i32_577 : BitVec 32 := 1#32
  let v1070 : BitVec 32 := Scalar.subi v1069 c1_i32_577
  let c0_i32_579 : BitVec 32 := 0#32
  let v1072 : BitVec 1 := Scalar.cmpi .sgt v1070 c0_i32_579
  let v1073 : BitVec 32 := Scalar.extui v1072
  let c0_i32_580 : BitVec 32 := 0#32
  let v1074 : BitVec 1 := Scalar.cmpi .slt v1070 c0_i32_580
  let v1075 : BitVec 32 := Scalar.extui v1074
  let v1076 : BitVec 32 := Scalar.subi v1073 v1075
  let c2_i32_578 : BitVec 32 := 2#32
  let c0_i32_581 : BitVec 32 := 0#32
  let v1077 : BitVec 1 := Scalar.cmpi .sgt c2_i32_578 c0_i32_581
  let v1078 : BitVec 32 := Scalar.extui v1077
  let c0_i32_582 : BitVec 32 := 0#32
  let v1079 : BitVec 1 := Scalar.cmpi .slt c2_i32_578 c0_i32_582
  let v1080 : BitVec 32 := Scalar.extui v1079
  let v1081 : BitVec 32 := Scalar.subi v1078 v1080
  let v1082 : BitVec 1 := Scalar.cmpi .ne v1076 v1081
  let v1083 : BitVec 32 := Scalar.remsi v1070 c2_i32_578
  let c0_i32_583 : BitVec 32 := 0#32
  let v1084 : BitVec 1 := Scalar.cmpi .ne v1083 c0_i32_583
  let v1085 : BitVec 1 := Scalar.andi v1082 v1084
  let v1071 : BitVec 32 := Scalar.divsi v1070 c2_i32_578
  let c1_i32_584 : BitVec 32 := 1#32
  let v1086 : BitVec 32 := Scalar.subi v1071 c1_i32_584
  let v1087 : BitVec 32 := Scalar.select v1085 v1086 v1071
  let c0_i32_588 : BitVec 32 := 0#32
  ![11, Nat.mul 2 v1087.toNat, 0]

def k0_chk44 (v1069 : BitVec 32) : Prop :=
  (∀ a, (k0_off44 v1069) a + S1x2x7168.size a ≤ S32x256x7168.size a) ∧
  (∀ (hinb : ∀ a, (k0_off44 v1069) a + S1x2x7168.size a ≤ S32x256x7168.size a), (Rect.unit (s := S32x256x7168) (k0_off44 v1069) S1x2x7168.size hinb).WholeWords (EltTy.packing .bf16))
theorem k0_off44_inb : ∀ (v1069 : BitVec 32) (k0_hw44 : k0_chk44 v1069), ∀ a, (k0_off44 v1069) a + S1x2x7168.size a ≤ S32x256x7168.size a := fun v1069 k0_hw44 => k0_hw44.1
theorem k0_off44_wordsbf16 : ∀ (v1069 : BitVec 32) (k0_hw44 : k0_chk44 v1069), (Rect.unit (s := S32x256x7168) (k0_off44 v1069) S1x2x7168.size (k0_off44_inb v1069 k0_hw44)).WholeWords (EltTy.packing .bf16) := fun v1069 k0_hw44 => k0_hw44.2 (k0_off44_inb v1069 k0_hw44)

def k0_off45 (v1092 : BitVec 32) : Fin 3 → Nat :=
  let c12_i32_598 : BitVec 32 := 12#32
  let c1_i32_590 : BitVec 32 := 1#32
  let v1093 : BitVec 32 := Scalar.subi v1092 c1_i32_590
  let c0_i32_592 : BitVec 32 := 0#32
  let v1095 : BitVec 1 := Scalar.cmpi .sgt v1093 c0_i32_592
  let v1096 : BitVec 32 := Scalar.extui v1095
  let c0_i32_593 : BitVec 32 := 0#32
  let v1097 : BitVec 1 := Scalar.cmpi .slt v1093 c0_i32_593
  let v1098 : BitVec 32 := Scalar.extui v1097
  let v1099 : BitVec 32 := Scalar.subi v1096 v1098
  let c2_i32_591 : BitVec 32 := 2#32
  let c0_i32_594 : BitVec 32 := 0#32
  let v1100 : BitVec 1 := Scalar.cmpi .sgt c2_i32_591 c0_i32_594
  let v1101 : BitVec 32 := Scalar.extui v1100
  let c0_i32_595 : BitVec 32 := 0#32
  let v1102 : BitVec 1 := Scalar.cmpi .slt c2_i32_591 c0_i32_595
  let v1103 : BitVec 32 := Scalar.extui v1102
  let v1104 : BitVec 32 := Scalar.subi v1101 v1103
  let v1105 : BitVec 1 := Scalar.cmpi .ne v1099 v1104
  let v1106 : BitVec 32 := Scalar.remsi v1093 c2_i32_591
  let c0_i32_596 : BitVec 32 := 0#32
  let v1107 : BitVec 1 := Scalar.cmpi .ne v1106 c0_i32_596
  let v1108 : BitVec 1 := Scalar.andi v1105 v1107
  let v1094 : BitVec 32 := Scalar.divsi v1093 c2_i32_591
  let c1_i32_597 : BitVec 32 := 1#32
  let v1109 : BitVec 32 := Scalar.subi v1094 c1_i32_597
  let v1110 : BitVec 32 := Scalar.select v1108 v1109 v1094
  let c0_i32_601 : BitVec 32 := 0#32
  ![12, Nat.mul 2 v1110.toNat, 0]

def k0_chk45 (v1092 : BitVec 32) : Prop :=
  (∀ a, (k0_off45 v1092) a + S1x2x7168.size a ≤ S32x256x7168.size a) ∧
  (∀ (hinb : ∀ a, (k0_off45 v1092) a + S1x2x7168.size a ≤ S32x256x7168.size a), (Rect.unit (s := S32x256x7168) (k0_off45 v1092) S1x2x7168.size hinb).WholeWords (EltTy.packing .bf16))
theorem k0_off45_inb : ∀ (v1092 : BitVec 32) (k0_hw45 : k0_chk45 v1092), ∀ a, (k0_off45 v1092) a + S1x2x7168.size a ≤ S32x256x7168.size a := fun v1092 k0_hw45 => k0_hw45.1
theorem k0_off45_wordsbf16 : ∀ (v1092 : BitVec 32) (k0_hw45 : k0_chk45 v1092), (Rect.unit (s := S32x256x7168) (k0_off45 v1092) S1x2x7168.size (k0_off45_inb v1092 k0_hw45)).WholeWords (EltTy.packing .bf16) := fun v1092 k0_hw45 => k0_hw45.2 (k0_off45_inb v1092 k0_hw45)

def k0_off46 (v1115 : BitVec 32) : Fin 3 → Nat :=
  let c13_i32_611 : BitVec 32 := 13#32
  let c1_i32_603 : BitVec 32 := 1#32
  let v1116 : BitVec 32 := Scalar.subi v1115 c1_i32_603
  let c0_i32_605 : BitVec 32 := 0#32
  let v1118 : BitVec 1 := Scalar.cmpi .sgt v1116 c0_i32_605
  let v1119 : BitVec 32 := Scalar.extui v1118
  let c0_i32_606 : BitVec 32 := 0#32
  let v1120 : BitVec 1 := Scalar.cmpi .slt v1116 c0_i32_606
  let v1121 : BitVec 32 := Scalar.extui v1120
  let v1122 : BitVec 32 := Scalar.subi v1119 v1121
  let c2_i32_604 : BitVec 32 := 2#32
  let c0_i32_607 : BitVec 32 := 0#32
  let v1123 : BitVec 1 := Scalar.cmpi .sgt c2_i32_604 c0_i32_607
  let v1124 : BitVec 32 := Scalar.extui v1123
  let c0_i32_608 : BitVec 32 := 0#32
  let v1125 : BitVec 1 := Scalar.cmpi .slt c2_i32_604 c0_i32_608
  let v1126 : BitVec 32 := Scalar.extui v1125
  let v1127 : BitVec 32 := Scalar.subi v1124 v1126
  let v1128 : BitVec 1 := Scalar.cmpi .ne v1122 v1127
  let v1129 : BitVec 32 := Scalar.remsi v1116 c2_i32_604
  let c0_i32_609 : BitVec 32 := 0#32
  let v1130 : BitVec 1 := Scalar.cmpi .ne v1129 c0_i32_609
  let v1131 : BitVec 1 := Scalar.andi v1128 v1130
  let v1117 : BitVec 32 := Scalar.divsi v1116 c2_i32_604
  let c1_i32_610 : BitVec 32 := 1#32
  let v1132 : BitVec 32 := Scalar.subi v1117 c1_i32_610
  let v1133 : BitVec 32 := Scalar.select v1131 v1132 v1117
  let c0_i32_614 : BitVec 32 := 0#32
  ![13, Nat.mul 2 v1133.toNat, 0]

def k0_chk46 (v1115 : BitVec 32) : Prop :=
  (∀ a, (k0_off46 v1115) a + S1x2x7168.size a ≤ S32x256x7168.size a) ∧
  (∀ (hinb : ∀ a, (k0_off46 v1115) a + S1x2x7168.size a ≤ S32x256x7168.size a), (Rect.unit (s := S32x256x7168) (k0_off46 v1115) S1x2x7168.size hinb).WholeWords (EltTy.packing .bf16))
theorem k0_off46_inb : ∀ (v1115 : BitVec 32) (k0_hw46 : k0_chk46 v1115), ∀ a, (k0_off46 v1115) a + S1x2x7168.size a ≤ S32x256x7168.size a := fun v1115 k0_hw46 => k0_hw46.1
theorem k0_off46_wordsbf16 : ∀ (v1115 : BitVec 32) (k0_hw46 : k0_chk46 v1115), (Rect.unit (s := S32x256x7168) (k0_off46 v1115) S1x2x7168.size (k0_off46_inb v1115 k0_hw46)).WholeWords (EltTy.packing .bf16) := fun v1115 k0_hw46 => k0_hw46.2 (k0_off46_inb v1115 k0_hw46)

def k0_off47 (v1138 : BitVec 32) : Fin 3 → Nat :=
  let c14_i32_624 : BitVec 32 := 14#32
  let c1_i32_616 : BitVec 32 := 1#32
  let v1139 : BitVec 32 := Scalar.subi v1138 c1_i32_616
  let c0_i32_618 : BitVec 32 := 0#32
  let v1141 : BitVec 1 := Scalar.cmpi .sgt v1139 c0_i32_618
  let v1142 : BitVec 32 := Scalar.extui v1141
  let c0_i32_619 : BitVec 32 := 0#32
  let v1143 : BitVec 1 := Scalar.cmpi .slt v1139 c0_i32_619
  let v1144 : BitVec 32 := Scalar.extui v1143
  let v1145 : BitVec 32 := Scalar.subi v1142 v1144
  let c2_i32_617 : BitVec 32 := 2#32
  let c0_i32_620 : BitVec 32 := 0#32
  let v1146 : BitVec 1 := Scalar.cmpi .sgt c2_i32_617 c0_i32_620
  let v1147 : BitVec 32 := Scalar.extui v1146
  let c0_i32_621 : BitVec 32 := 0#32
  let v1148 : BitVec 1 := Scalar.cmpi .slt c2_i32_617 c0_i32_621
  let v1149 : BitVec 32 := Scalar.extui v1148
  let v1150 : BitVec 32 := Scalar.subi v1147 v1149
  let v1151 : BitVec 1 := Scalar.cmpi .ne v1145 v1150
  let v1152 : BitVec 32 := Scalar.remsi v1139 c2_i32_617
  let c0_i32_622 : BitVec 32 := 0#32
  let v1153 : BitVec 1 := Scalar.cmpi .ne v1152 c0_i32_622
  let v1154 : BitVec 1 := Scalar.andi v1151 v1153
  let v1140 : BitVec 32 := Scalar.divsi v1139 c2_i32_617
  let c1_i32_623 : BitVec 32 := 1#32
  let v1155 : BitVec 32 := Scalar.subi v1140 c1_i32_623
  let v1156 : BitVec 32 := Scalar.select v1154 v1155 v1140
  let c0_i32_627 : BitVec 32 := 0#32
  ![14, Nat.mul 2 v1156.toNat, 0]

def k0_chk47 (v1138 : BitVec 32) : Prop :=
  (∀ a, (k0_off47 v1138) a + S1x2x7168.size a ≤ S32x256x7168.size a) ∧
  (∀ (hinb : ∀ a, (k0_off47 v1138) a + S1x2x7168.size a ≤ S32x256x7168.size a), (Rect.unit (s := S32x256x7168) (k0_off47 v1138) S1x2x7168.size hinb).WholeWords (EltTy.packing .bf16))
theorem k0_off47_inb : ∀ (v1138 : BitVec 32) (k0_hw47 : k0_chk47 v1138), ∀ a, (k0_off47 v1138) a + S1x2x7168.size a ≤ S32x256x7168.size a := fun v1138 k0_hw47 => k0_hw47.1
theorem k0_off47_wordsbf16 : ∀ (v1138 : BitVec 32) (k0_hw47 : k0_chk47 v1138), (Rect.unit (s := S32x256x7168) (k0_off47 v1138) S1x2x7168.size (k0_off47_inb v1138 k0_hw47)).WholeWords (EltTy.packing .bf16) := fun v1138 k0_hw47 => k0_hw47.2 (k0_off47_inb v1138 k0_hw47)

def k0_off48 (v1161 : BitVec 32) : Fin 3 → Nat :=
  let c15_i32_637 : BitVec 32 := 15#32
  let c1_i32_629 : BitVec 32 := 1#32
  let v1162 : BitVec 32 := Scalar.subi v1161 c1_i32_629
  let c0_i32_631 : BitVec 32 := 0#32
  let v1164 : BitVec 1 := Scalar.cmpi .sgt v1162 c0_i32_631
  let v1165 : BitVec 32 := Scalar.extui v1164
  let c0_i32_632 : BitVec 32 := 0#32
  let v1166 : BitVec 1 := Scalar.cmpi .slt v1162 c0_i32_632
  let v1167 : BitVec 32 := Scalar.extui v1166
  let v1168 : BitVec 32 := Scalar.subi v1165 v1167
  let c2_i32_630 : BitVec 32 := 2#32
  let c0_i32_633 : BitVec 32 := 0#32
  let v1169 : BitVec 1 := Scalar.cmpi .sgt c2_i32_630 c0_i32_633
  let v1170 : BitVec 32 := Scalar.extui v1169
  let c0_i32_634 : BitVec 32 := 0#32
  let v1171 : BitVec 1 := Scalar.cmpi .slt c2_i32_630 c0_i32_634
  let v1172 : BitVec 32 := Scalar.extui v1171
  let v1173 : BitVec 32 := Scalar.subi v1170 v1172
  let v1174 : BitVec 1 := Scalar.cmpi .ne v1168 v1173
  let v1175 : BitVec 32 := Scalar.remsi v1162 c2_i32_630
  let c0_i32_635 : BitVec 32 := 0#32
  let v1176 : BitVec 1 := Scalar.cmpi .ne v1175 c0_i32_635
  let v1177 : BitVec 1 := Scalar.andi v1174 v1176
  let v1163 : BitVec 32 := Scalar.divsi v1162 c2_i32_630
  let c1_i32_636 : BitVec 32 := 1#32
  let v1178 : BitVec 32 := Scalar.subi v1163 c1_i32_636
  let v1179 : BitVec 32 := Scalar.select v1177 v1178 v1163
  let c0_i32_640 : BitVec 32 := 0#32
  ![15, Nat.mul 2 v1179.toNat, 0]

def k0_chk48 (v1161 : BitVec 32) : Prop :=
  (∀ a, (k0_off48 v1161) a + S1x2x7168.size a ≤ S32x256x7168.size a) ∧
  (∀ (hinb : ∀ a, (k0_off48 v1161) a + S1x2x7168.size a ≤ S32x256x7168.size a), (Rect.unit (s := S32x256x7168) (k0_off48 v1161) S1x2x7168.size hinb).WholeWords (EltTy.packing .bf16))
theorem k0_off48_inb : ∀ (v1161 : BitVec 32) (k0_hw48 : k0_chk48 v1161), ∀ a, (k0_off48 v1161) a + S1x2x7168.size a ≤ S32x256x7168.size a := fun v1161 k0_hw48 => k0_hw48.1
theorem k0_off48_wordsbf16 : ∀ (v1161 : BitVec 32) (k0_hw48 : k0_chk48 v1161), (Rect.unit (s := S32x256x7168) (k0_off48 v1161) S1x2x7168.size (k0_off48_inb v1161 k0_hw48)).WholeWords (EltTy.packing .bf16) := fun v1161 k0_hw48 => k0_hw48.2 (k0_off48_inb v1161 k0_hw48)

def k0_off49 (v1184 : BitVec 32) : Fin 3 → Nat :=
  let c16_i32_650 : BitVec 32 := 16#32
  let c1_i32_642 : BitVec 32 := 1#32
  let v1185 : BitVec 32 := Scalar.subi v1184 c1_i32_642
  let c0_i32_644 : BitVec 32 := 0#32
  let v1187 : BitVec 1 := Scalar.cmpi .sgt v1185 c0_i32_644
  let v1188 : BitVec 32 := Scalar.extui v1187
  let c0_i32_645 : BitVec 32 := 0#32
  let v1189 : BitVec 1 := Scalar.cmpi .slt v1185 c0_i32_645
  let v1190 : BitVec 32 := Scalar.extui v1189
  let v1191 : BitVec 32 := Scalar.subi v1188 v1190
  let c2_i32_643 : BitVec 32 := 2#32
  let c0_i32_646 : BitVec 32 := 0#32
  let v1192 : BitVec 1 := Scalar.cmpi .sgt c2_i32_643 c0_i32_646
  let v1193 : BitVec 32 := Scalar.extui v1192
  let c0_i32_647 : BitVec 32 := 0#32
  let v1194 : BitVec 1 := Scalar.cmpi .slt c2_i32_643 c0_i32_647
  let v1195 : BitVec 32 := Scalar.extui v1194
  let v1196 : BitVec 32 := Scalar.subi v1193 v1195
  let v1197 : BitVec 1 := Scalar.cmpi .ne v1191 v1196
  let v1198 : BitVec 32 := Scalar.remsi v1185 c2_i32_643
  let c0_i32_648 : BitVec 32 := 0#32
  let v1199 : BitVec 1 := Scalar.cmpi .ne v1198 c0_i32_648
  let v1200 : BitVec 1 := Scalar.andi v1197 v1199
  let v1186 : BitVec 32 := Scalar.divsi v1185 c2_i32_643
  let c1_i32_649 : BitVec 32 := 1#32
  let v1201 : BitVec 32 := Scalar.subi v1186 c1_i32_649
  let v1202 : BitVec 32 := Scalar.select v1200 v1201 v1186
  let c0_i32_653 : BitVec 32 := 0#32
  ![16, Nat.mul 2 v1202.toNat, 0]

def k0_chk49 (v1184 : BitVec 32) : Prop :=
  (∀ a, (k0_off49 v1184) a + S1x2x7168.size a ≤ S32x256x7168.size a) ∧
  (∀ (hinb : ∀ a, (k0_off49 v1184) a + S1x2x7168.size a ≤ S32x256x7168.size a), (Rect.unit (s := S32x256x7168) (k0_off49 v1184) S1x2x7168.size hinb).WholeWords (EltTy.packing .bf16))
theorem k0_off49_inb : ∀ (v1184 : BitVec 32) (k0_hw49 : k0_chk49 v1184), ∀ a, (k0_off49 v1184) a + S1x2x7168.size a ≤ S32x256x7168.size a := fun v1184 k0_hw49 => k0_hw49.1
theorem k0_off49_wordsbf16 : ∀ (v1184 : BitVec 32) (k0_hw49 : k0_chk49 v1184), (Rect.unit (s := S32x256x7168) (k0_off49 v1184) S1x2x7168.size (k0_off49_inb v1184 k0_hw49)).WholeWords (EltTy.packing .bf16) := fun v1184 k0_hw49 => k0_hw49.2 (k0_off49_inb v1184 k0_hw49)

def k0_off50 (v1207 : BitVec 32) : Fin 3 → Nat :=
  let c17_i32_663 : BitVec 32 := 17#32
  let c1_i32_655 : BitVec 32 := 1#32
  let v1208 : BitVec 32 := Scalar.subi v1207 c1_i32_655
  let c0_i32_657 : BitVec 32 := 0#32
  let v1210 : BitVec 1 := Scalar.cmpi .sgt v1208 c0_i32_657
  let v1211 : BitVec 32 := Scalar.extui v1210
  let c0_i32_658 : BitVec 32 := 0#32
  let v1212 : BitVec 1 := Scalar.cmpi .slt v1208 c0_i32_658
  let v1213 : BitVec 32 := Scalar.extui v1212
  let v1214 : BitVec 32 := Scalar.subi v1211 v1213
  let c2_i32_656 : BitVec 32 := 2#32
  let c0_i32_659 : BitVec 32 := 0#32
  let v1215 : BitVec 1 := Scalar.cmpi .sgt c2_i32_656 c0_i32_659
  let v1216 : BitVec 32 := Scalar.extui v1215
  let c0_i32_660 : BitVec 32 := 0#32
  let v1217 : BitVec 1 := Scalar.cmpi .slt c2_i32_656 c0_i32_660
  let v1218 : BitVec 32 := Scalar.extui v1217
  let v1219 : BitVec 32 := Scalar.subi v1216 v1218
  let v1220 : BitVec 1 := Scalar.cmpi .ne v1214 v1219
  let v1221 : BitVec 32 := Scalar.remsi v1208 c2_i32_656
  let c0_i32_661 : BitVec 32 := 0#32
  let v1222 : BitVec 1 := Scalar.cmpi .ne v1221 c0_i32_661
  let v1223 : BitVec 1 := Scalar.andi v1220 v1222
  let v1209 : BitVec 32 := Scalar.divsi v1208 c2_i32_656
  let c1_i32_662 : BitVec 32 := 1#32
  let v1224 : BitVec 32 := Scalar.subi v1209 c1_i32_662
  let v1225 : BitVec 32 := Scalar.select v1223 v1224 v1209
  let c0_i32_666 : BitVec 32 := 0#32
  ![17, Nat.mul 2 v1225.toNat, 0]

def k0_chk50 (v1207 : BitVec 32) : Prop :=
  (∀ a, (k0_off50 v1207) a + S1x2x7168.size a ≤ S32x256x7168.size a) ∧
  (∀ (hinb : ∀ a, (k0_off50 v1207) a + S1x2x7168.size a ≤ S32x256x7168.size a), (Rect.unit (s := S32x256x7168) (k0_off50 v1207) S1x2x7168.size hinb).WholeWords (EltTy.packing .bf16))
theorem k0_off50_inb : ∀ (v1207 : BitVec 32) (k0_hw50 : k0_chk50 v1207), ∀ a, (k0_off50 v1207) a + S1x2x7168.size a ≤ S32x256x7168.size a := fun v1207 k0_hw50 => k0_hw50.1
theorem k0_off50_wordsbf16 : ∀ (v1207 : BitVec 32) (k0_hw50 : k0_chk50 v1207), (Rect.unit (s := S32x256x7168) (k0_off50 v1207) S1x2x7168.size (k0_off50_inb v1207 k0_hw50)).WholeWords (EltTy.packing .bf16) := fun v1207 k0_hw50 => k0_hw50.2 (k0_off50_inb v1207 k0_hw50)

def k0_off51 (v1230 : BitVec 32) : Fin 3 → Nat :=
  let c18_i32_676 : BitVec 32 := 18#32
  let c1_i32_668 : BitVec 32 := 1#32
  let v1231 : BitVec 32 := Scalar.subi v1230 c1_i32_668
  let c0_i32_670 : BitVec 32 := 0#32
  let v1233 : BitVec 1 := Scalar.cmpi .sgt v1231 c0_i32_670
  let v1234 : BitVec 32 := Scalar.extui v1233
  let c0_i32_671 : BitVec 32 := 0#32
  let v1235 : BitVec 1 := Scalar.cmpi .slt v1231 c0_i32_671
  let v1236 : BitVec 32 := Scalar.extui v1235
  let v1237 : BitVec 32 := Scalar.subi v1234 v1236
  let c2_i32_669 : BitVec 32 := 2#32
  let c0_i32_672 : BitVec 32 := 0#32
  let v1238 : BitVec 1 := Scalar.cmpi .sgt c2_i32_669 c0_i32_672
  let v1239 : BitVec 32 := Scalar.extui v1238
  let c0_i32_673 : BitVec 32 := 0#32
  let v1240 : BitVec 1 := Scalar.cmpi .slt c2_i32_669 c0_i32_673
  let v1241 : BitVec 32 := Scalar.extui v1240
  let v1242 : BitVec 32 := Scalar.subi v1239 v1241
  let v1243 : BitVec 1 := Scalar.cmpi .ne v1237 v1242
  let v1244 : BitVec 32 := Scalar.remsi v1231 c2_i32_669
  let c0_i32_674 : BitVec 32 := 0#32
  let v1245 : BitVec 1 := Scalar.cmpi .ne v1244 c0_i32_674
  let v1246 : BitVec 1 := Scalar.andi v1243 v1245
  let v1232 : BitVec 32 := Scalar.divsi v1231 c2_i32_669
  let c1_i32_675 : BitVec 32 := 1#32
  let v1247 : BitVec 32 := Scalar.subi v1232 c1_i32_675
  let v1248 : BitVec 32 := Scalar.select v1246 v1247 v1232
  let c0_i32_679 : BitVec 32 := 0#32
  ![18, Nat.mul 2 v1248.toNat, 0]

def k0_chk51 (v1230 : BitVec 32) : Prop :=
  (∀ a, (k0_off51 v1230) a + S1x2x7168.size a ≤ S32x256x7168.size a) ∧
  (∀ (hinb : ∀ a, (k0_off51 v1230) a + S1x2x7168.size a ≤ S32x256x7168.size a), (Rect.unit (s := S32x256x7168) (k0_off51 v1230) S1x2x7168.size hinb).WholeWords (EltTy.packing .bf16))
theorem k0_off51_inb : ∀ (v1230 : BitVec 32) (k0_hw51 : k0_chk51 v1230), ∀ a, (k0_off51 v1230) a + S1x2x7168.size a ≤ S32x256x7168.size a := fun v1230 k0_hw51 => k0_hw51.1
theorem k0_off51_wordsbf16 : ∀ (v1230 : BitVec 32) (k0_hw51 : k0_chk51 v1230), (Rect.unit (s := S32x256x7168) (k0_off51 v1230) S1x2x7168.size (k0_off51_inb v1230 k0_hw51)).WholeWords (EltTy.packing .bf16) := fun v1230 k0_hw51 => k0_hw51.2 (k0_off51_inb v1230 k0_hw51)

def k0_off52 (v1253 : BitVec 32) : Fin 3 → Nat :=
  let c19_i32_689 : BitVec 32 := 19#32
  let c1_i32_681 : BitVec 32 := 1#32
  let v1254 : BitVec 32 := Scalar.subi v1253 c1_i32_681
  let c0_i32_683 : BitVec 32 := 0#32
  let v1256 : BitVec 1 := Scalar.cmpi .sgt v1254 c0_i32_683
  let v1257 : BitVec 32 := Scalar.extui v1256
  let c0_i32_684 : BitVec 32 := 0#32
  let v1258 : BitVec 1 := Scalar.cmpi .slt v1254 c0_i32_684
  let v1259 : BitVec 32 := Scalar.extui v1258
  let v1260 : BitVec 32 := Scalar.subi v1257 v1259
  let c2_i32_682 : BitVec 32 := 2#32
  let c0_i32_685 : BitVec 32 := 0#32
  let v1261 : BitVec 1 := Scalar.cmpi .sgt c2_i32_682 c0_i32_685
  let v1262 : BitVec 32 := Scalar.extui v1261
  let c0_i32_686 : BitVec 32 := 0#32
  let v1263 : BitVec 1 := Scalar.cmpi .slt c2_i32_682 c0_i32_686
  let v1264 : BitVec 32 := Scalar.extui v1263
  let v1265 : BitVec 32 := Scalar.subi v1262 v1264
  let v1266 : BitVec 1 := Scalar.cmpi .ne v1260 v1265
  let v1267 : BitVec 32 := Scalar.remsi v1254 c2_i32_682
  let c0_i32_687 : BitVec 32 := 0#32
  let v1268 : BitVec 1 := Scalar.cmpi .ne v1267 c0_i32_687
  let v1269 : BitVec 1 := Scalar.andi v1266 v1268
  let v1255 : BitVec 32 := Scalar.divsi v1254 c2_i32_682
  let c1_i32_688 : BitVec 32 := 1#32
  let v1270 : BitVec 32 := Scalar.subi v1255 c1_i32_688
  let v1271 : BitVec 32 := Scalar.select v1269 v1270 v1255
  let c0_i32_692 : BitVec 32 := 0#32
  ![19, Nat.mul 2 v1271.toNat, 0]

def k0_chk52 (v1253 : BitVec 32) : Prop :=
  (∀ a, (k0_off52 v1253) a + S1x2x7168.size a ≤ S32x256x7168.size a) ∧
  (∀ (hinb : ∀ a, (k0_off52 v1253) a + S1x2x7168.size a ≤ S32x256x7168.size a), (Rect.unit (s := S32x256x7168) (k0_off52 v1253) S1x2x7168.size hinb).WholeWords (EltTy.packing .bf16))
theorem k0_off52_inb : ∀ (v1253 : BitVec 32) (k0_hw52 : k0_chk52 v1253), ∀ a, (k0_off52 v1253) a + S1x2x7168.size a ≤ S32x256x7168.size a := fun v1253 k0_hw52 => k0_hw52.1
theorem k0_off52_wordsbf16 : ∀ (v1253 : BitVec 32) (k0_hw52 : k0_chk52 v1253), (Rect.unit (s := S32x256x7168) (k0_off52 v1253) S1x2x7168.size (k0_off52_inb v1253 k0_hw52)).WholeWords (EltTy.packing .bf16) := fun v1253 k0_hw52 => k0_hw52.2 (k0_off52_inb v1253 k0_hw52)

def k0_off53 (v1276 : BitVec 32) : Fin 3 → Nat :=
  let c20_i32_702 : BitVec 32 := 20#32
  let c1_i32_694 : BitVec 32 := 1#32
  let v1277 : BitVec 32 := Scalar.subi v1276 c1_i32_694
  let c0_i32_696 : BitVec 32 := 0#32
  let v1279 : BitVec 1 := Scalar.cmpi .sgt v1277 c0_i32_696
  let v1280 : BitVec 32 := Scalar.extui v1279
  let c0_i32_697 : BitVec 32 := 0#32
  let v1281 : BitVec 1 := Scalar.cmpi .slt v1277 c0_i32_697
  let v1282 : BitVec 32 := Scalar.extui v1281
  let v1283 : BitVec 32 := Scalar.subi v1280 v1282
  let c2_i32_695 : BitVec 32 := 2#32
  let c0_i32_698 : BitVec 32 := 0#32
  let v1284 : BitVec 1 := Scalar.cmpi .sgt c2_i32_695 c0_i32_698
  let v1285 : BitVec 32 := Scalar.extui v1284
  let c0_i32_699 : BitVec 32 := 0#32
  let v1286 : BitVec 1 := Scalar.cmpi .slt c2_i32_695 c0_i32_699
  let v1287 : BitVec 32 := Scalar.extui v1286
  let v1288 : BitVec 32 := Scalar.subi v1285 v1287
  let v1289 : BitVec 1 := Scalar.cmpi .ne v1283 v1288
  let v1290 : BitVec 32 := Scalar.remsi v1277 c2_i32_695
  let c0_i32_700 : BitVec 32 := 0#32
  let v1291 : BitVec 1 := Scalar.cmpi .ne v1290 c0_i32_700
  let v1292 : BitVec 1 := Scalar.andi v1289 v1291
  let v1278 : BitVec 32 := Scalar.divsi v1277 c2_i32_695
  let c1_i32_701 : BitVec 32 := 1#32
  let v1293 : BitVec 32 := Scalar.subi v1278 c1_i32_701
  let v1294 : BitVec 32 := Scalar.select v1292 v1293 v1278
  let c0_i32_705 : BitVec 32 := 0#32
  ![20, Nat.mul 2 v1294.toNat, 0]

def k0_chk53 (v1276 : BitVec 32) : Prop :=
  (∀ a, (k0_off53 v1276) a + S1x2x7168.size a ≤ S32x256x7168.size a) ∧
  (∀ (hinb : ∀ a, (k0_off53 v1276) a + S1x2x7168.size a ≤ S32x256x7168.size a), (Rect.unit (s := S32x256x7168) (k0_off53 v1276) S1x2x7168.size hinb).WholeWords (EltTy.packing .bf16))
theorem k0_off53_inb : ∀ (v1276 : BitVec 32) (k0_hw53 : k0_chk53 v1276), ∀ a, (k0_off53 v1276) a + S1x2x7168.size a ≤ S32x256x7168.size a := fun v1276 k0_hw53 => k0_hw53.1
theorem k0_off53_wordsbf16 : ∀ (v1276 : BitVec 32) (k0_hw53 : k0_chk53 v1276), (Rect.unit (s := S32x256x7168) (k0_off53 v1276) S1x2x7168.size (k0_off53_inb v1276 k0_hw53)).WholeWords (EltTy.packing .bf16) := fun v1276 k0_hw53 => k0_hw53.2 (k0_off53_inb v1276 k0_hw53)

def k0_off54 (v1299 : BitVec 32) : Fin 3 → Nat :=
  let c21_i32_715 : BitVec 32 := 21#32
  let c1_i32_707 : BitVec 32 := 1#32
  let v1300 : BitVec 32 := Scalar.subi v1299 c1_i32_707
  let c0_i32_709 : BitVec 32 := 0#32
  let v1302 : BitVec 1 := Scalar.cmpi .sgt v1300 c0_i32_709
  let v1303 : BitVec 32 := Scalar.extui v1302
  let c0_i32_710 : BitVec 32 := 0#32
  let v1304 : BitVec 1 := Scalar.cmpi .slt v1300 c0_i32_710
  let v1305 : BitVec 32 := Scalar.extui v1304
  let v1306 : BitVec 32 := Scalar.subi v1303 v1305
  let c2_i32_708 : BitVec 32 := 2#32
  let c0_i32_711 : BitVec 32 := 0#32
  let v1307 : BitVec 1 := Scalar.cmpi .sgt c2_i32_708 c0_i32_711
  let v1308 : BitVec 32 := Scalar.extui v1307
  let c0_i32_712 : BitVec 32 := 0#32
  let v1309 : BitVec 1 := Scalar.cmpi .slt c2_i32_708 c0_i32_712
  let v1310 : BitVec 32 := Scalar.extui v1309
  let v1311 : BitVec 32 := Scalar.subi v1308 v1310
  let v1312 : BitVec 1 := Scalar.cmpi .ne v1306 v1311
  let v1313 : BitVec 32 := Scalar.remsi v1300 c2_i32_708
  let c0_i32_713 : BitVec 32 := 0#32
  let v1314 : BitVec 1 := Scalar.cmpi .ne v1313 c0_i32_713
  let v1315 : BitVec 1 := Scalar.andi v1312 v1314
  let v1301 : BitVec 32 := Scalar.divsi v1300 c2_i32_708
  let c1_i32_714 : BitVec 32 := 1#32
  let v1316 : BitVec 32 := Scalar.subi v1301 c1_i32_714
  let v1317 : BitVec 32 := Scalar.select v1315 v1316 v1301
  let c0_i32_718 : BitVec 32 := 0#32
  ![21, Nat.mul 2 v1317.toNat, 0]

def k0_chk54 (v1299 : BitVec 32) : Prop :=
  (∀ a, (k0_off54 v1299) a + S1x2x7168.size a ≤ S32x256x7168.size a) ∧
  (∀ (hinb : ∀ a, (k0_off54 v1299) a + S1x2x7168.size a ≤ S32x256x7168.size a), (Rect.unit (s := S32x256x7168) (k0_off54 v1299) S1x2x7168.size hinb).WholeWords (EltTy.packing .bf16))
theorem k0_off54_inb : ∀ (v1299 : BitVec 32) (k0_hw54 : k0_chk54 v1299), ∀ a, (k0_off54 v1299) a + S1x2x7168.size a ≤ S32x256x7168.size a := fun v1299 k0_hw54 => k0_hw54.1
theorem k0_off54_wordsbf16 : ∀ (v1299 : BitVec 32) (k0_hw54 : k0_chk54 v1299), (Rect.unit (s := S32x256x7168) (k0_off54 v1299) S1x2x7168.size (k0_off54_inb v1299 k0_hw54)).WholeWords (EltTy.packing .bf16) := fun v1299 k0_hw54 => k0_hw54.2 (k0_off54_inb v1299 k0_hw54)

def k0_off55 (v1322 : BitVec 32) : Fin 3 → Nat :=
  let c22_i32_728 : BitVec 32 := 22#32
  let c1_i32_720 : BitVec 32 := 1#32
  let v1323 : BitVec 32 := Scalar.subi v1322 c1_i32_720
  let c0_i32_722 : BitVec 32 := 0#32
  let v1325 : BitVec 1 := Scalar.cmpi .sgt v1323 c0_i32_722
  let v1326 : BitVec 32 := Scalar.extui v1325
  let c0_i32_723 : BitVec 32 := 0#32
  let v1327 : BitVec 1 := Scalar.cmpi .slt v1323 c0_i32_723
  let v1328 : BitVec 32 := Scalar.extui v1327
  let v1329 : BitVec 32 := Scalar.subi v1326 v1328
  let c2_i32_721 : BitVec 32 := 2#32
  let c0_i32_724 : BitVec 32 := 0#32
  let v1330 : BitVec 1 := Scalar.cmpi .sgt c2_i32_721 c0_i32_724
  let v1331 : BitVec 32 := Scalar.extui v1330
  let c0_i32_725 : BitVec 32 := 0#32
  let v1332 : BitVec 1 := Scalar.cmpi .slt c2_i32_721 c0_i32_725
  let v1333 : BitVec 32 := Scalar.extui v1332
  let v1334 : BitVec 32 := Scalar.subi v1331 v1333
  let v1335 : BitVec 1 := Scalar.cmpi .ne v1329 v1334
  let v1336 : BitVec 32 := Scalar.remsi v1323 c2_i32_721
  let c0_i32_726 : BitVec 32 := 0#32
  let v1337 : BitVec 1 := Scalar.cmpi .ne v1336 c0_i32_726
  let v1338 : BitVec 1 := Scalar.andi v1335 v1337
  let v1324 : BitVec 32 := Scalar.divsi v1323 c2_i32_721
  let c1_i32_727 : BitVec 32 := 1#32
  let v1339 : BitVec 32 := Scalar.subi v1324 c1_i32_727
  let v1340 : BitVec 32 := Scalar.select v1338 v1339 v1324
  let c0_i32_731 : BitVec 32 := 0#32
  ![22, Nat.mul 2 v1340.toNat, 0]

def k0_chk55 (v1322 : BitVec 32) : Prop :=
  (∀ a, (k0_off55 v1322) a + S1x2x7168.size a ≤ S32x256x7168.size a) ∧
  (∀ (hinb : ∀ a, (k0_off55 v1322) a + S1x2x7168.size a ≤ S32x256x7168.size a), (Rect.unit (s := S32x256x7168) (k0_off55 v1322) S1x2x7168.size hinb).WholeWords (EltTy.packing .bf16))
theorem k0_off55_inb : ∀ (v1322 : BitVec 32) (k0_hw55 : k0_chk55 v1322), ∀ a, (k0_off55 v1322) a + S1x2x7168.size a ≤ S32x256x7168.size a := fun v1322 k0_hw55 => k0_hw55.1
theorem k0_off55_wordsbf16 : ∀ (v1322 : BitVec 32) (k0_hw55 : k0_chk55 v1322), (Rect.unit (s := S32x256x7168) (k0_off55 v1322) S1x2x7168.size (k0_off55_inb v1322 k0_hw55)).WholeWords (EltTy.packing .bf16) := fun v1322 k0_hw55 => k0_hw55.2 (k0_off55_inb v1322 k0_hw55)

def k0_off56 (v1345 : BitVec 32) : Fin 3 → Nat :=
  let c23_i32_741 : BitVec 32 := 23#32
  let c1_i32_733 : BitVec 32 := 1#32
  let v1346 : BitVec 32 := Scalar.subi v1345 c1_i32_733
  let c0_i32_735 : BitVec 32 := 0#32
  let v1348 : BitVec 1 := Scalar.cmpi .sgt v1346 c0_i32_735
  let v1349 : BitVec 32 := Scalar.extui v1348
  let c0_i32_736 : BitVec 32 := 0#32
  let v1350 : BitVec 1 := Scalar.cmpi .slt v1346 c0_i32_736
  let v1351 : BitVec 32 := Scalar.extui v1350
  let v1352 : BitVec 32 := Scalar.subi v1349 v1351
  let c2_i32_734 : BitVec 32 := 2#32
  let c0_i32_737 : BitVec 32 := 0#32
  let v1353 : BitVec 1 := Scalar.cmpi .sgt c2_i32_734 c0_i32_737
  let v1354 : BitVec 32 := Scalar.extui v1353
  let c0_i32_738 : BitVec 32 := 0#32
  let v1355 : BitVec 1 := Scalar.cmpi .slt c2_i32_734 c0_i32_738
  let v1356 : BitVec 32 := Scalar.extui v1355
  let v1357 : BitVec 32 := Scalar.subi v1354 v1356
  let v1358 : BitVec 1 := Scalar.cmpi .ne v1352 v1357
  let v1359 : BitVec 32 := Scalar.remsi v1346 c2_i32_734
  let c0_i32_739 : BitVec 32 := 0#32
  let v1360 : BitVec 1 := Scalar.cmpi .ne v1359 c0_i32_739
  let v1361 : BitVec 1 := Scalar.andi v1358 v1360
  let v1347 : BitVec 32 := Scalar.divsi v1346 c2_i32_734
  let c1_i32_740 : BitVec 32 := 1#32
  let v1362 : BitVec 32 := Scalar.subi v1347 c1_i32_740
  let v1363 : BitVec 32 := Scalar.select v1361 v1362 v1347
  let c0_i32_744 : BitVec 32 := 0#32
  ![23, Nat.mul 2 v1363.toNat, 0]

def k0_chk56 (v1345 : BitVec 32) : Prop :=
  (∀ a, (k0_off56 v1345) a + S1x2x7168.size a ≤ S32x256x7168.size a) ∧
  (∀ (hinb : ∀ a, (k0_off56 v1345) a + S1x2x7168.size a ≤ S32x256x7168.size a), (Rect.unit (s := S32x256x7168) (k0_off56 v1345) S1x2x7168.size hinb).WholeWords (EltTy.packing .bf16))
theorem k0_off56_inb : ∀ (v1345 : BitVec 32) (k0_hw56 : k0_chk56 v1345), ∀ a, (k0_off56 v1345) a + S1x2x7168.size a ≤ S32x256x7168.size a := fun v1345 k0_hw56 => k0_hw56.1
theorem k0_off56_wordsbf16 : ∀ (v1345 : BitVec 32) (k0_hw56 : k0_chk56 v1345), (Rect.unit (s := S32x256x7168) (k0_off56 v1345) S1x2x7168.size (k0_off56_inb v1345 k0_hw56)).WholeWords (EltTy.packing .bf16) := fun v1345 k0_hw56 => k0_hw56.2 (k0_off56_inb v1345 k0_hw56)

def k0_off57 (v1368 : BitVec 32) : Fin 3 → Nat :=
  let c24_i32_754 : BitVec 32 := 24#32
  let c1_i32_746 : BitVec 32 := 1#32
  let v1369 : BitVec 32 := Scalar.subi v1368 c1_i32_746
  let c0_i32_748 : BitVec 32 := 0#32
  let v1371 : BitVec 1 := Scalar.cmpi .sgt v1369 c0_i32_748
  let v1372 : BitVec 32 := Scalar.extui v1371
  let c0_i32_749 : BitVec 32 := 0#32
  let v1373 : BitVec 1 := Scalar.cmpi .slt v1369 c0_i32_749
  let v1374 : BitVec 32 := Scalar.extui v1373
  let v1375 : BitVec 32 := Scalar.subi v1372 v1374
  let c2_i32_747 : BitVec 32 := 2#32
  let c0_i32_750 : BitVec 32 := 0#32
  let v1376 : BitVec 1 := Scalar.cmpi .sgt c2_i32_747 c0_i32_750
  let v1377 : BitVec 32 := Scalar.extui v1376
  let c0_i32_751 : BitVec 32 := 0#32
  let v1378 : BitVec 1 := Scalar.cmpi .slt c2_i32_747 c0_i32_751
  let v1379 : BitVec 32 := Scalar.extui v1378
  let v1380 : BitVec 32 := Scalar.subi v1377 v1379
  let v1381 : BitVec 1 := Scalar.cmpi .ne v1375 v1380
  let v1382 : BitVec 32 := Scalar.remsi v1369 c2_i32_747
  let c0_i32_752 : BitVec 32 := 0#32
  let v1383 : BitVec 1 := Scalar.cmpi .ne v1382 c0_i32_752
  let v1384 : BitVec 1 := Scalar.andi v1381 v1383
  let v1370 : BitVec 32 := Scalar.divsi v1369 c2_i32_747
  let c1_i32_753 : BitVec 32 := 1#32
  let v1385 : BitVec 32 := Scalar.subi v1370 c1_i32_753
  let v1386 : BitVec 32 := Scalar.select v1384 v1385 v1370
  let c0_i32_757 : BitVec 32 := 0#32
  ![24, Nat.mul 2 v1386.toNat, 0]

def k0_chk57 (v1368 : BitVec 32) : Prop :=
  (∀ a, (k0_off57 v1368) a + S1x2x7168.size a ≤ S32x256x7168.size a) ∧
  (∀ (hinb : ∀ a, (k0_off57 v1368) a + S1x2x7168.size a ≤ S32x256x7168.size a), (Rect.unit (s := S32x256x7168) (k0_off57 v1368) S1x2x7168.size hinb).WholeWords (EltTy.packing .bf16))
theorem k0_off57_inb : ∀ (v1368 : BitVec 32) (k0_hw57 : k0_chk57 v1368), ∀ a, (k0_off57 v1368) a + S1x2x7168.size a ≤ S32x256x7168.size a := fun v1368 k0_hw57 => k0_hw57.1
theorem k0_off57_wordsbf16 : ∀ (v1368 : BitVec 32) (k0_hw57 : k0_chk57 v1368), (Rect.unit (s := S32x256x7168) (k0_off57 v1368) S1x2x7168.size (k0_off57_inb v1368 k0_hw57)).WholeWords (EltTy.packing .bf16) := fun v1368 k0_hw57 => k0_hw57.2 (k0_off57_inb v1368 k0_hw57)

def k0_off58 (v1391 : BitVec 32) : Fin 3 → Nat :=
  let c25_i32_767 : BitVec 32 := 25#32
  let c1_i32_759 : BitVec 32 := 1#32
  let v1392 : BitVec 32 := Scalar.subi v1391 c1_i32_759
  let c0_i32_761 : BitVec 32 := 0#32
  let v1394 : BitVec 1 := Scalar.cmpi .sgt v1392 c0_i32_761
  let v1395 : BitVec 32 := Scalar.extui v1394
  let c0_i32_762 : BitVec 32 := 0#32
  let v1396 : BitVec 1 := Scalar.cmpi .slt v1392 c0_i32_762
  let v1397 : BitVec 32 := Scalar.extui v1396
  let v1398 : BitVec 32 := Scalar.subi v1395 v1397
  let c2_i32_760 : BitVec 32 := 2#32
  let c0_i32_763 : BitVec 32 := 0#32
  let v1399 : BitVec 1 := Scalar.cmpi .sgt c2_i32_760 c0_i32_763
  let v1400 : BitVec 32 := Scalar.extui v1399
  let c0_i32_764 : BitVec 32 := 0#32
  let v1401 : BitVec 1 := Scalar.cmpi .slt c2_i32_760 c0_i32_764
  let v1402 : BitVec 32 := Scalar.extui v1401
  let v1403 : BitVec 32 := Scalar.subi v1400 v1402
  let v1404 : BitVec 1 := Scalar.cmpi .ne v1398 v1403
  let v1405 : BitVec 32 := Scalar.remsi v1392 c2_i32_760
  let c0_i32_765 : BitVec 32 := 0#32
  let v1406 : BitVec 1 := Scalar.cmpi .ne v1405 c0_i32_765
  let v1407 : BitVec 1 := Scalar.andi v1404 v1406
  let v1393 : BitVec 32 := Scalar.divsi v1392 c2_i32_760
  let c1_i32_766 : BitVec 32 := 1#32
  let v1408 : BitVec 32 := Scalar.subi v1393 c1_i32_766
  let v1409 : BitVec 32 := Scalar.select v1407 v1408 v1393
  let c0_i32_770 : BitVec 32 := 0#32
  ![25, Nat.mul 2 v1409.toNat, 0]

def k0_chk58 (v1391 : BitVec 32) : Prop :=
  (∀ a, (k0_off58 v1391) a + S1x2x7168.size a ≤ S32x256x7168.size a) ∧
  (∀ (hinb : ∀ a, (k0_off58 v1391) a + S1x2x7168.size a ≤ S32x256x7168.size a), (Rect.unit (s := S32x256x7168) (k0_off58 v1391) S1x2x7168.size hinb).WholeWords (EltTy.packing .bf16))
theorem k0_off58_inb : ∀ (v1391 : BitVec 32) (k0_hw58 : k0_chk58 v1391), ∀ a, (k0_off58 v1391) a + S1x2x7168.size a ≤ S32x256x7168.size a := fun v1391 k0_hw58 => k0_hw58.1
theorem k0_off58_wordsbf16 : ∀ (v1391 : BitVec 32) (k0_hw58 : k0_chk58 v1391), (Rect.unit (s := S32x256x7168) (k0_off58 v1391) S1x2x7168.size (k0_off58_inb v1391 k0_hw58)).WholeWords (EltTy.packing .bf16) := fun v1391 k0_hw58 => k0_hw58.2 (k0_off58_inb v1391 k0_hw58)

def k0_off59 (v1414 : BitVec 32) : Fin 3 → Nat :=
  let c26_i32_780 : BitVec 32 := 26#32
  let c1_i32_772 : BitVec 32 := 1#32
  let v1415 : BitVec 32 := Scalar.subi v1414 c1_i32_772
  let c0_i32_774 : BitVec 32 := 0#32
  let v1417 : BitVec 1 := Scalar.cmpi .sgt v1415 c0_i32_774
  let v1418 : BitVec 32 := Scalar.extui v1417
  let c0_i32_775 : BitVec 32 := 0#32
  let v1419 : BitVec 1 := Scalar.cmpi .slt v1415 c0_i32_775
  let v1420 : BitVec 32 := Scalar.extui v1419
  let v1421 : BitVec 32 := Scalar.subi v1418 v1420
  let c2_i32_773 : BitVec 32 := 2#32
  let c0_i32_776 : BitVec 32 := 0#32
  let v1422 : BitVec 1 := Scalar.cmpi .sgt c2_i32_773 c0_i32_776
  let v1423 : BitVec 32 := Scalar.extui v1422
  let c0_i32_777 : BitVec 32 := 0#32
  let v1424 : BitVec 1 := Scalar.cmpi .slt c2_i32_773 c0_i32_777
  let v1425 : BitVec 32 := Scalar.extui v1424
  let v1426 : BitVec 32 := Scalar.subi v1423 v1425
  let v1427 : BitVec 1 := Scalar.cmpi .ne v1421 v1426
  let v1428 : BitVec 32 := Scalar.remsi v1415 c2_i32_773
  let c0_i32_778 : BitVec 32 := 0#32
  let v1429 : BitVec 1 := Scalar.cmpi .ne v1428 c0_i32_778
  let v1430 : BitVec 1 := Scalar.andi v1427 v1429
  let v1416 : BitVec 32 := Scalar.divsi v1415 c2_i32_773
  let c1_i32_779 : BitVec 32 := 1#32
  let v1431 : BitVec 32 := Scalar.subi v1416 c1_i32_779
  let v1432 : BitVec 32 := Scalar.select v1430 v1431 v1416
  let c0_i32_783 : BitVec 32 := 0#32
  ![26, Nat.mul 2 v1432.toNat, 0]

def k0_chk59 (v1414 : BitVec 32) : Prop :=
  (∀ a, (k0_off59 v1414) a + S1x2x7168.size a ≤ S32x256x7168.size a) ∧
  (∀ (hinb : ∀ a, (k0_off59 v1414) a + S1x2x7168.size a ≤ S32x256x7168.size a), (Rect.unit (s := S32x256x7168) (k0_off59 v1414) S1x2x7168.size hinb).WholeWords (EltTy.packing .bf16))
theorem k0_off59_inb : ∀ (v1414 : BitVec 32) (k0_hw59 : k0_chk59 v1414), ∀ a, (k0_off59 v1414) a + S1x2x7168.size a ≤ S32x256x7168.size a := fun v1414 k0_hw59 => k0_hw59.1
theorem k0_off59_wordsbf16 : ∀ (v1414 : BitVec 32) (k0_hw59 : k0_chk59 v1414), (Rect.unit (s := S32x256x7168) (k0_off59 v1414) S1x2x7168.size (k0_off59_inb v1414 k0_hw59)).WholeWords (EltTy.packing .bf16) := fun v1414 k0_hw59 => k0_hw59.2 (k0_off59_inb v1414 k0_hw59)

def k0_off60 (v1437 : BitVec 32) : Fin 3 → Nat :=
  let c27_i32_793 : BitVec 32 := 27#32
  let c1_i32_785 : BitVec 32 := 1#32
  let v1438 : BitVec 32 := Scalar.subi v1437 c1_i32_785
  let c0_i32_787 : BitVec 32 := 0#32
  let v1440 : BitVec 1 := Scalar.cmpi .sgt v1438 c0_i32_787
  let v1441 : BitVec 32 := Scalar.extui v1440
  let c0_i32_788 : BitVec 32 := 0#32
  let v1442 : BitVec 1 := Scalar.cmpi .slt v1438 c0_i32_788
  let v1443 : BitVec 32 := Scalar.extui v1442
  let v1444 : BitVec 32 := Scalar.subi v1441 v1443
  let c2_i32_786 : BitVec 32 := 2#32
  let c0_i32_789 : BitVec 32 := 0#32
  let v1445 : BitVec 1 := Scalar.cmpi .sgt c2_i32_786 c0_i32_789
  let v1446 : BitVec 32 := Scalar.extui v1445
  let c0_i32_790 : BitVec 32 := 0#32
  let v1447 : BitVec 1 := Scalar.cmpi .slt c2_i32_786 c0_i32_790
  let v1448 : BitVec 32 := Scalar.extui v1447
  let v1449 : BitVec 32 := Scalar.subi v1446 v1448
  let v1450 : BitVec 1 := Scalar.cmpi .ne v1444 v1449
  let v1451 : BitVec 32 := Scalar.remsi v1438 c2_i32_786
  let c0_i32_791 : BitVec 32 := 0#32
  let v1452 : BitVec 1 := Scalar.cmpi .ne v1451 c0_i32_791
  let v1453 : BitVec 1 := Scalar.andi v1450 v1452
  let v1439 : BitVec 32 := Scalar.divsi v1438 c2_i32_786
  let c1_i32_792 : BitVec 32 := 1#32
  let v1454 : BitVec 32 := Scalar.subi v1439 c1_i32_792
  let v1455 : BitVec 32 := Scalar.select v1453 v1454 v1439
  let c0_i32_796 : BitVec 32 := 0#32
  ![27, Nat.mul 2 v1455.toNat, 0]

def k0_chk60 (v1437 : BitVec 32) : Prop :=
  (∀ a, (k0_off60 v1437) a + S1x2x7168.size a ≤ S32x256x7168.size a) ∧
  (∀ (hinb : ∀ a, (k0_off60 v1437) a + S1x2x7168.size a ≤ S32x256x7168.size a), (Rect.unit (s := S32x256x7168) (k0_off60 v1437) S1x2x7168.size hinb).WholeWords (EltTy.packing .bf16))
theorem k0_off60_inb : ∀ (v1437 : BitVec 32) (k0_hw60 : k0_chk60 v1437), ∀ a, (k0_off60 v1437) a + S1x2x7168.size a ≤ S32x256x7168.size a := fun v1437 k0_hw60 => k0_hw60.1
theorem k0_off60_wordsbf16 : ∀ (v1437 : BitVec 32) (k0_hw60 : k0_chk60 v1437), (Rect.unit (s := S32x256x7168) (k0_off60 v1437) S1x2x7168.size (k0_off60_inb v1437 k0_hw60)).WholeWords (EltTy.packing .bf16) := fun v1437 k0_hw60 => k0_hw60.2 (k0_off60_inb v1437 k0_hw60)

def k0_off61 (v1460 : BitVec 32) : Fin 3 → Nat :=
  let c28_i32_806 : BitVec 32 := 28#32
  let c1_i32_798 : BitVec 32 := 1#32
  let v1461 : BitVec 32 := Scalar.subi v1460 c1_i32_798
  let c0_i32_800 : BitVec 32 := 0#32
  let v1463 : BitVec 1 := Scalar.cmpi .sgt v1461 c0_i32_800
  let v1464 : BitVec 32 := Scalar.extui v1463
  let c0_i32_801 : BitVec 32 := 0#32
  let v1465 : BitVec 1 := Scalar.cmpi .slt v1461 c0_i32_801
  let v1466 : BitVec 32 := Scalar.extui v1465
  let v1467 : BitVec 32 := Scalar.subi v1464 v1466
  let c2_i32_799 : BitVec 32 := 2#32
  let c0_i32_802 : BitVec 32 := 0#32
  let v1468 : BitVec 1 := Scalar.cmpi .sgt c2_i32_799 c0_i32_802
  let v1469 : BitVec 32 := Scalar.extui v1468
  let c0_i32_803 : BitVec 32 := 0#32
  let v1470 : BitVec 1 := Scalar.cmpi .slt c2_i32_799 c0_i32_803
  let v1471 : BitVec 32 := Scalar.extui v1470
  let v1472 : BitVec 32 := Scalar.subi v1469 v1471
  let v1473 : BitVec 1 := Scalar.cmpi .ne v1467 v1472
  let v1474 : BitVec 32 := Scalar.remsi v1461 c2_i32_799
  let c0_i32_804 : BitVec 32 := 0#32
  let v1475 : BitVec 1 := Scalar.cmpi .ne v1474 c0_i32_804
  let v1476 : BitVec 1 := Scalar.andi v1473 v1475
  let v1462 : BitVec 32 := Scalar.divsi v1461 c2_i32_799
  let c1_i32_805 : BitVec 32 := 1#32
  let v1477 : BitVec 32 := Scalar.subi v1462 c1_i32_805
  let v1478 : BitVec 32 := Scalar.select v1476 v1477 v1462
  let c0_i32_809 : BitVec 32 := 0#32
  ![28, Nat.mul 2 v1478.toNat, 0]

def k0_chk61 (v1460 : BitVec 32) : Prop :=
  (∀ a, (k0_off61 v1460) a + S1x2x7168.size a ≤ S32x256x7168.size a) ∧
  (∀ (hinb : ∀ a, (k0_off61 v1460) a + S1x2x7168.size a ≤ S32x256x7168.size a), (Rect.unit (s := S32x256x7168) (k0_off61 v1460) S1x2x7168.size hinb).WholeWords (EltTy.packing .bf16))
theorem k0_off61_inb : ∀ (v1460 : BitVec 32) (k0_hw61 : k0_chk61 v1460), ∀ a, (k0_off61 v1460) a + S1x2x7168.size a ≤ S32x256x7168.size a := fun v1460 k0_hw61 => k0_hw61.1
theorem k0_off61_wordsbf16 : ∀ (v1460 : BitVec 32) (k0_hw61 : k0_chk61 v1460), (Rect.unit (s := S32x256x7168) (k0_off61 v1460) S1x2x7168.size (k0_off61_inb v1460 k0_hw61)).WholeWords (EltTy.packing .bf16) := fun v1460 k0_hw61 => k0_hw61.2 (k0_off61_inb v1460 k0_hw61)

def k0_off62 (v1483 : BitVec 32) : Fin 3 → Nat :=
  let c29_i32_819 : BitVec 32 := 29#32
  let c1_i32_811 : BitVec 32 := 1#32
  let v1484 : BitVec 32 := Scalar.subi v1483 c1_i32_811
  let c0_i32_813 : BitVec 32 := 0#32
  let v1486 : BitVec 1 := Scalar.cmpi .sgt v1484 c0_i32_813
  let v1487 : BitVec 32 := Scalar.extui v1486
  let c0_i32_814 : BitVec 32 := 0#32
  let v1488 : BitVec 1 := Scalar.cmpi .slt v1484 c0_i32_814
  let v1489 : BitVec 32 := Scalar.extui v1488
  let v1490 : BitVec 32 := Scalar.subi v1487 v1489
  let c2_i32_812 : BitVec 32 := 2#32
  let c0_i32_815 : BitVec 32 := 0#32
  let v1491 : BitVec 1 := Scalar.cmpi .sgt c2_i32_812 c0_i32_815
  let v1492 : BitVec 32 := Scalar.extui v1491
  let c0_i32_816 : BitVec 32 := 0#32
  let v1493 : BitVec 1 := Scalar.cmpi .slt c2_i32_812 c0_i32_816
  let v1494 : BitVec 32 := Scalar.extui v1493
  let v1495 : BitVec 32 := Scalar.subi v1492 v1494
  let v1496 : BitVec 1 := Scalar.cmpi .ne v1490 v1495
  let v1497 : BitVec 32 := Scalar.remsi v1484 c2_i32_812
  let c0_i32_817 : BitVec 32 := 0#32
  let v1498 : BitVec 1 := Scalar.cmpi .ne v1497 c0_i32_817
  let v1499 : BitVec 1 := Scalar.andi v1496 v1498
  let v1485 : BitVec 32 := Scalar.divsi v1484 c2_i32_812
  let c1_i32_818 : BitVec 32 := 1#32
  let v1500 : BitVec 32 := Scalar.subi v1485 c1_i32_818
  let v1501 : BitVec 32 := Scalar.select v1499 v1500 v1485
  let c0_i32_822 : BitVec 32 := 0#32
  ![29, Nat.mul 2 v1501.toNat, 0]

def k0_chk62 (v1483 : BitVec 32) : Prop :=
  (∀ a, (k0_off62 v1483) a + S1x2x7168.size a ≤ S32x256x7168.size a) ∧
  (∀ (hinb : ∀ a, (k0_off62 v1483) a + S1x2x7168.size a ≤ S32x256x7168.size a), (Rect.unit (s := S32x256x7168) (k0_off62 v1483) S1x2x7168.size hinb).WholeWords (EltTy.packing .bf16))
theorem k0_off62_inb : ∀ (v1483 : BitVec 32) (k0_hw62 : k0_chk62 v1483), ∀ a, (k0_off62 v1483) a + S1x2x7168.size a ≤ S32x256x7168.size a := fun v1483 k0_hw62 => k0_hw62.1
theorem k0_off62_wordsbf16 : ∀ (v1483 : BitVec 32) (k0_hw62 : k0_chk62 v1483), (Rect.unit (s := S32x256x7168) (k0_off62 v1483) S1x2x7168.size (k0_off62_inb v1483 k0_hw62)).WholeWords (EltTy.packing .bf16) := fun v1483 k0_hw62 => k0_hw62.2 (k0_off62_inb v1483 k0_hw62)

def k0_off63 (v1506 : BitVec 32) : Fin 3 → Nat :=
  let c30_i32_832 : BitVec 32 := 30#32
  let c1_i32_824 : BitVec 32 := 1#32
  let v1507 : BitVec 32 := Scalar.subi v1506 c1_i32_824
  let c0_i32_826 : BitVec 32 := 0#32
  let v1509 : BitVec 1 := Scalar.cmpi .sgt v1507 c0_i32_826
  let v1510 : BitVec 32 := Scalar.extui v1509
  let c0_i32_827 : BitVec 32 := 0#32
  let v1511 : BitVec 1 := Scalar.cmpi .slt v1507 c0_i32_827
  let v1512 : BitVec 32 := Scalar.extui v1511
  let v1513 : BitVec 32 := Scalar.subi v1510 v1512
  let c2_i32_825 : BitVec 32 := 2#32
  let c0_i32_828 : BitVec 32 := 0#32
  let v1514 : BitVec 1 := Scalar.cmpi .sgt c2_i32_825 c0_i32_828
  let v1515 : BitVec 32 := Scalar.extui v1514
  let c0_i32_829 : BitVec 32 := 0#32
  let v1516 : BitVec 1 := Scalar.cmpi .slt c2_i32_825 c0_i32_829
  let v1517 : BitVec 32 := Scalar.extui v1516
  let v1518 : BitVec 32 := Scalar.subi v1515 v1517
  let v1519 : BitVec 1 := Scalar.cmpi .ne v1513 v1518
  let v1520 : BitVec 32 := Scalar.remsi v1507 c2_i32_825
  let c0_i32_830 : BitVec 32 := 0#32
  let v1521 : BitVec 1 := Scalar.cmpi .ne v1520 c0_i32_830
  let v1522 : BitVec 1 := Scalar.andi v1519 v1521
  let v1508 : BitVec 32 := Scalar.divsi v1507 c2_i32_825
  let c1_i32_831 : BitVec 32 := 1#32
  let v1523 : BitVec 32 := Scalar.subi v1508 c1_i32_831
  let v1524 : BitVec 32 := Scalar.select v1522 v1523 v1508
  let c0_i32_835 : BitVec 32 := 0#32
  ![30, Nat.mul 2 v1524.toNat, 0]

def k0_chk63 (v1506 : BitVec 32) : Prop :=
  (∀ a, (k0_off63 v1506) a + S1x2x7168.size a ≤ S32x256x7168.size a) ∧
  (∀ (hinb : ∀ a, (k0_off63 v1506) a + S1x2x7168.size a ≤ S32x256x7168.size a), (Rect.unit (s := S32x256x7168) (k0_off63 v1506) S1x2x7168.size hinb).WholeWords (EltTy.packing .bf16))
theorem k0_off63_inb : ∀ (v1506 : BitVec 32) (k0_hw63 : k0_chk63 v1506), ∀ a, (k0_off63 v1506) a + S1x2x7168.size a ≤ S32x256x7168.size a := fun v1506 k0_hw63 => k0_hw63.1
theorem k0_off63_wordsbf16 : ∀ (v1506 : BitVec 32) (k0_hw63 : k0_chk63 v1506), (Rect.unit (s := S32x256x7168) (k0_off63 v1506) S1x2x7168.size (k0_off63_inb v1506 k0_hw63)).WholeWords (EltTy.packing .bf16) := fun v1506 k0_hw63 => k0_hw63.2 (k0_off63_inb v1506 k0_hw63)

def k0_off64 (v1529 : BitVec 32) : Fin 3 → Nat :=
  let c31_i32_845 : BitVec 32 := 31#32
  let c1_i32_837 : BitVec 32 := 1#32
  let v1530 : BitVec 32 := Scalar.subi v1529 c1_i32_837
  let c0_i32_839 : BitVec 32 := 0#32
  let v1532 : BitVec 1 := Scalar.cmpi .sgt v1530 c0_i32_839
  let v1533 : BitVec 32 := Scalar.extui v1532
  let c0_i32_840 : BitVec 32 := 0#32
  let v1534 : BitVec 1 := Scalar.cmpi .slt v1530 c0_i32_840
  let v1535 : BitVec 32 := Scalar.extui v1534
  let v1536 : BitVec 32 := Scalar.subi v1533 v1535
  let c2_i32_838 : BitVec 32 := 2#32
  let c0_i32_841 : BitVec 32 := 0#32
  let v1537 : BitVec 1 := Scalar.cmpi .sgt c2_i32_838 c0_i32_841
  let v1538 : BitVec 32 := Scalar.extui v1537
  let c0_i32_842 : BitVec 32 := 0#32
  let v1539 : BitVec 1 := Scalar.cmpi .slt c2_i32_838 c0_i32_842
  let v1540 : BitVec 32 := Scalar.extui v1539
  let v1541 : BitVec 32 := Scalar.subi v1538 v1540
  let v1542 : BitVec 1 := Scalar.cmpi .ne v1536 v1541
  let v1543 : BitVec 32 := Scalar.remsi v1530 c2_i32_838
  let c0_i32_843 : BitVec 32 := 0#32
  let v1544 : BitVec 1 := Scalar.cmpi .ne v1543 c0_i32_843
  let v1545 : BitVec 1 := Scalar.andi v1542 v1544
  let v1531 : BitVec 32 := Scalar.divsi v1530 c2_i32_838
  let c1_i32_844 : BitVec 32 := 1#32
  let v1546 : BitVec 32 := Scalar.subi v1531 c1_i32_844
  let v1547 : BitVec 32 := Scalar.select v1545 v1546 v1531
  let c0_i32_848 : BitVec 32 := 0#32
  ![31, Nat.mul 2 v1547.toNat, 0]

def k0_chk64 (v1529 : BitVec 32) : Prop :=
  (∀ a, (k0_off64 v1529) a + S1x2x7168.size a ≤ S32x256x7168.size a) ∧
  (∀ (hinb : ∀ a, (k0_off64 v1529) a + S1x2x7168.size a ≤ S32x256x7168.size a), (Rect.unit (s := S32x256x7168) (k0_off64 v1529) S1x2x7168.size hinb).WholeWords (EltTy.packing .bf16))
theorem k0_off64_inb : ∀ (v1529 : BitVec 32) (k0_hw64 : k0_chk64 v1529), ∀ a, (k0_off64 v1529) a + S1x2x7168.size a ≤ S32x256x7168.size a := fun v1529 k0_hw64 => k0_hw64.1
theorem k0_off64_wordsbf16 : ∀ (v1529 : BitVec 32) (k0_hw64 : k0_chk64 v1529), (Rect.unit (s := S32x256x7168) (k0_off64 v1529) S1x2x7168.size (k0_off64_inb v1529 k0_hw64)).WholeWords (EltTy.packing .bf16) := fun v1529 k0_hw64 => k0_hw64.2 (k0_off64_inb v1529 k0_hw64)

@[reducible] def k0_t1_loop : Scf.Loop 32 :=
  let c0_i32_1742 : BitVec 32 := 0#32
  let c16_i32_1743 : BitVec 32 := 16#32
  let v3629 : BitVec 32 := Scalar.addi c0_i32_1742 c16_i32_1743
  let c1_i32_1744 : BitVec 32 := 1#32
  ⟨c0_i32_1742, v3629, c1_i32_1744⟩
def k0_off65 (k0_t1 : Fin k0_t1_loop.trips) : Fin 1 → Nat :=
  let c0_i32_1742 : BitVec 32 := 0#32
  let c1_i32_1744 : BitVec 32 := 1#32
  let arg21 : BitVec 32 := Scf.iv c0_i32_1742 c1_i32_1744 k0_t1
  ![arg21.toNat]
def k0_off66 (k0_t1 : Fin k0_t1_loop.trips) : Fin 3 → Nat :=
  let c0_i32_1742 : BitVec 32 := 0#32
  let c1_i32_1744 : BitVec 32 := 1#32
  let arg21 : BitVec 32 := Scf.iv c0_i32_1742 c1_i32_1744 k0_t1
  let c0_i32_1749 : BitVec 32 := 0#32
  let c0_i32_1750 : BitVec 32 := 0#32
  ![arg21.toNat, 0, 0]
def k0_off67 (k0_t1 : Fin k0_t1_loop.trips) : Fin 2 → Nat :=
  let c0_i32_1751 : BitVec 32 := 0#32
  let c0_i32_1742 : BitVec 32 := 0#32
  let c1_i32_1744 : BitVec 32 := 1#32
  let arg21 : BitVec 32 := Scf.iv c0_i32_1742 c1_i32_1744 k0_t1
  let c512_i32_1748 : BitVec 32 := 512#32
  let v3634 : BitVec 32 := Scalar.muli arg21 c512_i32_1748
  ![0, v3634.toNat]
def k0_off68 (k0_t1 : Fin k0_t1_loop.trips) : Fin 3 → Nat :=
  let c0_i32_1742 : BitVec 32 := 0#32
  let c1_i32_1744 : BitVec 32 := 1#32
  let arg21 : BitVec 32 := Scf.iv c0_i32_1742 c1_i32_1744 k0_t1
  let v3641 : Index := Scalar.indexCast arg21
  let c0_1754 : Index := 0#32
  let c0_1755 : Index := 0#32
  ![v3641.toNat, 0, 0]
def k0_mult1 (k0_t1 : Fin k0_t1_loop.trips) : BitVec 32 :=
  let c0_i32_1742 : BitVec 32 := 0#32
  let c1_i32_1744 : BitVec 32 := 1#32
  let arg21 : BitVec 32 := Scf.iv c0_i32_1742 c1_i32_1744 k0_t1
  let c512_i32_1757 : BitVec 32 := 512#32
  let v3645 : BitVec 32 := Scalar.muli arg21 c512_i32_1757
  v3645
def k0_off69 (k0_t1 : Fin k0_t1_loop.trips) : Fin 2 → Nat :=
  let c0_1760 : Index := 0#32
  let c0_i32_1742 : BitVec 32 := 0#32
  let c1_i32_1744 : BitVec 32 := 1#32
  let arg21 : BitVec 32 := Scf.iv c0_i32_1742 c1_i32_1744 k0_t1
  let c512_i32_1757 : BitVec 32 := 512#32
  let v3645 : BitVec 32 := Scalar.muli arg21 c512_i32_1757
  let v3646 : BitVec 32 := v3645
  let v3650 : Index := Scalar.indexCast v3646
  ![0, v3650.toNat]
def k0_off70 (k0_t1 : Fin k0_t1_loop.trips) : Fin 2 → Nat :=
  let c0_1761 : Index := 0#32
  let c0_i32_1742 : BitVec 32 := 0#32
  let c1_i32_1744 : BitVec 32 := 1#32
  let arg21 : BitVec 32 := Scf.iv c0_i32_1742 c1_i32_1744 k0_t1
  let c512_i32_1757 : BitVec 32 := 512#32
  let v3645 : BitVec 32 := Scalar.muli arg21 c512_i32_1757
  let v3646 : BitVec 32 := v3645
  let v3655 : Index := Scalar.indexCast v3646
  ![0, v3655.toNat]
def k0_off71 (k0_t1 : Fin k0_t1_loop.trips) : Fin 2 → Nat :=
  let c0_i32_1763 : BitVec 32 := 0#32
  let c0_i32_1742 : BitVec 32 := 0#32
  let c1_i32_1744 : BitVec 32 := 1#32
  let arg21 : BitVec 32 := Scf.iv c0_i32_1742 c1_i32_1744 k0_t1
  let c512_i32_1762 : BitVec 32 := 512#32
  let v3659 : BitVec 32 := Scalar.muli arg21 c512_i32_1762
  ![0, v3659.toNat]
-- ==== ReferenceIdeal.lean ====
abbrev S32x256x7168 : Shape := ⟨3, ![32, 256, 7168]⟩
abbrev S32 : Shape := ⟨1, ![32]⟩
abbrev S7168x8192 : Shape := ⟨2, ![7168, 8192]⟩
abbrev S8192 : Shape := ⟨1, ![8192]⟩
abbrev S_ : Shape := ⟨0, ![]⟩
abbrev S32x1x1 : Shape := ⟨3, ![32, 1, 1]⟩
abbrev S1 : Shape := ⟨1, ![1]⟩
abbrev S1x1x1 : Shape := ⟨3, ![1, 1, 1]⟩
abbrev S32x1 : Shape := ⟨2, ![32, 1]⟩
abbrev S32x1x7168 : Shape := ⟨3, ![32, 1, 7168]⟩
abbrev S32x7168 : Shape := ⟨2, ![32, 7168]⟩
abbrev S32x8192 : Shape := ⟨2, ![32, 8192]⟩
abbrev S1x8192 : Shape := ⟨2, ![1, 8192]⟩

abbrev nBuf : Space → Nat
  | .hbm => 34
  | .vmem => 6
  | .smem => 0
  | _ => 0

abbrev bufTy : (tb : Table) → Fin (tcTables nBuf tb) → BufTy
  | .hbm, ⟨0, _⟩ => ⟨S32x256x7168, .bf16⟩
  | .hbm, ⟨1, _⟩ => ⟨S32, .i32⟩
  | .hbm, ⟨2, _⟩ => ⟨S7168x8192, .fp8e4m3⟩
  | .hbm, ⟨3, _⟩ => ⟨S8192, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S32x1x1, .i32⟩
  | .hbm, ⟨8, _⟩ => ⟨S_, .i32⟩
  | .hbm, ⟨9, _⟩ => ⟨S32x1x1, .i32⟩
  | .hbm, ⟨10, _⟩ => ⟨S32x1x1, .i1⟩
  | .hbm, ⟨11, _⟩ => ⟨S_, .i32⟩
  | .hbm, ⟨12, _⟩ => ⟨S32x1x1, .i32⟩
  | .hbm, ⟨13, _⟩ => ⟨S32x1x1, .i32⟩
  | .hbm, ⟨14, _⟩ => ⟨S32x1x1, .i32⟩
  | .hbm, ⟨15, _⟩ => ⟨S1, .i32⟩
  | .hbm, ⟨16, _⟩ => ⟨S_, .i32⟩
  | .hbm, ⟨17, _⟩ => ⟨S32x1x1, .i32⟩
  | .hbm, ⟨18, _⟩ => ⟨S32x1x1, .i1⟩
  | .hbm, ⟨19, _⟩ => ⟨S1x1x1, .i32⟩
  | .hbm, ⟨20, _⟩ => ⟨S32x1x1, .i32⟩
  | .hbm, ⟨21, _⟩ => ⟨S32x1x1, .i1⟩
  | .hbm, ⟨22, _⟩ => ⟨S32x1x1, .i1⟩
  | .hbm, ⟨23, _⟩ => ⟨S_, .i1⟩
  | .hbm, ⟨24, _⟩ => ⟨S32x1, .i1⟩
  | .hbm, ⟨25, _⟩ => ⟨S32x1x7168, .bf16⟩
  | .hbm, ⟨26, _⟩ => ⟨S32x1x7168, .i1⟩
  | .hbm, ⟨27, _⟩ => ⟨S_, .bf16⟩
  | .hbm, ⟨28, _⟩ => ⟨S32x1x7168, .bf16⟩
  | .hbm, ⟨29, _⟩ => ⟨S32x1x7168, .bf16⟩
  | .hbm, ⟨30, _⟩ => ⟨S32x7168, .bf16⟩
  | .hbm, ⟨31, _⟩ => ⟨S32x8192, .bf16⟩
  | .hbm, ⟨32, _⟩ => ⟨S32x7168, .fp8e4m3⟩
  | .hbm, ⟨33, _⟩ => ⟨S32, .f32⟩
  | .local _ .vmem, ⟨0, _⟩ => ⟨S32x7168, .bf16⟩
  | .local _ .vmem, ⟨1, _⟩ => ⟨S7168x8192, .fp8e4m3⟩
  | .local _ .vmem, ⟨2, _⟩ => ⟨S8192, .f32⟩
  | .local _ .vmem, ⟨3, _⟩ => ⟨S32x8192, .bf16⟩
  | .local _ .vmem, ⟨4, _⟩ => ⟨S32x7168, .fp8e4m3⟩
  | .local _ .vmem, ⟨5, _⟩ => ⟨S32, .f32⟩
  | _, _ => ⟨S32x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_c_2 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_c_3 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v3 : Ref sig .tc := ⟨.hbm, 29, rfl⟩
abbrev main_v4 : Ref sig .tc := ⟨.hbm, 30, rfl⟩
abbrev main_v5_0 : Ref sig .tc := ⟨.hbm, 31, rfl⟩
abbrev main_v5_1 : Ref sig .tc := ⟨.hbm, 32, rfl⟩
abbrev main_v5_2 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Chk.lean ====
/-
  Which row pair the kernel fetches. For a length between 1 and 256 the printed word arithmetic is the plain
  `(length - 1) / 2`, and the side conditions the body assumes of the window it reads hold.
-/
module

public import proofs.«01_k».proof.Proof.Gen.Kernel.Frame

@[expose] public section

noncomputable section

namespace Cert.Kernel.Hand

open Cert.Kernel
open Idealize.ShloMosaic Idealize.ShloMosaic.TcCoe Idealize.ShloMosaic.Tactic

/-- A length the kernel accepts: at least one token, at most the 256 there are. -/
def InRange (v : BitVec 32) : Prop := 1 ≤ v.toNat ∧ v.toNat ≤ 256

/-- The printed pair number of the last token: floor division of `v - 1` by two, on signed words. -/
def pairWord (v : BitVec 32) : BitVec 32 :=
  let d : BitVec 32 := Scalar.subi v 1#32
  let s : BitVec 32 := Scalar.subi (Scalar.extui (Scalar.cmpi .sgt d 0#32)) (Scalar.extui (Scalar.cmpi .slt d 0#32))
  let s2 : BitVec 32 := Scalar.subi (Scalar.extui (Scalar.cmpi .sgt 2#32 0#32)) (Scalar.extui (Scalar.cmpi .slt 2#32 0#32))
  let q : BitVec 32 := Scalar.divsi d 2#32
  Scalar.select (Scalar.andi (Scalar.cmpi .ne s s2) (Scalar.cmpi .ne (Scalar.remsi d 2#32) 0#32)) (Scalar.subi q 1#32) q

/-- The window's offsets for batch entry `b`. -/
def pairOff (b : ℕ) (v : BitVec 32) : Fin 3 → ℕ := ![b, Nat.mul 2 (pairWord v).toNat, 0]

theorem pairWord_table : ∀ n : Fin 256, (pairWord (BitVec.ofNat 32 (n.val + 1))).toNat = n.val / 2 := by
  decide +kernel

/-- On an accepted length the printed pair number is `(length - 1) / 2`. -/
theorem pairWord_toNat {v : BitVec 32} (h : InRange v) : (pairWord v).toNat = (v.toNat - 1) / 2 := by
  have hv : v = BitVec.ofNat 32 ((⟨v.toNat - 1, by have := h.1; have := h.2; omega⟩ : Fin 256).val + 1) := by
    apply BitVec.eq_of_toNat_eq
    have := h.1; have := h.2
    simp only [BitVec.toNat_ofNat]
    rw [Nat.mod_eq_of_lt (by omega)]; omega
  conv_lhs => rw [hv]
  rw [pairWord_table]

theorem pairOff_inb {b : ℕ} (hb : b < 32) {v : BitVec 32} (h : InRange v) (a : Fin 3) :
    pairOff b v a + S1x2x7168.size a ≤ S32x256x7168.size a := by
  have h1 := h.1; have h2 := h.2; have h3 := pairWord_toNat h
  match a with
  | ⟨0, _⟩ => show b + 1 ≤ 32; omega
  | ⟨1, _⟩ => show 2 * (pairWord v).toNat + 2 ≤ 256; omega
  | ⟨2, _⟩ => show 0 + 7168 ≤ 7168; omega

/-- The side condition of a wait on the window, and of an issue from it. -/
abbrev WaitChk (o : Fin 3 → ℕ) : Prop :=
  (∀ a, o a + S1x2x7168.size a ≤ S32x256x7168.size a) ∧
  (∀ (hinb : ∀ a, o a + S1x2x7168.size a ≤ S32x256x7168.size a),
    (Rect.unit (s := S32x256x7168) o S1x2x7168.size hinb).WholeWords (EltTy.packing .bf16))
theorem pair_wholeWords (b : ℕ) (v : BitVec 32) (hinb : ∀ a, pairOff b v a + S1x2x7168.size a ≤ S32x256x7168.size a) :
    (Rect.unit (s := S32x256x7168) (pairOff b v) S1x2x7168.size hinb).WholeWords (EltTy.packing .bf16) := by
  have h2 : 2 ≤ S32x256x7168.rank := by decide
  exact .inl (.inr ⟨h2, rfl, .inl ⟨Nat.dvd_mul_right 2 _, Nat.dvd_refl 2⟩⟩)

theorem waitChk {b : ℕ} (hb : b < 32) {v : BitVec 32} (h : InRange v) : WaitChk (pairOff b v) :=
  ⟨pairOff_inb hb h, pair_wholeWords b v⟩
end Cert.Kernel.Hand

end
-- ==== Proof.Kernel.Bufs.lean ====
/-
  What the body of the kernel touches: its arrays, its scratch buffers and their sixteen column blocks.
-/
module

public import proofs.«01_k».proof.Proof.Kernel.Chk
public import proofs.«01_k».proof.Proof.Gen.Kernel.Loops
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The buffers of the body -/

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev mX : Memref sig .tc .hbm S32x256x7168 .bf16 := Memref.whole main_arg0
abbrev mLen : Memref sig .tc .hbm S32 .i32 := Memref.whole main_arg1
abbrev mW : Memref sig .tc .hbm S7168x8192 .fp8e4m3 := Memref.whole main_arg2
abbrev mWs : Memref sig .tc .hbm S1x8192 .f32 := Memref.whole main_v0
abbrev mY : Memref sig .tc .hbm S32x8192 .bf16 := Memref.whole main_v1_0
abbrev mCodes : Memref sig .tc .hbm S32x7168 .fp8e4m3 := Memref.whole main_v1_1
abbrev mScale : Memref sig .tc .hbm S32 .f32 := Memref.whole main_v1_2
abbrev sW : Memref sig .tc .vmem S16x7168x512 .fp8e4m3 := Memref.whole cc0_scratch0
abbrev sX : Memref sig .tc .vmem S32x7168 .i32 := Memref.whole cc0_scratch1
abbrev sCodes : Memref sig .tc .vmem S32x7168 .fp8e4m3 := Memref.whole cc0_scratch2
abbrev sWs : Memref sig .tc .vmem S1x8192 .f32 := Memref.whole cc0_scratch3
abbrev sY : Memref sig .tc .vmem S32x8192 .bf16 := Memref.whole cc0_scratch4
abbrev sRow : Memref sig .tc .vmem S32 .f32 := Memref.whole cc0_scratch5
abbrev sCol : Memref sig .tc .vmem S32x128 .f32 := Memref.whole cc0_scratch6
abbrev sLen : Memref sig .tc .smem S32 .i32 := Memref.whole cc0_scratch7

/-! ## The sixteen column blocks -/

theorem slab_inb (j : Fin 16) : ∀ a, (![j.val, 0, 0] : Fin 3 → Nat) a + S1x7168x512.size a ≤ S16x7168x512.size a := by
  have := j.isLt; intro a; fin_cases a
  · show j.val + 1 ≤ 16; omega
  · show 0 + 7168 ≤ 7168; omega
  · show 0 + 512 ≤ 512; omega
theorem wcol_inb (j : Fin 16) : ∀ a, (![0, j.val * 512] : Fin 2 → Nat) a + S7168x512.size a ≤ S7168x8192.size a := by
  have := j.isLt; intro a; fin_cases a
  · show 0 + 7168 ≤ 7168; omega
  · show j.val * 512 + 512 ≤ 8192; omega
theorem ycol_inb (j : Fin 16) : ∀ a, (![0, j.val * 512] : Fin 2 → Nat) a + S32x512.size a ≤ S32x8192.size a := by
  have := j.isLt; intro a; fin_cases a
  · show 0 + 32 ≤ 32; omega
  · show j.val * 512 + 512 ≤ 8192; omega

/-- Slab `j` of the weights' staging buffer. -/
def slab (j : Fin 16) : Memref sig .tc .vmem S7168x512 .fp8e4m3 :=
  (sW.slice (Rect.unit (s := S16x7168x512) ![j.val, 0, 0] S1x7168x512.size (slab_inb j)) (fun _ => rfl)).squeeze S7168x512 squeezes_S1x7168x512_S7168x512
/-- Column block `j` of the weights. -/
def wcol (j : Fin 16) : Memref sig .tc .hbm S7168x512 .fp8e4m3 :=
  mW.slice (Rect.unit (s := S7168x8192) ![0, j.val * 512] S7168x512.size (wcol_inb j)) (fun _ => rfl)
/-- Column block `j` of the staged and of the final result. -/
def ystage (j : Fin 16) : Memref sig .tc .vmem S32x512 .bf16 :=
  sY.slice (Rect.unit (s := S32x8192) ![0, j.val * 512] S32x512.size (ycol_inb j)) (fun _ => rfl)
def ycol (j : Fin 16) : Memref sig .tc .hbm S32x512 .bf16 :=
  mY.slice (Rect.unit (s := S32x8192) ![0, j.val * 512] S32x512.size (ycol_inb j)) (fun _ => rfl)

abbrev slabPt (c : Dev nD) (j : Fin 16) (f : HbBuf (F := F) c sW) : sProp 𝕄 := (slab j).view.loc (c : Thread nD τ) ↦[(slab j).view.set]{fullShare} f
abbrev wcolPt (c : Dev nD) (j : Fin 16) (f : HbBuf (F := F) c mW) : sProp 𝕄 := (wcol j).view.loc (c : Thread nD τ) ↦[(wcol j).view.set]{fullShare} f
abbrev ystagePt (c : Dev nD) (j : Fin 16) (f : HbBuf (F := F) c sY) : sProp 𝕄 := (ystage j).view.loc (c : Thread nD τ) ↦[(ystage j).view.set]{fullShare} f
abbrev ycolPt (c : Dev nD) (j : Fin 16) (f : HbBuf (F := F) c mY) : sProp 𝕄 := (ycol j).view.loc (c : Thread nD τ) ↦[(ycol j).view.set]{fullShare} f

theorem bigSep_fin16 (Φ : Fin 16 → sProp 𝕄) : bigSep Finset.univ Φ =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  BI.bigSep_eq_bigSepL_of_eq [0, 1, 2, 3, 4, 5, 6, 7, 8, 9, 10, 11, 12, 13, 14, 15] (by decide) (by decide) Φ

/-! ## The thirty-two gathered rows -/

theorem xslot_inb (b : Fin 32) : ∀ a, (![b.val, 0] : Fin 2 → Nat) a + S1x7168.size a ≤ S32x7168.size a := by
  have := b.isLt; intro a; fin_cases a
  · show b.val + 1 ≤ 32; omega
  · show 0 + 7168 ≤ 7168; omega
/-- The place of batch `b` in the staging buffer of the gathered rows, a word row: two rows of the array. -/
def xslot (b : Fin 32) : Memref sig .tc .vmem S1x7168 .i32 :=
  sX.slice (Rect.unit (s := S32x7168) ![b.val, 0] S1x7168.size (xslot_inb b)) (fun _ => rfl)
abbrev xslotPt (c : Dev nD) (b : Fin 32) (f : HbBuf (F := F) c sX) : sProp 𝕄 := (xslot b).view.loc (c : Thread nD τ) ↦[(xslot b).view.set]{fullShare} f

/-- The share of the gathered array that the transfer of batch `b` reads under. -/
def rdShare (b : Fin 32) : PosShare TreeShare := Transfers.shareTokN fullShare b.val
def rdRest : PosShare TreeShare := Transfers.shareDrop fullShare 32
abbrev xTok (c : Dev nD) (b : Fin 32) (f : HbBuf (F := F) c mX) : sProp 𝕄 := mX.view.loc (c : Thread nD τ) ↦{rdShare b} f

theorem bigSep_fin32 (Φ : Fin 32 → sProp 𝕄) : bigSep Finset.univ Φ =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  BI.bigSep_eq_bigSepL_of_eq [0, 1, 2, 3, 4, 5, 6, 7, 8, 9, 10, 11, 12, 13, 14, 15, 16, 17, 18, 19, 20, 21, 22, 23, 24, 25, 26, 27, 28, 29, 30, 31] (by decide) (by decide) Φ

end Cert.Kernel.Hand

end
-- ==== Proof.Kernel.Pieces.lean ====
/-
  The arrays of the body as their pieces: rows, slabs and column blocks.
-/
module

public import proofs.«01_k».proof.Proof.Kernel.Bufs
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## Membership of an element in a piece -/

theorem mem_xrect (b : Fin 32) (y : S32x7168.Idx) : y ∈ (Rect.unit (s := S32x7168) ![b.val, 0] S1x7168.size (xslot_inb b)).set ↔ (y 0).val = b.val := by
  rw [Rect.mem_set_unit]
  have h1 : (y 1).val < 7168 := (y 1).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 7168; omega
theorem mem_wrect (b : Fin 16) (y : S16x7168x512.Idx) : y ∈ (Rect.unit (s := S16x7168x512) ![b.val, 0, 0] S1x7168x512.size (slab_inb b)).set ↔ (y 0).val = b.val := by
  rw [Rect.mem_set_unit]
  have h1 : (y 1).val < 7168 := (y 1).isLt
  have h2 : (y 2).val < 512 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 7168; omega
    · show 0 ≤ (y 2).val ∧ (y 2).val < 0 + 512; omega
theorem mem_crect (b : Fin 16) (y : S7168x8192.Idx) : y ∈ (Rect.unit (s := S7168x8192) ![0, b.val * 512] S7168x512.size (wcol_inb b)).set ↔ (y 1).val / 512 = b.val := by
  rw [Rect.mem_set_unit]
  have h0 : (y 0).val < 7168 := (y 0).isLt
  constructor
  · intro H; have a0 : b.val * 512 ≤ (y 1).val ∧ (y 1).val < b.val * 512 + 512 := H 1; omega
  · intro H a; fin_cases a
    · show 0 ≤ (y 0).val ∧ (y 0).val < 0 + 7168; omega
    · show b.val * 512 ≤ (y 1).val ∧ (y 1).val < b.val * 512 + 512; omega
theorem mem_yrect (b : Fin 16) (y : S32x8192.Idx) : y ∈ (Rect.unit (s := S32x8192) ![0, b.val * 512] S32x512.size (ycol_inb b)).set ↔ (y 1).val / 512 = b.val := by
  rw [Rect.mem_set_unit]
  have h0 : (y 0).val < 32 := (y 0).isLt
  constructor
  · intro H; have a0 : b.val * 512 ≤ (y 1).val ∧ (y 1).val < b.val * 512 + 512 := H 1; omega
  · intro H a; fin_cases a
    · show 0 ≤ (y 0).val ∧ (y 0).val < 0 + 32; omega
    · show b.val * 512 ≤ (y 1).val ∧ (y 1).val < b.val * 512 + 512; omega

theorem xslot_set (b : Fin 32) : (xslot b).view.set = (Rect.unit (s := S32x7168) ![b.val, 0] S1x7168.size (xslot_inb b)).set := by
  unfold xslot; exact View.set_slice_whole _ _
theorem slab_set (b : Fin 16) : (slab b).view.set = (Rect.unit (s := S16x7168x512) ![b.val, 0, 0] S1x7168x512.size (slab_inb b)).set := by
  unfold slab; exact (View.set_reshape _ _).trans (View.set_slice_whole _ _)
theorem wcol_set (b : Fin 16) : (wcol b).view.set = (Rect.unit (s := S7168x8192) ![0, b.val * 512] S7168x512.size (wcol_inb b)).set := by
  unfold wcol; exact View.set_slice_whole _ _
theorem ystage_set (b : Fin 16) : (ystage b).view.set = (Rect.unit (s := S32x8192) ![0, b.val * 512] S32x512.size (ycol_inb b)).set := by
  unfold ystage; exact View.set_slice_whole _ _
theorem ycol_set (b : Fin 16) : (ycol b).view.set = (Rect.unit (s := S32x8192) ![0, b.val * 512] S32x512.size (ycol_inb b)).set := by
  unfold ycol; exact View.set_slice_whole _ _

/-! ## A buffer is its pieces -/

/-- Pieces that a key tells apart make the whole, at contents that agree with each piece. -/
theorem keyed_blocks {ℓ : Loc nD τ sig} {B : Type} [Fintype B] [DecidableEq B] (I : B → Finset (Idx ℓ)) (key : Idx ℓ → B)
    (hI : ∀ b y, y ∈ I b ↔ key y = b) (g : B → Buf (Elt F) ℓ) (f : Buf (Elt F) ℓ) (h : ∀ b y, key y = b → g b y = f y) :
    (bigSep Finset.univ (fun b => (ℓ ↦[I b]{fullShare} g b : sProp 𝕄))) = (ℓ ↦{fullShare} f) := by
  refine Eq.trans ?_ (Ring.pointsTo_blocks (ℓ := ℓ) (q := fullShare) I ?_ ?_ f).symm
  · exact BI.bigSep_congr fun b _ => pointsTo_congr fun i hi => h b i ((hI b i).mp hi)
  · intro b b' hne; rw [Finset.disjoint_left]; intro y hy hy'
    exact hne (((hI b y).mp hy).symm.trans ((hI b' y).mp hy'))
  · ext y; simp only [Finset.mem_biUnion, Finset.mem_univ, _root_.true_and, iff_true]
    exact ⟨key y, (hI _ y).mpr rfl⟩

def xkey (y : S32x7168.Idx) : Fin 32 := ⟨(y 0).val, (y 0).isLt⟩
def wkey (y : S16x7168x512.Idx) : Fin 16 := ⟨(y 0).val, (y 0).isLt⟩
def ckey (y : S7168x8192.Idx) : Fin 16 := ⟨(y 1).val / 512, by have h : (y 1).val < 8192 := (y 1).isLt; omega⟩
def ykey (y : S32x8192.Idx) : Fin 16 := ⟨(y 1).val / 512, by have h : (y 1).val < 8192 := (y 1).isLt; omega⟩

/-- The gathered rows, place by place; places at contents of their own make the whole at contents that agree with each. -/
theorem sx_blocks (c : Dev nD) (g : Fin 32 → HbBuf (F := F) c sX) (f : HbBuf (F := F) c sX)
    (h : ∀ (b : Fin 32) (y : S32x7168.Idx), xkey y = b → g b y = f y) :
    bigSep Finset.univ (fun b => xslotPt c b (g b)) = hbPt c sX f :=
  keyed_blocks (ℓ := sX.view.loc (c : Thread nD τ)) (fun b : Fin 32 => (xslot b).view.set) xkey
    (fun b y => (iff_of_eq (congrArg (y ∈ ·) (xslot_set b))).trans ((mem_xrect b y).trans (@Fin.ext_iff _ (xkey y) b).symm)) g f h
theorem sw_blocks (c : Dev nD) (g : Fin 16 → HbBuf (F := F) c sW) (f : HbBuf (F := F) c sW)
    (h : ∀ (b : Fin 16) (y : S16x7168x512.Idx), wkey y = b → g b y = f y) :
    bigSep Finset.univ (fun b => slabPt c b (g b)) = hbPt c sW f :=
  keyed_blocks (ℓ := sW.view.loc (c : Thread nD τ)) (fun b : Fin 16 => (slab b).view.set) wkey
    (fun b y => (iff_of_eq (congrArg (y ∈ ·) (slab_set b))).trans ((mem_wrect b y).trans (@Fin.ext_iff _ (wkey y) b).symm)) g f h
theorem w_blocks (c : Dev nD) (f : HbBuf (F := F) c mW) :
    bigSep Finset.univ (fun b => wcolPt c b f) = hbPt c mW f :=
  keyed_blocks (ℓ := mW.view.loc (c : Thread nD τ)) (fun b : Fin 16 => (wcol b).view.set) ckey
    (fun b y => (iff_of_eq (congrArg (y ∈ ·) (wcol_set b))).trans ((mem_crect b y).trans (@Fin.ext_iff _ (ckey y) b).symm)) (fun _ => f) f (fun _ _ _ => rfl)
/-- The staged result and the result, column block by column block. -/
theorem sy_blocks (c : Dev nD) (g : Fin 16 → HbBuf (F := F) c sY) (f : HbBuf (F := F) c sY)
    (h : ∀ (b : Fin 16) (y : S32x8192.Idx), ykey y = b → g b y = f y) :
    bigSep Finset.univ (fun b => ystagePt c b (g b)) = hbPt c sY f :=
  keyed_blocks (ℓ := sY.view.loc (c : Thread nD τ)) (fun b : Fin 16 => (ystage b).view.set) ykey
    (fun b y => (iff_of_eq (congrArg (y ∈ ·) (ystage_set b))).trans ((mem_yrect b y).trans (@Fin.ext_iff _ (ykey y) b).symm)) g f h
theorem y_blocks (c : Dev nD) (g : Fin 16 → HbBuf (F := F) c mY) (f : HbBuf (F := F) c mY)
    (h : ∀ (b : Fin 16) (y : S32x8192.Idx), ykey y = b → g b y = f y) :
    bigSep Finset.univ (fun b => ycolPt c b (g b)) = hbPt c mY f :=
  keyed_blocks (ℓ := mY.view.loc (c : Thread nD τ)) (fun b : Fin 16 => (ycol b).view.set) ykey
    (fun b y => (iff_of_eq (congrArg (y ∈ ·) (ycol_set b))).trans ((mem_yrect b y).trans (@Fin.ext_iff _ (ykey y) b).symm)) g f h

abbrev xRest (c : Dev nD) (f : HbBuf (F := F) c mX) : sProp 𝕄 := mX.view.loc (c : Thread nD τ) ↦{rdRest} f
/-- The gathered array under thirty-two shares to read it by, and a rest. -/
theorem x_toks (c : Dev nD) (f : HbBuf (F := F) c mX) :
    hbPt c mX f ⊣⊢ iprop(xRest c f ∗ bigSep Finset.univ (fun b => xTok c b f)) := by
  have h : (bigSep Finset.univ (fun b => xTok c b f) : sProp 𝕄)
      = bigSep (Finset.range 32) (fun i => mX.view.loc (c : Thread nD τ) ↦{Transfers.shareTokN fullShare i} f) :=
    Ring.bigSep_fin_eq_range 32 (fun b => xTok c b f) _ (fun t ht => rfl)
  rw [h]
  exact Transfers.pointsTo_toks_range fullShare 32

/-- Thirty-two places, each at contents of its own, make the buffer whole. -/
theorem slots_join (c : Dev nD) (fs : Fin 32 → HbBuf (F := F) c sX) :
    bigSep Finset.univ (fun b => xslotPt c b (fs b)) = hbPt c sX (fun y => fs (xkey y) y) :=
  sx_blocks c fs (fun y => fs (xkey y) y) fun b y h => by subst h; rfl

end Cert.Kernel.Hand

end
-- ==== Proof.Kernel.Mid.lean ====
/-
  What lies between the two halves of the body: the gathered rows, and the transfers in flight.
-/
module

public import proofs.«01_k».proof.Proof.Kernel.Pieces
public import proofs.«01_k».proof.Proof.Kernel.Chk
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The transfers that are in flight between the two halves of the body -/

theorem sem_lt (j : Fin 16) : j.val < 22 := by have := j.isLt; omega
/-- The transfer of column block `j` of the weights, in flight on semaphore `j`. -/
def wFlight (c : Dev nD) (fsw : HbBuf (F := F) c sW) (fw : HbBuf (F := F) c mW) (j : Fin 16) : sProp 𝕄 :=
  Transfers.Flight countersEmb (c : Thread nD τ) (SemLoc.dma (sig := sig) ⟨j.val, sem_lt j⟩) default 114688
    iprop(slabPt c j ((slab j).view.writes (Elt F) fsw [⟨Rect.whole S7168x512, ReadAs.same.apply (View.read (Elt F) (wcol j).view fw)⟩]) ∗ wcolPt c j fw)
/-- The transfer of the output scales. -/
def wsFlight (c : Dev nD) (fsws : HbBuf (F := F) c sWs) (fws : HbBuf (F := F) c mWs) : sProp 𝕄 :=
  iprop(Transfers.Flight countersEmb (c : Thread nD τ) (SemLoc.dma (sig := sig) 18) default 1024
    iprop(hbPt c sWs (View.write (Elt F) sWs.view fsws (ReadAs.same.apply (View.read (Elt F) mWs.view fws)) Finset.univ) ∗ (mWs.view.loc (c : Thread nD τ) ↦[mWs.view.set]{fullShare} fws))
    ∗ (mWs.view.loc (c : Thread nD τ) ↦[Finset.univ \ mWs.view.set]{fullShare} fws))

/-- What the first half of the body leaves. -/
def mid (c : Dev nD) (fx : HbBuf (F := F) c mX) (flen : HbBuf (F := F) c mLen) (fw : HbBuf (F := F) c mW) (fws : HbBuf (F := F) c mWs) (fsw : HbBuf (F := F) c sW) (fsws : HbBuf (F := F) c sWs) : sProp 𝕄 :=
  iprop(hbPt c mX fx ∗ hbPt c mLen flen ∗ bigSep Finset.univ (wFlight c fsw fw) ∗ wsFlight c fsws fws ∗ (∃ X, hbPt c sX X) ∗ (∃ f, hbPt c sLen f)
    ∗ semVal ((c : Thread nD τ), SemLoc.dma 16) 0 ∗ semVal ((c : Thread nD τ), SemLoc.dma 17) 0 ∗ (∃ W, owes (c : Thread nD τ) 0 W))

end Cert.Kernel.Hand

end
-- ==== Proof.Kernel.Loop.lean ====
/-
  One trip of the loop over the column blocks, and the loop's invariant.
-/
module

public import proofs.«01_k».proof.Proof.Kernel.Mid
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-! ## The trips of the loop over the column blocks -/

theorem trips_eq : k0_t1_loop.trips = 16 := by decide
/-- The block that a trip works on. -/
def blk (t : Fin k0_t1_loop.trips) : Fin 16 := ⟨t.val, by have := t.isLt; have := trips_eq; omega⟩
theorem off65_eq : ∀ t, k0_off65 t = ![t.val] := by decide
theorem off66_eq : ∀ t, k0_off66 t = ![t.val, 0, 0] := by decide
theorem off67_eq : ∀ t, k0_off67 t = ![0, t.val * 512] := by decide
theorem off68_eq : ∀ t, k0_off68 t = ![t.val, 0, 0] := by decide
theorem off69_eq : ∀ t, k0_off69 t = ![0, t.val * 512] := by decide
theorem off70_eq : ∀ t, k0_off70 t = ![0, t.val * 512] := by decide
theorem off71_eq : ∀ t, k0_off71 t = ![0, t.val * 512] := by decide
theorem wsem_eq : ∀ t : Fin k0_t1_loop.trips, ((cc0_scratch8.slice (Rect.unit (s := S16) (k0_off65 t) S1.size (k0_off65_inb t))).squeeze S_ squeezes_S1_S_).sem = (⟨(blk t).val, sem_lt (blk t)⟩ : DmaSem sig) := by decide

/-- The trip that works on block `j`. -/
def tr (j : Fin 16) : Fin k0_t1_loop.trips := ⟨j.val, by have := j.isLt; have := trips_eq; omega⟩
theorem ws_inb (j : Fin 16) : ∀ a, (![0, j.val * 512] : Fin 2 → Nat) a + S1x512.size a ≤ S1x8192.size a := by
  have := j.isLt; intro a; fin_cases a
  · show 0 + 1 ≤ 1; omega
  · show j.val * 512 + 512 ≤ 8192; omega
theorem wcol_words (j : Fin 16) : (Rect.unit (s := S7168x8192) ![0, j.val * 512] S7168x512.size (wcol_inb j)).WholeWords (EltTy.packing .fp8e4m3) := by
  have h := k0_off67_wordsfp8e4m3 (tr j); simp only [off67_eq] at h; exact h
theorem slab_words (j : Fin 16) : (Rect.unit (s := S16x7168x512) ![j.val, 0, 0] S1x7168x512.size (slab_inb j)).WholeWords (EltTy.packing .fp8e4m3) := by
  have h := k0_off66_wordsfp8e4m3 (tr j); simp only [off66_eq] at h; exact h
theorem ycol_words (j : Fin 16) : (Rect.unit (s := S32x8192) ![0, j.val * 512] S32x512.size (ycol_inb j)).WholeWords (EltTy.packing .bf16) := by
  have h := k0_off71_wordsbf16 (tr j); simp only [off71_eq] at h; exact h
theorem ycol_packed (j : Fin 16) : (Rect.unit (s := S32x8192) ![0, j.val * 512] S32x512.size (ycol_inb j)).PackedRows (EltTy.packing .bf16) := by
  have h := k0_off70_packedbf16 (tr j); simp only [off70_eq] at h; exact h

/-- One trip of the loop, on column block `j`. -/
noncomputable def tripProg (j : Fin 16) : Prog (TpuEff nD τ sig (Elt F) Λ₀ .tc) Unit := do
  Prog.lift (.waitDma2 ⟨j.val, sem_lt j⟩ (wcol j) (slab j) ((Memref.isWhole_whole main_arg2).wordExact_slice rfl _ (wcol_words j)) (((Memref.isWhole_whole cc0_scratch0).wordExact_slice rfl _ (slab_words j)).reshape _ _))
  let v3640 : Vec F S32x7168 .fp8e4m3 ← Prog.lift (.load sCodes (Rect.unit (s := S32x7168) ![0, 0] S32x7168.size inb_S32x7168_S32x7168_0_0).toLoadRect (View.loadsAt_vmem h_S32x7168))
  let v3642 : Vec F S1x7168x512 .fp8e4m3 ← Prog.lift (.load sW (Rect.unit (s := S16x7168x512) ![j.val, 0, 0] S1x7168x512.size (slab_inb j)).toLoadRect (View.loadsAt_vmem h_S1x7168x512))
  let v3647 : Vec F S32x1 .f32 ← Prog.lift (.load sCol (Rect.unit (s := S32x128) ![0, 0] S32x1.size inb_S32x128_S32x1_0_0).toLoadRect (View.loadsAt_vmem h_S32x1))
  let v3651 : Vec F S1x512 .f32 ← Prog.lift (.load sWs (Rect.unit (s := S1x8192) ![0, j.val * 512] S1x512.size (ws_inb j)).toLoadRect (View.loadsAt_vmem h_S1x512))
  let v3656 : Vec F S32x512 .bf16 ← Prog.lift (.load sY (Rect.unit (s := S32x8192) ![0, j.val * 512] S32x512.size (ycol_inb j)).toLoadRect (View.loadsAt_vmem h_S32x512))
  Prog.lift (.store sY (Rect.unit (s := S32x8192) ![0, j.val * 512] S32x512.size (ycol_inb j)) (k0_pay145 v3640 v3642 v3647 v3651) Finset.univ (View.stores_vmem h_S32x512 ((Memref.isWhole_whole cc0_scratch4).storeExact_slice rfl _ (ycol_packed j)) (fun _ => rfl)) (.inl rfl))
  Prog.lift (.enqueueDma (ystage j) (.here (ycol j)) (.dma 21) ((Memref.isWhole_whole cc0_scratch4).wordExact_slice rfl _ (ycol_words j)) ((Memref.isWhole_whole main_v1_0).wordExact_slice rfl _ (ycol_words j)) ⟨Or.inl rfl, trivial⟩)
  pure ⟨⟩

theorem trip_eq (v1552 v1777 : IVec S32x128 32) (v2258 : FVec F S32x128 .f32) : ∀ j : Fin 16,
    k0_t1_body (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258 (tr j) () = tripProg j := by
  intro j; fin_cases j <;> rfl

section Loop
variable (c : Dev nD) (C : HbBuf (F := F) c sCodes) (S : HbBuf (F := F) c sCol) (w : HbBuf (F := F) c sWs) (fsw : HbBuf (F := F) c sW) (fw : HbBuf (F := F) c mW) (fsy : HbBuf (F := F) c sY) (fy : HbBuf (F := F) c mY) (q : PosShare TreeShare)

/-- What trip `j` computes: column block `j` of the result. -/
def yblk (j : Fin 16) : S32x512.Idx → Elt F .bf16 :=
  k0_pay145 (View.readAt (Elt F) sCodes.view (Rect.unit (s := S32x7168) ![0, 0] S32x7168.size inb_S32x7168_S32x7168_0_0).toLoadRect C)
    (View.readAt (Elt F) sW.view (Rect.unit (s := S16x7168x512) ![j.val, 0, 0] S1x7168x512.size (slab_inb j)).toLoadRect
      ((slab j).view.writes (Elt F) (slab j).view.junk [⟨Rect.whole S7168x512, ReadAs.same.apply (View.read (Elt F) (wcol j).view fw)⟩]))
    (View.readAt (Elt F) sCol.view (Rect.unit (s := S32x128) ![0, 0] S32x1.size inb_S32x128_S32x1_0_0).toLoadRect S)
    (View.readAt (Elt F) sWs.view (Rect.unit (s := S1x8192) ![0, j.val * 512] S1x512.size (ws_inb j)).toLoadRect w)
/-- The staged block after the trip's store. -/
def ystored (j : Fin 16) : HbBuf (F := F) c sY :=
  View.write (Elt F) (sY.access (Rect.unit (s := S32x8192) ![0, j.val * 512] S32x512.size (ycol_inb j))) fsy (yblk c C S w fw j) Finset.univ
/-- What the transfer out of block `j` delivers. -/
abbrev yout (j : Fin 16) : sProp 𝕄 :=
  iprop(((ycol j).view.loc (c : Thread nD τ) ↦[(ycol j).view.set]{fullShare} (ycol j).view.writes (Elt F) fy [⟨Rect.whole S32x512, ReadAs.same.apply (View.read (Elt F) (ystage j).view (ystored c C S w fw fsy j))⟩])
    ∗ ((ystage j).view.loc (c : Thread nD τ) ↦[(ystage j).view.set]{fullShare} ystored c C S w fw fsy j))
/-- Block `j` before its trip, and after it. -/
abbrev ahead (j : Fin 16) : sProp 𝕄 := iprop(wFlight c fsw fw j ∗ ystagePt c j fsy ∗ ycolPt c j fy)
abbrev behind (j : Fin 16) : sProp 𝕄 := iprop((∃ f, slabPt c j f) ∗ wcolPt c j fw ∗ semVal ((c : Thread nD τ), SemLoc.dma (sig := sig) ⟨j.val, sem_lt j⟩) 0)
/-- Before trip `k`. -/
def loopAt (k : ℕ) (_ : Unit) : sProp 𝕄 :=
  iprop(Transfers.Batch countersEmb (c : Thread nD τ) (SemLoc.dma (sig := sig) 21) () 1024 (yout c C S w fw fsy fy) k 0
    ∗ (sCodes.view.loc (c : Thread nD τ) ↦{q} C) ∗ hbPt c sCol S ∗ hbPt c sWs w
    ∗ bigSep (Ring.rangeSet 16 k 16) (ahead c fsw fw fsy fy) ∗ bigSep (Ring.rangeSet 16 0 k) (behind c fw) ∗ (∃ W, owes (c : Thread nD τ) 0 W))

theorem trip_step (j : Fin 16) : loopAt c C S w fsw fw fsy fy q j.val () ⊢ wp frame (wpE (defs₀ (F := F)) Variants.none (c : Thread nD τ) none) Set.univ (tripProg j)
    (loopAt c C S w fsw fw fsy fy q (j.val + 1)) := by
  have hj := j.isLt
  unfold loopAt
  have hA : bigSep (Ring.rangeSet 16 j.val 16) (ahead c fsw fw fsy fy) = iprop(ahead c fsw fw fsy fy j ∗ bigSep (Ring.rangeSet 16 (j.val + 1) 16) (ahead c fsw fw fsy fy)) :=
    Ring.bigSep_rangeSet_head hj hj
  have hB : bigSep (Ring.rangeSet 16 0 (j.val + 1)) (behind c fw) = iprop(behind c fw j ∗ bigSep (Ring.rangeSet 16 0 j.val) (behind c fw)) :=
    Ring.bigSep_rangeSet_last (by omega) (by omega)
  rw [hA, hB]
  unfold ahead wFlight
  iintro ⟨HB, HC, HS, HWS, ⟨⟨HF, HYS, HYC⟩, HA⟩, HD, ⟨%W, HO⟩⟩
  unfold tripProg
  sl_exec
  sl_step
  unfold behind
  isplitl [HB]; · iexact HB
  isplitl [HC]; · iexact HC
  isplitl [HS]; · iexact HS
  isplitl [HWS]; · iexact HWS
  isplitl [HA]; · iexact HA
  isplitr [HO]
  · isplitr [HD]
    · isplitl [HF_dst]; · iexists _; iexact HF_dst
      isplitl [HF_src]; · iexact HF_src
      iexact HF
    iexact HD
  iexists _; iexact HO

theorem loop_step (v1552 v1777 : IVec S32x128 32) (v2258 : FVec F S32x128 .f32) (t : Fin k0_t1_loop.trips) (acc : Unit) :
    loopAt c C S w fsw fw fsy fy q t.val acc ⊢ wp frame (wpE (defs₀ (F := F)) Variants.none (c : Thread nD τ) none) Set.univ (k0_t1_body (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258 t acc)
      (loopAt c C S w fsw fw fsy fy q (t.val + 1)) := by
  have h := trip_step c C S w fsw fw fsy fy q (blk t)
  rw [← trip_eq v1552 v1777 v2258] at h
  exact h

set_option warn.classDefReducibility false in
/-- The invariant of the loop over the column blocks. -/
@[sl_loop] def blocksInv (v1552 v1777 : IVec S32x128 32) (v2258 : FVec F S32x128 .f32) :
    LoopInv (M := 𝕄) frame (wpE (defs₀ (F := F)) Variants.none (c : Thread nD τ) none) Set.univ k0_t1_loop.lb k0_t1_loop.ub k0_t1_loop.st k0_t1_ok ()
      (k0_t1_body (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258) where
  inv := loopAt c C S w fsw fw fsy fy q
  step := loop_step c C S w fsw fw fsy fy q v1552 v1777 v2258
end Loop

end Cert.Kernel.Hand

end
-- ==== Proof.Kernel.Run95.lean ====
/-
  The first half of the body.
-/
module

public import proofs.«01_k».proof.Proof.Kernel.Mid
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The first half of the body. -/
abbrev call95 : Prog (TpuEff nD τ sig (Elt F) Λ₀ .tc) (Σ' (v1552 : IVec S32x128 32) (v1777 : IVec S32x128 32), FVec F S32x128 .f32) :=
  k0_part95 mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13

theorem slots_some (c : Dev nD) (f₀ : HbBuf (F := F) c sX) : iprop((∃ f, xslotPt c 0 f) ∗ (∃ f, xslotPt c 1 f) ∗ (∃ f, xslotPt c 2 f) ∗ (∃ f, xslotPt c 3 f) ∗ (∃ f, xslotPt c 4 f) ∗ (∃ f, xslotPt c 5 f) ∗ (∃ f, xslotPt c 6 f) ∗ (∃ f, xslotPt c 7 f) ∗ (∃ f, xslotPt c 8 f) ∗ (∃ f, xslotPt c 9 f) ∗ (∃ f, xslotPt c 10 f) ∗ (∃ f, xslotPt c 11 f) ∗ (∃ f, xslotPt c 12 f) ∗ (∃ f, xslotPt c 13 f) ∗ (∃ f, xslotPt c 14 f) ∗ (∃ f, xslotPt c 15 f) ∗ (∃ f, xslotPt c 16 f) ∗ (∃ f, xslotPt c 17 f) ∗ (∃ f, xslotPt c 18 f) ∗ (∃ f, xslotPt c 19 f) ∗ (∃ f, xslotPt c 20 f) ∗ (∃ f, xslotPt c 21 f) ∗ (∃ f, xslotPt c 22 f) ∗ (∃ f, xslotPt c 23 f) ∗ (∃ f, xslotPt c 24 f) ∗ (∃ f, xslotPt c 25 f) ∗ (∃ f, xslotPt c 26 f) ∗ (∃ f, xslotPt c 27 f) ∗ (∃ f, xslotPt c 28 f) ∗ (∃ f, xslotPt c 29 f) ∗ (∃ f, xslotPt c 30 f) ∗ (∃ f, xslotPt c 31 f)) ⊢ (iprop(∃ X, hbPt c sX X) : sProp 𝕄) := by
  have : Nonempty (HbBuf (F := F) c sX) := ⟨f₀⟩
  refine (Entails.of_eq (bigSep_fin32 (fun b => iprop(∃ f, xslotPt c b f))).symm).trans ?_
  refine (BI.bigSep_exists_pi Finset.univ (fun b (f : HbBuf (F := F) c sX) => (xslotPt c b f : sProp 𝕄))).trans ?_
  iintro ⟨%fs, H⟩
  iexists (fun y => fs (xkey y) y)
  iapply (Entails.of_eq (slots_join c fs))
  iexact H

theorem run95 (c : Dev nD) (fx : HbBuf (F := F) c mX) (flen : HbBuf (F := F) c mLen) (fw : HbBuf (F := F) c mW) (fws : HbBuf (F := F) c mWs) (fsw : HbBuf (F := F) c sW) (fsx : HbBuf (F := F) c sX) (fsws : HbBuf (F := F) c sWs) (fslen : HbBuf (F := F) c sLen) (W : Waits sig Unit) (K)
    (hlen : ∀ i, InRange (flen i)) (_plan : Transfers.BatchOf (c : Thread nD τ) (SemLoc.dma (sig := sig) 16) 32) :
    iprop(hbPt c mX fx ∗ hbPt c mLen flen ∗ bigSep Finset.univ (fun j => wcolPt c j fw) ∗ hbPt c mWs fws ∗ bigSep Finset.univ (fun j => slabPt c j fsw) ∗ bigSep Finset.univ (fun b => xslotPt c b fsx) ∗ hbPt c sWs fsws ∗ hbPt c sLen fslen
      ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
      ∗ (∀ r, mid c fx flen fw fws fsw fsws -∗ K r))
      ⊢ wp frame (wpE (defs₀ (F := F)) Variants.none (c : Thread nD τ) none) Set.univ call95 K := by
  rw [bigSep_fin16, bigSep_fin16, bigSep_fin32]
  iintro ⟨Hx, Hlen, ⟨Hw0, Hw1, Hw2, Hw3, Hw4, Hw5, Hw6, Hw7, Hw8, Hw9, Hw10, Hw11, Hw12, Hw13, Hw14, Hw15⟩, Hws, ⟨Hsw0, Hsw1, Hsw2, Hsw3, Hsw4, Hsw5, Hsw6, Hsw7, Hsw8, Hsw9, Hsw10, Hsw11, Hsw12, Hsw13, Hsw14, Hsw15⟩, ⟨Hsx0, Hsx1, Hsx2, Hsx3, Hsx4, Hsx5, Hsx6, Hsx7, Hsx8, Hsx9, Hsx10, Hsx11, Hsx12, Hsx13, Hsx14, Hsx15, Hsx16, Hsx17, Hsx18, Hsx19, Hsx20, Hsx21, Hsx22, Hsx23, Hsx24, Hsx25, Hsx26, Hsx27, Hsx28, Hsx29, Hsx30, Hsx31⟩, Hsws, Hslen, Q0, Q1, Q2, Q3, Q4, Q5, Q6, Q7, Q8, Q9, Q10, Q11, Q12, Q13, Q14, Q15, Q16, Q17, Q18, HW, HK⟩
  ihave HX := (x_toks c fx).1 $$ Hx
  rw [bigSep_fin32]
  icases HX with ⟨HXrest, Hx0, Hx1, Hx2, Hx3, Hx4, Hx5, Hx6, Hx7, Hx8, Hx9, Hx10, Hx11, Hx12, Hx13, Hx14, Hx15, Hx16, Hx17, Hx18, Hx19, Hx20, Hx21, Hx22, Hx23, Hx24, Hx25, Hx26, Hx27, Hx28, Hx29, Hx30, Hx31⟩
  unfold call95
  set_option sl_exec.stopBefore "k0_part44" in sl_exec (disch := first | exact waitChk (by decide) (hlen _))
  have hx := x_toks c fx
  rw [bigSep_fin32] at hx
  ihave Hx := hx.2 $$ [HXrest Hx0 Hx1 Hx2 Hx3 Hx4 Hx5 Hx6 Hx7 Hx8 Hx9 Hx10 Hx11 Hx12 Hx13 Hx14 Hx15 Hx16 Hx17 Hx18 Hx19 Hx20 Hx21 Hx22 Hx23 Hx24 Hx25 Hx26 Hx27 Hx28 Hx29 Hx30 Hx31]
  · iframe
  ihave HSX : (iprop(∃ X, hbPt c sX X) : sProp 𝕄) $$ [Hsx0 Hsx1 Hsx2 Hsx3 Hsx4 Hsx5 Hsx6 Hsx7 Hsx8 Hsx9 Hsx10 Hsx11 Hsx12 Hsx13 Hsx14 Hsx15 Hsx16 Hsx17 Hsx18 Hsx19 Hsx20 Hsx21 Hsx22 Hsx23 Hsx24 Hsx25 Hsx26 Hsx27 Hsx28 Hsx29 Hsx30 Hsx31]
  · iapply (slots_some c fsx)
    isplitl [Hsx0]; · iexists _; iexact Hsx0
    isplitl [Hsx1]; · iexists _; iexact Hsx1
    isplitl [Hsx2]; · iexists _; iexact Hsx2
    isplitl [Hsx3]; · iexists _; iexact Hsx3
    isplitl [Hsx4]; · iexists _; iexact Hsx4
    isplitl [Hsx5]; · iexists _; iexact Hsx5
    isplitl [Hsx6]; · iexists _; iexact Hsx6
    isplitl [Hsx7]; · iexists _; iexact Hsx7
    isplitl [Hsx8]; · iexists _; iexact Hsx8
    isplitl [Hsx9]; · iexists _; iexact Hsx9
    isplitl [Hsx10]; · iexists _; iexact Hsx10
    isplitl [Hsx11]; · iexists _; iexact Hsx11
    isplitl [Hsx12]; · iexists _; iexact Hsx12
    isplitl [Hsx13]; · iexists _; iexact Hsx13
    isplitl [Hsx14]; · iexists _; iexact Hsx14
    isplitl [Hsx15]; · iexists _; iexact Hsx15
    isplitl [Hsx16]; · iexists _; iexact Hsx16
    isplitl [Hsx17]; · iexists _; iexact Hsx17
    isplitl [Hsx18]; · iexists _; iexact Hsx18
    isplitl [Hsx19]; · iexists _; iexact Hsx19
    isplitl [Hsx20]; · iexists _; iexact Hsx20
    isplitl [Hsx21]; · iexists _; iexact Hsx21
    isplitl [Hsx22]; · iexists _; iexact Hsx22
    isplitl [Hsx23]; · iexists _; iexact Hsx23
    isplitl [Hsx24]; · iexists _; iexact Hsx24
    isplitl [Hsx25]; · iexists _; iexact Hsx25
    isplitl [Hsx26]; · iexists _; iexact Hsx26
    isplitl [Hsx27]; · iexists _; iexact Hsx27
    isplitl [Hsx28]; · iexists _; iexact Hsx28
    isplitl [Hsx29]; · iexists _; iexact Hsx29
    isplitl [Hsx30]; · iexists _; iexact Hsx30
    iexists _; iexact Hsx31
  icases HSX with ⟨%X, HSX⟩
  sl_exec
  sl_step
  iapply HK
  unfold mid wsFlight
  rw [bigSep_fin16]
  unfold wFlight
  isplitl [Hx]; · iexact Hx
  isplitl [Hlen]; · iexact Hlen
  isplitl [Q0 Q1 Q2 Q3 Q4 Q5 Q6 Q7 Q8 Q9 Q10 Q11 Q12 Q13 Q14 Q15]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    iexact Q15
  isplitl [Q18 Hws]
  · isplitl [Q18]; · iexact Q18
    iexact Hws
  isplitl [HSX]; · iexists _; iexact HSX
  isplitl [Hslen]; · iexists _; iexact Hslen
  isplitl [Q16]; · iexact Q16
  isplitl [Q17]; · iexact Q17
  iexists _; iexact HW

end Cert.Kernel.Hand

end
-- ==== Proof.Kernel.Run96.lean ====
/-
  The second half of the body.
-/
module

public import proofs.«01_k».proof.Proof.Kernel.Loop
public import proofs.«01_k».proof.Proof.Kernel.Run95
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

/-- The second half of the body. -/
def tailProg (v1552 v1777 : IVec S32x128 32) (v2258 : FVec F S32x128 .f32) : Prog (TpuEff nD τ sig (Elt F) Λ₀ .tc) PUnit := do
  k0_part96 mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258
  Prog.lift (.waitDma2 ((cc0_scratch12.slice (Rect.unit (s := S2) ![0] S1.size inb_S2_S1_0)).squeeze S_ squeezes_S1_S_).sem sCodes mCodes (Memref.isWhole_whole cc0_scratch2).wordExact (Memref.isWhole_whole main_v1_1).wordExact)
  Prog.lift (.waitDma2 ((cc0_scratch12.slice (Rect.unit (s := S2) ![1] S1.size inb_S2_S1_1)).squeeze S_ squeezes_S1_S_).sem sRow mScale (Memref.isWhole_whole cc0_scratch5).wordExact (Memref.isWhole_whole main_v1_2).wordExact)
  pure ⟨⟩

theorem body_eq : cc0_last_token_fp8_linear (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 = (call95 >>= fun r => tailProg r.1 r.2.1 r.2.2) := by
  rfl

theorem pt_storable (ℓ : Loc nD τ sig) (I : Finset (Idx ℓ)) (q : PosShare TreeShare) (f : Buf (Elt F) ℓ) :
    Storable (upEmb : UEmb _ 𝕄) (pointsTo ℓ I q f : sProp 𝕄) := inferInstance
theorem sep_storable (P Q : sProp 𝕄) (h1 : Storable (upEmb : UEmb _ 𝕄) P) (h2 : Storable (upEmb : UEmb _ 𝕄) Q) :
    Storable (upEmb : UEmb _ 𝕄) iprop(P ∗ Q) := inferInstance
instance yout_storable (c : Dev nD) (C : HbBuf (F := F) c sCodes) (S : HbBuf (F := F) c sCol) (w : HbBuf (F := F) c sWs) (fw : HbBuf (F := F) c mW) (fsy : HbBuf (F := F) c sY) (fy : HbBuf (F := F) c mY) (j : Fin 16) :
    Storable (upEmb : UEmb _ 𝕄) (yout c C S w fw fsy fy j) :=
  sep_storable _ _ (pt_storable _ _ _ _) (pt_storable _ _ _ _)

theorem batch_start (c : Dev nD) (D : Fin 16 → sProp 𝕄) (h : ∀ t, Storable (upEmb : UEmb _ 𝕄) (D t)) :
    (semVal ((c : Thread nD τ), SemLoc.dma (sig := sig) 21) 0 : sProp 𝕄) ⊢ |={Set.univ}=> Transfers.Batch (countersEmb (U := Pipeline.UD sig nD τ)) (c : Thread nD τ) (SemLoc.dma (sig := sig) 21) () 1024 D 0 0 :=
  Transfers.batch_alloc' (Lvl := ℕ) (countersEmb (U := Pipeline.UD sig nD τ)) (c : Thread nD τ) () 1024 D

/-- What the second half leaves, at the codes `C`, the column of scales `S` and the row of scales `R`. -/
def final (c : Dev nD) (X : HbBuf (F := F) c sX) (fw : HbBuf (F := F) c mW) (fws : HbBuf (F := F) c mWs) (fsws : HbBuf (F := F) c sWs) (fsy : HbBuf (F := F) c sY) (fy : HbBuf (F := F) c mY) (fcodes : HbBuf (F := F) c mCodes) (fscale : HbBuf (F := F) c mScale)
    (C : HbBuf (F := F) c sCodes) (S : HbBuf (F := F) c sCol) (dC : S32x7168.Idx → Elt F .fp8e4m3) (dR : S32.Idx → Elt F .f32) : sProp 𝕄 :=
  iprop(bigSep Finset.univ (yout c C S (View.write (Elt F) sWs.view fsws (ReadAs.same.apply (View.read (Elt F) mWs.view fws)) Finset.univ) fw fsy fy) ∗ bigSep Finset.univ (behind c fw) ∗ hbPt c mWs fws ∗ hbPt c sX X
    ∗ (∃ f, hbPt c sCodes f) ∗ (∃ f, hbPt c sRow f) ∗ (∃ f, hbPt c sCol f) ∗ (∃ f, hbPt c sWs f)
    ∗ hbPt c mCodes (View.write (Elt F) mCodes.view fcodes dC Finset.univ) ∗ hbPt c mScale (View.write (Elt F) mScale.view fscale dR Finset.univ)
    ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0 ∗ (∃ W, owes (c : Thread nD τ) 0 W))

theorem share_join {ℓ : Loc nD τ sig} {f g : Buf (Elt F) ℓ} :
    iprop((ℓ ↦{fullShare.left} f) ∗ ℓ ↦{fullShare.right} g) ⊢ (ℓ ↦{fullShare} f : sProp 𝕄) := by
  iintro ⟨H, G⟩
  ihave %e := pointsTo_agree $$ [H G]
  · isplitl [H]; · iexact H
    iexact G
  iapply (pointsTo_share (q₁ := fullShare.left) (q₂ := fullShare.right) (PosShare.mem_left_op_right fullShare)).2
  isplitl [H]; · iexact H
  rw [pointsTo_congr (f := f) (g := g) fun i hi => (e i (Finset.mem_inter.mpr ⟨hi, hi⟩)).1]
  iexact G

theorem run96 (c : Dev nD) (X : HbBuf (F := F) c sX) (fw : HbBuf (F := F) c mW) (fws : HbBuf (F := F) c mWs) (fsw : HbBuf (F := F) c sW) (fsws : HbBuf (F := F) c sWs) (fscodes : HbBuf (F := F) c sCodes) (fsrow : HbBuf (F := F) c sRow) (fscol : HbBuf (F := F) c sCol) (fsy : HbBuf (F := F) c sY)
    (fy : HbBuf (F := F) c mY) (fcodes : HbBuf (F := F) c mCodes) (fscale : HbBuf (F := F) c mScale) (v1552 v1777 : IVec S32x128 32) (v2258 : FVec F S32x128 .f32) (W : Waits sig Unit) (K) :
    iprop(bigSep Finset.univ (ahead c fsw fw fsy fy) ∗ wsFlight c fsws fws ∗ hbPt c sX X ∗ hbPt c sCodes fscodes ∗ hbPt c sRow fsrow ∗ hbPt c sCol fscol ∗ hbPt c mCodes fcodes ∗ hbPt c mScale fscale
      ∗ semVal ((c : Thread nD τ), SemLoc.dma (sig := sig) 19) 0 ∗ semVal ((c : Thread nD τ), SemLoc.dma (sig := sig) 20) 0 ∗ semVal ((c : Thread nD τ), SemLoc.dma (sig := sig) 21) 0 ∗ owes (c : Thread nD τ) 0 W
      ∗ (∀ C S dC dR, final c X fw fws fsws fsy fy fcodes fscale C S dC dR -∗ K ⟨⟩))
      ⊢ wp frame (wpE (defs₀ (F := F)) Variants.none (c : Thread nD τ) none) Set.univ (tailProg v1552 v1777 v2258) K := by
  unfold wsFlight
  iintro ⟨HA, ⟨Q18, Hws⟩, HX, Hscodes, Hsrow, Hscol, Hcodes, Hscale, Q19, Q20, Q21, HW, HK⟩
  unfold tailProg
  set_option sl_exec.lendShare "Hscodes" in sl_exec
  imod (batch_start c (yout c (sCodes.view.writes (Elt F) sCodes.view.junk (run96.sl.Hscodes_56 c X v1777 v2258)) (sCol.view.writes (Elt F) sCol.view.junk (run96.sl.Hscol_1 c X v1777 v2258)) (View.write (Elt F) sWs.view fsws (ReadAs.same.apply (View.read (Elt F) mWs.view fws)) Finset.univ) fw fsy fy) (fun _ => yout_storable _ _ _ _ _ _ _ _)) $$ Q21 with HB
  have hA0 : bigSep Finset.univ (ahead c fsw fw fsy fy) = bigSep (Ring.rangeSet 16 0 16) (ahead c fsw fw fsy fy) := by rw [Ring.rangeSet_univ]
  sl_for (loopAt c (sCodes.view.writes (Elt F) sCodes.view.junk (run96.sl.Hscodes_56 c X v1777 v2258)) (sCol.view.writes (Elt F) sCol.view.junk (run96.sl.Hscol_1 c X v1777 v2258)) (View.write (Elt F) sWs.view fsws (ReadAs.same.apply (View.read (Elt F) mWs.view fws)) Finset.univ) fsw fw fsy fy fullShare.left) $$ [HB Hscodes Hscol Q18_dst HA HW]
  · exact loop_step c (sCodes.view.writes (Elt F) sCodes.view.junk (run96.sl.Hscodes_56 c X v1777 v2258)) (sCol.view.writes (Elt F) sCol.view.junk (run96.sl.Hscol_1 c X v1777 v2258)) (View.write (Elt F) sWs.view fsws (ReadAs.same.apply (View.read (Elt F) mWs.view fws)) Finset.univ) fsw fw fsy fy fullShare.left v1552 v1777 v2258
  · unfold loopAt
    isplitl [HB]; · iexact HB
    isplitl [Hscodes]; · iexact Hscodes
    isplitl [Hscol]; · iexact Hscol
    isplitl [Q18_dst]; · iexact Q18_dst
    isplitl [HA]; · iapply (Entails.of_eq hA0); iexact HA
    isplitr [HW]; · rw [Ring.bigSep_rangeSet_empty (le_refl 0)]; iempintro
    iexists _; iexact HW
  iintro %acc HL
  unfold loopAt
  icases HL with ⟨HB, Hscodes, Hscol, Hsws, HA, HD, ⟨%W', HW⟩⟩
  sl_exec
  ihave Hsc := share_join $$ [Hscodes Hscodes_lend]
  · isplitl [Hscodes]; · iexact Hscodes
    iexact Hscodes_lend
  sl_step
  iapply HK $$ %(sCodes.view.writes (Elt F) sCodes.view.junk (run96.sl.Hscodes_56 c X v1777 v2258)) %(sCol.view.writes (Elt F) sCol.view.junk (run96.sl.Hscol_1 c X v1777 v2258)) %(run96.sl.dma188 c X fscodes v1777 v2258) %(run96.sl.dma188_1 c X fsrow v1552 v1777 v2258)
  unfold final
  isplitl [HB_dst0 HB_src0 HB_dst1 HB_src1 HB_dst2 HB_src2 HB_dst3 HB_src3 HB_dst4 HB_src4 HB_dst5 HB_src5 HB_dst6 HB_src6 HB_dst7 HB_src7 HB_dst8 HB_src8 HB_dst9 HB_src9 HB_dst10 HB_src10 HB_dst11 HB_src11 HB_dst12 HB_src12 HB_dst13 HB_src13 HB_dst14 HB_src14 HB_dst15 HB_src15]
  · rw [bigSep_fin16]
    isplitl [HB_dst0 HB_src0]
    · isplitl [HB_dst0]; · iexact HB_dst0
      iexact HB_src0
    isplitl [HB_dst1 HB_src1]
    · isplitl [HB_dst1]; · iexact HB_dst1
      iexact HB_src1
    isplitl [HB_dst2 HB_src2]
    · isplitl [HB_dst2]; · iexact HB_dst2
      iexact HB_src2
    isplitl [HB_dst3 HB_src3]
    · isplitl [HB_dst3]; · iexact HB_dst3
      iexact HB_src3
    isplitl [HB_dst4 HB_src4]
    · isplitl [HB_dst4]; · iexact HB_dst4
      iexact HB_src4
    isplitl [HB_dst5 HB_src5]
    · isplitl [HB_dst5]; · iexact HB_dst5
      iexact HB_src5
    isplitl [HB_dst6 HB_src6]
    · isplitl [HB_dst6]; · iexact HB_dst6
      iexact HB_src6
    isplitl [HB_dst7 HB_src7]
    · isplitl [HB_dst7]; · iexact HB_dst7
      iexact HB_src7
    isplitl [HB_dst8 HB_src8]
    · isplitl [HB_dst8]; · iexact HB_dst8
      iexact HB_src8
    isplitl [HB_dst9 HB_src9]
    · isplitl [HB_dst9]; · iexact HB_dst9
      iexact HB_src9
    isplitl [HB_dst10 HB_src10]
    · isplitl [HB_dst10]; · iexact HB_dst10
      iexact HB_src10
    isplitl [HB_dst11 HB_src11]
    · isplitl [HB_dst11]; · iexact HB_dst11
      iexact HB_src11
    isplitl [HB_dst12 HB_src12]
    · isplitl [HB_dst12]; · iexact HB_dst12
      iexact HB_src12
    isplitl [HB_dst13 HB_src13]
    · isplitl [HB_dst13]; · iexact HB_dst13
      iexact HB_src13
    isplitl [HB_dst14 HB_src14]
    · isplitl [HB_dst14]; · iexact HB_dst14
      iexact HB_src14
    isplitl [HB_dst15]; · iexact HB_dst15
    iexact HB_src15
  isplitl [HD]
  · rw [← Ring.rangeSet_univ (NB := 16)]; iexact HD
  isplitl [Hws]; · iexact Hws
  isplitl [HX]; · iexact HX
  isplitl [Hsc]; · iexists _; iexact Hsc
  isplitl [Hsrow]; · iexists _; iexact Hsrow
  isplitl [Hscol]; · iexists _; iexact Hscol
  isplitl [Hsws]; · iexists _; iexact Hsws
  isplitl [Hcodes]; · iexact Hcodes
  isplitl [Hscale]; · iexact Hscale
  isplitl [Q18]; · iexact Q18
  isplitl [Q19]; · iexact Q19
  isplitl [Q20]; · iexact Q20
  isplitl [HB]; · iexact HB
  iexists _; iexact HW

end Cert.Kernel.Hand

end
-- ==== Proof.Kernel.Body.lean ====
/-
  The whole body.
-/
module

public import proofs.«01_k».proof.Proof.Kernel.Run96
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

theorem bigSep_both (Φ Ψ : Fin 16 → sProp 𝕄) : bigSep Finset.univ (fun i => iprop(Φ i ∗ Ψ i)) = iprop(bigSep Finset.univ Φ ∗ bigSep Finset.univ Ψ) := BI.bigSep_sep _ _ _
theorem slabs_join (c : Dev nD) (f₀ : HbBuf (F := F) c sW) :
    bigSep Finset.univ (fun j : Fin 16 => iprop(∃ f, slabPt c j f)) ⊢ (iprop(∃ f, hbPt c sW f) : sProp 𝕄) := by
  have : Nonempty (HbBuf (F := F) c sW) := ⟨f₀⟩
  refine (BI.bigSep_exists_pi Finset.univ (fun j (f : HbBuf (F := F) c sW) => (slabPt c j f : sProp 𝕄))).trans ?_
  iintro ⟨%fs, H⟩
  iexists (fun y => fs (wkey y) y)
  iapply (Entails.of_eq (sw_blocks c fs (fun y => fs (wkey y) y) fun b y h => by subst h; rfl))
  iexact H

section
variable (c : Dev nD) (C : HbBuf (F := F) c sCodes) (S : HbBuf (F := F) c sCol) (w : HbBuf (F := F) c sWs) (fw : HbBuf (F := F) c mW) (fsy : HbBuf (F := F) c sY) (fy : HbBuf (F := F) c mY)
/-- The result, block by block. -/
def yFull : HbBuf (F := F) c mY := fun y : S32x8192.Idx =>
  (ycol (ykey y)).view.writes (Elt F) fy [⟨Rect.whole S32x512, ReadAs.same.apply (View.read (Elt F) (ystage (ykey y)).view (ystored c C S w fw fsy (ykey y)))⟩] y
theorem yout_join : bigSep Finset.univ (yout c C S w fw fsy fy) ⊢ iprop(hbPt c mY (yFull c C S w fw fsy fy) ∗ (∃ f, hbPt c sY f)) := by
  refine (Entails.of_eq (bigSep_both _ _)).trans ?_
  iintro ⟨HY, HS⟩
  isplitl [HY]
  · iapply (Entails.of_eq (y_blocks c (fun j => (ycol j).view.writes (Elt F) fy [⟨Rect.whole S32x512, ReadAs.same.apply (View.read (Elt F) (ystage j).view (ystored c C S w fw fsy j))⟩]) (yFull c C S w fw fsy fy) fun b y h => by subst h; rfl))
    iexact HY
  iexists (fun y => ystored c C S w fw fsy (ykey y) y)
  iapply (Entails.of_eq (sy_blocks c (ystored c C S w fw fsy) (fun y => ystored c C S w fw fsy (ykey y) y) fun b y h => by subst h; rfl))
  iexact HS
end

theorem ahead_init (c : Dev nD) (fsw : HbBuf (F := F) c sW) (fw : HbBuf (F := F) c mW) (fsy : HbBuf (F := F) c sY) (fy : HbBuf (F := F) c mY) :
    iprop(bigSep Finset.univ (wFlight c fsw fw) ∗ hbPt c sY fsy ∗ hbPt c mY fy) ⊢ bigSep Finset.univ (ahead c fsw fw fsy fy) := by
  iintro ⟨HF, HS, HY⟩
  iapply (Entails.of_eq (bigSep_both _ _).symm)
  isplitl [HF]; · iexact HF
  iapply (Entails.of_eq (bigSep_both _ _).symm)
  isplitl [HS]
  · iapply (Entails.of_eq (sy_blocks c (fun _ => fsy) fsy fun _ _ _ => rfl).symm); iexact HS
  iapply (Entails.of_eq (y_blocks c (fun _ => fy) fy fun _ _ _ => rfl).symm); iexact HY

theorem behind_join (c : Dev nD) (fw : HbBuf (F := F) c mW) (f₀ : HbBuf (F := F) c sW) :
    bigSep Finset.univ (behind c fw) ⊢ iprop((∃ f, hbPt c sW f) ∗ hbPt c mW fw ∗ bigSep Finset.univ (fun j : Fin 16 => semVal ((c : Thread nD τ), SemLoc.dma (sig := sig) ⟨j.val, sem_lt j⟩) 0)) := by
  refine (Entails.of_eq (bigSep_both _ _)).trans ?_
  iintro ⟨HS, HR⟩
  isplitl [HS]
  · iapply (slabs_join c f₀); iexact HS
  ihave ⟨HW, HQ⟩ := (Entails.of_eq (bigSep_both (fun j => wcolPt c j fw) _)) $$ HR
  isplitl [HW]
  · iapply (Entails.of_eq (w_blocks c fw)); iexact HW
  iexact HQ

/-- The body as the pipeline calls it. -/
abbrev bodyProg : Prog (TpuEff nD τ sig (Elt F) Λ₀ .tc) PUnit := cc0_last_token_fp8_linear (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13

/-- The whole body: from the arguments, the results and the scratches at anything, to the arguments as they were. -/
theorem body (c : Dev nD) (fx : HbBuf (F := F) c mX) (flen : HbBuf (F := F) c mLen) (fw : HbBuf (F := F) c mW) (fws : HbBuf (F := F) c mWs) (W : Waits sig Unit) (K : PUnit → sProp 𝕄)
    (hlen : ∀ i, InRange (flen i)) :
    iprop(((∃ f, hbPt c sW f) ∗ (∃ f, hbPt c sX f) ∗ (∃ f, hbPt c sCodes f) ∗ (∃ f, hbPt c sWs f) ∗ (∃ f, hbPt c sY f) ∗ (∃ f, hbPt c sRow f) ∗ (∃ f, hbPt c sCol f) ∗ (∃ f, hbPt c sLen f))
      ∗ (semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0)
      ∗ (hbPt c mX fx ∗ hbPt c mLen flen ∗ hbPt c mW fw ∗ hbPt c mWs fws)
      ∗ ((∃ f, hbPt c mY f) ∗ (∃ f, hbPt c mCodes f) ∗ (∃ f, hbPt c mScale f))
      ∗ owes (c : Thread nD τ) 0 W
      ∗ (((∃ f, hbPt c sW f) ∗ (∃ f, hbPt c sX f) ∗ (∃ f, hbPt c sCodes f) ∗ (∃ f, hbPt c sWs f) ∗ (∃ f, hbPt c sY f) ∗ (∃ f, hbPt c sRow f) ∗ (∃ f, hbPt c sCol f) ∗ (∃ f, hbPt c sLen f))
        ∗ (semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0)
        ∗ (hbPt c mX fx ∗ hbPt c mLen flen ∗ hbPt c mW fw ∗ hbPt c mWs fws)
        ∗ ((∃ f, hbPt c mY f) ∗ (∃ f, hbPt c mCodes f) ∗ (∃ f, hbPt c mScale f))
        ∗ (∃ W, owes (c : Thread nD τ) 0 W) -∗ K ⟨⟩))
      ⊢ wp frame (wpE (defs₀ (F := F)) Variants.none (c : Thread nD τ) none) Set.univ bodyProg K := by
  unfold bodyProg
  rw [body_eq]
  iintro ⟨⟨⟨%fsw, HsW⟩, ⟨%fsx, HsX⟩, ⟨%fscodes, HsCodes⟩, ⟨%fsws, HsWs⟩, ⟨%fsy, HsY⟩, ⟨%fsrow, HsRow⟩, ⟨%fscol, HsCol⟩, ⟨%fslen, HsLen⟩⟩, ⟨Q0, Q1, Q2, Q3, Q4, Q5, Q6, Q7, Q8, Q9, Q10, Q11, Q12, Q13, Q14, Q15, Q16, Q17, Q18, Q19, Q20, Q21⟩, ⟨HX, HL, HMw, HWs⟩, ⟨⟨%fy, HY⟩, ⟨%fcodes, HCo⟩, ⟨%fscale, HSc⟩⟩, HO, HK⟩
  rw [Idealize.SL.Sem.wp_bind]
  iapply (run95 c fx flen fw fws fsw fsx fsws fslen W _ hlen (Transfers.BatchOf.intro _ _ _))
  isplitl [HX]; · iexact HX
  isplitl [HL]; · iexact HL
  isplitl [HMw]; · iapply (Entails.of_eq (w_blocks c fw).symm); iexact HMw
  isplitl [HWs]; · iexact HWs
  isplitl [HsW]; · iapply (Entails.of_eq (sw_blocks c (fun _ => fsw) fsw fun _ _ _ => rfl).symm); iexact HsW
  isplitl [HsX]; · iapply (Entails.of_eq (sx_blocks c (fun _ => fsx) fsx fun _ _ _ => rfl).symm); iexact HsX
  isplitl [HsWs]; · iexact HsWs
  isplitl [HsLen]; · iexact HsLen
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [HO]; · iexact HO
  iintro %r HM
  unfold mid
  icases HM with ⟨HX, HL, HF, HWF, ⟨%X, HsX⟩, HsLen, Q16, Q17, ⟨%W', HO⟩⟩
  iapply (run96 c X fw fws fsw fsws fscodes fsrow fscol fsy fy fcodes fscale r.1 r.2.1 r.2.2 W' _)
  isplitl [HF HsY HY]
  · iapply (ahead_init c fsw fw fsy fy)
    isplitl [HF]; · iexact HF
    isplitl [HsY]; · iexact HsY
    iexact HY
  isplitl [HWF]; · iexact HWF
  isplitl [HsX]; · iexact HsX
  isplitl [HsCodes]; · iexact HsCodes
  isplitl [HsRow]; · iexact HsRow
  isplitl [HsCol]; · iexact HsCol
  isplitl [HCo]; · iexact HCo
  isplitl [HSc]; · iexact HSc
  isplitl [Q19]; · iexact Q19
  isplitl [Q20]; · iexact Q20
  isplitl [Q21]; · iexact Q21
  isplitl [HO]; · iexact HO
  iintro %C %S %dC %dR HFin
  unfold final
  icases HFin with ⟨HYO, HB, HWs, HsX, HsCodes, HsRow, HsCol, HsWs, HCo, HSc, Q18, Q19, Q20, Q21, HO⟩
  ihave ⟨HY, HsY⟩ := (yout_join c C S _ fw fsy fy) $$ HYO
  ihave ⟨HsW, HMw, HQ⟩ := (behind_join c fw fsw) $$ HB
  ihave HQ := (Entails.of_eq (bigSep_fin16 (fun j : Fin 16 => semVal ((c : Thread nD τ), SemLoc.dma (sig := sig) ⟨j.val, sem_lt j⟩) 0))) $$ HQ
  icases HQ with ⟨Q0, Q1, Q2, Q3, Q4, Q5, Q6, Q7, Q8, Q9, Q10, Q11, Q12, Q13, Q14, Q15⟩
  iapply HK
  isplitl [HsW HsX HsCodes HsWs HsY HsRow HsCol HsLen]
  · isplitl [HsW]; · iexact HsW
    isplitl [HsX]; · iexists _; iexact HsX
    isplitl [HsCodes]; · iexact HsCodes
    isplitl [HsWs]; · iexact HsWs
    isplitl [HsY]; · iexact HsY
    isplitl [HsRow]; · iexact HsRow
    isplitl [HsCol]; · iexact HsCol
    iexact HsLen
  isplitl [Q0 Q1 Q2 Q3 Q4 Q5 Q6 Q7 Q8 Q9 Q10 Q11 Q12 Q13 Q14 Q15 Q16 Q17 Q18 Q19 Q20 Q21]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    iexact Q21
  isplitl [HX HL HMw HWs]
  · isplitl [HX]; · iexact HX
    isplitl [HL]; · iexact HL
    isplitl [HMw]; · iexact HMw
    iexact HWs
  isplitl [HY HCo HSc]
  · isplitl [HY]; · iexists _; iexact HY
    isplitl [HCo]; · iexists _; iexact HCo
    iexists _; iexact HSc
  iexact HO

end Cert.Kernel.Hand

end
-- ==== Proof.Kernel.Frame.lean ====
/-
  The frame of the program.
-/
module

public import proofs.«01_k».proof.Proof.Kernel.Body
public import proofs.«01_k».proof.Proof.Gen.Kernel.Frame
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- The results, which the body writes itself. -/
def R0 : Finset (Ref sig .tc) := {main_v1_0, main_v1_1, main_v1_2}

set_option maxHeartbeats 800000 in
/-- The program up to its region, at the algebra of transfers. -/
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

/-- The body's own semaphores. -/
abbrev osem0 : Fin 22 → SemLoc sig := fun j => SemLoc.dma ⟨j.val, by have := j.isLt; show j.val < 22; exact this⟩
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0) := by
  rw [Pipeline.ownSems0_eq_of_list c osem0 [0, 1, 2, 3, 4, 5, 6, 7, 8, 9, 10, 11, 12, 13, 14, 15, 16, 17, 18, 19, 20, 21] (by decide) (by decide)]; rfl
/-- The operands in HBM that the body reads. -/
def H0 : Finset (Ref sig .tc) := {main_arg0, main_arg1, main_arg2, main_v0}
theorem H0_sub : H0 ⊆ Pipeline.restRefs sig (cfg0.spec) := by decide
theorem hbmPts0_eq (c : Dev nD) :
    (bigSep H0 (fun b => ((c : Thread nD τ).loc b) ↦{fullShare} Gen.V m c b) : sProp 𝕄)
      = iprop(hbPt c mX (Gen.V m c main_arg0) ∗ hbPt c mLen (Gen.V m c main_arg1) ∗ hbPt c mW (Gen.V m c main_arg2) ∗ hbPt c mWs (Gen.V m c main_v0)) := by
  rw [BI.bigSep_eq_bigSepL_of_eq [main_arg0, main_arg1, main_arg2, main_v0] (by decide) (by decide)]; rfl
theorem R0_sub : R0 ⊆ Pipeline.restRefs sig (cfg0.spec) \ H0 := by decide
theorem ownedPts0_eq (c : Dev nD) :
    (Pipeline.owned R0 c : sProp 𝕄) = iprop((∃ f, hbPt c mY f) ∗ (∃ f, hbPt c mCodes f) ∗ (∃ f, hbPt c mScale f)) := by
  unfold Pipeline.owned; rw [BI.bigSep_eq_bigSepL_of_eq [main_v1_0, main_v1_1, main_v1_2] (by decide) (by decide)]; rfl
theorem PhiDR0_eq (c : Dev nD) :
    (Pipeline.ΦDR osem0 (cfg0.spec) H0 R0 (Gen.V m) c : sProp 𝕄)
      = iprop(((∃ f, hbPt c sW f) ∗ (∃ f, hbPt c sX f) ∗ (∃ f, hbPt c sCodes f) ∗ (∃ f, hbPt c sWs f) ∗ (∃ f, hbPt c sY f) ∗ (∃ f, hbPt c sRow f) ∗ (∃ f, hbPt c sCol f) ∗ (∃ f, hbPt c sLen f))
        ∗ (∃ r, prngReg c r)
        ∗ (semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0)
        ∗ (hbPt c mX (Gen.V m c main_arg0) ∗ hbPt c mLen (Gen.V m c main_arg1) ∗ hbPt c mW (Gen.V m c main_arg2) ∗ hbPt c mWs (Gen.V m c main_v0))
        ∗ ((∃ f, hbPt c mY f) ∗ (∃ f, hbPt c mCodes f) ∗ (∃ f, hbPt c mScale f))) := by
  rw [Pipeline.ΦDR_eq, scopedRest0_eq, ownSems00_eq, hbmPts0_eq, ownedPts0_eq]

/-- The proof data of the one region: the invariant is the body's own buffers and semaphores. -/
def dats (_ : Fin 1) (c : Dev nD) : Dat τ (Elt F) Unit ℕ (Pipeline.UD sig nD τ) ℕ cfg0 c where
  A w := Gen.V m c (Pipeline.arrRef (cfg0.spec) w)
  after w t := w.elim0
  Φ _ := Pipeline.ΦDR osem0 (cfg0.spec) H0 R0 (Gen.V m) c
  q _ := fullShare
  owed _ := 0
theorem A_eq (c : Dev nD) (w : Fin cfg0.W) : (dats m 0 c).A w = Gen.V m c (Pipeline.arrRef (cfg0.spec) w) := w.elim0

variable (hlen : ∀ c i, InRange (Gen.V m c main_arg1 i))

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

include hlen in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = Pipeline.ΦDR osem0 (cfg0.spec) H0 R0 (Gen.V m) c from rfl]
  rw [show (dats m 0 c).Φ t.castSucc = Pipeline.ΦDR osem0 (cfg0.spec) H0 R0 (Gen.V m) c from rfl, PhiDR0_eq]
  unfold Dat.owesAt Pipeline.owesWithin
  rw [show (dats m 0 c).owed t.castSucc = 0 from rfl, show (dats m 0 c).owed t.succ = 0 from rfl]
  iintro ⟨⟨HS, Hg, HQ, HH, HR⟩, ⟨%W, -, HW⟩⟩
  iapply (body c (Gen.V m c main_arg0) (Gen.V m c main_arg1) (Gen.V m c main_arg2) (Gen.V m c main_v0) W _ (hlen c))
  isplitl [HS]; · iexact HS
  isplitl [HQ]; · iexact HQ
  isplitl [HH]; · iexact HH
  isplitl [HR]; · iexact HR
  isplitl [HW]; · iexact HW
  iintro ⟨HS, HQ, HH, HR, ⟨%W', HW⟩⟩
  isplitl [HS Hg HQ HH HR]
  · isplitl [HS]; · iexact HS
    isplitl [Hg]; · iexact Hg
    isplitl [HQ]; · iexact HQ
    isplitl [HH]; · iexact HH
    iexact HR
  iexists W'; isplitr
  · ipureintro; exact fun _ _ => Or.inl trivial
  iexact HW

theorem defs₀_row (t : Fin cfg0.N) : defs₀ (F := F) .tc cfg0.body (cfg0.bodyArgs t (cfg0.slots t)) = bodyAt0 t := by
  unfold defs₀; rw [Defs.onTc_tc]

include hlen in
theorem body_obligation (c : Dev nD) : BodyObligation (dats (F := F) m 0 c) (defs₀ (F := F)) Variants.none () Set.univ := fun t => by
  rw [defs₀_row]
  refine triple_restated (sound_body m hlen c t) rfl ?_ fun _ => ?_
  · rw [show (Finset.univ : Finset (Fin cfg0.W)) = ∅ from rfl, BI.bigSep_empty]
    unfold bodyPre; iintro ⟨H1, H2, -⟩; isplitl [H1]; · iexact H1
    iexact H2
  · rw [show (Finset.univ : Finset (Fin cfg0.W)) = ∅ from rfl, BI.bigSep_empty]
    unfold bodyPost; iintro ⟨H1, H2⟩; isplitl [H1]; · iexact H1
    isplitl [H2]; · iexact H2
    iempintro

set_option backward.isDefEq.respectTransparency.types false in
include hlen in
/-- The run: every buffer but the results as the region found it, every semaphore at zero. -/
theorem run_main : θ_run defs (onTc (τ := τ) (main (F := F))) (s₀ m ρ) (fun r => Pipeline.FramePostR cfgs (dats m) 0 R0 (Gen.V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m hlen c).loose) (hshare := fun c => (dats m 0 c).share_full fun _ => rfl)
    (howed := fun _ _ => rfl) (V := Gen.V m) (hmain := hmain m Variants.none) (hA := A_eq m)
    (hin := fun _ => .rfl) (hout := fun _ => .rfl)

include hlen in
/-- The frame: the program ends, nothing faults, the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩)
    (run_main m ρ hlen)

end Cert.Kernel.Hand

end
-- ==== Proof.KernelIdeal.Chk.lean ====
/-
  Which row pair the kernel fetches. For a length between 1 and 256 the printed word arithmetic is the plain
  `(length - 1) / 2`, and the side conditions the body assumes of the window it reads hold.
-/
module

public import proofs.«01_k».proof.Proof.Gen.KernelIdeal.Frame

@[expose] public section

noncomputable section

namespace Cert.KernelIdeal.Hand

open Cert.KernelIdeal
open Idealize.ShloMosaic Idealize.ShloMosaic.TcCoe Idealize.ShloMosaic.Tactic

/-- A length the kernel accepts: at least one token, at most the 256 there are. -/
def InRange (v : BitVec 32) : Prop := 1 ≤ v.toNat ∧ v.toNat ≤ 256

/-- The printed pair number of the last token: floor division of `v - 1` by two, on signed words. -/
def pairWord (v : BitVec 32) : BitVec 32 :=
  let d : BitVec 32 := Scalar.subi v 1#32
  let s : BitVec 32 := Scalar.subi (Scalar.extui (Scalar.cmpi .sgt d 0#32)) (Scalar.extui (Scalar.cmpi .slt d 0#32))
  let s2 : BitVec 32 := Scalar.subi (Scalar.extui (Scalar.cmpi .sgt 2#32 0#32)) (Scalar.extui (Scalar.cmpi .slt 2#32 0#32))
  let q : BitVec 32 := Scalar.divsi d 2#32
  Scalar.select (Scalar.andi (Scalar.cmpi .ne s s2) (Scalar.cmpi .ne (Scalar.remsi d 2#32) 0#32)) (Scalar.subi q 1#32) q

/-- The window's offsets for batch entry `b`. -/
def pairOff (b : ℕ) (v : BitVec 32) : Fin 3 → ℕ := ![b, Nat.mul 2 (pairWord v).toNat, 0]

theorem pairWord_table : ∀ n : Fin 256, (pairWord (BitVec.ofNat 32 (n.val + 1))).toNat = n.val / 2 := by
  decide +kernel

/-- On an accepted length the printed pair number is `(length - 1) / 2`. -/
theorem pairWord_toNat {v : BitVec 32} (h : InRange v) : (pairWord v).toNat = (v.toNat - 1) / 2 := by
  have hv : v = BitVec.ofNat 32 ((⟨v.toNat - 1, by have := h.1; have := h.2; omega⟩ : Fin 256).val + 1) := by
    apply BitVec.eq_of_toNat_eq
    have := h.1; have := h.2
    simp only [BitVec.toNat_ofNat]
    rw [Nat.mod_eq_of_lt (by omega)]; omega
  conv_lhs => rw [hv]
  rw [pairWord_table]

theorem pairOff_inb {b : ℕ} (hb : b < 32) {v : BitVec 32} (h : InRange v) (a : Fin 3) :
    pairOff b v a + S1x2x7168.size a ≤ S32x256x7168.size a := by
  have h1 := h.1; have h2 := h.2; have h3 := pairWord_toNat h
  match a with
  | ⟨0, _⟩ => show b + 1 ≤ 32; omega
  | ⟨1, _⟩ => show 2 * (pairWord v).toNat + 2 ≤ 256; omega
  | ⟨2, _⟩ => show 0 + 7168 ≤ 7168; omega

/-- The side condition of a wait on the window, and of an issue from it. -/
abbrev WaitChk (o : Fin 3 → ℕ) : Prop :=
  (∀ a, o a + S1x2x7168.size a ≤ S32x256x7168.size a) ∧
  (∀ (hinb : ∀ a, o a + S1x2x7168.size a ≤ S32x256x7168.size a),
    (Rect.unit (s := S32x256x7168) o S1x2x7168.size hinb).WholeWords (EltTy.packing .bf16))
abbrev IssueChk (o : Fin 3 → ℕ) : Prop :=
  (∀ a, o a + S1x2x7168.size a ≤ S32x256x7168.size a) ∧
  (∀ (hinb : ∀ a, o a + S1x2x7168.size a ≤ S32x256x7168.size a),
    (Rect.unit (s := S32x256x7168) o S1x2x7168.size hinb).WholeWords (EltTy.packing .bf16)) ∧
  (∀ (hinb : ∀ a, o a + S1x2x7168.size a ≤ S32x256x7168.size a),
    (Rect.unit (s := S32x256x7168) o S1x2x7168.size hinb).LeadingBlock)

theorem pair_wholeWords (b : ℕ) (v : BitVec 32) (hinb : ∀ a, pairOff b v a + S1x2x7168.size a ≤ S32x256x7168.size a) :
    (Rect.unit (s := S32x256x7168) (pairOff b v) S1x2x7168.size hinb).WholeWords (EltTy.packing .bf16) := by
  have h2 : 2 ≤ S32x256x7168.rank := by decide
  exact .inl (.inr ⟨h2, rfl, .inl ⟨Nat.dvd_mul_right 2 _, Nat.dvd_refl 2⟩⟩)

theorem pair_leading (b : ℕ) (v : BitVec 32) (hinb : ∀ a, pairOff b v a + S1x2x7168.size a ≤ S32x256x7168.size a) :
    (Rect.unit (s := S32x256x7168) (pairOff b v) S1x2x7168.size hinb).LeadingBlock := by
  refine ⟨fun _ => rfl, .inl ⟨Nat.le_refl 1, .inr ?_⟩⟩
  intro a
  match a with
  | ⟨0, _⟩ => exact ⟨rfl, rfl⟩

theorem waitChk {b : ℕ} (hb : b < 32) {v : BitVec 32} (h : InRange v) : WaitChk (pairOff b v) :=
  ⟨pairOff_inb hb h, pair_wholeWords b v⟩
theorem issueChk {b : ℕ} (hb : b < 32) {v : BitVec 32} (h : InRange v) : IssueChk (pairOff b v) :=
  ⟨pairOff_inb hb h, pair_wholeWords b v, pair_leading b v⟩

example {v : BitVec 32} (h : InRange v) : k0_chk1 v := issueChk (b := 0) (by decide) h
example {v : BitVec 32} (h : InRange v) : k0_chk64 v := waitChk (b := 31) (by decide) h

end Cert.KernelIdeal.Hand

end
-- ==== Proof.KernelIdeal.Bufs.lean ====
/-
  What the body of the kernel touches: its arrays, its scratch buffers and their sixteen column blocks.
-/
module

public import proofs.«01_k».proof.Proof.KernelIdeal.Chk
public import proofs.«01_k».proof.Proof.Gen.KernelIdeal.Loops
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers of the body -/

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev mX : Memref sig .tc .hbm S32x256x7168 .bf16 := Memref.whole main_arg0
abbrev mLen : Memref sig .tc .hbm S32 .i32 := Memref.whole main_arg1
abbrev mW : Memref sig .tc .hbm S7168x8192 .fp8e4m3 := Memref.whole main_arg2
abbrev mWs : Memref sig .tc .hbm S1x8192 .f32 := Memref.whole main_v0
abbrev mY : Memref sig .tc .hbm S32x8192 .bf16 := Memref.whole main_v1_0
abbrev mCodes : Memref sig .tc .hbm S32x7168 .fp8e4m3 := Memref.whole main_v1_1
abbrev mScale : Memref sig .tc .hbm S32 .f32 := Memref.whole main_v1_2
abbrev sW : Memref sig .tc .vmem S16x7168x512 .fp8e4m3 := Memref.whole cc0_scratch0
abbrev sX : Memref sig .tc .vmem S32x2x7168 .bf16 := Memref.whole cc0_scratch1
abbrev sCodes : Memref sig .tc .vmem S32x7168 .fp8e4m3 := Memref.whole cc0_scratch2
abbrev sWs : Memref sig .tc .vmem S1x8192 .f32 := Memref.whole cc0_scratch3
abbrev sY : Memref sig .tc .vmem S32x8192 .bf16 := Memref.whole cc0_scratch4
abbrev sRow : Memref sig .tc .vmem S32 .f32 := Memref.whole cc0_scratch5
abbrev sCol : Memref sig .tc .vmem S32x128 .f32 := Memref.whole cc0_scratch6
abbrev sLen : Memref sig .tc .smem S32 .i32 := Memref.whole cc0_scratch7

/-! ## The sixteen column blocks -/

theorem slab_inb (j : Fin 16) : ∀ a, (![j.val, 0, 0] : Fin 3 → Nat) a + S1x7168x512.size a ≤ S16x7168x512.size a := by
  have := j.isLt; intro a; fin_cases a
  · show j.val + 1 ≤ 16; omega
  · show 0 + 7168 ≤ 7168; omega
  · show 0 + 512 ≤ 512; omega
theorem wcol_inb (j : Fin 16) : ∀ a, (![0, j.val * 512] : Fin 2 → Nat) a + S7168x512.size a ≤ S7168x8192.size a := by
  have := j.isLt; intro a; fin_cases a
  · show 0 + 7168 ≤ 7168; omega
  · show j.val * 512 + 512 ≤ 8192; omega
theorem ycol_inb (j : Fin 16) : ∀ a, (![0, j.val * 512] : Fin 2 → Nat) a + S32x512.size a ≤ S32x8192.size a := by
  have := j.isLt; intro a; fin_cases a
  · show 0 + 32 ≤ 32; omega
  · show j.val * 512 + 512 ≤ 8192; omega

/-- Slab `j` of the weights' staging buffer. -/
def slab (j : Fin 16) : Memref sig .tc .vmem S7168x512 .fp8e4m3 :=
  (sW.slice (Rect.unit (s := S16x7168x512) ![j.val, 0, 0] S1x7168x512.size (slab_inb j)) (fun _ => rfl)).squeeze S7168x512 squeezes_S1x7168x512_S7168x512
/-- Column block `j` of the weights. -/
def wcol (j : Fin 16) : Memref sig .tc .hbm S7168x512 .fp8e4m3 :=
  mW.slice (Rect.unit (s := S7168x8192) ![0, j.val * 512] S7168x512.size (wcol_inb j)) (fun _ => rfl)
/-- Column block `j` of the staged and of the final result. -/
def ystage (j : Fin 16) : Memref sig .tc .vmem S32x512 .bf16 :=
  sY.slice (Rect.unit (s := S32x8192) ![0, j.val * 512] S32x512.size (ycol_inb j)) (fun _ => rfl)
def ycol (j : Fin 16) : Memref sig .tc .hbm S32x512 .bf16 :=
  mY.slice (Rect.unit (s := S32x8192) ![0, j.val * 512] S32x512.size (ycol_inb j)) (fun _ => rfl)

abbrev slabPt (c : Dev nD) (j : Fin 16) (f : HbBuf (F := F) c sW) : sProp 𝕄 := (slab j).view.loc (c : Thread nD τ) ↦[(slab j).view.set]{fullShare} f
abbrev wcolPt (c : Dev nD) (j : Fin 16) (f : HbBuf (F := F) c mW) : sProp 𝕄 := (wcol j).view.loc (c : Thread nD τ) ↦[(wcol j).view.set]{fullShare} f
abbrev ystagePt (c : Dev nD) (j : Fin 16) (f : HbBuf (F := F) c sY) : sProp 𝕄 := (ystage j).view.loc (c : Thread nD τ) ↦[(ystage j).view.set]{fullShare} f
abbrev ycolPt (c : Dev nD) (j : Fin 16) (f : HbBuf (F := F) c mY) : sProp 𝕄 := (ycol j).view.loc (c : Thread nD τ) ↦[(ycol j).view.set]{fullShare} f

theorem bigSep_fin16 (Φ : Fin 16 → sProp 𝕄) : bigSep Finset.univ Φ =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  BI.bigSep_eq_bigSepL_of_eq [0, 1, 2, 3, 4, 5, 6, 7, 8, 9, 10, 11, 12, 13, 14, 15] (by decide) (by decide) Φ

/-! ## The thirty-two gathered rows -/

theorem xslot_inb (b : Fin 32) : ∀ a, (![b.val, 0, 0] : Fin 3 → Nat) a + S1x2x7168.size a ≤ S32x2x7168.size a := by
  have := b.isLt; intro a; fin_cases a
  · show b.val + 1 ≤ 32; omega
  · show 0 + 2 ≤ 2; omega
  · show 0 + 7168 ≤ 7168; omega
/-- The place of batch `b` in the staging buffer of the gathered rows. -/
def xslot (b : Fin 32) : Memref sig .tc .vmem S1x2x7168 .bf16 :=
  sX.slice (Rect.unit (s := S32x2x7168) ![b.val, 0, 0] S1x2x7168.size (xslot_inb b)) (fun _ => rfl)
abbrev xslotPt (c : Dev nD) (b : Fin 32) (f : HbBuf (F := F) c sX) : sProp 𝕄 := (xslot b).view.loc (c : Thread nD τ) ↦[(xslot b).view.set]{fullShare} f

/-- The share of the gathered array that the transfer of batch `b` reads under. -/
def rdShare (b : Fin 32) : PosShare TreeShare := Transfers.shareTokN fullShare b.val
def rdRest : PosShare TreeShare := Transfers.shareDrop fullShare 32
abbrev xTok (c : Dev nD) (b : Fin 32) (f : HbBuf (F := F) c mX) : sProp 𝕄 := mX.view.loc (c : Thread nD τ) ↦{rdShare b} f

theorem bigSep_fin32 (Φ : Fin 32 → sProp 𝕄) : bigSep Finset.univ Φ =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15
      ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  BI.bigSep_eq_bigSepL_of_eq [0, 1, 2, 3, 4, 5, 6, 7, 8, 9, 10, 11, 12, 13, 14, 15, 16, 17, 18, 19, 20, 21, 22, 23, 24, 25, 26, 27, 28, 29, 30, 31] (by decide) (by decide) Φ

end Cert.KernelIdeal.Hand

end
-- ==== Proof.KernelIdeal.Pieces.lean ====
/-
  The arrays of the body as their pieces: rows, slabs and column blocks.
-/
module

public import proofs.«01_k».proof.Proof.KernelIdeal.Bufs
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Membership of an element in a piece -/

theorem mem_xrect (b : Fin 32) (y : S32x2x7168.Idx) : y ∈ (Rect.unit (s := S32x2x7168) ![b.val, 0, 0] S1x2x7168.size (xslot_inb b)).set ↔ (y 0).val = b.val := by
  rw [Rect.mem_set_unit]
  have h1 : (y 1).val < 2 := (y 1).isLt
  have h2 : (y 2).val < 7168 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 2; omega
    · show 0 ≤ (y 2).val ∧ (y 2).val < 0 + 7168; omega
theorem mem_wrect (b : Fin 16) (y : S16x7168x512.Idx) : y ∈ (Rect.unit (s := S16x7168x512) ![b.val, 0, 0] S1x7168x512.size (slab_inb b)).set ↔ (y 0).val = b.val := by
  rw [Rect.mem_set_unit]
  have h1 : (y 1).val < 7168 := (y 1).isLt
  have h2 : (y 2).val < 512 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 7168; omega
    · show 0 ≤ (y 2).val ∧ (y 2).val < 0 + 512; omega
theorem mem_crect (b : Fin 16) (y : S7168x8192.Idx) : y ∈ (Rect.unit (s := S7168x8192) ![0, b.val * 512] S7168x512.size (wcol_inb b)).set ↔ (y 1).val / 512 = b.val := by
  rw [Rect.mem_set_unit]
  have h0 : (y 0).val < 7168 := (y 0).isLt
  constructor
  · intro H; have a0 : b.val * 512 ≤ (y 1).val ∧ (y 1).val < b.val * 512 + 512 := H 1; omega
  · intro H a; fin_cases a
    · show 0 ≤ (y 0).val ∧ (y 0).val < 0 + 7168; omega
    · show b.val * 512 ≤ (y 1).val ∧ (y 1).val < b.val * 512 + 512; omega
theorem mem_yrect (b : Fin 16) (y : S32x8192.Idx) : y ∈ (Rect.unit (s := S32x8192) ![0, b.val * 512] S32x512.size (ycol_inb b)).set ↔ (y 1).val / 512 = b.val := by
  rw [Rect.mem_set_unit]
  have h0 : (y 0).val < 32 := (y 0).isLt
  constructor
  · intro H; have a0 : b.val * 512 ≤ (y 1).val ∧ (y 1).val < b.val * 512 + 512 := H 1; omega
  · intro H a; fin_cases a
    · show 0 ≤ (y 0).val ∧ (y 0).val < 0 + 32; omega
    · show b.val * 512 ≤ (y 1).val ∧ (y 1).val < b.val * 512 + 512; omega

theorem xslot_set (b : Fin 32) : (xslot b).view.set = (Rect.unit (s := S32x2x7168) ![b.val, 0, 0] S1x2x7168.size (xslot_inb b)).set := by
  unfold xslot; exact View.set_slice_whole _ _
theorem slab_set (b : Fin 16) : (slab b).view.set = (Rect.unit (s := S16x7168x512) ![b.val, 0, 0] S1x7168x512.size (slab_inb b)).set := by
  unfold slab; exact (View.set_reshape _ _).trans (View.set_slice_whole _ _)
theorem wcol_set (b : Fin 16) : (wcol b).view.set = (Rect.unit (s := S7168x8192) ![0, b.val * 512] S7168x512.size (wcol_inb b)).set := by
  unfold wcol; exact View.set_slice_whole _ _
theorem ystage_set (b : Fin 16) : (ystage b).view.set = (Rect.unit (s := S32x8192) ![0, b.val * 512] S32x512.size (ycol_inb b)).set := by
  unfold ystage; exact View.set_slice_whole _ _
theorem ycol_set (b : Fin 16) : (ycol b).view.set = (Rect.unit (s := S32x8192) ![0, b.val * 512] S32x512.size (ycol_inb b)).set := by
  unfold ycol; exact View.set_slice_whole _ _

/-! ## A buffer is its pieces -/

/-- Pieces that a key tells apart make the whole, at contents that agree with each piece. -/
theorem keyed_blocks {ℓ : Loc nD τ sig} {B : Type} [Fintype B] [DecidableEq B] (I : B → Finset (Idx ℓ)) (key : Idx ℓ → B)
    (hI : ∀ b y, y ∈ I b ↔ key y = b) (g : B → Buf (Elt F) ℓ) (f : Buf (Elt F) ℓ) (h : ∀ b y, key y = b → g b y = f y) :
    (bigSep Finset.univ (fun b => (ℓ ↦[I b]{fullShare} g b : sProp 𝕄))) = (ℓ ↦{fullShare} f) := by
  refine Eq.trans ?_ (Ring.pointsTo_blocks (ℓ := ℓ) (q := fullShare) I ?_ ?_ f).symm
  · exact BI.bigSep_congr fun b _ => pointsTo_congr fun i hi => h b i ((hI b i).mp hi)
  · intro b b' hne; rw [Finset.disjoint_left]; intro y hy hy'
    exact hne (((hI b y).mp hy).symm.trans ((hI b' y).mp hy'))
  · ext y; simp only [Finset.mem_biUnion, Finset.mem_univ, _root_.true_and, iff_true]
    exact ⟨key y, (hI _ y).mpr rfl⟩

def xkey (y : S32x2x7168.Idx) : Fin 32 := ⟨(y 0).val, (y 0).isLt⟩
def wkey (y : S16x7168x512.Idx) : Fin 16 := ⟨(y 0).val, (y 0).isLt⟩
def ckey (y : S7168x8192.Idx) : Fin 16 := ⟨(y 1).val / 512, by have h : (y 1).val < 8192 := (y 1).isLt; omega⟩
def ykey (y : S32x8192.Idx) : Fin 16 := ⟨(y 1).val / 512, by have h : (y 1).val < 8192 := (y 1).isLt; omega⟩

/-- The gathered rows, place by place; places at contents of their own make the whole at contents that agree with each. -/
theorem sx_blocks (c : Dev nD) (g : Fin 32 → HbBuf (F := F) c sX) (f : HbBuf (F := F) c sX)
    (h : ∀ (b : Fin 32) (y : S32x2x7168.Idx), xkey y = b → g b y = f y) :
    bigSep Finset.univ (fun b => xslotPt c b (g b)) = hbPt c sX f :=
  keyed_blocks (ℓ := sX.view.loc (c : Thread nD τ)) (fun b : Fin 32 => (xslot b).view.set) xkey
    (fun b y => (iff_of_eq (congrArg (y ∈ ·) (xslot_set b))).trans ((mem_xrect b y).trans (@Fin.ext_iff _ (xkey y) b).symm)) g f h
theorem sw_blocks (c : Dev nD) (g : Fin 16 → HbBuf (F := F) c sW) (f : HbBuf (F := F) c sW)
    (h : ∀ (b : Fin 16) (y : S16x7168x512.Idx), wkey y = b → g b y = f y) :
    bigSep Finset.univ (fun b => slabPt c b (g b)) = hbPt c sW f :=
  keyed_blocks (ℓ := sW.view.loc (c : Thread nD τ)) (fun b : Fin 16 => (slab b).view.set) wkey
    (fun b y => (iff_of_eq (congrArg (y ∈ ·) (slab_set b))).trans ((mem_wrect b y).trans (@Fin.ext_iff _ (wkey y) b).symm)) g f h
theorem w_blocks (c : Dev nD) (f : HbBuf (F := F) c mW) :
    bigSep Finset.univ (fun b => wcolPt c b f) = hbPt c mW f :=
  keyed_blocks (ℓ := mW.view.loc (c : Thread nD τ)) (fun b : Fin 16 => (wcol b).view.set) ckey
    (fun b y => (iff_of_eq (congrArg (y ∈ ·) (wcol_set b))).trans ((mem_crect b y).trans (@Fin.ext_iff _ (ckey y) b).symm)) (fun _ => f) f (fun _ _ _ => rfl)
/-- The staged result and the result, column block by column block. -/
theorem sy_blocks (c : Dev nD) (g : Fin 16 → HbBuf (F := F) c sY) (f : HbBuf (F := F) c sY)
    (h : ∀ (b : Fin 16) (y : S32x8192.Idx), ykey y = b → g b y = f y) :
    bigSep Finset.univ (fun b => ystagePt c b (g b)) = hbPt c sY f :=
  keyed_blocks (ℓ := sY.view.loc (c : Thread nD τ)) (fun b : Fin 16 => (ystage b).view.set) ykey
    (fun b y => (iff_of_eq (congrArg (y ∈ ·) (ystage_set b))).trans ((mem_yrect b y).trans (@Fin.ext_iff _ (ykey y) b).symm)) g f h
theorem y_blocks (c : Dev nD) (g : Fin 16 → HbBuf (F := F) c mY) (f : HbBuf (F := F) c mY)
    (h : ∀ (b : Fin 16) (y : S32x8192.Idx), ykey y = b → g b y = f y) :
    bigSep Finset.univ (fun b => ycolPt c b (g b)) = hbPt c mY f :=
  keyed_blocks (ℓ := mY.view.loc (c : Thread nD τ)) (fun b : Fin 16 => (ycol b).view.set) ykey
    (fun b y => (iff_of_eq (congrArg (y ∈ ·) (ycol_set b))).trans ((mem_yrect b y).trans (@Fin.ext_iff _ (ykey y) b).symm)) g f h

abbrev xRest (c : Dev nD) (f : HbBuf (F := F) c mX) : sProp 𝕄 := mX.view.loc (c : Thread nD τ) ↦{rdRest} f
/-- The gathered array under thirty-two shares to read it by, and a rest. -/
theorem x_toks (c : Dev nD) (f : HbBuf (F := F) c mX) :
    hbPt c mX f ⊣⊢ iprop(xRest c f ∗ bigSep Finset.univ (fun b => xTok c b f)) := by
  have h : (bigSep Finset.univ (fun b => xTok c b f) : sProp 𝕄)
      = bigSep (Finset.range 32) (fun i => mX.view.loc (c : Thread nD τ) ↦{Transfers.shareTokN fullShare i} f) :=
    Ring.bigSep_fin_eq_range 32 (fun b => xTok c b f) _ (fun t ht => rfl)
  rw [h]
  exact Transfers.pointsTo_toks_range fullShare 32

end Cert.KernelIdeal.Hand

end
-- ==== Proof.KernelIdeal.Gather.lean ====
/-
  The gathered rows: what the thirty-two transfers bring.
-/
module

public import proofs.«01_k».proof.Proof.KernelIdeal.Pieces
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What lies under a filled view -/

theorem writes_whole_emb {sp : Space} {S : Shape} {e : EltTy} (v : View sig .tc sp S e) (f : v.ty.Contents (Elt F)) (w : S.Idx → Elt F e) (x : S.Idx) :
    v.read (Elt F) (v.writes (Elt F) f [⟨Rect.whole S, w⟩]) x = w x := congrFun (View.read_writes_whole v f w) x
theorem writes_whole_at {sp : Space} {S : Shape} {e : EltTy} (v : View sig .tc sp S e) (f : v.ty.Contents (Elt F)) (w : S.Idx → Elt F e) (x : S.Idx) (y : v.ty.Idx) (h : v.emb x = y) :
    v.writes (Elt F) f [⟨Rect.whole S, w⟩] y = _root_.cast (congrArg (Elt F) v.elt_eq.symm) (w x) := by
  subst h
  rw [← writes_whole_emb (F := F) v f w x, View.read_apply]
  simp

theorem xslot_emb (y : S32x2x7168.Idx) (b : Fin 32) (hy : xkey y = b) : (xslot b).view.emb (ix3 (n0 := 1) (n1 := 2) (n2 := 7168) 0 (y 1) (y 2)) = y := by
  subst hy
  funext a
  match a with
  | ⟨0, _⟩ => exact Fin.ext (show (y 0).val + 1 * 0 = (y 0).val by omega)
  | ⟨1, _⟩ => exact Fin.ext (show 0 + 1 * (y 1).val = (y 1).val by omega)
  | ⟨2, _⟩ => exact Fin.ext (show 0 + 1 * (y 2).val = (y 2).val by omega)

theorem xslot_filled (c : Dev nD) (fsx : HbBuf (F := F) c sX) (w : S1x2x7168.Idx → Elt F .bf16) (b : Fin 32) (y : S32x2x7168.Idx) (hy : xkey y = b) :
    ((xslot b).view.writes (Elt F) fsx [⟨Rect.whole S1x2x7168, w⟩] : S32x2x7168.Idx → Elt F .bf16) y = w (ix3 (n0 := 1) (n1 := 2) (n2 := 7168) 0 (y 1) (y 2)) :=
  writes_whole_at (F := F) (xslot b).view fsx w (ix3 (n0 := 1) (n1 := 2) (n2 := 7168) 0 (y 1) (y 2)) y (xslot_emb y b hy)

/-- Thirty-two filled places make the buffer whole, row by row what was put there. -/
theorem slots_join (c : Dev nD) (fsx : HbBuf (F := F) c sX) (p : Fin 32 → S1x2x7168.Idx → Elt F .bf16) :
    bigSep Finset.univ (fun b => xslotPt c b ((xslot b).view.writes (Elt F) fsx [⟨Rect.whole S1x2x7168, p b⟩]))
      = hbPt c sX (fun y : S32x2x7168.Idx => p (xkey y) (ix3 (n0 := 1) (n1 := 2) (n2 := 7168) 0 (y 1) (y 2))) :=
  sx_blocks c (fun b => (xslot b).view.writes (Elt F) fsx [⟨Rect.whole S1x2x7168, p b⟩])
    (fun y : S32x2x7168.Idx => p (xkey y) (ix3 (n0 := 1) (n1 := 2) (n2 := 7168) 0 (y 1) (y 2)))
    (fun b y hy => by rw [xslot_filled c fsx (p b) b y hy]; subst hy; rfl)

/-- A length read back from scalar memory is the length copied there. -/
theorem len_read (c : Dev nD) (flen : HbBuf (F := F) c mLen) (fslen : HbBuf (F := F) c sLen) (b : Fin 32)
    (inb : ∀ a, (![b.val] : Fin 1 → Nat) a + S1.size a ≤ S32.size a) (i : S1.Idx) :
    View.readAt (Elt F) sLen.view (Rect.unit (s := S32) ![b.val] S1.size inb).toLoadRect
      (View.write (Elt F) sLen.view fslen (ReadAs.same.apply (View.read (Elt F) mLen.view flen)) Finset.univ) i = flen (ix1 (n := 32) b) := by
  rw [show View.write (Elt F) sLen.view fslen (ReadAs.same.apply (View.read (Elt F) mLen.view flen)) Finset.univ = (flen : S32.Idx → Elt F .i32) from View.write_whole_univ _ _ _, View.readAt_apply]
  refine congrArg flen ?_
  funext a
  match a with
  | ⟨0, _⟩ => exact Fin.ext (by have h : (i 0).val < 1 := (i 0).isLt; show b.val + 1 * (i 0).val = b.val; omega)

/-- The two rows the kernel fetches for batch `b` at length `v`: the pair that holds the last token. -/
def rowPair (c : Dev nD) (fx : HbBuf (F := F) c mX) (b : Fin 32) (v : BitVec 32) : S1x2x7168.Idx → Elt F .bf16 := fun i =>
  fx (ix3 (n0 := 32) (n1 := 256) (n2 := 7168) b ⟨(2 * ((v.toNat - 1) / 2) + (i 1).val) % 256, Nat.mod_lt _ (by decide)⟩ (i 2))

theorem dma_rowPair (c : Dev nD) (fx : HbBuf (F := F) c mX) (b : Fin 32) (v : BitVec 32) (hv : InRange v)
    (h : ∀ a, pairOff b.val v a + S1x2x7168.size a ≤ S32x256x7168.size a) (h1 h2 h3) :
    ReadAs.same.apply (View.read (Elt F) (((mX.slice (Rect.unit (s := S32x256x7168) (pairOff b.val v) S1x2x7168.size h) (fun _ => rfl)).squeeze
      S2x7168 squeezes_S1x2x7168_S2x7168).reshape S1x2x7168 h1 h2 h3).view fx) = rowPair c fx b v := by
  funext i
  show fx ((mX.slice (Rect.unit (s := S32x256x7168) (pairOff b.val v) S1x2x7168.size h) (fun _ => rfl)).view.emb
    (Shape.reshapeEquiv _ (Shape.reshapeEquiv _ i))) = _
  rw [Shape.reshapeEquiv_reshapeEquiv, Shape.reshapeEquiv_self]
  refine congrArg fx ?_
  have hp := pairWord_toNat hv
  have h1 := hv.1
  have h2 := hv.2
  have i0 : (i 0).val < 1 := (i 0).isLt
  have i1 : (i 1).val < 2 := (i 1).isLt
  funext a
  match a with
  | ⟨0, _⟩ => exact Fin.ext (show b.val + 1 * (i 0).val = b.val by omega)
  | ⟨1, _⟩ => exact Fin.ext (show 2 * (pairWord v).toNat + 1 * (i 1).val = (2 * ((v.toNat - 1) / 2) + (i 1).val) % 256 by rw [hp]; omega)
  | ⟨2, _⟩ => exact Fin.ext (show 0 + 1 * (i 2).val = (i 2).val by omega)

end Cert.KernelIdeal.Hand

end
-- ==== Proof.KernelIdeal.Mid.lean ====
/-
  What lies between the two halves of the body: the gathered rows, and the transfers in flight.
-/
module

public import proofs.«01_k».proof.Proof.KernelIdeal.Gather
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The transfers that are in flight between the two halves of the body -/

theorem sem_lt (j : Fin 16) : j.val < 22 := by have := j.isLt; omega
/-- The transfer of column block `j` of the weights, in flight on semaphore `j`. -/
def wFlight (c : Dev nD) (fsw : HbBuf (F := F) c sW) (fw : HbBuf (F := F) c mW) (j : Fin 16) : sProp 𝕄 :=
  Transfers.Flight countersEmb (c : Thread nD τ) (SemLoc.dma (sig := sig) ⟨j.val, sem_lt j⟩) default 114688
    iprop(slabPt c j ((slab j).view.writes (Elt F) fsw [⟨Rect.whole S7168x512, ReadAs.same.apply (View.read (Elt F) (wcol j).view fw)⟩]) ∗ wcolPt c j fw)
/-- The transfer of the output scales. -/
def wsFlight (c : Dev nD) (fsws : HbBuf (F := F) c sWs) (fws : HbBuf (F := F) c mWs) : sProp 𝕄 :=
  iprop(Transfers.Flight countersEmb (c : Thread nD τ) (SemLoc.dma (sig := sig) 18) default 1024
    iprop(hbPt c sWs (View.write (Elt F) sWs.view fsws (ReadAs.same.apply (View.read (Elt F) mWs.view fws)) Finset.univ) ∗ (mWs.view.loc (c : Thread nD τ) ↦[mWs.view.set]{fullShare} fws))
    ∗ (mWs.view.loc (c : Thread nD τ) ↦[Finset.univ \ mWs.view.set]{fullShare} fws))

/-- The gathered rows in the staging buffer. -/
def gathered (c : Dev nD) (fx : HbBuf (F := F) c mX) (flen : HbBuf (F := F) c mLen) : HbBuf (F := F) c sX := fun y : S32x2x7168.Idx =>
  rowPair c fx (xkey y) (flen (ix1 (n := 32) (xkey y))) (ix3 (n0 := 1) (n1 := 2) (n2 := 7168) 0 (y 1) (y 2))

theorem slot_landed (c : Dev nD) (fx : HbBuf (F := F) c mX) (flen : HbBuf (F := F) c mLen) (fsx : HbBuf (F := F) c sX)
    (hlen : ∀ i, InRange (flen i)) (b : Fin 32) (v : BitVec 32) (he : v = flen (ix1 (n := 32) b))
    (h : ∀ a, pairOff b.val v a + S1x2x7168.size a ≤ S32x256x7168.size a) (h1 h2 h3) :
    xslotPt c b ((xslot b).view.writes (Elt F) fsx [⟨Rect.whole S1x2x7168, ReadAs.same.apply (View.read (Elt F)
      (((mX.slice (Rect.unit (s := S32x256x7168) (pairOff b.val v) S1x2x7168.size h) (fun _ => rfl)).squeeze S2x7168 squeezes_S1x2x7168_S2x7168).reshape S1x2x7168 h1 h2 h3).view fx)⟩])
    ⊢ xslotPt c b ((xslot b).view.writes (Elt F) fsx [⟨Rect.whole S1x2x7168, rowPair c fx b (flen (ix1 (n := 32) b))⟩]) := by
  rw [dma_rowPair c fx b v (he ▸ hlen _) h h1 h2 h3, he]
abbrev one1 : S1.Idx := Shape.Idx.first (by decide)
theorem len_slot (c : Dev nD) (flen : HbBuf (F := F) c mLen) (fslen : HbBuf (F := F) c sLen) (b : Fin 32) :
    View.readAt (Elt F) sLen.view (Rect.unit (s := S32) ![b.val] S1.size (fun a => by have := b.isLt; match a with | ⟨0, _⟩ => exact this)).toLoadRect
      (View.write (Elt F) sLen.view fslen (ReadAs.same.apply (View.read (Elt F) mLen.view flen)) Finset.univ) one1 = flen (ix1 (n := 32) b) := len_read c flen fslen b _ _

/-- What the first half of the body leaves. -/
def mid (c : Dev nD) (fx : HbBuf (F := F) c mX) (flen : HbBuf (F := F) c mLen) (fw : HbBuf (F := F) c mW) (fws : HbBuf (F := F) c mWs) (fsw : HbBuf (F := F) c sW) (fsws : HbBuf (F := F) c sWs) : sProp 𝕄 :=
  iprop(hbPt c mX fx ∗ hbPt c mLen flen ∗ bigSep Finset.univ (wFlight c fsw fw) ∗ wsFlight c fsws fws ∗ hbPt c sX (gathered c fx flen) ∗ (∃ f, hbPt c sLen f)
    ∗ semVal ((c : Thread nD τ), SemLoc.dma 16) 0 ∗ semVal ((c : Thread nD τ), SemLoc.dma 17) 0 ∗ (∃ W, owes (c : Thread nD τ) 0 W))

end Cert.KernelIdeal.Hand

end
-- ==== Proof.KernelIdeal.Loop.lean ====
/-
  One trip of the loop over the column blocks, and the loop's invariant.
-/
module

public import proofs.«01_k».proof.Proof.KernelIdeal.Mid
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The trips of the loop over the column blocks -/

theorem trips_eq : k0_t1_loop.trips = 16 := by decide
/-- The block that a trip works on. -/
def blk (t : Fin k0_t1_loop.trips) : Fin 16 := ⟨t.val, by have := t.isLt; have := trips_eq; omega⟩
theorem off65_eq : ∀ t, k0_off65 t = ![t.val] := by decide
theorem off66_eq : ∀ t, k0_off66 t = ![t.val, 0, 0] := by decide
theorem off67_eq : ∀ t, k0_off67 t = ![0, t.val * 512] := by decide
theorem off68_eq : ∀ t, k0_off68 t = ![t.val, 0, 0] := by decide
theorem off69_eq : ∀ t, k0_off69 t = ![0, t.val * 512] := by decide
theorem off70_eq : ∀ t, k0_off70 t = ![0, t.val * 512] := by decide
theorem off71_eq : ∀ t, k0_off71 t = ![0, t.val * 512] := by decide
theorem wsem_eq : ∀ t : Fin k0_t1_loop.trips, ((cc0_scratch8.slice (Rect.unit (s := S16) (k0_off65 t) S1.size (k0_off65_inb t))).squeeze S_ squeezes_S1_S_).sem = (⟨(blk t).val, sem_lt (blk t)⟩ : DmaSem sig) := by decide

/-- The trip that works on block `j`. -/
def tr (j : Fin 16) : Fin k0_t1_loop.trips := ⟨j.val, by have := j.isLt; have := trips_eq; omega⟩
theorem ws_inb (j : Fin 16) : ∀ a, (![0, j.val * 512] : Fin 2 → Nat) a + S1x512.size a ≤ S1x8192.size a := by
  have := j.isLt; intro a; fin_cases a
  · show 0 + 1 ≤ 1; omega
  · show j.val * 512 + 512 ≤ 8192; omega
theorem wcol_words (j : Fin 16) : (Rect.unit (s := S7168x8192) ![0, j.val * 512] S7168x512.size (wcol_inb j)).WholeWords (EltTy.packing .fp8e4m3) := by
  have h := k0_off67_wordsfp8e4m3 (tr j); simp only [off67_eq] at h; exact h
theorem slab_words (j : Fin 16) : (Rect.unit (s := S16x7168x512) ![j.val, 0, 0] S1x7168x512.size (slab_inb j)).WholeWords (EltTy.packing .fp8e4m3) := by
  have h := k0_off66_wordsfp8e4m3 (tr j); simp only [off66_eq] at h; exact h
theorem ycol_words (j : Fin 16) : (Rect.unit (s := S32x8192) ![0, j.val * 512] S32x512.size (ycol_inb j)).WholeWords (EltTy.packing .bf16) := by
  have h := k0_off71_wordsbf16 (tr j); simp only [off71_eq] at h; exact h
theorem ycol_packed (j : Fin 16) : (Rect.unit (s := S32x8192) ![0, j.val * 512] S32x512.size (ycol_inb j)).PackedRows (EltTy.packing .bf16) := by
  have h := k0_off70_packedbf16 (tr j); simp only [off70_eq] at h; exact h

/-- One trip of the loop, on column block `j`. -/
noncomputable def tripProg (j : Fin 16) : Prog (TpuEff nD τ sig (Elt F) Λ₀ .tc) Unit := do
  Prog.lift (.waitDma2 ⟨j.val, sem_lt j⟩ (wcol j) (slab j) ((Memref.isWhole_whole main_arg2).wordExact_slice rfl _ (wcol_words j)) (((Memref.isWhole_whole cc0_scratch0).wordExact_slice rfl _ (slab_words j)).reshape _ _))
  let v3640 : Vec F S32x7168 .fp8e4m3 ← Prog.lift (.load sCodes (Rect.unit (s := S32x7168) ![0, 0] S32x7168.size inb_S32x7168_S32x7168_0_0).toLoadRect (View.loadsAt_vmem h_S32x7168))
  let v3642 : Vec F S1x7168x512 .fp8e4m3 ← Prog.lift (.load sW (Rect.unit (s := S16x7168x512) ![j.val, 0, 0] S1x7168x512.size (slab_inb j)).toLoadRect (View.loadsAt_vmem h_S1x7168x512))
  let v3647 : Vec F S32x1 .f32 ← Prog.lift (.load sCol (Rect.unit (s := S32x128) ![0, 0] S32x1.size inb_S32x128_S32x1_0_0).toLoadRect (View.loadsAt_vmem h_S32x1))
  let v3651 : Vec F S1x512 .f32 ← Prog.lift (.load sWs (Rect.unit (s := S1x8192) ![0, j.val * 512] S1x512.size (ws_inb j)).toLoadRect (View.loadsAt_vmem h_S1x512))
  let v3656 : Vec F S32x512 .bf16 ← Prog.lift (.load sY (Rect.unit (s := S32x8192) ![0, j.val * 512] S32x512.size (ycol_inb j)).toLoadRect (View.loadsAt_vmem h_S32x512))
  Prog.lift (.store sY (Rect.unit (s := S32x8192) ![0, j.val * 512] S32x512.size (ycol_inb j)) (k0_pay155 v3640 v3642 v3647 v3651) Finset.univ (View.stores_vmem h_S32x512 ((Memref.isWhole_whole cc0_scratch4).storeExact_slice rfl _ (ycol_packed j)) (fun _ => rfl)) (.inl rfl))
  Prog.lift (.enqueueDma (ystage j) (.here (ycol j)) (.dma 21) ((Memref.isWhole_whole cc0_scratch4).wordExact_slice rfl _ (ycol_words j)) ((Memref.isWhole_whole main_v1_0).wordExact_slice rfl _ (ycol_words j)) ⟨Or.inl rfl, trivial⟩)
  pure ⟨⟩

theorem trip_eq (v1552 v1777 : IVec S32x128 32) (v2258 : FVec F S32x128 .f32) : ∀ j : Fin 16,
    k0_t1_body (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258 (tr j) () = tripProg j := by
  intro j; fin_cases j <;> rfl

section Loop
variable (c : Dev nD) (C : HbBuf (F := F) c sCodes) (S : HbBuf (F := F) c sCol) (w : HbBuf (F := F) c sWs) (fsw : HbBuf (F := F) c sW) (fw : HbBuf (F := F) c mW) (fsy : HbBuf (F := F) c sY) (fy : HbBuf (F := F) c mY) (q : PosShare TreeShare)

/-- What trip `j` computes: column block `j` of the result. -/
def yblk (j : Fin 16) : S32x512.Idx → Elt F .bf16 :=
  k0_pay155 (View.readAt (Elt F) sCodes.view (Rect.unit (s := S32x7168) ![0, 0] S32x7168.size inb_S32x7168_S32x7168_0_0).toLoadRect C)
    (View.readAt (Elt F) sW.view (Rect.unit (s := S16x7168x512) ![j.val, 0, 0] S1x7168x512.size (slab_inb j)).toLoadRect
      ((slab j).view.writes (Elt F) (slab j).view.junk [⟨Rect.whole S7168x512, ReadAs.same.apply (View.read (Elt F) (wcol j).view fw)⟩]))
    (View.readAt (Elt F) sCol.view (Rect.unit (s := S32x128) ![0, 0] S32x1.size inb_S32x128_S32x1_0_0).toLoadRect S)
    (View.readAt (Elt F) sWs.view (Rect.unit (s := S1x8192) ![0, j.val * 512] S1x512.size (ws_inb j)).toLoadRect w)
/-- The staged block after the trip's store. -/
def ystored (j : Fin 16) : HbBuf (F := F) c sY :=
  View.write (Elt F) (sY.access (Rect.unit (s := S32x8192) ![0, j.val * 512] S32x512.size (ycol_inb j))) fsy (yblk c C S w fw j) Finset.univ
/-- What the transfer out of block `j` delivers. -/
abbrev yout (j : Fin 16) : sProp 𝕄 :=
  iprop(((ycol j).view.loc (c : Thread nD τ) ↦[(ycol j).view.set]{fullShare} (ycol j).view.writes (Elt F) fy [⟨Rect.whole S32x512, ReadAs.same.apply (View.read (Elt F) (ystage j).view (ystored c C S w fw fsy j))⟩])
    ∗ ((ystage j).view.loc (c : Thread nD τ) ↦[(ystage j).view.set]{fullShare} ystored c C S w fw fsy j))
/-- Block `j` before its trip, and after it. -/
abbrev ahead (j : Fin 16) : sProp 𝕄 := iprop(wFlight c fsw fw j ∗ ystagePt c j fsy ∗ ycolPt c j fy)
abbrev behind (j : Fin 16) : sProp 𝕄 := iprop((∃ f, slabPt c j f) ∗ wcolPt c j fw ∗ semVal ((c : Thread nD τ), SemLoc.dma (sig := sig) ⟨j.val, sem_lt j⟩) 0)
/-- Before trip `k`. -/
def loopAt (k : ℕ) (_ : Unit) : sProp 𝕄 :=
  iprop(Transfers.Batch countersEmb (c : Thread nD τ) (SemLoc.dma (sig := sig) 21) () 1024 (yout c C S w fw fsy fy) k 0
    ∗ (sCodes.view.loc (c : Thread nD τ) ↦{q} C) ∗ hbPt c sCol S ∗ hbPt c sWs w
    ∗ bigSep (Ring.rangeSet 16 k 16) (ahead c fsw fw fsy fy) ∗ bigSep (Ring.rangeSet 16 0 k) (behind c fw) ∗ (∃ W, owes (c : Thread nD τ) 0 W))

theorem trip_step (j : Fin 16) : loopAt c C S w fsw fw fsy fy q j.val () ⊢ wp frame (wpE (defs₀ (F := F)) Variants.none (c : Thread nD τ) none) Set.univ (tripProg j)
    (loopAt c C S w fsw fw fsy fy q (j.val + 1)) := by
  have hj := j.isLt
  unfold loopAt
  have hA : bigSep (Ring.rangeSet 16 j.val 16) (ahead c fsw fw fsy fy) = iprop(ahead c fsw fw fsy fy j ∗ bigSep (Ring.rangeSet 16 (j.val + 1) 16) (ahead c fsw fw fsy fy)) :=
    Ring.bigSep_rangeSet_head hj hj
  have hB : bigSep (Ring.rangeSet 16 0 (j.val + 1)) (behind c fw) = iprop(behind c fw j ∗ bigSep (Ring.rangeSet 16 0 j.val) (behind c fw)) :=
    Ring.bigSep_rangeSet_last (by omega) (by omega)
  rw [hA, hB]
  unfold ahead wFlight
  iintro ⟨HB, HC, HS, HWS, ⟨⟨HF, HYS, HYC⟩, HA⟩, HD, ⟨%W, HO⟩⟩
  unfold tripProg
  sl_exec
  sl_step
  unfold behind
  isplitl [HB]; · iexact HB
  isplitl [HC]; · iexact HC
  isplitl [HS]; · iexact HS
  isplitl [HWS]; · iexact HWS
  isplitl [HA]; · iexact HA
  isplitr [HO]
  · isplitr [HD]
    · isplitl [HF_dst]; · iexists _; iexact HF_dst
      isplitl [HF_src]; · iexact HF_src
      iexact HF
    iexact HD
  iexists _; iexact HO

theorem loop_step (v1552 v1777 : IVec S32x128 32) (v2258 : FVec F S32x128 .f32) (t : Fin k0_t1_loop.trips) (acc : Unit) :
    loopAt c C S w fsw fw fsy fy q t.val acc ⊢ wp frame (wpE (defs₀ (F := F)) Variants.none (c : Thread nD τ) none) Set.univ (k0_t1_body (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258 t acc)
      (loopAt c C S w fsw fw fsy fy q (t.val + 1)) := by
  have h := trip_step c C S w fsw fw fsy fy q (blk t)
  rw [← trip_eq v1552 v1777 v2258] at h
  exact h

set_option warn.classDefReducibility false in
/-- The invariant of the loop over the column blocks. -/
@[sl_loop] def blocksInv (v1552 v1777 : IVec S32x128 32) (v2258 : FVec F S32x128 .f32) :
    LoopInv (M := 𝕄) frame (wpE (defs₀ (F := F)) Variants.none (c : Thread nD τ) none) Set.univ k0_t1_loop.lb k0_t1_loop.ub k0_t1_loop.st k0_t1_ok ()
      (k0_t1_body (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258) where
  inv := loopAt c C S w fsw fw fsy fy q
  step := loop_step c C S w fsw fw fsy fy q v1552 v1777 v2258
end Loop

end Cert.KernelIdeal.Hand

end
-- ==== Proof.KernelIdeal.Spec.lean ====
/-
  What the body computes, as functions of the rows it gathered.
-/
module

public import proofs.«01_k».proof.Proof.KernelIdeal.Mid
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Where each row's wanted token lies in its pair: the low bit of its length minus one. -/
def parV (flen : S32.Idx → BitVec 32) : IVec S32x128 32 := fun y => Scalar.andi (Scalar.subi (flen (ix1 (n := 32) (y 0))) 1#32) 1#32

theorem rawInb (n : Fin 56) : ∀ a, (![0, 0, 128 * n.val] : Fin 3 → ℕ) a + S32x2x128.size a ≤ S32x2x7168.size a := fun a => by
  have := n.isLt
  match a with
  | ⟨0, _⟩ => exact Nat.le_refl _
  | ⟨1, _⟩ => exact Nat.le_refl _
  | ⟨2, _⟩ => show 128 * n.val + 128 ≤ 7168; omega
theorem tileInb (n : Fin 56) : ∀ a, (![0, 128 * n.val] : Fin 2 → ℕ) a + S32x128.size a ≤ S32x7168.size a := fun a => by
  have := n.isLt
  match a with
  | ⟨0, _⟩ => exact Nat.le_refl _
  | ⟨1, _⟩ => show 128 * n.val + 128 ≤ 7168; omega

section
variable {c : Dev nD} (X : HbBuf (F := F) c sX) (p : IVec S32x128 32)
/-- Column tile `n` of the staged pairs. -/
def rawV (n : Fin 56) : Vec F S32x2x128 .bf16 :=
  View.readAt (Elt F) sX.view (Rect.unit (s := S32x2x7168) ![0, 0, 128 * n.val] S32x2x128.size (rawInb n)).toLoadRect X
/-- Column tile `n` of the wanted tokens: the row of each pair that `p` names. -/
def chunkV (n : Fin 56) : FVec F S32x128 .f32 :=
  select (cmpi .eq p (broadcast S32x128 1#32))
    (extf .f32 (shapeCast S32x128 (rowsOfParity 1 S32x1x128 (rawV X n) bitcasts_S32x2x128_w16_S32x1x128_w32) shapeCasts_S32x1x128_S32x128))
    (extf .f32 (shapeCast S32x128 (rowsOfParity 0 S32x1x128 (rawV X n) bitcasts_S32x2x128_w16_S32x1x128_w32) shapeCasts_S32x1x128_S32x128))
/-- The running lane-wise maximum of magnitudes over the tiles `l`, from `a`. -/
def amaxV (a : FVec F S32x128 .f32) (l : List (Fin 56)) : FVec F S32x128 .f32 :=
  l.foldl (fun a n => maximumf a (absf (chunkV X p n))) a
/-- The tiles of the first half, and of the second. -/
def tilesA : List (Fin 56) := [0, 1, 2, 3, 4, 5, 6, 7, 8, 9, 10, 11, 12, 13, 14, 15, 16, 17, 18, 19, 20, 21, 22, 23, 24, 25, 26, 27, 28, 29, 30, 31, 32, 33, 34, 35, 36, 37, 38, 39]
def tilesB : List (Fin 56) := [40, 41, 42, 43, 44, 45, 46, 47, 48, 49, 50, 51, 52, 53, 54, 55]
/-- The maximum after the first half. -/
def amaxA : FVec F S32x128 .f32 := amaxV X p (broadcast S32x128 (Scalar.ofBits .f32 0x00000000#32)) tilesA
/-- The greatest magnitude of each row over 448, in every lane, from the maximum `a` of the first half. -/
def limitV (a : FVec F S32x128 .f32) : FVec F S32x128 .f32 :=
  mulf (broadcastTo S32x128 (shapeCast S32x1 (shapeCast S32x1 (multiReduction .maximumf [1] S32 (amaxV X p a tilesB) 0xFF800000#32 reduces_S32x128_S32 (.inl rfl) rfl)
    shapeCasts_S32_S32x1) shapeCasts_S32x1_S32x1) broadcasts_S32x1_S32x128) (broadcast S32x128 (Scalar.ofBits .f32 0x3B124925#32))
end

/-- One step of the search for the exponent field: `w` more, if the power of two it stands for is still at most `v`. -/
def stepV (v : FVec F S32x128 .f32) (w : BitVec 32) (f : IVec S32x128 32) : IVec S32x128 32 :=
  select (cmpf .oge v (bitcastToFloat .f32 (shli (addi f (broadcast S32x128 w)) (broadcast S32x128 23#32)))) (addi f (broadcast S32x128 w)) f
/-- The exponent field of the greatest power of two at most `v`. -/
def fieldV (v : FVec F S32x128 .f32) : IVec S32x128 32 :=
  stepV v 1#32 (stepV v 2#32 (stepV v 4#32 (stepV v 8#32 (stepV v 16#32 (stepV v 32#32 (stepV v 64#32 (stepV v 128#32 (broadcast S32x128 0#32))))))))
/-- The exponent of the scale. -/
def expoV (v : FVec F S32x128 .f32) : IVec S32x128 32 :=
  select (ori (cmpi .eq (fieldV v) (broadcast S32x128 0#32)) (cmpi .eq (fieldV v) (broadcast S32x128 255#32))) (broadcast S32x128 0#32) (subi (fieldV v) (broadcast S32x128 126#32))
/-- The scale, and its reciprocal. -/
def scaleV (v : FVec F S32x128 .f32) : FVec F S32x128 .f32 := bitcastToFloat .f32 (shli (addi (expoV v) (broadcast S32x128 127#32)) (broadcast S32x128 23#32))
def invV (v : FVec F S32x128 .f32) : FVec F S32x128 .f32 := bitcastToFloat .f32 (shli (subi (broadcast S32x128 127#32) (expoV v)) (broadcast S32x128 23#32))
/-- The row of scales: the diagonal of the scale's lanes. -/
def scaleRow (i : IVec S32x128 32) (v : FVec F S32x128 .f32) : FVec F S32 .f32 :=
  shapeCast S32 (extractStridedSlice S32 ![0] (multiReduction .add [0] S128
    (select (cmpi .eq i (iota .tc S32x128 32 [1] iota_S32x128_d1_w32)) (scaleV v) (broadcast S32x128 (Scalar.ofBits .f32 0x00000000#32))) 0x00000000#32 reduces_S32x128_S128 (.inl rfl) rfl)
    slices_S128_o0_S32) shapeCasts_S32_S32

section
variable {c : Dev nD} (X : HbBuf (F := F) c sX) (p : IVec S32x128 32) (a : FVec F S32x128 .f32)
/-- Column tile `n` of the codes. -/
def codeV (n : Fin 56) : FVec F S32x128 .fp8e4m3 :=
  shapeCast S32x128 (truncf .fp8e4m3 (minimumf (broadcast S32x128 (Scalar.ofBits .f32 0x43E00000#32))
    (maximumf (broadcast S32x128 (Scalar.ofBits .f32 0xC3E00000#32)) (mulf (chunkV X p n) (invV (limitV X p a))))) bitsLt_fp8e4m3_f32) shapeCasts_S32x128_S32x128
def codePiece (n : Fin 56) : View.Piece (Elt F) S32x7168 .fp8e4m3 := ⟨Rect.unit (s := S32x7168) ![0, 128 * n.val] S32x128.size (tileInb n), codeV X p a n⟩
/-- The stores of the codes, the last first. -/
def codePieces : List (View.Piece (Elt F) S32x7168 .fp8e4m3) := (tilesB.reverse ++ tilesA.reverse).map (codePiece X p a)
/-- The stores of the column and of the row of scales. -/
def colPieces : List (View.Piece (Elt F) S32x128 .f32) :=
  [⟨Rect.unit (s := S32x128) ![0, 0] S32x128.size inb_S32x128_S32x128_0_0, shapeCast S32x128 (scaleV (limitV X p a)) shapeCasts_S32x128_S32x128⟩]
def rowPieces (i : IVec S32x128 32) : List (View.Piece (Elt F) S32 .f32) :=
  [⟨Rect.unit (s := S32) ![0] S32.size inb_S32_S32_0, scaleRow i (limitV X p a)⟩]
end

/-- What the second half leaves, from the row numbers `i`, the places `p` and the maximum `a` that the first half hands on. -/
structure Good {c : Dev nD} (X : HbBuf (F := F) c sX) (i p : IVec S32x128 32) (a : FVec F S32x128 .f32)
    (C : HbBuf (F := F) c sCodes) (S : HbBuf (F := F) c sCol) (dC : S32x7168.Idx → Elt F .fp8e4m3) (dR : S32.Idx → Elt F .f32) : Prop where
  codes : C = sCodes.view.writes (Elt F) sCodes.view.junk (codePieces X p a)
  col : S = sCol.view.writes (Elt F) sCol.view.junk (colPieces X p a)
  dCodes : ∃ f, dC = ReadAs.same.apply (View.read (Elt F) sCodes.view (sCodes.view.writes (Elt F) f (codePieces X p a)))
  dRow : ∃ f, dR = ReadAs.same.apply (View.read (Elt F) sRow.view (sRow.view.writes (Elt F) f (rowPieces X p a i)))

/-- What the first half hands on. -/
structure Handed {c : Dev nD} (fx : HbBuf (F := F) c mX) (flen : HbBuf (F := F) c mLen)
    (r : Σ' (v1552 : IVec S32x128 32) (v1777 : IVec S32x128 32), FVec F S32x128 .f32) : Prop where
  rows : r.1 = iota .tc S32x128 32 [0] iota_S32x128_d0_w32
  places : r.2.1 = parV flen
  most : r.2.2 = amaxA (gathered c fx flen) (parV flen)

end Cert.KernelIdeal.Hand

end
-- ==== Proof.KernelIdeal.Run95.lean ====
/-
  The first half of the body.
-/
module

public import proofs.«01_k».proof.Proof.KernelIdeal.Spec
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first half of the body. -/
abbrev call95 : Prog (TpuEff nD τ sig (Elt F) Λ₀ .tc) (Σ' (v1552 : IVec S32x128 32) (v1777 : IVec S32x128 32), FVec F S32x128 .f32) :=
  k0_part95 mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13

theorem run95 (c : Dev nD) (fx : HbBuf (F := F) c mX) (flen : HbBuf (F := F) c mLen) (fw : HbBuf (F := F) c mW) (fws : HbBuf (F := F) c mWs) (fsw : HbBuf (F := F) c sW) (fsx : HbBuf (F := F) c sX) (fsws : HbBuf (F := F) c sWs) (fslen : HbBuf (F := F) c sLen) (W : Waits sig Unit) (K)
    (hlen : ∀ i, InRange (flen i)) (_plan : Transfers.BatchOf (c : Thread nD τ) (SemLoc.dma (sig := sig) 16) 32) :
    iprop(hbPt c mX fx ∗ hbPt c mLen flen ∗ bigSep Finset.univ (fun j => wcolPt c j fw) ∗ hbPt c mWs fws ∗ bigSep Finset.univ (fun j => slabPt c j fsw) ∗ bigSep Finset.univ (fun b => xslotPt c b fsx) ∗ hbPt c sWs fsws ∗ hbPt c sLen fslen
      ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ owes (c : Thread nD τ) 0 W
      ∗ (∀ r, ⌜Handed fx flen r⌝ -∗ mid c fx flen fw fws fsw fsws -∗ K r))
      ⊢ wp frame (wpE (defs₀ (F := F)) Variants.none (c : Thread nD τ) none) Set.univ call95 K := by
  rw [bigSep_fin16, bigSep_fin16, bigSep_fin32]
  iintro ⟨Hx, Hlen, ⟨Hw0, Hw1, Hw2, Hw3, Hw4, Hw5, Hw6, Hw7, Hw8, Hw9, Hw10, Hw11, Hw12, Hw13, Hw14, Hw15⟩, Hws, ⟨Hsw0, Hsw1, Hsw2, Hsw3, Hsw4, Hsw5, Hsw6, Hsw7, Hsw8, Hsw9, Hsw10, Hsw11, Hsw12, Hsw13, Hsw14, Hsw15⟩, ⟨Hsx0, Hsx1, Hsx2, Hsx3, Hsx4, Hsx5, Hsx6, Hsx7, Hsx8, Hsx9, Hsx10, Hsx11, Hsx12, Hsx13, Hsx14, Hsx15, Hsx16, Hsx17, Hsx18, Hsx19, Hsx20, Hsx21, Hsx22, Hsx23, Hsx24, Hsx25, Hsx26, Hsx27, Hsx28, Hsx29, Hsx30, Hsx31⟩, Hsws, Hslen, Q0, Q1, Q2, Q3, Q4, Q5, Q6, Q7, Q8, Q9, Q10, Q11, Q12, Q13, Q14, Q15, Q16, Q17, Q18, HW, HK⟩
  ihave HX := (x_toks c fx).1 $$ Hx
  rw [bigSep_fin32]
  icases HX with ⟨HXrest, Hx0, Hx1, Hx2, Hx3, Hx4, Hx5, Hx6, Hx7, Hx8, Hx9, Hx10, Hx11, Hx12, Hx13, Hx14, Hx15, Hx16, Hx17, Hx18, Hx19, Hx20, Hx21, Hx22, Hx23, Hx24, Hx25, Hx26, Hx27, Hx28, Hx29, Hx30, Hx31⟩
  unfold call95
  set_option sl_exec.stopBefore "k0_part44" in sl_exec (disch := first | exact waitChk (by decide) (hlen _) | exact issueChk (by decide) (hlen _))
  have hj := slots_join c fsx (fun b => rowPair c fx b (flen (ix1 (n := 32) b)))
  rw [bigSep_fin32] at hj
  have hx := x_toks c fx
  rw [bigSep_fin32] at hx
  ihave Hx := hx.2 $$ [HXrest Hx0 Hx1 Hx2 Hx3 Hx4 Hx5 Hx6 Hx7 Hx8 Hx9 Hx10 Hx11 Hx12 Hx13 Hx14 Hx15 Hx16 Hx17 Hx18 Hx19 Hx20 Hx21 Hx22 Hx23 Hx24 Hx25 Hx26 Hx27 Hx28 Hx29 Hx30 Hx31]
  · iframe
  ihave HSX := (Entails.of_eq hj) $$ [Hsx0 Hsx1 Hsx2 Hsx3 Hsx4 Hsx5 Hsx6 Hsx7 Hsx8 Hsx9 Hsx10 Hsx11 Hsx12 Hsx13 Hsx14 Hsx15 Hsx16 Hsx17 Hsx18 Hsx19 Hsx20 Hsx21 Hsx22 Hsx23 Hsx24 Hsx25 Hsx26 Hsx27 Hsx28 Hsx29 Hsx30 Hsx31]
  ·
    isplitl [Hsx0]; · iapply (slot_landed c fx flen fsx hlen 0 _ (len_slot c flen fslen 0)); iexact Hsx0
    isplitl [Hsx1]; · iapply (slot_landed c fx flen fsx hlen 1 _ (len_slot c flen fslen 1)); iexact Hsx1
    isplitl [Hsx2]; · iapply (slot_landed c fx flen fsx hlen 2 _ (len_slot c flen fslen 2)); iexact Hsx2
    isplitl [Hsx3]; · iapply (slot_landed c fx flen fsx hlen 3 _ (len_slot c flen fslen 3)); iexact Hsx3
    isplitl [Hsx4]; · iapply (slot_landed c fx flen fsx hlen 4 _ (len_slot c flen fslen 4)); iexact Hsx4
    isplitl [Hsx5]; · iapply (slot_landed c fx flen fsx hlen 5 _ (len_slot c flen fslen 5)); iexact Hsx5
    isplitl [Hsx6]; · iapply (slot_landed c fx flen fsx hlen 6 _ (len_slot c flen fslen 6)); iexact Hsx6
    isplitl [Hsx7]; · iapply (slot_landed c fx flen fsx hlen 7 _ (len_slot c flen fslen 7)); iexact Hsx7
    isplitl [Hsx8]; · iapply (slot_landed c fx flen fsx hlen 8 _ (len_slot c flen fslen 8)); iexact Hsx8
    isplitl [Hsx9]; · iapply (slot_landed c fx flen fsx hlen 9 _ (len_slot c flen fslen 9)); iexact Hsx9
    isplitl [Hsx10]; · iapply (slot_landed c fx flen fsx hlen 10 _ (len_slot c flen fslen 10)); iexact Hsx10
    isplitl [Hsx11]; · iapply (slot_landed c fx flen fsx hlen 11 _ (len_slot c flen fslen 11)); iexact Hsx11
    isplitl [Hsx12]; · iapply (slot_landed c fx flen fsx hlen 12 _ (len_slot c flen fslen 12)); iexact Hsx12
    isplitl [Hsx13]; · iapply (slot_landed c fx flen fsx hlen 13 _ (len_slot c flen fslen 13)); iexact Hsx13
    isplitl [Hsx14]; · iapply (slot_landed c fx flen fsx hlen 14 _ (len_slot c flen fslen 14)); iexact Hsx14
    isplitl [Hsx15]; · iapply (slot_landed c fx flen fsx hlen 15 _ (len_slot c flen fslen 15)); iexact Hsx15
    isplitl [Hsx16]; · iapply (slot_landed c fx flen fsx hlen 16 _ (len_slot c flen fslen 16)); iexact Hsx16
    isplitl [Hsx17]; · iapply (slot_landed c fx flen fsx hlen 17 _ (len_slot c flen fslen 17)); iexact Hsx17
    isplitl [Hsx18]; · iapply (slot_landed c fx flen fsx hlen 18 _ (len_slot c flen fslen 18)); iexact Hsx18
    isplitl [Hsx19]; · iapply (slot_landed c fx flen fsx hlen 19 _ (len_slot c flen fslen 19)); iexact Hsx19
    isplitl [Hsx20]; · iapply (slot_landed c fx flen fsx hlen 20 _ (len_slot c flen fslen 20)); iexact Hsx20
    isplitl [Hsx21]; · iapply (slot_landed c fx flen fsx hlen 21 _ (len_slot c flen fslen 21)); iexact Hsx21
    isplitl [Hsx22]; · iapply (slot_landed c fx flen fsx hlen 22 _ (len_slot c flen fslen 22)); iexact Hsx22
    isplitl [Hsx23]; · iapply (slot_landed c fx flen fsx hlen 23 _ (len_slot c flen fslen 23)); iexact Hsx23
    isplitl [Hsx24]; · iapply (slot_landed c fx flen fsx hlen 24 _ (len_slot c flen fslen 24)); iexact Hsx24
    isplitl [Hsx25]; · iapply (slot_landed c fx flen fsx hlen 25 _ (len_slot c flen fslen 25)); iexact Hsx25
    isplitl [Hsx26]; · iapply (slot_landed c fx flen fsx hlen 26 _ (len_slot c flen fslen 26)); iexact Hsx26
    isplitl [Hsx27]; · iapply (slot_landed c fx flen fsx hlen 27 _ (len_slot c flen fslen 27)); iexact Hsx27
    isplitl [Hsx28]; · iapply (slot_landed c fx flen fsx hlen 28 _ (len_slot c flen fslen 28)); iexact Hsx28
    isplitl [Hsx29]; · iapply (slot_landed c fx flen fsx hlen 29 _ (len_slot c flen fslen 29)); iexact Hsx29
    isplitl [Hsx30]; · iapply (slot_landed c fx flen fsx hlen 30 _ (len_slot c flen fslen 30)); iexact Hsx30
    iapply (slot_landed c fx flen fsx hlen 31 _ (len_slot c flen fslen 31)); iexact Hsx31
  sl_exec
  sl_step
  have hplaces : run95.sl.r_63 c flen fslen = parV flen := by
    have hl := fun b => len_slot c flen fslen b
    funext y
    obtain ⟨b, l, rfl⟩ : ∃ b l, y = ix2 (n0 := 32) (n1 := 128) b l := ⟨_, _, eq_ix2 y⟩
    show _ = Scalar.andi (Scalar.subi (flen (ix1 b)) 1#32) 1#32
    rw [← hl b]
    fin_cases b <;> rfl
  have hmost : run95.sl.r_93 c fx flen fslen = amaxA (gathered c fx flen) (run95.sl.r_63 c flen fslen) := rfl
  have hH : Handed fx flen ⟨run95.sl.v1552, ⟨run95.sl.r_63 c flen fslen, run95.sl.r_93 c fx flen fslen⟩⟩ :=
    ⟨rfl, hplaces, by rw [← hplaces]; exact hmost⟩
  iapply HK $$ %_ %hH
  unfold mid wsFlight
  rw [bigSep_fin16]
  unfold wFlight
  isplitl [Hx]; · iexact Hx
  isplitl [Hlen]; · iexact Hlen
  isplitl [Q0 Q1 Q2 Q3 Q4 Q5 Q6 Q7 Q8 Q9 Q10 Q11 Q12 Q13 Q14 Q15]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    iexact Q15
  isplitl [Q18 Hws]
  · isplitl [Q18]; · iexact Q18
    iexact Hws
  isplitl [HSX]; · iexact HSX
  isplitl [Hslen]; · iexists _; iexact Hslen
  isplitl [Q16]; · iexact Q16
  isplitl [Q17]; · iexact Q17
  iexists _; iexact HW

end Cert.KernelIdeal.Hand

end
-- ==== Proof.KernelIdeal.Run96.lean ====
/-
  The second half of the body.
-/
module

public import proofs.«01_k».proof.Proof.KernelIdeal.Loop
public import proofs.«01_k».proof.Proof.KernelIdeal.Run95
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The second half of the body. -/
def tailProg (v1552 v1777 : IVec S32x128 32) (v2258 : FVec F S32x128 .f32) : Prog (TpuEff nD τ sig (Elt F) Λ₀ .tc) PUnit := do
  k0_part96 mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 v1552 v1777 v2258
  Prog.lift (.waitDma2 ((cc0_scratch12.slice (Rect.unit (s := S2) ![0] S1.size inb_S2_S1_0)).squeeze S_ squeezes_S1_S_).sem sCodes mCodes (Memref.isWhole_whole cc0_scratch2).wordExact (Memref.isWhole_whole main_v1_1).wordExact)
  Prog.lift (.waitDma2 ((cc0_scratch12.slice (Rect.unit (s := S2) ![1] S1.size inb_S2_S1_1)).squeeze S_ squeezes_S1_S_).sem sRow mScale (Memref.isWhole_whole cc0_scratch5).wordExact (Memref.isWhole_whole main_v1_2).wordExact)
  pure ⟨⟩

theorem body_eq : cc0_last_token_fp8_linear (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13 = (call95 >>= fun r => tailProg r.1 r.2.1 r.2.2) := by
  rfl

theorem pt_storable (ℓ : Loc nD τ sig) (I : Finset (Idx ℓ)) (q : PosShare TreeShare) (f : Buf (Elt F) ℓ) :
    Storable (upEmb : UEmb _ 𝕄) (pointsTo ℓ I q f : sProp 𝕄) := inferInstance
theorem sep_storable (P Q : sProp 𝕄) (h1 : Storable (upEmb : UEmb _ 𝕄) P) (h2 : Storable (upEmb : UEmb _ 𝕄) Q) :
    Storable (upEmb : UEmb _ 𝕄) iprop(P ∗ Q) := inferInstance
instance yout_storable (c : Dev nD) (C : HbBuf (F := F) c sCodes) (S : HbBuf (F := F) c sCol) (w : HbBuf (F := F) c sWs) (fw : HbBuf (F := F) c mW) (fsy : HbBuf (F := F) c sY) (fy : HbBuf (F := F) c mY) (j : Fin 16) :
    Storable (upEmb : UEmb _ 𝕄) (yout c C S w fw fsy fy j) :=
  sep_storable _ _ (pt_storable _ _ _ _) (pt_storable _ _ _ _)

theorem batch_start (c : Dev nD) (D : Fin 16 → sProp 𝕄) (h : ∀ t, Storable (upEmb : UEmb _ 𝕄) (D t)) :
    (semVal ((c : Thread nD τ), SemLoc.dma (sig := sig) 21) 0 : sProp 𝕄) ⊢ |={Set.univ}=> Transfers.Batch (countersEmb (U := Pipeline.UD sig nD τ)) (c : Thread nD τ) (SemLoc.dma (sig := sig) 21) () 1024 D 0 0 :=
  Transfers.batch_alloc' (Lvl := ℕ) (countersEmb (U := Pipeline.UD sig nD τ)) (c : Thread nD τ) () 1024 D

/-- What the second half leaves, at the codes `C`, the column of scales `S` and the row of scales `R`. -/
def final (c : Dev nD) (X : HbBuf (F := F) c sX) (fw : HbBuf (F := F) c mW) (fws : HbBuf (F := F) c mWs) (fsws : HbBuf (F := F) c sWs) (fsy : HbBuf (F := F) c sY) (fy : HbBuf (F := F) c mY) (fcodes : HbBuf (F := F) c mCodes) (fscale : HbBuf (F := F) c mScale)
    (C : HbBuf (F := F) c sCodes) (S : HbBuf (F := F) c sCol) (dC : S32x7168.Idx → Elt F .fp8e4m3) (dR : S32.Idx → Elt F .f32) : sProp 𝕄 :=
  iprop(bigSep Finset.univ (yout c C S (View.write (Elt F) sWs.view fsws (ReadAs.same.apply (View.read (Elt F) mWs.view fws)) Finset.univ) fw fsy fy) ∗ bigSep Finset.univ (behind c fw) ∗ hbPt c mWs fws ∗ hbPt c sX X
    ∗ (∃ f, hbPt c sCodes f) ∗ (∃ f, hbPt c sRow f) ∗ (∃ f, hbPt c sCol f) ∗ (∃ f, hbPt c sWs f)
    ∗ hbPt c mCodes (View.write (Elt F) mCodes.view fcodes dC Finset.univ) ∗ hbPt c mScale (View.write (Elt F) mScale.view fscale dR Finset.univ)
    ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0 ∗ (∃ W, owes (c : Thread nD τ) 0 W))

theorem share_join {ℓ : Loc nD τ sig} {f g : Buf (Elt F) ℓ} :
    iprop((ℓ ↦{fullShare.left} f) ∗ ℓ ↦{fullShare.right} g) ⊢ (ℓ ↦{fullShare} f : sProp 𝕄) := by
  iintro ⟨H, G⟩
  ihave %e := pointsTo_agree $$ [H G]
  · isplitl [H]; · iexact H
    iexact G
  iapply (pointsTo_share (q₁ := fullShare.left) (q₂ := fullShare.right) (PosShare.mem_left_op_right fullShare)).2
  isplitl [H]; · iexact H
  rw [pointsTo_congr (f := f) (g := g) fun i hi => (e i (Finset.mem_inter.mpr ⟨hi, hi⟩)).1]
  iexact G

theorem run96 (c : Dev nD) (X : HbBuf (F := F) c sX) (fw : HbBuf (F := F) c mW) (fws : HbBuf (F := F) c mWs) (fsw : HbBuf (F := F) c sW) (fsws : HbBuf (F := F) c sWs) (fscodes : HbBuf (F := F) c sCodes) (fsrow : HbBuf (F := F) c sRow) (fscol : HbBuf (F := F) c sCol) (fsy : HbBuf (F := F) c sY)
    (fy : HbBuf (F := F) c mY) (fcodes : HbBuf (F := F) c mCodes) (fscale : HbBuf (F := F) c mScale) (v1552 v1777 : IVec S32x128 32) (v2258 : FVec F S32x128 .f32) (W : Waits sig Unit) (K) :
    iprop(bigSep Finset.univ (ahead c fsw fw fsy fy) ∗ wsFlight c fsws fws ∗ hbPt c sX X ∗ hbPt c sCodes fscodes ∗ hbPt c sRow fsrow ∗ hbPt c sCol fscol ∗ hbPt c mCodes fcodes ∗ hbPt c mScale fscale
      ∗ semVal ((c : Thread nD τ), SemLoc.dma (sig := sig) 19) 0 ∗ semVal ((c : Thread nD τ), SemLoc.dma (sig := sig) 20) 0 ∗ semVal ((c : Thread nD τ), SemLoc.dma (sig := sig) 21) 0 ∗ owes (c : Thread nD τ) 0 W
      ∗ (∀ C S dC dR, ⌜Good X v1552 v1777 v2258 C S dC dR⌝ -∗ final c X fw fws fsws fsy fy fcodes fscale C S dC dR -∗ K ⟨⟩))
      ⊢ wp frame (wpE (defs₀ (F := F)) Variants.none (c : Thread nD τ) none) Set.univ (tailProg v1552 v1777 v2258) K := by
  unfold wsFlight
  iintro ⟨HA, ⟨Q18, Hws⟩, HX, Hscodes, Hsrow, Hscol, Hcodes, Hscale, Q19, Q20, Q21, HW, HK⟩
  unfold tailProg
  set_option sl_exec.lendShare "Hscodes" in sl_exec
  imod (batch_start c (yout c (sCodes.view.writes (Elt F) sCodes.view.junk (run96.sl.Hscodes_56 c X v1777 v2258)) (sCol.view.writes (Elt F) sCol.view.junk (run96.sl.Hscol_1 c X v1777 v2258)) (View.write (Elt F) sWs.view fsws (ReadAs.same.apply (View.read (Elt F) mWs.view fws)) Finset.univ) fw fsy fy) (fun _ => yout_storable _ _ _ _ _ _ _ _)) $$ Q21 with HB
  have hA0 : bigSep Finset.univ (ahead c fsw fw fsy fy) = bigSep (Ring.rangeSet 16 0 16) (ahead c fsw fw fsy fy) := by rw [Ring.rangeSet_univ]
  sl_for (loopAt c (sCodes.view.writes (Elt F) sCodes.view.junk (run96.sl.Hscodes_56 c X v1777 v2258)) (sCol.view.writes (Elt F) sCol.view.junk (run96.sl.Hscol_1 c X v1777 v2258)) (View.write (Elt F) sWs.view fsws (ReadAs.same.apply (View.read (Elt F) mWs.view fws)) Finset.univ) fsw fw fsy fy fullShare.left) $$ [HB Hscodes Hscol Q18_dst HA HW]
  · exact loop_step c (sCodes.view.writes (Elt F) sCodes.view.junk (run96.sl.Hscodes_56 c X v1777 v2258)) (sCol.view.writes (Elt F) sCol.view.junk (run96.sl.Hscol_1 c X v1777 v2258)) (View.write (Elt F) sWs.view fsws (ReadAs.same.apply (View.read (Elt F) mWs.view fws)) Finset.univ) fsw fw fsy fy fullShare.left v1552 v1777 v2258
  · unfold loopAt
    isplitl [HB]; · iexact HB
    isplitl [Hscodes]; · iexact Hscodes
    isplitl [Hscol]; · iexact Hscol
    isplitl [Q18_dst]; · iexact Q18_dst
    isplitl [HA]; · iapply (Entails.of_eq hA0); iexact HA
    isplitr [HW]; · rw [Ring.bigSep_rangeSet_empty (le_refl 0)]; iempintro
    iexists _; iexact HW
  iintro %acc HL
  unfold loopAt
  icases HL with ⟨HB, Hscodes, Hscol, Hsws, HA, HD, ⟨%W', HW⟩⟩
  sl_exec
  ihave Hsc := share_join $$ [Hscodes Hscodes_lend]
  · isplitl [Hscodes]; · iexact Hscodes
    iexact Hscodes_lend
  sl_step
  have hC : run96.sl.Hscodes_56 c X v1777 v2258 = codePieces X v1777 v2258 := rfl
  have hS : run96.sl.Hscol_1 c X v1777 v2258 = colPieces X v1777 v2258 := rfl
  have hR : run96.sl.Hsrow_1 c X v1552 v1777 v2258 = rowPieces X v1777 v2258 v1552 := rfl
  have hG : Good X v1552 v1777 v2258 (sCodes.view.writes (Elt F) sCodes.view.junk (run96.sl.Hscodes_56 c X v1777 v2258))
      (sCol.view.writes (Elt F) sCol.view.junk (run96.sl.Hscol_1 c X v1777 v2258)) (run96.sl.dma188 c X fscodes v1777 v2258) (run96.sl.dma188_1 c X fsrow v1552 v1777 v2258) :=
    ⟨by rw [hC], by rw [hS], ⟨fscodes, by unfold run96.sl.dma188; rw [hC]⟩, ⟨fsrow, by unfold run96.sl.dma188_1; rw [hR]⟩⟩
  iapply HK $$ %(sCodes.view.writes (Elt F) sCodes.view.junk (run96.sl.Hscodes_56 c X v1777 v2258)) %(sCol.view.writes (Elt F) sCol.view.junk (run96.sl.Hscol_1 c X v1777 v2258)) %(run96.sl.dma188 c X fscodes v1777 v2258) %(run96.sl.dma188_1 c X fsrow v1552 v1777 v2258) %hG
  unfold final
  isplitl [HB_dst0 HB_src0 HB_dst1 HB_src1 HB_dst2 HB_src2 HB_dst3 HB_src3 HB_dst4 HB_src4 HB_dst5 HB_src5 HB_dst6 HB_src6 HB_dst7 HB_src7 HB_dst8 HB_src8 HB_dst9 HB_src9 HB_dst10 HB_src10 HB_dst11 HB_src11 HB_dst12 HB_src12 HB_dst13 HB_src13 HB_dst14 HB_src14 HB_dst15 HB_src15]
  · rw [bigSep_fin16]
    isplitl [HB_dst0 HB_src0]
    · isplitl [HB_dst0]; · iexact HB_dst0
      iexact HB_src0
    isplitl [HB_dst1 HB_src1]
    · isplitl [HB_dst1]; · iexact HB_dst1
      iexact HB_src1
    isplitl [HB_dst2 HB_src2]
    · isplitl [HB_dst2]; · iexact HB_dst2
      iexact HB_src2
    isplitl [HB_dst3 HB_src3]
    · isplitl [HB_dst3]; · iexact HB_dst3
      iexact HB_src3
    isplitl [HB_dst4 HB_src4]
    · isplitl [HB_dst4]; · iexact HB_dst4
      iexact HB_src4
    isplitl [HB_dst5 HB_src5]
    · isplitl [HB_dst5]; · iexact HB_dst5
      iexact HB_src5
    isplitl [HB_dst6 HB_src6]
    · isplitl [HB_dst6]; · iexact HB_dst6
      iexact HB_src6
    isplitl [HB_dst7 HB_src7]
    · isplitl [HB_dst7]; · iexact HB_dst7
      iexact HB_src7
    isplitl [HB_dst8 HB_src8]
    · isplitl [HB_dst8]; · iexact HB_dst8
      iexact HB_src8
    isplitl [HB_dst9 HB_src9]
    · isplitl [HB_dst9]; · iexact HB_dst9
      iexact HB_src9
    isplitl [HB_dst10 HB_src10]
    · isplitl [HB_dst10]; · iexact HB_dst10
      iexact HB_src10
    isplitl [HB_dst11 HB_src11]
    · isplitl [HB_dst11]; · iexact HB_dst11
      iexact HB_src11
    isplitl [HB_dst12 HB_src12]
    · isplitl [HB_dst12]; · iexact HB_dst12
      iexact HB_src12
    isplitl [HB_dst13 HB_src13]
    · isplitl [HB_dst13]; · iexact HB_dst13
      iexact HB_src13
    isplitl [HB_dst14 HB_src14]
    · isplitl [HB_dst14]; · iexact HB_dst14
      iexact HB_src14
    isplitl [HB_dst15]; · iexact HB_dst15
    iexact HB_src15
  isplitl [HD]
  · rw [← Ring.rangeSet_univ (NB := 16)]; iexact HD
  isplitl [Hws]; · iexact Hws
  isplitl [HX]; · iexact HX
  isplitl [Hsc]; · iexists _; iexact Hsc
  isplitl [Hsrow]; · iexists _; iexact Hsrow
  isplitl [Hscol]; · iexists _; iexact Hscol
  isplitl [Hsws]; · iexists _; iexact Hsws
  isplitl [Hcodes]; · iexact Hcodes
  isplitl [Hscale]; · iexact Hscale
  isplitl [Q18]; · iexact Q18
  isplitl [Q19]; · iexact Q19
  isplitl [Q20]; · iexact Q20
  isplitl [HB]; · iexact HB
  iexists _; iexact HW

end Cert.KernelIdeal.Hand

end
-- ==== Proof.KernelIdeal.Result.lean ====
/-
What the kernel leaves in its three results.
-/
module

public import proofs.«01_k».proof.Proof.KernelIdeal.Loop
public import proofs.«01_k».proof.Proof.KernelIdeal.Spec
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame
public import Idealize.ShloMosaic.Lib.Pipeline.FrameBody

set_option maxRecDepth 100000

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The place of element `y` of the result in its column block. -/
def yloc (y : S32x8192.Idx) : S32x512.Idx := ix2 (n0 := 32) (n1 := 512) (y 0) ⟨(y 1).val % 512, Nat.mod_lt _ (by decide)⟩
theorem ycol_emb (y : S32x8192.Idx) (j : Fin 16) (hy : ykey y = j) : (ycol j).view.emb (yloc y) = y := by
  subst hy
  funext a
  match a with
  | ⟨0, _⟩ => exact Fin.ext (show 0 + 1 * (y 0).val = (y 0).val by omega)
  | ⟨1, _⟩ => exact Fin.ext (show (y 1).val / 512 * 512 + 1 * ((y 1).val % 512) = (y 1).val by omega)

theorem ystage_read (c : Dev nD) (fsy : HbBuf (F := F) c sY) (z : S32x512.Idx → Elt F .bf16) (j : Fin 16) :
    View.read (Elt F) (ystage j).view (View.write (Elt F) (sY.access (Rect.unit (s := S32x8192) ![0, j.val * 512] S32x512.size (ycol_inb j))) fsy z Finset.univ) = z :=
  View.read_write_univ (v := sY.view.slice (Rect.unit (s := S32x8192) ![0, j.val * 512] S32x512.size (ycol_inb j))) fsy z
theorem ycol_written (c : Dev nD) (fy : HbBuf (F := F) c mY) (z : S32x512.Idx → Elt F .bf16) (y : S32x8192.Idx) (j : Fin 16) (hy : ykey y = j) :
    ((ycol j).view.writes (Elt F) fy [⟨Rect.whole S32x512, z⟩] : S32x8192.Idx → Elt F .bf16) y = z (yloc y) :=
  writes_whole_at (F := F) (ycol j).view fy z (yloc y) y (ycol_emb y j hy)
/-- A finished column block holds what its trip computed. -/
theorem ycol_done (c : Dev nD) (C : HbBuf (F := F) c sCodes) (S : HbBuf (F := F) c sCol) (w : HbBuf (F := F) c sWs) (fw : HbBuf (F := F) c mW) (fsy : HbBuf (F := F) c sY) (fy : HbBuf (F := F) c mY)
    (y : S32x8192.Idx) (j : Fin 16) (hy : ykey y = j) :
    ((ycol j).view.writes (Elt F) fy [⟨Rect.whole S32x512, ReadAs.same.apply (View.read (Elt F) (ystage j).view (ystored c C S w fw fsy j))⟩] : S32x8192.Idx → Elt F .bf16) y
      = yblk c C S w fw j (yloc y) := by
  unfold ystored
  rw [ystage_read c fsy (yblk c C S w fw j) j]
  exact ycol_written c fy _ y j hy

theorem mem_tiles (n : Fin 56) : n ∈ tilesB.reverse ++ tilesA.reverse := by revert n; decide

section
variable (c : Dev nD) (X : HbBuf (F := F) c sX) (i p : IVec S32x128 32) (a : FVec F S32x128 .f32)
theorem codes_cover (y : S32x7168.Idx) : ∃ q ∈ codePieces X p a, y ∈ q.1.set := by
  have h0 : (y 0).val < 32 := (y 0).isLt
  have h1 : (y 1).val < 7168 := (y 1).isLt
  refine ⟨codePiece X p a ⟨(y 1).val / 128, by omega⟩, List.mem_map.mpr ⟨_, mem_tiles _, rfl⟩, ?_⟩
  unfold codePiece
  rw [Rect.mem_set_unit]
  intro b; fin_cases b
  · show 0 ≤ (y 0).val ∧ (y 0).val < 0 + 32; omega
  · show 128 * ((y 1).val / 128) ≤ (y 1).val ∧ (y 1).val < 128 * ((y 1).val / 128) + 128; omega

/-- The codes the kernel leaves. -/
def codesG : HbBuf (F := F) c mCodes := fun y : S32x7168.Idx => View.canon (Val := Elt F) (codePieces X p a) y
/-- The scales the kernel leaves. -/
def scaleG : HbBuf (F := F) c mScale := fun y : S32.Idx => View.canon (Val := Elt F) (rowPieces X p a i) y
/-- The product the kernel leaves. -/
def yG (fw : HbBuf (F := F) c mW) (fws : HbBuf (F := F) c mWs) : HbBuf (F := F) c mY := fun y : S32x8192.Idx =>
  yblk c (sCodes.view.writes (Elt F) sCodes.view.junk (codePieces X p a)) (sCol.view.writes (Elt F) sCol.view.junk (colPieces X p a)) (fun z : S1x8192.Idx => fws z) fw (ykey y) (yloc y)

variable {C : HbBuf (F := F) c sCodes} {S : HbBuf (F := F) c sCol} {dC : S32x7168.Idx → Elt F .fp8e4m3} {dR : S32.Idx → Elt F .f32}
theorem Good.codesG (h : Good X i p a C S dC dR) (f : HbBuf (F := F) c mCodes) : View.write (Elt F) mCodes.view f dC Finset.univ = codesG c X p a := by
  obtain ⟨g, hg⟩ := h.dCodes
  refine (View.write_whole_univ _ _ _).trans ?_
  rw [hg]
  exact funext fun y => View.read_writes_apply_eq_canon _ g y _ (codes_cover c X p a y)
theorem Good.scaleG (h : Good X i p a C S dC dR) (f : HbBuf (F := F) c mScale) : View.write (Elt F) mScale.view f dR Finset.univ = scaleG c X i p a := by
  obtain ⟨g, hg⟩ := h.dRow
  refine (View.write_whole_univ _ _ _).trans ?_
  rw [hg]
  refine funext fun y => View.read_writes_apply_eq_canon _ g y _ ⟨_, List.mem_singleton.mpr rfl, ?_⟩
  rw [Rect.mem_set_unit]
  have h0 : (y 0).val < 32 := (y 0).isLt
  intro b; fin_cases b
  show 0 ≤ (y 0).val ∧ (y 0).val < 0 + 32; omega
theorem Good.yG (h : Good X i p a C S dC dR) (fw : HbBuf (F := F) c mW) (fws : HbBuf (F := F) c mWs) (fsws : HbBuf (F := F) c sWs) (fsy : HbBuf (F := F) c sY) (fy : HbBuf (F := F) c mY) (y : S32x8192.Idx) :
    ((ycol (ykey y)).view.writes (Elt F) fy [⟨Rect.whole S32x512, ReadAs.same.apply (View.read (Elt F) (ystage (ykey y)).view
      (ystored c C S (View.write (Elt F) sWs.view fsws (ReadAs.same.apply (View.read (Elt F) mWs.view fws)) Finset.univ) fw fsy (ykey y)))⟩] : S32x8192.Idx → Elt F .bf16) y = yG c X p a fw fws y := by
  rw [ycol_done c C S _ fw fsy fy y _ rfl, h.codes, h.col]
  rw [show View.write (Elt F) sWs.view fsws (ReadAs.same.apply (View.read (Elt F) mWs.view fws)) Finset.univ = (fun z : S1x8192.Idx => fws z : S1x8192.Idx → Elt F .f32) from View.write_whole_univ _ _ _]
  rfl
end

section
variable (c : Dev nD) (fx : HbBuf (F := F) c mX) (flen : HbBuf (F := F) c mLen)
/-- The three results as functions of the arguments. -/
abbrev yOut (fw : HbBuf (F := F) c mW) (fws : HbBuf (F := F) c mWs) : HbBuf (F := F) c mY := yG c (gathered c fx flen) (parV flen) (amaxA (gathered c fx flen) (parV flen)) fw fws
abbrev codesOut : HbBuf (F := F) c mCodes := codesG c (gathered c fx flen) (parV flen) (amaxA (gathered c fx flen) (parV flen))
abbrev scaleOut : HbBuf (F := F) c mScale :=
  scaleG c (gathered c fx flen) (iota .tc S32x128 32 [0] iota_S32x128_d0_w32) (parV flen) (amaxA (gathered c fx flen) (parV flen))
end

end Cert.KernelIdeal.Hand

end
-- ==== Proof.KernelIdeal.Body.lean ====
/-
  The whole body.
-/
module

public import proofs.«01_k».proof.Proof.KernelIdeal.Run96
public import proofs.«01_k».proof.Proof.KernelIdeal.Result
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame

@[expose] public section

set_option maxRecDepth 65536
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem bigSep_both (Φ Ψ : Fin 16 → sProp 𝕄) : bigSep Finset.univ (fun i => iprop(Φ i ∗ Ψ i)) = iprop(bigSep Finset.univ Φ ∗ bigSep Finset.univ Ψ) := BI.bigSep_sep _ _ _
theorem slabs_join (c : Dev nD) (f₀ : HbBuf (F := F) c sW) :
    bigSep Finset.univ (fun j : Fin 16 => iprop(∃ f, slabPt c j f)) ⊢ (iprop(∃ f, hbPt c sW f) : sProp 𝕄) := by
  have : Nonempty (HbBuf (F := F) c sW) := ⟨f₀⟩
  refine (BI.bigSep_exists_pi Finset.univ (fun j (f : HbBuf (F := F) c sW) => (slabPt c j f : sProp 𝕄))).trans ?_
  iintro ⟨%fs, H⟩
  iexists (fun y => fs (wkey y) y)
  iapply (Entails.of_eq (sw_blocks c fs (fun y => fs (wkey y) y) fun b y h => by subst h; rfl))
  iexact H

section
variable (c : Dev nD) (C : HbBuf (F := F) c sCodes) (S : HbBuf (F := F) c sCol) (w : HbBuf (F := F) c sWs) (fw : HbBuf (F := F) c mW) (fsy : HbBuf (F := F) c sY) (fy : HbBuf (F := F) c mY)
/-- The result, block by block. -/
def yFull : HbBuf (F := F) c mY := fun y : S32x8192.Idx =>
  (ycol (ykey y)).view.writes (Elt F) fy [⟨Rect.whole S32x512, ReadAs.same.apply (View.read (Elt F) (ystage (ykey y)).view (ystored c C S w fw fsy (ykey y)))⟩] y
theorem yout_join : bigSep Finset.univ (yout c C S w fw fsy fy) ⊢ iprop(hbPt c mY (yFull c C S w fw fsy fy) ∗ (∃ f, hbPt c sY f)) := by
  refine (Entails.of_eq (bigSep_both _ _)).trans ?_
  iintro ⟨HY, HS⟩
  isplitl [HY]
  · iapply (Entails.of_eq (y_blocks c (fun j => (ycol j).view.writes (Elt F) fy [⟨Rect.whole S32x512, ReadAs.same.apply (View.read (Elt F) (ystage j).view (ystored c C S w fw fsy j))⟩]) (yFull c C S w fw fsy fy) fun b y h => by subst h; rfl))
    iexact HY
  iexists (fun y => ystored c C S w fw fsy (ykey y) y)
  iapply (Entails.of_eq (sy_blocks c (ystored c C S w fw fsy) (fun y => ystored c C S w fw fsy (ykey y) y) fun b y h => by subst h; rfl))
  iexact HS
end

theorem ahead_init (c : Dev nD) (fsw : HbBuf (F := F) c sW) (fw : HbBuf (F := F) c mW) (fsy : HbBuf (F := F) c sY) (fy : HbBuf (F := F) c mY) :
    iprop(bigSep Finset.univ (wFlight c fsw fw) ∗ hbPt c sY fsy ∗ hbPt c mY fy) ⊢ bigSep Finset.univ (ahead c fsw fw fsy fy) := by
  iintro ⟨HF, HS, HY⟩
  iapply (Entails.of_eq (bigSep_both _ _).symm)
  isplitl [HF]; · iexact HF
  iapply (Entails.of_eq (bigSep_both _ _).symm)
  isplitl [HS]
  · iapply (Entails.of_eq (sy_blocks c (fun _ => fsy) fsy fun _ _ _ => rfl).symm); iexact HS
  iapply (Entails.of_eq (y_blocks c (fun _ => fy) fy fun _ _ _ => rfl).symm); iexact HY

theorem behind_join (c : Dev nD) (fw : HbBuf (F := F) c mW) (f₀ : HbBuf (F := F) c sW) :
    bigSep Finset.univ (behind c fw) ⊢ iprop((∃ f, hbPt c sW f) ∗ hbPt c mW fw ∗ bigSep Finset.univ (fun j : Fin 16 => semVal ((c : Thread nD τ), SemLoc.dma (sig := sig) ⟨j.val, sem_lt j⟩) 0)) := by
  refine (Entails.of_eq (bigSep_both _ _)).trans ?_
  iintro ⟨HS, HR⟩
  isplitl [HS]
  · iapply (slabs_join c f₀); iexact HS
  ihave ⟨HW, HQ⟩ := (Entails.of_eq (bigSep_both (fun j => wcolPt c j fw) _)) $$ HR
  isplitl [HW]
  · iapply (Entails.of_eq (w_blocks c fw)); iexact HW
  iexact HQ

/-- The three results at what the kernel leaves in them. -/
def results (c : Dev nD) (fx : HbBuf (F := F) c mX) (flen : HbBuf (F := F) c mLen) (fw : HbBuf (F := F) c mW) (fws : HbBuf (F := F) c mWs) : sProp 𝕄 :=
  iprop(hbPt c mY (yOut c fx flen fw fws) ∗ hbPt c mCodes (codesOut c fx flen) ∗ hbPt c mScale (scaleOut c fx flen))

/-- The body as the pipeline calls it. -/
abbrev bodyProg : Prog (TpuEff nD τ sig (Elt F) Λ₀ .tc) PUnit := cc0_last_token_fp8_linear (F := F) mX (Memref.isWhole_whole _) mLen (Memref.isWhole_whole _) mW (Memref.isWhole_whole _) mWs (Memref.isWhole_whole _) mY (Memref.isWhole_whole _) mCodes (Memref.isWhole_whole _) mScale (Memref.isWhole_whole _) sW (Memref.isWhole_whole _) sX (Memref.isWhole_whole _) sCodes (Memref.isWhole_whole _) sWs (Memref.isWhole_whole _) sY (Memref.isWhole_whole _) sRow (Memref.isWhole_whole _) sCol (Memref.isWhole_whole _) sLen (Memref.isWhole_whole _) cc0_scratch8 cc0_scratch9 cc0_scratch10 cc0_scratch11 cc0_scratch12 cc0_scratch13

/-- The whole body: from the arguments, the results and the scratches at anything, to the arguments as they were and the results computed. -/
theorem body (c : Dev nD) (fx : HbBuf (F := F) c mX) (flen : HbBuf (F := F) c mLen) (fw : HbBuf (F := F) c mW) (fws : HbBuf (F := F) c mWs) (W : Waits sig Unit) (K : PUnit → sProp 𝕄)
    (hlen : ∀ i, InRange (flen i)) :
    iprop(((∃ f, hbPt c sW f) ∗ (∃ f, hbPt c sX f) ∗ (∃ f, hbPt c sCodes f) ∗ (∃ f, hbPt c sWs f) ∗ (∃ f, hbPt c sY f) ∗ (∃ f, hbPt c sRow f) ∗ (∃ f, hbPt c sCol f) ∗ (∃ f, hbPt c sLen f))
      ∗ (semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0)
      ∗ (hbPt c mX fx ∗ hbPt c mLen flen ∗ hbPt c mW fw ∗ hbPt c mWs fws)
      ∗ ((∃ f, hbPt c mY f) ∗ (∃ f, hbPt c mCodes f) ∗ (∃ f, hbPt c mScale f))
      ∗ owes (c : Thread nD τ) 0 W
      ∗ (((∃ f, hbPt c sW f) ∗ (∃ f, hbPt c sX f) ∗ (∃ f, hbPt c sCodes f) ∗ (∃ f, hbPt c sWs f) ∗ (∃ f, hbPt c sY f) ∗ (∃ f, hbPt c sRow f) ∗ (∃ f, hbPt c sCol f) ∗ (∃ f, hbPt c sLen f))
        ∗ (semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0)
        ∗ (hbPt c mX fx ∗ hbPt c mLen flen ∗ hbPt c mW fw ∗ hbPt c mWs fws)
        ∗ results c fx flen fw fws
        ∗ (∃ W, owes (c : Thread nD τ) 0 W) -∗ K ⟨⟩))
      ⊢ wp frame (wpE (defs₀ (F := F)) Variants.none (c : Thread nD τ) none) Set.univ bodyProg K := by
  unfold bodyProg
  rw [body_eq]
  iintro ⟨⟨⟨%fsw, HsW⟩, ⟨%fsx, HsX⟩, ⟨%fscodes, HsCodes⟩, ⟨%fsws, HsWs⟩, ⟨%fsy, HsY⟩, ⟨%fsrow, HsRow⟩, ⟨%fscol, HsCol⟩, ⟨%fslen, HsLen⟩⟩, ⟨Q0, Q1, Q2, Q3, Q4, Q5, Q6, Q7, Q8, Q9, Q10, Q11, Q12, Q13, Q14, Q15, Q16, Q17, Q18, Q19, Q20, Q21⟩, ⟨HX, HL, HMw, HWs⟩, ⟨⟨%fy, HY⟩, ⟨%fcodes, HCo⟩, ⟨%fscale, HSc⟩⟩, HO, HK⟩
  rw [Idealize.SL.Sem.wp_bind]
  iapply (run95 c fx flen fw fws fsw fsx fsws fslen W _ hlen (Transfers.BatchOf.intro _ _ _))
  isplitl [HX]; · iexact HX
  isplitl [HL]; · iexact HL
  isplitl [HMw]; · iapply (Entails.of_eq (w_blocks c fw).symm); iexact HMw
  isplitl [HWs]; · iexact HWs
  isplitl [HsW]; · iapply (Entails.of_eq (sw_blocks c (fun _ => fsw) fsw fun _ _ _ => rfl).symm); iexact HsW
  isplitl [HsX]; · iapply (Entails.of_eq (sx_blocks c (fun _ => fsx) fsx fun _ _ _ => rfl).symm); iexact HsX
  isplitl [HsWs]; · iexact HsWs
  isplitl [HsLen]; · iexact HsLen
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [HO]; · iexact HO
  iintro %r %hH HM
  unfold mid
  icases HM with ⟨HX, HL, HF, HWF, HsX, HsLen, Q16, Q17, ⟨%W', HO⟩⟩
  iapply (run96 c (gathered c fx flen) fw fws fsw fsws fscodes fsrow fscol fsy fy fcodes fscale r.1 r.2.1 r.2.2 W' _)
  isplitl [HF HsY HY]
  · iapply (ahead_init c fsw fw fsy fy)
    isplitl [HF]; · iexact HF
    isplitl [HsY]; · iexact HsY
    iexact HY
  isplitl [HWF]; · iexact HWF
  isplitl [HsX]; · iexact HsX
  isplitl [HsCodes]; · iexact HsCodes
  isplitl [HsRow]; · iexact HsRow
  isplitl [HsCol]; · iexact HsCol
  isplitl [HCo]; · iexact HCo
  isplitl [HSc]; · iexact HSc
  isplitl [Q19]; · iexact Q19
  isplitl [Q20]; · iexact Q20
  isplitl [Q21]; · iexact Q21
  isplitl [HO]; · iexact HO
  iintro %C %S %dC %dR %hG HFin
  rw [hH.rows, hH.places, hH.most] at hG
  unfold final
  icases HFin with ⟨HYO, HB, HWs, HsX, HsCodes, HsRow, HsCol, HsWs, HCo, HSc, Q18, Q19, Q20, Q21, HO⟩
  ihave ⟨HY, HsY⟩ := (yout_join c C S _ fw fsy fy) $$ HYO
  ihave ⟨HsW, HMw, HQ⟩ := (behind_join c fw fsw) $$ HB
  ihave HQ := (Entails.of_eq (bigSep_fin16 (fun j : Fin 16 => semVal ((c : Thread nD τ), SemLoc.dma (sig := sig) ⟨j.val, sem_lt j⟩) 0))) $$ HQ
  icases HQ with ⟨Q0, Q1, Q2, Q3, Q4, Q5, Q6, Q7, Q8, Q9, Q10, Q11, Q12, Q13, Q14, Q15⟩
  iapply HK
  isplitl [HsW HsX HsCodes HsWs HsY HsRow HsCol HsLen]
  · isplitl [HsW]; · iexact HsW
    isplitl [HsX]; · iexists _; iexact HsX
    isplitl [HsCodes]; · iexact HsCodes
    isplitl [HsWs]; · iexact HsWs
    isplitl [HsY]; · iexact HsY
    isplitl [HsRow]; · iexact HsRow
    isplitl [HsCol]; · iexact HsCol
    iexact HsLen
  isplitl [Q0 Q1 Q2 Q3 Q4 Q5 Q6 Q7 Q8 Q9 Q10 Q11 Q12 Q13 Q14 Q15 Q16 Q17 Q18 Q19 Q20 Q21]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    iexact Q21
  isplitl [HX HL HMw HWs]
  · isplitl [HX]; · iexact HX
    isplitl [HL]; · iexact HL
    isplitl [HMw]; · iexact HMw
    iexact HWs
  isplitl [HY HCo HSc]
  · unfold results
    isplitl [HY]
    · iapply (Entails.of_eq (congrArg (hbPt c mY) (funext fun y => hG.yG c _ _ _ _ fw fws fsws fsy fy y)))
      iexact HY
    isplitl [HCo]
    · iapply (Entails.of_eq (congrArg (hbPt c mCodes) (hG.codesG c _ _ _ _ fcodes)))
      iexact HCo
    iapply (Entails.of_eq (congrArg (hbPt c mScale) (hG.scaleG c _ _ _ _ fscale)))
    iexact HSc
  iexact HO

end Cert.KernelIdeal.Hand

end
-- ==== Proof.KernelIdeal.Frame.lean ====
/-
  The frame of the program.
-/
module

public import proofs.«01_k».proof.Proof.KernelIdeal.Body
public import proofs.«01_k».proof.Proof.Gen.KernelIdeal.Frame
public import Idealize.ShloMosaic.Lib.ValueIdxCore
public import Idealize.ShloMosaic.Lib.Batch
public import Idealize.ShloMosaic.Lib.MixedBatch
public import Idealize.ShloMosaic.Lib.Ring
public import Idealize.ShloMosaic.Lib.Pipeline.Frame
public import Idealize.ShloMosaic.Lib.Pipeline.FrameValue

@[expose] public section

set_option maxRecDepth 65536
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix0 ix1 ix2 ix3 eq_ix1 eq_ix2 eq_ix3)
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The results, which the body writes itself. -/
def R0 : Finset (Ref sig .tc) := {main_v1_0, main_v1_1, main_v1_2}

set_option maxHeartbeats 800000 in
/-- The program up to its region, at the algebra of transfers. -/
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main hostOps0 hostOps0_sub hostOps0_fresh main_chain

/-- The body's own semaphores. -/
abbrev osem0 : Fin 22 → SemLoc sig := fun j => SemLoc.dma ⟨j.val, by have := j.isLt; show j.val < 22; exact this⟩
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0) := by
  rw [Pipeline.ownSems0_eq_of_list c osem0 [0, 1, 2, 3, 4, 5, 6, 7, 8, 9, 10, 11, 12, 13, 14, 15, 16, 17, 18, 19, 20, 21] (by decide) (by decide)]; rfl
/-- The operands in HBM that the body reads. -/
def H0 : Finset (Ref sig .tc) := {main_arg0, main_arg1, main_arg2, main_v0}
theorem H0_sub : H0 ⊆ Pipeline.restRefs sig (cfg0.spec) := by decide
theorem hbmPts0_eq (c : Dev nD) :
    (bigSep H0 (fun b => ((c : Thread nD τ).loc b) ↦{fullShare} Gen.V m c b) : sProp 𝕄)
      = iprop(hbPt c mX (Gen.V m c main_arg0) ∗ hbPt c mLen (Gen.V m c main_arg1) ∗ hbPt c mW (Gen.V m c main_arg2) ∗ hbPt c mWs (Gen.V m c main_v0)) := by
  rw [BI.bigSep_eq_bigSepL_of_eq [main_arg0, main_arg1, main_arg2, main_v0] (by decide) (by decide)]; rfl
theorem R0_sub : R0 ⊆ Pipeline.restRefs sig (cfg0.spec) \ H0 := by decide
theorem ownedPts0_eq (c : Dev nD) :
    (Pipeline.owned R0 c : sProp 𝕄) = iprop((∃ f, hbPt c mY f) ∗ (∃ f, hbPt c mCodes f) ∗ (∃ f, hbPt c mScale f)) := by
  unfold Pipeline.owned; rw [BI.bigSep_eq_bigSepL_of_eq [main_v1_0, main_v1_1, main_v1_2] (by decide) (by decide)]; rfl
theorem PhiDR0_eq (c : Dev nD) :
    (Pipeline.ΦDR osem0 (cfg0.spec) H0 R0 (Gen.V m) c : sProp 𝕄)
      = iprop(((∃ f, hbPt c sW f) ∗ (∃ f, hbPt c sX f) ∗ (∃ f, hbPt c sCodes f) ∗ (∃ f, hbPt c sWs f) ∗ (∃ f, hbPt c sY f) ∗ (∃ f, hbPt c sRow f) ∗ (∃ f, hbPt c sCol f) ∗ (∃ f, hbPt c sLen f))
        ∗ (∃ r, prngReg c r)
        ∗ (semVal ((c : Thread nD τ), SemLoc.dma (sig := sig) 0) 0 ∗ semVal ((c : Thread nD τ), SemLoc.dma (sig := sig) 1) 0 ∗ semVal ((c : Thread nD τ), SemLoc.dma (sig := sig) 2) 0 ∗ semVal ((c : Thread nD τ), SemLoc.dma (sig := sig) 3) 0 ∗ semVal ((c : Thread nD τ), SemLoc.dma (sig := sig) 4) 0 ∗ semVal ((c : Thread nD τ), SemLoc.dma (sig := sig) 5) 0 ∗ semVal ((c : Thread nD τ), SemLoc.dma (sig := sig) 6) 0 ∗ semVal ((c : Thread nD τ), SemLoc.dma (sig := sig) 7) 0 ∗ semVal ((c : Thread nD τ), SemLoc.dma (sig := sig) 8) 0 ∗ semVal ((c : Thread nD τ), SemLoc.dma (sig := sig) 9) 0 ∗ semVal ((c : Thread nD τ), SemLoc.dma (sig := sig) 10) 0 ∗ semVal ((c : Thread nD τ), SemLoc.dma (sig := sig) 11) 0 ∗ semVal ((c : Thread nD τ), SemLoc.dma (sig := sig) 12) 0 ∗ semVal ((c : Thread nD τ), SemLoc.dma (sig := sig) 13) 0 ∗ semVal ((c : Thread nD τ), SemLoc.dma (sig := sig) 14) 0 ∗ semVal ((c : Thread nD τ), SemLoc.dma (sig := sig) 15) 0 ∗ semVal ((c : Thread nD τ), SemLoc.dma (sig := sig) 16) 0 ∗ semVal ((c : Thread nD τ), SemLoc.dma (sig := sig) 17) 0 ∗ semVal ((c : Thread nD τ), SemLoc.dma (sig := sig) 18) 0 ∗ semVal ((c : Thread nD τ), SemLoc.dma (sig := sig) 19) 0 ∗ semVal ((c : Thread nD τ), SemLoc.dma (sig := sig) 20) 0 ∗ semVal ((c : Thread nD τ), SemLoc.dma (sig := sig) 21) 0)
        ∗ (hbPt c mX (Gen.V m c main_arg0) ∗ hbPt c mLen (Gen.V m c main_arg1) ∗ hbPt c mW (Gen.V m c main_arg2) ∗ hbPt c mWs (Gen.V m c main_v0))
        ∗ ((∃ f, hbPt c mY f) ∗ (∃ f, hbPt c mCodes f) ∗ (∃ f, hbPt c mScale f))) := by
  rw [Pipeline.ΦDR_eq, scopedRest0_eq, ownSems00_eq, hbmPts0_eq, ownedPts0_eq]

/-- What the results hold at the end. -/
def G0 (c : Dev nD) (b : Ref sig .tc) : Buf (Elt F) ((c.tc : Thread nD τ).loc b) :=
  if h : b = main_v1_0 then h ▸ yOut c (Gen.V m c main_arg0) (Gen.V m c main_arg1) (Gen.V m c main_arg2) (Gen.V m c main_v0)
  else if h : b = main_v1_1 then h ▸ codesOut c (Gen.V m c main_arg0) (Gen.V m c main_arg1)
  else if h : b = main_v1_2 then h ▸ scaleOut c (Gen.V m c main_arg0) (Gen.V m c main_arg1)
  else Gen.V m c b
theorem G0_y (c : Dev nD) : G0 m c main_v1_0 = yOut c (Gen.V m c main_arg0) (Gen.V m c main_arg1) (Gen.V m c main_arg2) (Gen.V m c main_v0) := by
  unfold G0; rw [dif_pos rfl]
theorem G0_codes (c : Dev nD) : G0 m c main_v1_1 = codesOut c (Gen.V m c main_arg0) (Gen.V m c main_arg1) := by
  unfold G0; rw [dif_neg (by decide), dif_pos rfl]
theorem G0_scale (c : Dev nD) : G0 m c main_v1_2 = scaleOut c (Gen.V m c main_arg0) (Gen.V m c main_arg1) := by
  unfold G0; rw [dif_neg (by decide), dif_neg (by decide), dif_pos rfl]
theorem routed0_eq (c : Dev nD) :
    (Pipeline.routed R0 c (G0 m c) : sProp 𝕄) = results c (Gen.V m c main_arg0) (Gen.V m c main_arg1) (Gen.V m c main_arg2) (Gen.V m c main_v0) := by
  unfold Pipeline.routed results
  rw [BI.bigSep_eq_bigSepL_of_eq [main_v1_0, main_v1_1, main_v1_2] (by decide) (by decide), ← G0_y, ← G0_codes, ← G0_scale]; rfl
theorem PhiDRG0_eq (c : Dev nD) :
    (Pipeline.ΦDRG osem0 (cfg0.spec) H0 R0 (Gen.V m) (G0 m) c : sProp 𝕄)
      = iprop(Pipeline.scopedRest (Ix := Unit) (Name := ℕ) (U := Pipeline.UD sig nD τ) (Lvl := ℕ) (Val := Elt F) (cfg0.spec) c ∗ (∃ r, prngReg c r)
        ∗ Pipeline.ownSems0 (Ix := Unit) (Name := ℕ) (U := Pipeline.UD sig nD τ) (Lvl := ℕ) (Val := Elt F) (τ := τ) osem0 c
        ∗ (bigSep H0 fun b => ((c : Thread nD τ).loc b) ↦{fullShare} Gen.V m c b)
        ∗ results c (Gen.V m c main_arg0) (Gen.V m c main_arg1) (Gen.V m c main_arg2) (Gen.V m c main_v0)) := by
  rw [Pipeline.ΦDRG_eq, routed0_eq]

/-- The invariant before and after the body. -/
def PhiAt (c : Dev nD) : ℕ → sProp 𝕄
  | 0 => Pipeline.ΦDR osem0 (cfg0.spec) H0 R0 (Gen.V m) c
  | _ + 1 => Pipeline.ΦDRG osem0 (cfg0.spec) H0 R0 (Gen.V m) (G0 m) c

/-- The proof data of the one region: the invariant is the body's own buffers and semaphores, and at the end the results. -/
def dats (_ : Fin 1) (c : Dev nD) : Dat τ (Elt F) Unit ℕ (Pipeline.UD sig nD τ) ℕ cfg0 c where
  A w := Gen.V m c (Pipeline.arrRef (cfg0.spec) w)
  after w t := w.elim0
  Φ t := PhiAt m c t.val
  q _ := fullShare
  owed _ := 0
theorem N_eq : cfg0.N = 1 := by decide
theorem Phi_first (c : Dev nD) (t : Fin cfg0.N) : (dats m 0 c).Φ t.castSucc = Pipeline.ΦDR osem0 (cfg0.spec) H0 R0 (Gen.V m) c := by
  show PhiAt m c t.val = _
  have h : t.val = 0 := by have := t.isLt; have := N_eq; omega
  rw [h]; rfl
theorem Phi_last (c : Dev nD) (t : Fin cfg0.N) : (dats m 0 c).Φ t.succ = Pipeline.ΦDRG osem0 (cfg0.spec) H0 R0 (Gen.V m) (G0 m) c := rfl
theorem Phi_end (c : Dev nD) : (dats m 0 c).Φ (Fin.last cfg0.N) = Pipeline.ΦDRG osem0 (cfg0.spec) H0 R0 (Gen.V m) (G0 m) c := by
  show PhiAt m c cfg0.N = _
  rw [N_eq]; rfl
theorem A_eq (c : Dev nD) (w : Fin cfg0.W) : (dats m 0 c).A w = Gen.V m c (Pipeline.arrRef (cfg0.spec) w) := w.elim0

variable (hlen : ∀ c i, InRange (Gen.V m c main_arg1 i))

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

include hlen in
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_last, PhiDRG0_eq, scopedRest0_eq, ownSems00_eq, hbmPts0_eq]
  rw [Phi_first, PhiDR0_eq]
  unfold Dat.owesAt Pipeline.owesWithin
  rw [show (dats m 0 c).owed t.castSucc = 0 from rfl, show (dats m 0 c).owed t.succ = 0 from rfl]
  iintro ⟨⟨HS, Hg, HQ, HH, HR⟩, ⟨%W, -, HW⟩⟩
  iapply (body c (Gen.V m c main_arg0) (Gen.V m c main_arg1) (Gen.V m c main_arg2) (Gen.V m c main_v0) W _ (hlen c))
  isplitl [HS]; · iexact HS
  isplitl [HQ]; · iexact HQ
  isplitl [HH]; · iexact HH
  isplitl [HR]; · iexact HR
  isplitl [HW]; · iexact HW
  iintro ⟨HS, HQ, HH, HR, ⟨%W', HW⟩⟩
  isplitl [HS Hg HQ HH HR]
  · isplitl [HS]; · iexact HS
    isplitl [Hg]; · iexact Hg
    isplitl [HQ]; · iexact HQ
    isplitl [HH]; · iexact HH
    iexact HR
  iexists W'; isplitr
  · ipureintro; exact fun _ _ => Or.inl trivial
  iexact HW

theorem defs₀_row (t : Fin cfg0.N) : defs₀ (F := F) .tc cfg0.body (cfg0.bodyArgs t (cfg0.slots t)) = bodyAt0 t := by
  unfold defs₀; rw [Defs.onTc_tc]

include hlen in
theorem body_obligation (c : Dev nD) : BodyObligation (dats (F := F) m 0 c) (defs₀ (F := F)) Variants.none () Set.univ := fun t => by
  rw [defs₀_row]
  refine triple_restated (sound_body m hlen c t) rfl ?_ fun _ => ?_
  · rw [show (Finset.univ : Finset (Fin cfg0.W)) = ∅ from rfl, BI.bigSep_empty]
    unfold bodyPre; iintro ⟨H1, H2, -⟩; isplitl [H1]; · iexact H1
    iexact H2
  · rw [show (Finset.univ : Finset (Fin cfg0.W)) = ∅ from rfl, BI.bigSep_empty]
    unfold bodyPost; iintro ⟨H1, H2⟩; isplitl [H1]; · iexact H1
    isplitl [H2]; · iexact H2
    iempintro

set_option backward.isDefEq.respectTransparency.types false in
include hlen in
/-- The run: every buffer but the results as the region found it, the results computed, every semaphore at zero. -/
theorem run_main : θ_run defs (onTc (τ := τ) (main (F := F))) (s₀ m ρ) (fun r => Pipeline.FramePostRG cfgs (dats m) 0 R0 (Gen.V m) (G0 m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hlen c).loose) (hshare := fun c => (dats m 0 c).share_full fun _ => rfl)
    (howed := fun _ _ => rfl) (V := Gen.V m) (hmain := hmain m Variants.none) (hA := A_eq m) (G := G0 m)
    (hin := fun c => (Pipeline.ΦDRG_ΦDR osem0 (cfg0.spec) H0 R0 (Gen.V m) (Gen.V m) c))
    (hout := fun c => Entails.of_eq (Phi_end m c))

include hlen in
/-- The frame: the program ends, nothing faults, the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩, h.2⟩)
    (run_main m ρ hlen)

include hlen in
/-- The run with what each result holds. -/
theorem values : θ_run defs (onTc (τ := τ) (main (F := F))) ⟨m, fun _ => 0, ρ⟩ (fun r => ∀ c : Dev nD,
      r.2.mem ((c.tc : Thread nD τ).loc main_v1_0) = yOut c (Gen.V m c main_arg0) (Gen.V m c main_arg1) (Gen.V m c main_arg2) (Gen.V m c main_v0)
      ∧ r.2.mem ((c.tc : Thread nD τ).loc main_v1_1) = codesOut c (Gen.V m c main_arg0) (Gen.V m c main_arg1)
      ∧ r.2.mem ((c.tc : Thread nD τ).loc main_v1_2) = scaleOut c (Gen.V m c main_arg0) (Gen.V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (h.1.written c (by decide)).trans (G0_y m c), (h.1.written c (by decide)).trans (G0_codes m c), (h.1.written c (by decide)).trans (G0_scale m c),
      ((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩)
    (run_main m ρ hlen)

end Cert.KernelIdeal.Hand

end
-- ==== Proof.Lengths.lean ====
/- The precondition on the lengths, as the frames take it: every length, read as a number, lies between 1 and 256. -/
module

public import proofs.«01_k».proof.Defs
public import proofs.«01_k».proof.Proof.Kernel.Frame
public import proofs.«01_k».proof.Proof.KernelIdeal.Frame

@[expose] public section

noncomputable section

namespace Cert.Lengths

open Idealize.ShloMosaic Idealize.ShloMosaic.TcCoe

/-- A word that is at least 1 and at most 256, read as a signed number, is between 1 and 256 as a natural number. -/
theorem inRange_of_and {v : BitVec 32} (h : (Scalar.cmpi .sge v 1#32 &&& Scalar.cmpi .sle v 256#32) = 1#1) : 1 ≤ v.toNat ∧ v.toNat ≤ 256 := by
  simp only [Scalar.cmpi, IntOp.cmpi] at h
  have h1 : (1#32).sle v = true := by
    revert h; cases (1#32 : BitVec 32).sle v <;> simp
  have h2 : v.sle 256#32 = true := by
    revert h; cases v.sle 256#32 <;> simp
  rw [BitVec.sle_eq_decide, decide_eq_true_eq] at h1 h2
  rw [show (1#32).toInt = 1 from rfl] at h1
  rw [show (256#32).toInt = 256 from rfl] at h2
  rw [BitVec.toInt_eq_toNat_cond] at h1 h2
  split at h1 <;> omega

section
variable [Cert.Pre_lengths_in_range.Facts] {F : FTy → Type} [FloatOps F]

/-- `lengths_in_range`, read at one length. -/
theorem of_lengths_in_range {x} {len : IVec Cert.Pre_lengths_in_range.S32 32} {w ws} (h : Cert.Pre_lengths_in_range.fn (F := F) x len w ws = fun _ => 1#1) (i) : 1 ≤ (len i).toNat ∧ (len i).toNat ≤ 256 :=
  inRange_of_and (congrFun h i)
end

/-- Under `lengths_in_range` the kernel's lengths are in range. -/
theorem kernel [Cert.Kernel.Facts] [Cert.Pre_lengths_in_range.Facts] {m} (h : Cert.Pre_Kernel m) (c i) : Cert.Kernel.Hand.InRange (Cert.Kernel.Gen.V m c Cert.Kernel.main_arg1 i) := by
  rw [Cert.Kernel.Gen.V_main_arg1 m c]; exact of_lengths_in_range (h c) i

/-- Under `lengths_in_range` the idealized kernel's lengths are in range. -/
theorem kernelIdeal [Cert.KernelIdeal.Facts] [Cert.Pre_lengths_in_range.Facts] {m} (h : Cert.Pre_KernelIdeal m) (c i) : Cert.KernelIdeal.Hand.InRange (Cert.KernelIdeal.Gen.V m c Cert.KernelIdeal.main_arg1 i) := by
  rw [Cert.KernelIdeal.Gen.V_main_arg1 m c]; exact of_lengths_in_range (h c) i

section
variable [Cert.Pre_finite_rows.Facts] {F : FTy → Type} [FloatOps F]

/-- `finite_rows`, read at one length. -/
theorem of_finite_rows {x} {len : IVec Cert.Pre_finite_rows.S32 32} {w ws} (h : (Cert.Pre_finite_rows.fn (F := F) x len w ws).1 = fun _ => 1#1) (i) : 1 ≤ (len i).toNat ∧ (len i).toNat ≤ 256 :=
  inRange_of_and (congrFun h i)
end

/-- Under `finite_rows` the idealized kernel's lengths are in range. -/
theorem kernelIdeal_finite [Cert.KernelIdeal.Facts] [Cert.Pre_finite_rows.Facts] {m} (h : Cert.Pre_KernelIdeal_finite_rows m) (c i) : Cert.KernelIdeal.Hand.InRange (Cert.KernelIdeal.Gen.V m c Cert.KernelIdeal.main_arg1 i) := by
  rw [Cert.KernelIdeal.Gen.V_main_arg1 m c]; exact of_finite_rows (h c).1 i

/-- `finite_rows`, read at one element: its magnitude is at most the greatest of the format. -/
theorem of_finite_rows_mag [Cert.Pre_finite_rows.Facts] {x : FVec Ideal Cert.Pre_finite_rows.S32x256x7168 .bf16} {len w ws} (h : (Cert.Pre_finite_rows.fn (F := Ideal) x len w ws).2 = fun _ => 1#1) (i) :
    max (x i : EReal) (-(x i : EReal)) ≤ FloatOps.ofBits (F := Ideal) .bf16 0x7F7F#16 := by
  have e : BitVec.ofBool (decide (max (x i : EReal) (-(x i : EReal)) ≤ FloatOps.ofBits (F := Ideal) .bf16 0x7F7F#16)) = 1#1 := congrFun h i
  by_contra hn
  rw [decide_eq_false hn] at e
  exact absurd e (by decide)

end Cert.Lengths

end
-- ==== Proof.Scale.lean ====
/-
The scale of a row, computed two ways on real numbers: by searching the exponent field bit by bit, as the kernel does,
and from the floor of the binary logarithm, as the reference does.
-/
module

public import Idealize.ShloMosaic.PureOps.Ideal.Laws
public import Mathlib.Analysis.SpecialFunctions.Pow.Real

@[expose] public section

noncomputable section

namespace Cert.Scale

open Idealize.ShloMosaic

/-! ## Powers of two -/

theorem fields : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by decide +kernel

/-- The number whose exponent field is `n` and whose significand is one. -/
def thr (n : ℕ) : EReal := Ideal.ofBits .f32 (BitVec.ofNat 32 n <<< 23)
theorem thr_def (n : ℕ) : thr n = Ideal.ieee (w := 32) 8 23 (BitVec.ofNat 32 n <<< 23) := rfl
/-- A number whose sign bit and significand are clear, by its exponent field. -/
theorem ieee_field (b : BitVec 32) (n : ℕ) (h1 : (BitVec.extractLsb' 31 1 b == 1#1) = false) (h2 : (BitVec.extractLsb' 23 8 b).toNat = n) (h3 : (BitVec.extractLsb' 0 23 b).toNat = 0) :
    Ideal.ieee (w := 32) 8 23 b = if n = 255 then ⊤ else if n = 0 then 0 else (((2 : ℝ) ^ ((n : ℤ) - 127) : ℝ) : EReal) := by
  have h1' : (BitVec.extractLsb' (8 + 23) 1 b == 1#1) = false := h1
  unfold Ideal.ieee
  simp only [h1', h2, h3]
  have c : (2 ^ 8 - 1 : ℕ) = 255 := by norm_num
  rw [c]
  split
  · simp
  split
  · simp
  have e : ((n : ℤ) - (2 ^ (8 - 1) - 1) - (23 : ℕ)) = ((n : ℤ) - 127) - 23 := by norm_num
  rw [e]
  have z : (2 : ℝ) ^ (((n : ℤ) - 127) - 23) = (2 : ℝ) ^ ((n : ℤ) - 127) / (2 : ℝ) ^ (23 : ℤ) := zpow_sub₀ (by norm_num) _ _
  rw [z]
  generalize (2 : ℝ) ^ ((n : ℤ) - 127) = q
  have : (if false = true then (-1 : ℝ) else 1) * ((2 ^ 23 + 0 : ℕ) : ℝ) * (q / (2 : ℝ) ^ (23 : ℤ)) = q := by norm_num; ring
  exact congrArg Real.toEReal this
theorem thr_eq (n : ℕ) (h : n < 256) : thr n = if n = 255 then ⊤ else if n = 0 then 0 else (((2 : ℝ) ^ ((n : ℤ) - 127) : ℝ) : EReal) :=
  (thr_def n).trans (ieee_field _ n (fields ⟨n, h⟩).1 (fields ⟨n, h⟩).2.1 (fields ⟨n, h⟩).2.2)
theorem thr_zero : thr 0 = 0 := by rw [thr_eq 0 (by norm_num), if_neg (by norm_num), if_pos rfl]
theorem thr_top : thr 255 = ⊤ := by rw [thr_eq 255 (by norm_num), if_pos rfl]
theorem thr_mid (n : ℕ) (h0 : 1 ≤ n) (h1 : n ≤ 254) : thr n = (((2 : ℝ) ^ ((n : ℤ) - 127) : ℝ) : EReal) := by
  rw [thr_eq n (by omega), if_neg (by omega), if_neg (by omega)]

/-- The exponent of the greatest power of two at most `r`. -/
def ilog (r : ℝ) : ℤ := ⌊Real.log r * (1 / Real.log 2)⌋
theorem zpow_le {r : ℝ} (hr : 0 < r) (x : ℤ) : (2 : ℝ) ^ x ≤ r ↔ x ≤ ilog r := by
  have l2 : 0 < Real.log 2 := Real.log_pos (by norm_num)
  have hx : (0 : ℝ) < (2 : ℝ) ^ x := by positivity
  unfold ilog
  rw [Int.le_floor, mul_one_div, le_div_iff₀ l2, ← Real.log_zpow, Real.log_le_log_iff hx hr]

/-- The exponent field of a number below `2 ^ 120`: zero if it is subnormal. -/
def field (r : ℝ) : ℕ := if r < (2 : ℝ) ^ (-126 : ℤ) then 0 else (ilog r + 127).toNat

section
variable {r : ℝ} (h0 : 0 ≤ r) (h1 : r < (2 : ℝ) ^ (120 : ℤ))
include h0 h1
theorem log_bounds (h : ¬ r < (2 : ℝ) ^ (-126 : ℤ)) : -126 ≤ ilog r ∧ ilog r < 120 ∧ 0 < r := by
  have hp : (0 : ℝ) < (2 : ℝ) ^ (-126 : ℤ) := by positivity
  have hr : 0 < r := lt_of_lt_of_le hp (not_lt.mp h)
  refine ⟨?_, ?_, hr⟩
  · exact (zpow_le hr _).mp (not_lt.mp h)
  · exact not_le.mp fun h' => absurd ((zpow_le hr _).mpr h') (not_le.mpr h1)
theorem field_le : field r ≤ 246 := by
  unfold field
  split
  · omega
  · rename_i h; have := log_bounds h0 h1 h; omega
theorem thr_le (n : ℕ) (hn : n ≤ 255) : thr n ≤ (r : EReal) ↔ n ≤ field r := by
  rcases Nat.eq_zero_or_pos n with rfl | hp
  · rw [thr_zero]; simp only [Nat.zero_le, iff_true]; exact_mod_cast h0
  rcases Nat.lt_or_ge n 255 with hlt | hge
  · rw [thr_mid n hp (by omega), EReal.coe_le_coe_iff]
    unfold field
    split
    · rename_i h
      have : (2 : ℝ) ^ (-126 : ℤ) ≤ (2 : ℝ) ^ ((n : ℤ) - 127) := zpow_le_zpow_right₀ (by norm_num) (by omega)
      constructor
      · intro h'; exact absurd (lt_of_lt_of_le h (this.trans h')) (lt_irrefl _)
      · intro h'; omega
    · rename_i h
      obtain ⟨b1, b2, b3⟩ := log_bounds h0 h1 h
      rw [zpow_le b3]; omega
  · have : n = 255 := by omega
    subst this
    have := field_le h0 h1
    rw [thr_top]
    constructor
    · intro h; exact absurd (top_le_iff.mp h) (EReal.coe_ne_top r)
    · intro h; omega
end

/-! ## The search -/

/-- One step of the search on one lane. -/
def stepS (v : EReal) (w f : BitVec 32) : BitVec 32 :=
  Scalar.select (FloatOps.cmpf (F := Ideal) (φ := .f32) .oge v (FloatOps.ofBits (F := Ideal) .f32 (IntOp.shli .vector (IntOp.addi f w) 23#32))) (IntOp.addi f w) f
def fieldS (v : EReal) : BitVec 32 :=
  stepS v 1#32 (stepS v 2#32 (stepS v 4#32 (stepS v 8#32 (stepS v 16#32 (stepS v 32#32 (stepS v 64#32 (stepS v 128#32 0#32)))))))
/-- The same search on natural numbers. -/
def stepN (N w a : ℕ) : ℕ := if a + w ≤ N then a + w else a
theorem stepN_le (N w a b : ℕ) (h : a + w ≤ b) : stepN N w a ≤ b := by unfold stepN; split <;> omega
def searchN (N : ℕ) : ℕ := stepN N 1 (stepN N 2 (stepN N 4 (stepN N 8 (stepN N 16 (stepN N 32 (stepN N 64 (stepN N 128 0)))))))
theorem searchN_eq : ∀ N : Fin 256, searchN N.val = N.val := by decide +kernel

theorem cmpf_oge (x y : EReal) : FloatOps.cmpf (F := Ideal) (φ := .f32) .oge x y = BitVec.ofBool (decide (y ≤ x)) := rfl
theorem select_ofBool {α : Type} (b : Bool) (x y : α) : Scalar.select (BitVec.ofBool b) x y = if b = true then x else y := by cases b <;> rfl

theorem stepS_eq {r : ℝ} (h0 : 0 ≤ r) (h1 : r < (2 : ℝ) ^ (120 : ℤ)) (w a : ℕ) (h : a + w ≤ 255) :
    stepS (r : EReal) (BitVec.ofNat 32 w) (BitVec.ofNat 32 a) = BitVec.ofNat 32 (stepN (field r) w a) := by
  unfold stepS stepN
  have e : IntOp.addi (BitVec.ofNat 32 a) (BitVec.ofNat 32 w) = BitVec.ofNat 32 (a + w) := (BitVec.ofNat_add ..).symm
  have e2 : FloatOps.ofBits (F := Ideal) .f32 (IntOp.shli .vector (BitVec.ofNat 32 (a + w)) 23#32) = thr (a + w) := rfl
  rw [e, e2, cmpf_oge, select_ofBool]
  simp only [decide_eq_true_eq, thr_le h0 h1 (a + w) h]
  split <;> rfl

theorem fieldS_eq {r : ℝ} (h0 : 0 ≤ r) (h1 : r < (2 : ℝ) ^ (120 : ℤ)) : fieldS (r : EReal) = BitVec.ofNat 32 (field r) := by
  have hf := field_le h0 h1
  unfold fieldS
  rw [show (0#32) = BitVec.ofNat 32 0 from rfl]
  have b0 : (0 : ℕ) + 128 ≤ 255 := by norm_num
  rw [stepS_eq h0 h1 128 0 b0]
  have b1 := stepN_le (field r) 128 0 128 (by norm_num)
  rw [stepS_eq h0 h1 64 _ (by omega)]
  have b2 := stepN_le (field r) 64 (stepN (field r) 128 0) 192 (by omega)
  rw [stepS_eq h0 h1 32 _ (by omega)]
  have b3 := stepN_le (field r) 32 _ 224 (Nat.add_le_add_right b2 32)
  rw [stepS_eq h0 h1 16 _ (by omega)]
  have b4 := stepN_le (field r) 16 _ 240 (Nat.add_le_add_right b3 16)
  rw [stepS_eq h0 h1 8 _ (by omega)]
  have b5 := stepN_le (field r) 8 _ 248 (Nat.add_le_add_right b4 8)
  rw [stepS_eq h0 h1 4 _ (by omega)]
  have b6 := stepN_le (field r) 4 _ 252 (Nat.add_le_add_right b5 4)
  rw [stepS_eq h0 h1 2 _ (by omega)]
  have b7 := stepN_le (field r) 2 _ 254 (Nat.add_le_add_right b6 2)
  rw [stepS_eq h0 h1 1 _ (by omega)]
  exact congrArg (BitVec.ofNat 32) (searchN_eq ⟨field r, by omega⟩)

/-- The exponent, the scale and its reciprocal on one lane. -/
def expoS (v : EReal) : BitVec 32 :=
  Scalar.select (IntOp.ori (IntOp.cmpi .eq (fieldS v) 0#32) (IntOp.cmpi .eq (fieldS v) 255#32)) 0#32 (IntOp.subi (fieldS v) 126#32)
def scaleS (v : EReal) : EReal := FloatOps.ofBits (F := Ideal) .f32 (IntOp.shli .vector (IntOp.addi (expoS v) 127#32) 23#32)
def invS (v : EReal) : EReal := FloatOps.ofBits (F := Ideal) .f32 (IntOp.shli .vector (IntOp.subi 127#32 (expoS v)) 23#32)

theorem expoN : ∀ n : Fin 247, Scalar.select (IntOp.ori (IntOp.cmpi .eq (BitVec.ofNat 32 n.val) 0#32) (IntOp.cmpi .eq (BitVec.ofNat 32 n.val) 255#32)) 0#32 (IntOp.subi (BitVec.ofNat 32 n.val) 126#32)
      = if n.val = 0 then 0#32 else BitVec.ofNat 32 n.val - 126#32 := by decide +kernel
theorem scaleN : ∀ n : Fin 247, (if n.val = 0 then 0#32 else BitVec.ofNat 32 n.val - 126#32) + 127#32 = BitVec.ofNat 32 (if n.val = 0 then 127 else n.val + 1) := by decide +kernel
theorem invN : ∀ n : Fin 247, 127#32 - (if n.val = 0 then 0#32 else BitVec.ofNat 32 n.val - 126#32) = BitVec.ofNat 32 (if n.val = 0 then 127 else 253 - n.val) := by decide +kernel

/-- The exponent as an integer. -/
def expo (r : ℝ) : ℤ := if r < (2 : ℝ) ^ (-126 : ℤ) then 0 else ilog r + 1
theorem expo_field {r : ℝ} (h0 : 0 ≤ r) (h1 : r < (2 : ℝ) ^ (120 : ℤ)) : (if field r = 0 then (0 : ℤ) else (field r : ℤ) - 126) = expo r ∨ (field r = 1 - 1 ∧ ¬ r < (2 : ℝ) ^ (-126 : ℤ)) := by
  unfold expo field
  split
  · left; simp
  · rename_i h
    obtain ⟨b1, b2, b3⟩ := log_bounds h0 h1 h
    left
    rw [if_neg (by omega)]; omega

section
variable {r : ℝ} (h0 : 0 ≤ r) (h1 : r < (2 : ℝ) ^ (120 : ℤ))
include h0 h1
theorem field_cases : (field r = 0 ∧ expo r = 0) ∨ (1 ≤ field r ∧ field r ≤ 246 ∧ (field r : ℤ) = expo r + 126) := by
  have hf := field_le h0 h1
  by_cases h : r < (2 : ℝ) ^ (-126 : ℤ)
  · left; unfold field expo; rw [if_pos h, if_pos h]; exact ⟨rfl, rfl⟩
  · right
    obtain ⟨b1, b2, b3⟩ := log_bounds h0 h1 h
    unfold field at hf ⊢; unfold expo
    rw [if_neg h] at hf ⊢; rw [if_neg h]
    omega
theorem scaleS_eq : scaleS (r : EReal) = (((2 : ℝ) ^ (expo r) : ℝ) : EReal) := by
  have hf := field_le h0 h1
  unfold scaleS expoS
  rw [fieldS_eq h0 h1, expoN ⟨field r, by omega⟩]
  show FloatOps.ofBits (F := Ideal) .f32 (IntOp.shli .vector (_ + 127#32) 23#32) = _
  rw [scaleN ⟨field r, by omega⟩]
  show thr _ = _
  show thr (if field r = 0 then 127 else field r + 1) = _
  rcases field_cases h0 h1 with ⟨a, b⟩ | ⟨a, b, c⟩
  · rw [if_pos a, b, thr_mid _ (by norm_num) (by norm_num)]; norm_num
  · rw [if_neg (by omega), thr_mid _ (by omega) (by omega)]
    congr 2; push_cast; omega
theorem invS_eq : invS (r : EReal) = (((2 : ℝ) ^ (-(expo r)) : ℝ) : EReal) := by
  have hf := field_le h0 h1
  unfold invS expoS
  rw [fieldS_eq h0 h1, expoN ⟨field r, by omega⟩]
  show FloatOps.ofBits (F := Ideal) .f32 (IntOp.shli .vector (127#32 - _) 23#32) = _
  rw [invN ⟨field r, by omega⟩]
  show thr (if field r = 0 then 127 else 253 - field r) = _
  rcases field_cases h0 h1 with ⟨a, b⟩ | ⟨a, b, c⟩
  · rw [if_pos a, b, thr_mid _ (by norm_num) (by norm_num)]; norm_num
  · rw [if_neg (by omega), thr_mid _ (by omega) (by omega)]
    congr 2; omega
end

/-! ## The logarithm -/

/-- The limit with subnormals flushed, and the reference's exponent from it. -/
def flush (v : EReal) : EReal := Scalar.select (FloatOps.cmpf (F := Ideal) (φ := .f32) .olt v (FloatOps.ofBits (F := Ideal) .f32 0x00800000#32)) (FloatOps.ofBits (F := Ideal) .f32 0x00000000#32) v
def refE (v : EReal) : EReal :=
  Scalar.select (FloatOps.cmpf (F := Ideal) (φ := .f32) .oeq (flush v) (FloatOps.ofBits (F := Ideal) .f32 0x00000000#32)) (FloatOps.ofBits (F := Ideal) .f32 0x00000000#32)
    (Ideal.liftRound Int.floor (Ideal.div (Ideal.log (flush v)) (Ideal.log (FloatOps.ofBits (F := Ideal) .f32 0x40000000#32))) + FloatOps.ofBits (F := Ideal) .f32 0x3F800000#32)

theorem ofBits_zero : FloatOps.ofBits (F := Ideal) .f32 0x00000000#32 = (0 : EReal) := thr_zero
theorem ofBits_one : FloatOps.ofBits (F := Ideal) .f32 0x3F800000#32 = ((1 : ℝ) : EReal) := by
  show thr 127 = _; rw [thr_mid _ (by norm_num) (by norm_num)]; norm_num
theorem ofBits_two : FloatOps.ofBits (F := Ideal) .f32 0x40000000#32 = ((2 : ℝ) : EReal) := by
  show thr 128 = _; rw [thr_mid _ (by norm_num) (by norm_num)]; norm_num
theorem ofBits_tiny : FloatOps.ofBits (F := Ideal) .f32 0x00800000#32 = (((2 : ℝ) ^ (-126 : ℤ) : ℝ) : EReal) := by
  show thr 1 = _; rw [thr_mid _ (by norm_num) (by norm_num)]; norm_num

theorem refE_eq {r : ℝ} (h0 : 0 ≤ r) (h1 : r < (2 : ℝ) ^ (120 : ℤ)) : refE (r : EReal) = ((expo r : ℝ) : EReal) := by
  have olt : ∀ x y : EReal, FloatOps.cmpf (F := Ideal) (φ := .f32) .olt x y = BitVec.ofBool (decide (x < y)) := fun _ _ => rfl
  have oeq : ∀ x y : EReal, FloatOps.cmpf (F := Ideal) (φ := .f32) .oeq x y = BitVec.ofBool (decide (x = y)) := fun _ _ => rfl
  unfold refE flush
  rw [ofBits_zero, ofBits_one, ofBits_two, ofBits_tiny, olt, oeq, select_ofBool, select_ofBool]
  simp only [decide_eq_true_eq, EReal.coe_lt_coe_iff]
  unfold expo
  by_cases h : r < (2 : ℝ) ^ (-126 : ℤ)
  · rw [if_pos h, if_pos h, if_pos rfl]; simp
  · obtain ⟨b1, b2, b3⟩ := log_bounds h0 h1 h
    rw [if_neg h, if_neg h, if_neg (by exact_mod_cast b3.ne')]
    rw [Ideal.log_coe, Ideal.log_coe, if_neg (not_le.mpr b3), if_neg (by norm_num)]
    have l2 : Real.log 2 ≠ 0 := (Real.log_pos (by norm_num)).ne'
    rw [Ideal.div_coe l2, ← EReal.coe_mul, Ideal.liftRound_coe, ← EReal.coe_add]
    unfold ilog; push_cast; rfl

section
variable {r : ℝ} (h0 : 0 ≤ r) (h1 : r < (2 : ℝ) ^ (120 : ℤ))
include h0 h1
/-- The two scales agree, and so do their reciprocals. -/
theorem scale_agree : scaleS (r : EReal) = Ideal.exp2 (refE (r : EReal)) := by
  rw [scaleS_eq h0 h1, refE_eq h0 h1, Ideal.exp2_coe]
  congr 1; exact (Real.rpow_intCast 2 (expo r)).symm
theorem inv_agree : invS (r : EReal) = Ideal.exp2 (FloatOps.ofBits (F := Ideal) .f32 0x00000000#32 - refE (r : EReal)) := by
  rw [invS_eq h0 h1, refE_eq h0 h1, ofBits_zero, zero_sub, ← EReal.coe_neg, Ideal.exp2_coe]
  congr 1
  have := (Real.rpow_intCast 2 (-(expo r))).symm
  rw [Int.cast_neg] at this
  exact this
end

/-- The magnitude of an exact number. -/
def mag (x : EReal) : EReal := max x (-x)

theorem mag_nonneg (x : EReal) : 0 ≤ mag x := by
  rcases le_total 0 x with h | h
  · exact h.trans (le_max_left _ _)
  · exact (EReal.neg_nonneg.mpr h).trans (le_max_right _ _)

/-- The greatest magnitude of row `b`. -/
def most (t : Fin 32 → Fin 7168 → EReal) (b : Fin 32) : EReal :=
  (Finset.univ : Finset (Fin 7168)).fold max (FloatOps.ofBits (F := Ideal) .f32 0xFF800000#32) (fun k => mag (t b k))

/-- The greatest magnitude of row `b` over 448. -/
def lim (t : Fin 32 → Fin 7168 → EReal) (b : Fin 32) : EReal := most t b * FloatOps.ofBits (F := Ideal) .f32 0x3B124925#32

/-- A code: the element over the scale, kept within the range of the format. -/
def code (x s : EReal) : EReal := min (FloatOps.ofBits (F := Ideal) .f32 0x43E00000#32) (max (FloatOps.ofBits (F := Ideal) .f32 0xC3E00000#32) (x * s))

end Cert.Scale

end
-- ==== Proof.Lim.lean ====
/-
The bound a row's scale is computed from is a real number in the range where the two scales agree.
-/
module

public import proofs.«01_k».proof.Proof.Scale

@[expose] public section

noncomputable section

namespace Cert.Scale

open Idealize.ShloMosaic

/-- The greatest finite number of the tokens' format. -/
theorem ofBits_big : FloatOps.ofBits (F := Ideal) .bf16 0x7F7F#16 = ((255 * (2 : ℝ) ^ (120 : ℕ) : ℝ) : EReal) := by
  show Ideal.ieee (w := 16) 8 7 0x7F7F#16 = _
  have h1 : (BitVec.extractLsb' (8 + 7) 1 0x7F7F#16 == 1#1) = false := by decide
  have h2 : (BitVec.extractLsb' 7 8 0x7F7F#16).toNat = 254 := by decide
  have h3 : (BitVec.extractLsb' 0 7 0x7F7F#16).toNat = 127 := by decide
  unfold Ideal.ieee
  simp only [h1, h2, h3]
  norm_num

/-- One over 448. -/
theorem ofBits_over : FloatOps.ofBits (F := Ideal) .f32 0x3B124925#32 = ((9586981 * ((2 : ℝ) ^ (32 : ℕ))⁻¹ : ℝ) : EReal) := by
  show Ideal.ieee (w := 32) 8 23 0x3B124925#32 = _
  have h1 : (BitVec.extractLsb' (8 + 23) 1 0x3B124925#32 == 1#1) = false := by decide
  have h2 : (BitVec.extractLsb' 23 8 0x3B124925#32).toNat = 118 := by decide
  have h3 : (BitVec.extractLsb' 0 23 0x3B124925#32).toNat = 1198373 := by decide
  unfold Ideal.ieee
  simp only [h1, h2, h3]
  norm_num

theorem ofBits_bot : FloatOps.ofBits (F := Ideal) .f32 0xFF800000#32 = (⊥ : EReal) := by
  show Ideal.ieee (w := 32) 8 23 0xFF800000#32 = _
  have h1 : (BitVec.extractLsb' (8 + 23) 1 0xFF800000#32 == 1#1) = true := by decide
  have h2 : (BitVec.extractLsb' 23 8 0xFF800000#32).toNat = 255 := by decide
  have h3 : (BitVec.extractLsb' 0 23 0xFF800000#32).toNat = 0 := by decide
  unfold Ideal.ieee
  simp only [h1, h2, h3]
  norm_num

/-- Where every magnitude is at most the format's greatest, so is the row's greatest, and it is not negative. -/
theorem most_bounds (t : Fin 32 → Fin 7168 → EReal) (b : Fin 32) (h : ∀ k, mag (t b k) ≤ FloatOps.ofBits (F := Ideal) .bf16 0x7F7F#16) :
    0 ≤ most t b ∧ most t b ≤ ((255 * (2 : ℝ) ^ (120 : ℕ) : ℝ) : EReal) := by
  rw [ofBits_big] at h
  unfold most
  rw [ofBits_bot]
  exact ⟨Finset.le_fold_max _ |>.mpr (Or.inr ⟨⟨0, by decide⟩, Finset.mem_univ _, mag_nonneg _⟩),
    Finset.fold_max_le _ |>.mpr ⟨bot_le, fun k _ => h k⟩⟩

theorem lim_real (t : Fin 32 → Fin 7168 → EReal) (b : Fin 32) (h : ∀ k, mag (t b k) ≤ FloatOps.ofBits (F := Ideal) .bf16 0x7F7F#16) :
    ∃ r : ℝ, 0 ≤ r ∧ r < (2 : ℝ) ^ (120 : ℤ) ∧ lim t b = (r : EReal) := by
  obtain ⟨h0, h1⟩ := most_bounds t b h
  unfold lim
  rw [ofBits_over]
  induction hm : most t b with
  | bot => rw [hm] at h0; simp at h0
  | top => rw [hm, top_le_iff] at h1; exact absurd h1 (EReal.coe_ne_top _)
  | coe x =>
    rw [hm] at h0 h1
    have h0 : 0 ≤ x := by exact_mod_cast h0
    have h1 : x ≤ 255 * (2 : ℝ) ^ (120 : ℕ) := EReal.coe_le_coe_iff.mp h1
    refine ⟨x * (9586981 * ((2 : ℝ) ^ (32 : ℕ))⁻¹), by positivity, ?_, (EReal.coe_mul _ _).symm⟩
    refine lt_of_le_of_lt (mul_le_mul_of_nonneg_right h1 (by positivity)) ?_
    norm_num

end Cert.Scale

end
-- ==== Proof.KernelIdeal.Values.lean ====
/-
The kernel's three results at exact arithmetic, element by element.
-/
module

public import proofs.«01_k».proof.Proof.KernelIdeal.Result
public import proofs.«01_k».proof.Proof.Scale
public import Idealize.ShloMosaic.Lib.ValueLayout
public import Idealize.ShloMosaic.Lib.ValueLayoutCasts
public import Idealize.ShloMosaic.Lib.MatmulPlain
public import Idealize.ShloMosaic.PureOps.Ideal.Laws

set_option maxRecDepth 100000

@[expose] public section

noncomputable section

namespace Cert.KernelIdeal.Hand

open Cert.KernelIdeal Cert.KernelIdeal.Gen
open Idealize.ShloMosaic Idealize.ShloMosaic.TcCoe
open Idealize.ShloMosaic.ValueIdx
open Cert.Scale

/-- The last token of row `b` at feature `k`. -/
def tok (fx : S32x256x7168.Idx → EReal) (flen : S32.Idx → BitVec 32) (b : Fin 32) (k : Fin 7168) : EReal :=
  fx (ix3 (n0 := 32) (n1 := 256) (n2 := 7168) b ⟨((flen (ix1 (n := 32) b)).toNat - 1) % 256, Nat.mod_lt _ (by decide)⟩ k)

/-- Feature `128 n + l`. -/
def feat (n : Fin 56) (l : Fin 128) : Fin 7168 := ⟨128 * n.val + l.val, by have := n.isLt; have := l.isLt; omega⟩

theorem low_bit {v : BitVec 32} (h : InRange v) : Scalar.andi (Scalar.subi v 1#32) 1#32 = BitVec.ofNat 32 ((v.toNat - 1) % 2) := by
  have h1 := h.1; have h2 := h.2
  apply BitVec.eq_of_toNat_eq
  show ((v - 1#32) &&& 1#32).toNat = _
  rw [BitVec.toNat_and, BitVec.toNat_sub, BitVec.toNat_ofNat, BitVec.toNat_ofNat, Nat.mod_eq_of_lt (a := 1) (by decide), Nat.and_one_is_mod]
  omega

section
variable (c : Dev nD) (fx : HbBuf (F := Ideal) c mX) (flen : HbBuf (F := Ideal) c mLen)

theorem raw_apply (X : HbBuf (F := Ideal) c sX) (n : Fin 56) (b : Fin 32) (r : Fin 2) (l : Fin 128) :
    rawV (F := Ideal) X n (ix3 (n0 := 32) (n1 := 2) (n2 := 128) b r l) = X (ix3 (n0 := 32) (n1 := 2) (n2 := 7168) b r (feat n l)) := by
  refine congrArg X (funext fun a => ?_)
  match a with
  | ⟨0, _⟩ => exact Fin.ext (show 0 + 1 * b.val = b.val by omega)
  | ⟨1, _⟩ => exact Fin.ext (show 0 + 1 * r.val = r.val by omega)
  | ⟨2, _⟩ => exact Fin.ext (show 128 * n.val + 1 * l.val = 128 * n.val + l.val by omega)

/-- A row of the pair, as the tile's plain matrix. -/
theorem rows_apply (q : Fin 2) (x : S32x2x128.Idx → EReal) (h) (b : Fin 32) (l : Fin 128) :
    shapeCast S32x128 (rowsOfParity q S32x1x128 x h) shapeCasts_S32x1x128_S32x128 (ix2 (n0 := 32) (n1 := 128) b l)
      = x (ix3 (n0 := 32) (n1 := 2) (n2 := 128) b q l) := by
  rw [shapeCast_apply _ shapeCasts_S32x1x128_S32x128 (ix2 (n0 := 32) (n1 := 128) b l) (ix3 (n0 := 32) (n1 := 1) (n2 := 128) b 0 l)
    (by
      rw [Shape.rowMajor_val_three, Shape.rowMajor_val_two]
      show (b.val * 1 + 0) * 128 + l.val = b.val * 128 + l.val
      omega)]
  refine congrArg x (funext fun a => ?_)
  match a with
  | ⟨0, _⟩ => rfl
  | ⟨1, _⟩ => exact Fin.ext (show 2 * 0 + q.val = q.val by omega)
  | ⟨2, _⟩ => rfl

/-- A tile of the wanted tokens holds them. -/
theorem chunk_apply (hlen : ∀ i, InRange (flen i)) (n : Fin 56) (b : Fin 32) (l : Fin 128) :
    chunkV (F := Ideal) (gathered c fx flen) (parV flen) n (ix2 (n0 := 32) (n1 := 128) b l) = tok fx flen b (feat n l) := by
  show Scalar.select (Scalar.cmpi .eq (Scalar.andi (Scalar.subi (flen (ix1 (n := 32) b)) 1#32) 1#32) 1#32)
    (shapeCast S32x128 (rowsOfParity 1 S32x1x128 (rawV (F := Ideal) (gathered c fx flen) n) bitcasts_S32x2x128_w16_S32x1x128_w32) shapeCasts_S32x1x128_S32x128 (ix2 (n0 := 32) (n1 := 128) b l))
    (shapeCast S32x128 (rowsOfParity 0 S32x1x128 (rawV (F := Ideal) (gathered c fx flen) n) bitcasts_S32x2x128_w16_S32x1x128_w32) shapeCasts_S32x1x128_S32x128 (ix2 (n0 := 32) (n1 := 128) b l)) = _
  rw [rows_apply, rows_apply, raw_apply, raw_apply, low_bit (hlen _)]
  have h1 := (hlen (ix1 (n := 32) b)).1; have h2 := (hlen (ix1 (n := 32) b)).2
  rcases Nat.mod_two_eq_zero_or_one ((flen (ix1 (n := 32) b)).toNat - 1) with h | h
  · rw [h]
    refine congrArg fx (funext fun a => ?_)
    match a with
    | ⟨0, _⟩ => rfl
    | ⟨1, _⟩ => exact Fin.ext (show (2 * (((flen (ix1 (n := 32) b)).toNat - 1) / 2) + 0) % 256 = ((flen (ix1 (n := 32) b)).toNat - 1) % 256 by omega)
    | ⟨2, _⟩ => rfl
  · rw [h]
    refine congrArg fx (funext fun a => ?_)
    match a with
    | ⟨0, _⟩ => rfl
    | ⟨1, _⟩ => exact Fin.ext (show (2 * (((flen (ix1 (n := 32) b)).toNat - 1) / 2) + 1) % 256 = ((flen (ix1 (n := 32) b)).toNat - 1) % 256 by omega)
    | ⟨2, _⟩ => rfl

/-- The running maximum is below `z` exactly if its start and every tile's magnitude are. -/
theorem amax_le (X : HbBuf (F := Ideal) c sX) (p : IVec S32x128 32) (l : List (Fin 56)) (a : FVec Ideal S32x128 .f32) (y : S32x128.Idx) (z : EReal) :
    amaxV (F := Ideal) X p a l y ≤ z ↔ (a y : EReal) ≤ z ∧ ∀ n ∈ l, mag (chunkV (F := Ideal) X p n y) ≤ z := by
  induction l generalizing a with
  | nil => exact ⟨fun h => ⟨h, fun n hn => absurd hn List.not_mem_nil⟩, fun h => h.1⟩
  | cons n l ih =>
    refine (ih (maximumf a (absf (chunkV (F := Ideal) X p n)))).trans ?_
    rw [show (maximumf a (absf (chunkV (F := Ideal) X p n)) y : EReal) = max (a y) (mag (chunkV (F := Ideal) X p n y)) from rfl, max_le_iff]
    constructor
    · rintro ⟨⟨h1, h2⟩, h3⟩
      exact ⟨h1, fun m hm => (List.mem_cons.mp hm).elim (fun e => e ▸ h2) (h3 m)⟩
    · rintro ⟨h1, h2⟩
      exact ⟨⟨h1, h2 n List.mem_cons_self⟩, fun m hm => h2 m (List.mem_cons_of_mem _ hm)⟩

theorem rowMax (hlen : ∀ i, InRange (flen i)) (b : Fin 32) :
    (Finset.univ : Finset (Fin 128)).fold max (FloatOps.ofBits (F := Ideal) .f32 0xFF800000#32)
      (fun l => amaxV (F := Ideal) (gathered c fx flen) (parV flen) (amaxA (gathered c fx flen) (parV flen)) tilesB (ix2 (n0 := 32) (n1 := 128) b l)) = most (tok fx flen) b := by
  refine eq_of_forall_ge_iff fun z => ?_
  unfold most
  rw [Finset.fold_max_le, Finset.fold_max_le]
  refine and_congr_right fun _ => ⟨fun h k _ => ?_, fun h l _ => ?_⟩
  · have hk := k.isLt
    have h1 := (amax_le c _ _ _ _ _ z).mp (h ⟨k.val % 128, Nat.mod_lt _ (by decide)⟩ (Finset.mem_univ _))
    have e : feat ⟨k.val / 128, by omega⟩ ⟨k.val % 128, Nat.mod_lt _ (by decide)⟩ = k := Fin.ext (show 128 * (k.val / 128) + k.val % 128 = k.val by omega)
    have key : mag (chunkV (F := Ideal) (gathered c fx flen) (parV flen) ⟨k.val / 128, by omega⟩ (ix2 (n0 := 32) (n1 := 128) b ⟨k.val % 128, Nat.mod_lt _ (by decide)⟩)) ≤ z := by
      rcases List.mem_append.mp (mem_tiles ⟨k.val / 128, by omega⟩) with hm | hm
      · exact h1.2 _ (List.mem_reverse.mp hm)
      · exact ((amax_le c _ _ _ _ _ z).mp h1.1).2 _ (List.mem_reverse.mp hm)
    rw [chunk_apply c fx flen hlen, e] at key
    exact key
  · have hn : ∀ n, mag (chunkV (F := Ideal) (gathered c fx flen) (parV flen) n (ix2 (n0 := 32) (n1 := 128) b l)) ≤ z := fun n => by
      rw [chunk_apply c fx flen hlen]; exact h _ (Finset.mem_univ _)
    refine (amax_le c _ _ _ _ _ z).mpr ⟨(amax_le c _ _ _ _ _ z).mpr ⟨?_, fun n _ => hn n⟩, fun n _ => hn n⟩
    exact (le_of_eq ofBits_zero).trans ((mag_nonneg _).trans (hn 0))

end

end Cert.KernelIdeal.Hand

end
-- ==== Proof.KernelIdeal.ValuesRow.lean ====
/-
The kernel's codes and scales at exact arithmetic, element by element.
-/
module

public import proofs.«01_k».proof.Proof.KernelIdeal.Values
public import Idealize.ShloMosaic.Lib.ValueLayout
public import Idealize.ShloMosaic.Lib.ValueLayoutCasts
public import Idealize.ShloMosaic.Lib.MatmulPlain
public import Idealize.ShloMosaic.PureOps.Ideal.Laws

set_option maxRecDepth 100000

@[expose] public section

noncomputable section

namespace Cert.KernelIdeal.Hand

open Cert.KernelIdeal Cert.KernelIdeal.Gen
open Idealize.ShloMosaic Idealize.ShloMosaic.TcCoe
open Idealize.ShloMosaic.ValueIdx
open Cert.Scale

theorem bcast_lane (x : S32x1.Idx → EReal) (b : Fin 32) (l : Fin 128) :
    broadcastTo S32x128 x broadcasts_S32x1_S32x128 (ix2 (n0 := 32) (n1 := 128) b l) = x (ix2 (n0 := 32) (n1 := 1) b 0) := by
  refine congrArg x (funext fun a => ?_)
  match a with
  | ⟨0, _⟩ => rfl
  | ⟨1, _⟩ => rfl

theorem col_cast (x : S32.Idx → EReal) (b : Fin 32) :
    shapeCast S32x1 x shapeCasts_S32_S32x1 (ix2 (n0 := 32) (n1 := 1) b 0) = x (ix1 (n := 32) b) :=
  shapeCast_a_a1_apply x shapeCasts_S32_S32x1 b 0

theorem max_lanes (x : FVec Ideal S32x128 .f32) (b : Fin 32) :
    multiReduction (F := Ideal) .maximumf [1] S32 x 0xFF800000#32 reduces_S32x128_S32 (.inl rfl) rfl (ix1 (n := 32) b)
      = (Finset.univ : Finset (Fin 128)).fold max (FloatOps.ofBits (F := Ideal) .f32 0xFF800000#32) (fun l => x (ix2 (n0 := 32) (n1 := 128) b l)) := by
  refine (Ideal.multiReduction_maximumf_single x _ reduces_S32x128_S32 (.inl rfl) rfl (ix1 (n := 32) b)).trans ?_
  refine congrArg (Finset.fold max (FloatOps.ofBits (F := Ideal) .f32 0xFF800000#32) · Finset.univ) (funext fun l => ?_)
  refine congrArg x (funext fun a => ?_)
  match a with
  | ⟨0, _⟩ => rfl
  | ⟨1, _⟩ => rfl

theorem sum_rows (x : FVec Ideal S32x128 .f32) (l : Fin 128) :
    multiReduction (F := Ideal) .add [0] S128 x 0x00000000#32 reduces_S32x128_S128 (.inl rfl) rfl (ix1 (n := 128) l)
      = ∑ k : Fin 32, (x (ix2 (n0 := 32) (n1 := 128) k l) : EReal) := by
  refine (Ideal.multiReduction_add_single x _ reduces_S32x128_S128 (.inl rfl) rfl (ix1 (n := 128) l)).trans ?_
  refine Finset.sum_congr rfl fun k _ => congrArg x (funext fun a => ?_)
  match a with
  | ⟨0, _⟩ => rfl
  | ⟨1, _⟩ => rfl

/-- The limit of a row, in any lane, from the lanes' maxima. -/
theorem limit_of (x : FVec Ideal S32x128 .f32) (b : Fin 32) (l : Fin 128) :
    (mulf (broadcastTo S32x128 (shapeCast S32x1 (shapeCast S32x1 (multiReduction .maximumf [1] S32 x 0xFF800000#32 reduces_S32x128_S32 (.inl rfl) rfl)
    shapeCasts_S32_S32x1) shapeCasts_S32x1_S32x1) broadcasts_S32x1_S32x128) (broadcast S32x128 (Scalar.ofBits .f32 0x3B124925#32)) : FVec Ideal S32x128 .f32) (ix2 (n0 := 32) (n1 := 128) b l)
      = ((Finset.univ : Finset (Fin 128)).fold max (FloatOps.ofBits (F := Ideal) .f32 0xFF800000#32) (fun l => (x (ix2 (n0 := 32) (n1 := 128) b l) : EReal)) : EReal) * FloatOps.ofBits (F := Ideal) .f32 0x3B124925#32 := by
  refine congrArg (fun z : EReal => z * FloatOps.ofBits (F := Ideal) .f32 0x3B124925#32) ?_
  rw [shapeCast_self]
  exact ((bcast_lane _ b l).trans (col_cast _ b)).trans (max_lanes x b)

/-- The diagonal of the scales, as the row of them. -/
theorem scaleRow_apply (v : FVec Ideal S32x128 .f32) (b : Fin 32) :
    scaleRow (F := Ideal) (iota .tc S32x128 32 [0] iota_S32x128_d0_w32) v (ix1 (n := 32) b)
      = scaleV (F := Ideal) v (ix2 (n0 := 32) (n1 := 128) b ⟨b.val, by have := b.isLt; omega⟩) := by
  unfold scaleRow
  rw [shapeCast_self]
  have e : ∀ x : S128.Idx → EReal, extractStridedSlice S32 ![0] x slices_S128_o0_S32 (ix1 (n := 32) b) = x (ix1 (n := 128) ⟨b.val, by have := b.isLt; omega⟩) := fun x => by
    refine congrArg x (funext fun a => ?_)
    match a with
    | ⟨0, _⟩ => exact Fin.ext (show 0 + b.val = b.val by omega)
  rw [e, sum_rows]
  have t : ∀ k : Fin 32, (select (cmpi .eq (iota .tc S32x128 32 [0] iota_S32x128_d0_w32) (iota .tc S32x128 32 [1] iota_S32x128_d1_w32)) (scaleV (F := Ideal) v)
      (broadcast S32x128 (Scalar.ofBits (F := Ideal) .f32 0x00000000#32)) (ix2 (n0 := 32) (n1 := 128) k ⟨b.val, by have := b.isLt; omega⟩) : Ideal .f32)
      = if k = b then scaleV (F := Ideal) v (ix2 (n0 := 32) (n1 := 128) k ⟨b.val, by have := b.isLt; omega⟩) else 0 := fun k => by
    show Scalar.select (BitVec.ofBool (BitVec.ofNat 32 (0 * 32 + k.val) == BitVec.ofNat 32 (0 * 128 + b.val))) _ (FloatOps.ofBits (F := Ideal) .f32 0x00000000#32) = _
    have hk := k.isLt; have hb := b.isLt
    by_cases h : k = b
    · subst h
      rw [if_pos rfl]
      simp [Scalar.select]
    · rw [if_neg h, ofBits_zero]
      have : (BitVec.ofNat 32 (0 * 32 + k.val) == BitVec.ofNat 32 (0 * 128 + b.val)) = false := by
        rw [beq_eq_false_iff_ne]
        intro he
        apply h
        have := congrArg BitVec.toNat he
        rw [BitVec.toNat_ofNat, BitVec.toNat_ofNat] at this
        exact Fin.ext (by omega)
      rw [this]
      rfl
  rw [Finset.sum_congr rfl fun k _ => t k]
  rw [Finset.sum_ite_eq' Finset.univ b (fun k => (scaleV (F := Ideal) v (ix2 (n0 := 32) (n1 := 128) k ⟨b.val, by have := b.isLt; omega⟩) : EReal))]
  rw [if_pos (Finset.mem_univ _)]

section
variable (c : Dev nD) (fx : HbBuf (F := Ideal) c mX) (flen : HbBuf (F := Ideal) c mLen)

/-- Every lane of the kernel's limit is that of its row. -/
theorem limit_apply (hlen : ∀ i, InRange (flen i)) (b : Fin 32) (l : Fin 128) :
    limitV (F := Ideal) (gathered c fx flen) (parV flen) (amaxA (gathered c fx flen) (parV flen)) (ix2 (n0 := 32) (n1 := 128) b l) = lim (tok fx flen) b := by
  unfold limitV lim
  rw [limit_of, rowMax c fx flen hlen b]

theorem code_of (n : Fin 56) (p : IVec S32x128 32) (X : HbBuf (F := Ideal) c sX) (a : FVec Ideal S32x128 .f32) (y : S32x128.Idx) :
    codeV (F := Ideal) X p a n y = code (chunkV (F := Ideal) X p n y) (invS (limitV (F := Ideal) X p a y)) := by
  unfold codeV
  rw [shapeCast_self]
  rfl

theorem codesOut_apply (hlen : ∀ i, InRange (flen i)) (b : Fin 32) (k : Fin 7168) :
    codesOut c fx flen (ix2 (n0 := 32) (n1 := 7168) b k) = code (tok fx flen b k) (invS (lim (tok fx flen) b)) := by
  show View.canon (Val := Elt Ideal) (codePieces (gathered c fx flen) (parV flen) (amaxA (gathered c fx flen) (parV flen))) (ix2 (n0 := 32) (n1 := 7168) b k) = _
  refine View.canon_apply_of_pieces (Val := Elt Ideal) (e := .fp8e4m3) (fun y : S32x7168.Idx => (code (tok fx flen (y 0) (y 1)) (invS (lim (tok fx flen) (y 0))) : EReal)) _ ?_ _ (codes_cover c _ _ _ _)
  intro q hq x
  obtain ⟨n, -, rfl⟩ := List.mem_map.mp hq
  rw [eq_ix2 x]
  refine (code_of c n _ _ _ _).trans ?_
  refine (congrArg₂ code (chunk_apply c fx flen hlen n (x 0) (x 1)) (congrArg invS (limit_apply c fx flen hlen (x 0) (x 1)))).trans ?_
  have e0 : (codePiece (F := Ideal) (gathered c fx flen) (parV flen) (amaxA (gathered c fx flen) (parV flen)) n).1.emb (ix2 (n0 := 32) (n1 := 128) (x 0) (x 1)) = ix2 (n0 := 32) (n1 := 7168) (x 0) (feat n (x 1)) := by
    funext a
    match a with
    | ⟨0, _⟩ => exact Fin.ext (show 0 + 1 * (x 0).val = (x 0).val by omega)
    | ⟨1, _⟩ => exact Fin.ext (show 128 * n.val + 1 * (x 1).val = 128 * n.val + (x 1).val by omega)
  exact congrArg (fun y : S32x7168.Idx => (code (tok fx flen (y 0) (y 1)) (invS (lim (tok fx flen) (y 0))) : EReal)) e0.symm

theorem scaleOut_apply (hlen : ∀ i, InRange (flen i)) (b : Fin 32) :
    scaleOut c fx flen (ix1 (n := 32) b) = scaleS (lim (tok fx flen) b) := by
  show View.canon (Val := Elt Ideal) (rowPieces (gathered c fx flen) (parV flen) (amaxA (gathered c fx flen) (parV flen)) (iota .tc S32x128 32 [0] iota_S32x128_d0_w32)) (ix1 (n := 32) b) = _
  refine (View.canon_apply_of_pieces (Val := Elt Ideal) (e := .f32) (fun y : S32.Idx => (scaleS (lim (tok fx flen) (y 0)) : EReal)) _ ?_ _ ⟨_, List.mem_singleton.mpr rfl, ?_⟩)
  · intro q hq x
    obtain rfl := List.mem_singleton.mp hq
    rw [eq_ix1 x]
    refine (scaleRow_apply _ (x 0)).trans ?_
    refine (congrArg scaleS (limit_apply c fx flen hlen (x 0) ⟨(x 0).val, _⟩)).trans ?_
    refine congrArg (fun y : Fin 32 => (scaleS (lim (tok fx flen) y) : EReal)) (Fin.ext ?_)
    show (x 0).val = 0 + 1 * (x 0).val
    omega
  · rw [Rect.mem_set_unit]
    intro a; fin_cases a
    exact ⟨Nat.zero_le _, by show b.val < 0 + 32; have := b.isLt; omega⟩

end

end Cert.KernelIdeal.Hand

end
-- ==== Proof.KernelIdeal.ValuesY.lean ====
/-
The kernel's product at exact arithmetic, element by element.
-/
module

public import proofs.«01_k».proof.Proof.KernelIdeal.ValuesRow
public import Idealize.ShloMosaic.Lib.ValueLayout
public import Idealize.ShloMosaic.Lib.ValueLayoutCasts
public import Idealize.ShloMosaic.Lib.MatmulPlain
public import Idealize.ShloMosaic.PureOps.Ideal.Laws

set_option maxRecDepth 100000

@[expose] public section

noncomputable section

namespace Cert.KernelIdeal.Hand

open Cert.KernelIdeal Cert.KernelIdeal.Gen
open Idealize.ShloMosaic Idealize.ShloMosaic.TcCoe
open Idealize.ShloMosaic.ValueIdx
open Cert.Scale

/-- One column block of the product, element by element. -/
theorem pay_apply (C : FVec Ideal S32x7168 .fp8e4m3) (W : FVec Ideal S1x7168x512 .fp8e4m3) (S : FVec Ideal S32x1 .f32) (ws : FVec Ideal S1x512 .f32) (b : Fin 32) (l : Fin 512) :
    (k0_pay155 (F := Ideal) C W S ws (ix2 (n0 := 32) (n1 := 512) b l) : EReal)
      = (∑ k : Fin 7168, (C (ix2 (n0 := 32) (n1 := 7168) b k) : EReal) * (W (ix3 (n0 := 1) (n1 := 7168) (n2 := 512) 0 k l) : EReal))
        * S (ix2 (n0 := 32) (n1 := 1) b 0) * ws (ix2 (n0 := 1) (n1 := 512) 0 l) := by
  rw [show k0_pay155 (F := Ideal) C W S ws = shapeCast S32x512 (truncf .bf16 (mulf (mulf (matmul dot_S32x7168_S7168x512_S32x512_1_0_0_1_n_n none C (shapeCast S7168x512 W shapeCasts_S1x7168x512_S7168x512) (constant S32x512 .f32 0x00000000#32))
    (broadcastTo S32x512 S broadcasts_S32x1_S32x512)) (broadcastTo S32x512 ws broadcasts_S1x512_S32x512)) bitsLt_bf16_f32) shapeCasts_S32x512_S32x512 from rfl, shapeCast_self]
  have hd : (matmul dot_S32x7168_S7168x512_S32x512_1_0_0_1_n_n none C (shapeCast S7168x512 W shapeCasts_S1x7168x512_S7168x512) (constant S32x512 .f32 0x00000000#32) : FVec Ideal S32x512 .f32) (ix2 (n0 := 32) (n1 := 512) b l)
      = ∑ k : Fin 7168, (C (ix2 (n0 := 32) (n1 := 7168) b k) : EReal) * (W (ix3 (n0 := 1) (n1 := 7168) (n2 := 512) 0 k l) : EReal) := by
    refine (Ideal.matmul_plain_apply (M := 32) (K := 7168) (N := 512) none C (shapeCast S7168x512 W shapeCasts_S1x7168x512_S7168x512) (constant S32x512 .f32 0x00000000#32) b l).trans ?_
    refine (congrArg₂ (fun x y : EReal => x + y) (ofBits_zero : FloatOps.ofBits (F := Ideal) .f32 0x00000000#32 = 0)
      (Finset.sum_congr rfl fun k _ => congrArg (fun x : EReal => (C (ix2 (n0 := 32) (n1 := 7168) b k) : EReal) * x) (shapeCast_1ab_ab_apply W shapeCasts_S1x7168x512_S7168x512 k l))).trans (zero_add _)
  have hs : broadcastTo S32x512 S broadcasts_S32x1_S32x512 (ix2 (n0 := 32) (n1 := 512) b l) = S (ix2 (n0 := 32) (n1 := 1) b 0) := by
    refine congrArg S (funext fun a => ?_)
    match a with
    | ⟨0, _⟩ => rfl
    | ⟨1, _⟩ => rfl
  have hw : broadcastTo S32x512 ws broadcasts_S1x512_S32x512 (ix2 (n0 := 32) (n1 := 512) b l) = ws (ix2 (n0 := 1) (n1 := 512) 0 l) := by
    refine congrArg ws (funext fun a => ?_)
    match a with
    | ⟨0, _⟩ => rfl
    | ⟨1, _⟩ => rfl
  exact congrArg₂ (fun x y : EReal => x * y) (congrArg₂ (fun x y : EReal => x * y) hd hs) hw

theorem slab_emb (j : Fin 16) (k : Fin 7168) (l : Fin 512) : (slab j).view.emb (ix2 (n0 := 7168) (n1 := 512) k l) = ix3 (n0 := 16) (n1 := 7168) (n2 := 512) j k l := by
  show (sW.slice (Rect.unit (s := S16x7168x512) ![j.val, 0, 0] S1x7168x512.size (slab_inb j)) (fun _ => rfl)).view.emb (Shape.reshapeEquiv _ (ix2 (n0 := 7168) (n1 := 512) k l)) = _
  rw [Shape.reshapeEquiv_eq_of_rowMajor (x := ix2 (n0 := 7168) (n1 := 512) k l) (y := ix3 (n0 := 1) (n1 := 7168) (n2 := 512) 0 k l) _ (by
    rw [Shape.rowMajor_val_three, Shape.rowMajor_val_two]
    show (0 * 7168 + k.val) * 512 + l.val = k.val * 512 + l.val
    omega)]
  funext a
  match a with
  | ⟨0, _⟩ => exact Fin.ext (show j.val + 1 * 0 = j.val by omega)
  | ⟨1, _⟩ => exact Fin.ext (show 0 + 1 * k.val = k.val by omega)
  | ⟨2, _⟩ => exact Fin.ext (show 0 + 1 * l.val = l.val by omega)

theorem slab_at (c : Dev nD) (g : HbBuf (F := Ideal) c sW) (j : Fin 16) (k : Fin 7168) (l : Fin 512) :
    (View.readAt (Elt Ideal) sW.view (Rect.unit (s := S16x7168x512) ![j.val, 0, 0] S1x7168x512.size (slab_inb j)).toLoadRect g : S1x7168x512.Idx → Elt Ideal .fp8e4m3) (ix3 (n0 := 1) (n1 := 7168) (n2 := 512) 0 k l)
      = g (ix3 (n0 := 16) (n1 := 7168) (n2 := 512) j k l) := by
  refine congrArg g (funext fun a => ?_)
  match a with
  | ⟨0, _⟩ => exact Fin.ext (show j.val + 1 * 0 = j.val by omega)
  | ⟨1, _⟩ => exact Fin.ext (show 0 + 1 * k.val = k.val by omega)
  | ⟨2, _⟩ => exact Fin.ext (show 0 + 1 * l.val = l.val by omega)

theorem slab_read (c : Dev nD) (w : S7168x512.Idx → Elt Ideal .fp8e4m3) (j : Fin 16) (k : Fin 7168) (l : Fin 512) :
    (View.readAt (Elt Ideal) sW.view (Rect.unit (s := S16x7168x512) ![j.val, 0, 0] S1x7168x512.size (slab_inb j)).toLoadRect
      ((slab j).view.writes (Elt Ideal) (slab j).view.junk [⟨Rect.whole S7168x512, w⟩]) : S1x7168x512.Idx → Elt Ideal .fp8e4m3) (ix3 (n0 := 1) (n1 := 7168) (n2 := 512) 0 k l)
      = w (ix2 (n0 := 7168) (n1 := 512) k l) := by
  exact (slab_at c _ j k l).trans (writes_whole_at (F := Ideal) (slab j).view (slab j).view.junk w (ix2 (n0 := 7168) (n1 := 512) k l) (ix3 (n0 := 16) (n1 := 7168) (n2 := 512) j k l) (slab_emb j k l))

theorem wcol_read (c : Dev nD) (fw : HbBuf (F := Ideal) c mW) (j : Fin 16) (k : Fin 7168) (l : Fin 512) (n : Fin 8192) (hn : j.val * 512 + l.val = n.val) :
    (View.read (Elt Ideal) (wcol j).view fw : S7168x512.Idx → Elt Ideal .fp8e4m3) (ix2 (n0 := 7168) (n1 := 512) k l) = fw (ix2 (n0 := 7168) (n1 := 8192) k n) := by
  refine congrArg fw (funext fun a => ?_)
  match a with
  | ⟨0, _⟩ => exact Fin.ext (show 0 + 1 * k.val = k.val by omega)
  | ⟨1, _⟩ => exact Fin.ext (show j.val * 512 + 1 * l.val = n.val by omega)

theorem ws_read (c : Dev nD) (w : HbBuf (F := Ideal) c sWs) (j : Fin 16) (l : Fin 512) (n : Fin 8192) (hn : j.val * 512 + l.val = n.val) :
    (View.readAt (Elt Ideal) sWs.view (Rect.unit (s := S1x8192) ![0, j.val * 512] S1x512.size (ws_inb j)).toLoadRect w : S1x512.Idx → Elt Ideal .f32) (ix2 (n0 := 1) (n1 := 512) 0 l)
      = w (ix2 (n0 := 1) (n1 := 8192) 0 n) := by
  refine congrArg w (funext fun a => ?_)
  match a with
  | ⟨0, _⟩ => rfl
  | ⟨1, _⟩ => exact Fin.ext (show j.val * 512 + 1 * l.val = n.val by omega)

section
variable (c : Dev nD) (X : HbBuf (F := Ideal) c sX) (p : IVec S32x128 32) (a : FVec Ideal S32x128 .f32)

theorem codes_read (b : Fin 32) (k : Fin 7168) :
    (View.readAt (Elt Ideal) sCodes.view (Rect.unit (s := S32x7168) ![0, 0] S32x7168.size inb_S32x7168_S32x7168_0_0).toLoadRect
      (sCodes.view.writes (Elt Ideal) sCodes.view.junk (codePieces X p a)) : S32x7168.Idx → Elt Ideal .fp8e4m3) (ix2 (n0 := 32) (n1 := 7168) b k)
      = codesG c X p a (ix2 (n0 := 32) (n1 := 7168) b k) := by
  refine (congrFun (View.readAt_writes_junk_eq_canon sCodes.view (codePieces X p a) (Rect.unit (s := S32x7168) ![0, 0] S32x7168.size inb_S32x7168_S32x7168_0_0).toLoadRect) _).trans ?_
  refine congrArg (View.canon (Val := Elt Ideal) (codePieces X p a)) (funext fun i => ?_)
  match i with
  | ⟨0, _⟩ => exact Fin.ext (show 0 + 1 * b.val = b.val by omega)
  | ⟨1, _⟩ => exact Fin.ext (show 0 + 1 * k.val = k.val by omega)

theorem col_read (b : Fin 32) :
    (View.readAt (Elt Ideal) sCol.view (Rect.unit (s := S32x128) ![0, 0] S32x1.size inb_S32x128_S32x1_0_0).toLoadRect
      (sCol.view.writes (Elt Ideal) sCol.view.junk (colPieces X p a)) : S32x1.Idx → Elt Ideal .f32) (ix2 (n0 := 32) (n1 := 1) b 0)
      = scaleS (limitV (F := Ideal) X p a (ix2 (n0 := 32) (n1 := 128) b 0)) := by
  refine (congrFun (View.readAt_writes_junk_eq_canon sCol.view (colPieces X p a) (Rect.unit (s := S32x128) ![0, 0] S32x1.size inb_S32x128_S32x1_0_0).toLoadRect) _).trans ?_
  refine (View.canon_apply_of_pieces (Val := Elt Ideal) (e := .f32) (fun y : S32x128.Idx => (scaleS (limitV (F := Ideal) X p a y) : EReal)) _ ?_ _ ⟨_, List.mem_singleton.mpr rfl, ?_⟩).trans ?_
  · intro q hq x
    obtain rfl := List.mem_singleton.mp hq
    refine (congrFun (shapeCast_self (scaleV (limitV (F := Ideal) X p a)) shapeCasts_S32x128_S32x128) x).trans ?_
    refine congrArg (fun y : S32x128.Idx => (scaleS (limitV (F := Ideal) X p a y) : EReal)) (funext fun i => ?_)
    match i with
    | ⟨0, _⟩ => exact Fin.ext (show (x 0).val = 0 + 1 * (x 0).val by omega)
    | ⟨1, _⟩ => exact Fin.ext (show (x 1).val = 0 + 1 * (x 1).val by omega)
  · rw [Rect.mem_set_unit]
    have hb := b.isLt
    intro i; fin_cases i
    · show 0 ≤ 0 + 1 * b.val ∧ 0 + 1 * b.val < 0 + 32; omega
    · show 0 ≤ 0 + 1 * 0 ∧ 0 + 1 * 0 < 0 + 128; omega
  · refine congrArg (fun y : S32x128.Idx => (scaleS (limitV (F := Ideal) X p a y) : EReal)) (funext fun i => ?_)
    match i with
    | ⟨0, _⟩ => exact Fin.ext (show 0 + 1 * b.val = b.val by omega)
    | ⟨1, _⟩ => rfl
end

theorem yOut_apply (c : Dev nD) (fx : HbBuf (F := Ideal) c mX) (flen : HbBuf (F := Ideal) c mLen) (fw : HbBuf (F := Ideal) c mW) (fws : HbBuf (F := Ideal) c mWs)
    (hlen : ∀ i, InRange (flen i)) (b : Fin 32) (n : Fin 8192) :
    (yOut c fx flen fw fws (ix2 (n0 := 32) (n1 := 8192) b n) : EReal)
      = (∑ k : Fin 7168, code (tok fx flen b k) (invS (lim (tok fx flen) b)) * (fw (ix2 (n0 := 7168) (n1 := 8192) k n) : EReal))
        * scaleS (lim (tok fx flen) b) * (fws (ix2 (n0 := 1) (n1 := 8192) 0 n) : EReal) := by
  have hn := n.isLt
  refine (pay_apply _ _ _ _ b ⟨n.val % 512, Nat.mod_lt _ (by decide)⟩).trans ?_
  refine congrArg₂ (fun x y : EReal => x * y) (congrArg₂ (fun x y : EReal => x * y) (Finset.sum_congr rfl fun k _ => congrArg₂ (fun x y : EReal => x * y) ?_ ?_) ?_) ?_
  · exact (codes_read c _ _ _ b k).trans (codesOut_apply c fx flen hlen b k)
  · exact (slab_read c _ ⟨n.val / 512, by omega⟩ k _).trans (wcol_read c fw ⟨n.val / 512, by omega⟩ k _ n (show n.val / 512 * 512 + n.val % 512 = n.val by omega))
  · exact (col_read c _ _ _ b).trans (congrArg scaleS (limit_apply c fx flen hlen b 0))
  · exact ws_read c (fun z : S1x8192.Idx => fws z) ⟨n.val / 512, by omega⟩ _ n (show n.val / 512 * 512 + n.val % 512 = n.val by omega)

end Cert.KernelIdeal.Hand

end
-- ==== Proof.RefRun.lean ====
/-
The run of the reference with each result array named, block by block.
-/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 3's array: the body's result for that window (`Gen.out0_3`: its stores
    as pieces over the input windows' blocks), read through the window's block. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The index map sends distinct grid points to distinct block indices (decided over the 1 point). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S32x8192.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S32x7168.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S32.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v5_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v5_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v5_2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: input window 2 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 2).trans (((dats m 0 c).arrAt_in 2 rfl _).trans ((A_eq m c 2).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 3 cfg0.N
      ∧ r.2.mem ((c : Thread nD τ).loc main_v5_1) = (dats m 0 c).arrAt 4 cfg0.N
      ∧ r.2.mem ((c : Thread nD τ).loc main_v5_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post3 m r h c,
      post4 m r h c,
      post5 m r h c,
      kept_main_arg0 m r h c,
      kept_main_arg1 m r h c,
      kept_main_arg2 m r h c,
      kept_main_arg3 m r h c⟩)
    (run_main m ρ)

end Cert.ReferenceIdeal.Hand

end
-- ==== Proof.RefPay.lean ====
/-
The reference's three results at exact arithmetic, element by element, from the tokens it gathers.
-/
module

public import proofs.«01_k».proof.Proof.RefRun
public import proofs.«01_k».proof.Proof.Scale
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.PureOps.Ideal.Laws

set_option maxRecDepth 100000

@[expose] public section

noncomputable section

namespace Cert.ReferenceIdeal.Hand

open Cert.ReferenceIdeal Cert.ReferenceIdeal.Gen
open Idealize.ShloMosaic Idealize.ShloMosaic.TcCoe
open Idealize.ShloMosaic.ValueIdx
open Cert.Scale

variable (x : FVec Ideal S32x7168 .bf16)

/-- The tokens by row and feature. -/
def rowsOf (b : Fin 32) (k : Fin 7168) : EReal := x (ix2 (n0 := 32) (n1 := 7168) b k)

theorem pay2_eq : k0_pay2 (F := Ideal) x = x := by
  unfold k0_pay2
  rw [shapeCast_self]
  rfl

theorem rowMost (b : Fin 32) :
    multiReduction (F := Ideal) .maximumf [1] S32 (absf (k0_pay2 (F := Ideal) x)) 0xFF800000#32 reduces_S32x7168_S32 (.inl rfl) rfl (ix1 (n := 32) b) = most (rowsOf x) b := by
  rw [pay2_eq]
  refine (Ideal.multiReduction_maximumf_single (φ := .f32) (absf (F := Ideal) (φ := .f32) x) _ reduces_S32x7168_S32 (.inl rfl) rfl (ix1 (n := 32) b)).trans ?_
  refine congrArg (Finset.fold max (FloatOps.ofBits (F := Ideal) .f32 0xFF800000#32) · Finset.univ) (funext fun k => ?_)
  refine congrArg (fun y : S32x7168.Idx => mag (x y)) (funext fun a => ?_)
  match a with
  | ⟨0, _⟩ => rfl
  | ⟨1, _⟩ => rfl

/-- The exponents of the scales, from the greatest magnitudes. -/
def expoRef (v4 : FVec Ideal S32 .f32) : FVec Ideal S32 .f32 :=
  have v6 : FVec Ideal S32 .f32 := mulf v4 (broadcast S32 (Scalar.ofBits .f32 0x3B124925#32))
  have v10 : FVec Ideal S32 .f32 := select (cmpf .olt v6 (broadcast S32 (Scalar.ofBits .f32 0x00800000#32))) (broadcast S32 (Scalar.ofBits .f32 0x00000000#32)) v6
  select (cmpf .oeq v10 (broadcast S32 (Scalar.ofBits .f32 0x00000000#32))) (broadcast S32 (Scalar.ofBits .f32 0x00000000#32))
    (addf (floor (divf (log v10) (log (broadcast S32 (Scalar.ofBits .f32 0x40000000#32))))) (broadcast S32 (Scalar.ofBits .f32 0x3F800000#32)))
theorem pay3_eq : k0_pay3 (F := Ideal) x = expoRef (multiReduction (F := Ideal) .maximumf [1] S32 (absf (k0_pay2 (F := Ideal) x)) 0xFF800000#32 reduces_S32x7168_S32 (.inl rfl) rfl) := rfl
theorem expoRef_apply (v : FVec Ideal S32 .f32) (i : S32.Idx) : expoRef v i = refE ((v i : EReal) * FloatOps.ofBits (F := Ideal) .f32 0x3B124925#32) := by
  unfold expoRef refE flush
  rfl

theorem pay3_apply (b : Fin 32) : k0_pay3 (F := Ideal) x (ix1 (n := 32) b) = refE (lim (rowsOf x) b) := by
  rw [pay3_eq, expoRef_apply, rowMost x b]
  rfl

theorem exp2_at (v : FVec Ideal S32 .f32) (i : S32.Idx) : exp2 v i = Ideal.exp2 (v i) := rfl
theorem pay4_eq : k0_pay4 (F := Ideal) x = exp2 (k0_pay3 (F := Ideal) x) := rfl
theorem pay4_apply (b : Fin 32) : k0_pay4 (F := Ideal) x (ix1 (n := 32) b) = Ideal.exp2 (refE (lim (rowsOf x) b)) := by
  rw [pay4_eq, exp2_at, pay3_apply x b]

theorem neg_at (v : FVec Ideal S32 .f32) (i : S32.Idx) :
    exp2 (subf (broadcast S32 (Scalar.ofBits (F := Ideal) .f32 0x00000000#32)) v) i = Ideal.exp2 (FloatOps.ofBits (F := Ideal) .f32 0x00000000#32 - (v i : EReal)) := rfl

/-- The codes, from the tokens and the column of reciprocals. -/
def codeRef (v w : FVec Ideal S32x7168 .f32) : FVec Ideal S32x7168 .fp8e4m3 :=
  truncf .fp8e4m3 (minimumf (broadcast S32x7168 (Scalar.ofBits .f32 0x43E00000#32)) (maximumf (broadcast S32x7168 (Scalar.ofBits .f32 0xC3E00000#32)) (mulf v w))) bitsLt_fp8e4m3_f32
theorem code_at (v w : FVec Ideal S32x7168 .f32) (i : S32x7168.Idx) : codeRef v w i = code (v i) (w i) := rfl
theorem pay5_eq : k0_pay5 (F := Ideal) x = codeRef (k0_pay2 (F := Ideal) x) (broadcastTo S32x7168 (shapeCast S32x1 (exp2 (subf (broadcast S32 (Scalar.ofBits (F := Ideal) .f32 0x00000000#32)) (k0_pay3 (F := Ideal) x))) shapeCasts_S32_S32x1) broadcasts_S32x1_S32x7168) := rfl

theorem pay5_apply (b : Fin 32) (k : Fin 7168) : k0_pay5 (F := Ideal) x (ix2 (n0 := 32) (n1 := 7168) b k)
    = code (rowsOf x b k) (Ideal.exp2 (FloatOps.ofBits (F := Ideal) .f32 0x00000000#32 - refE (lim (rowsOf x) b))) := by
  have hb : ∀ y : S32.Idx → EReal, broadcastTo S32x7168 (shapeCast S32x1 y shapeCasts_S32_S32x1) broadcasts_S32x1_S32x7168 (ix2 (n0 := 32) (n1 := 7168) b k) = y (ix1 (n := 32) b) := fun y => by
    refine Eq.trans ?_ (shapeCast_a_a1_apply y shapeCasts_S32_S32x1 b 0)
    refine congrArg (shapeCast S32x1 y shapeCasts_S32_S32x1) (funext fun a => ?_)
    match a with
    | ⟨0, _⟩ => rfl
    | ⟨1, _⟩ => rfl
  rw [pay5_eq, code_at, pay2_eq, hb, neg_at, pay3_apply x b]
  rfl

theorem pay6_apply (w : FVec Ideal S7168x8192 .fp8e4m3) (ws : FVec Ideal S8192 .f32) (b : Fin 32) (n : Fin 8192) :
    (k0_pay1 (F := Ideal) (k0_pay6 (F := Ideal) x w ws) (ix2 (n0 := 32) (n1 := 8192) b n) : EReal)
      = (∑ k : Fin 7168, code (rowsOf x b k) (Ideal.exp2 (FloatOps.ofBits (F := Ideal) .f32 0x00000000#32 - refE (lim (rowsOf x) b))) * (w (ix2 (n0 := 7168) (n1 := 8192) k n) : EReal))
        * Ideal.exp2 (refE (lim (rowsOf x) b)) * (ws (ix1 (n := 8192) n) : EReal) := by
  have hd : (matmul dot_S32x7168_S7168x8192_S32x8192_1_0_0_1_n_n none (k0_pay5 (F := Ideal) x) w (constant S32x8192 .f32 0x00000000#32) : FVec Ideal S32x8192 .f32) (ix2 (n0 := 32) (n1 := 8192) b n)
      = ∑ k : Fin 7168, code (rowsOf x b k) (Ideal.exp2 (FloatOps.ofBits (F := Ideal) .f32 0x00000000#32 - refE (lim (rowsOf x) b))) * (w (ix2 (n0 := 7168) (n1 := 8192) k n) : EReal) := by
    refine (Ideal.matmul_plain_apply (M := 32) (K := 7168) (N := 8192) none (k0_pay5 (F := Ideal) x) w (constant S32x8192 .f32 0x00000000#32) b n).trans ?_
    refine (congrArg₂ (fun x y : EReal => x + y) (ofBits_zero : FloatOps.ofBits (F := Ideal) .f32 0x00000000#32 = 0)
      (Finset.sum_congr rfl fun k _ => congrArg (fun x : EReal => x * (w (ix2 (n0 := 7168) (n1 := 8192) k n) : EReal)) (pay5_apply x b k))).trans (zero_add _)
  have hs : ∀ y : S32.Idx → EReal, broadcastTo S32x8192 (shapeCast S32x1 y shapeCasts_S32_S32x1) broadcasts_S32x1_S32x8192 (ix2 (n0 := 32) (n1 := 8192) b n) = y (ix1 (n := 32) b) := fun y => by
    refine Eq.trans ?_ (shapeCast_a_a1_apply y shapeCasts_S32_S32x1 b 0)
    refine congrArg (shapeCast S32x1 y shapeCasts_S32_S32x1) (funext fun a => ?_)
    match a with
    | ⟨0, _⟩ => rfl
    | ⟨1, _⟩ => rfl
  have hw : ∀ y : S8192.Idx → EReal, broadcastTo S32x8192 (shapeCast S1x8192 y shapeCasts_S8192_S1x8192) broadcasts_S1x8192_S32x8192 (ix2 (n0 := 32) (n1 := 8192) b n) = y (ix1 (n := 8192) n) := fun y => by
    refine Eq.trans ?_ (shapeCast_a_1a_apply y shapeCasts_S8192_S1x8192 0 n)
    refine congrArg (shapeCast S1x8192 y shapeCasts_S8192_S1x8192) (funext fun a => ?_)
    match a with
    | ⟨0, _⟩ => rfl
    | ⟨1, _⟩ => rfl
  exact congrArg₂ (fun x y : EReal => x * y) (congrArg₂ (fun x y : EReal => x * y) hd ((hs _).trans (pay4_apply x b))) (hw ws)

end Cert.ReferenceIdeal.Hand

end
-- ==== Proof.RefTok.lean ====
/-
The tokens the reference gathers.
-/
module

public import proofs.«01_k».proof.Proof.RefPay
public import Idealize.ShloMosaic.Lib.ValueIdxCore
public import Idealize.ShloMosaic.Lib.ValueLayout
public import Idealize.ShloMosaic.Lib.ValueLayoutCasts
public import Idealize.ShloMosaic.Lib.Claim
public import Idealize.ShloMosaic.PureOps.Ideal.Laws

set_option maxRecDepth 100000

@[expose] public section

noncomputable section

namespace Cert.ReferenceIdeal.Hand

open Cert.ReferenceIdeal Cert.ReferenceIdeal.Gen
open Idealize.ShloMosaic Idealize.ShloMosaic.TcCoe
open Idealize.ShloMosaic.ValueIdx
open Cert.Scale

variable (m : (ℓ : Loc nD τ sig) → Buf (Elt Ideal) ℓ)

/-- Each row's last place, as the reference computes it. -/
def place (len : IVec S32 32) : IVec S32x1x1 32 :=
  broadcastInDim S32x1x1 ![0] bcast_S32_S32x1x1_0 (subi len (broadcastInDim S32 ![] bcast_S_S32 (constantI S_ 32 1#32)))
/-- The place, counted from the end if negative. -/
def place' (len : IVec S32 32) : IVec S32x1x1 32 :=
  select (cmpi .slt (place len) (broadcastInDim S32x1x1 ![] bcast_S_S32x1x1 (constantI S_ 32 0#32)))
    (addi (place len) (broadcastInDim S32x1x1 ![] bcast_S_S32x1x1 (constantI S_ 32 256#32))) (place len)
/-- Whether the place lies in the sequence. -/
def inside (len : IVec S32 32) : IVec S32x1x1 1 :=
  andi (cmpi .sge (place' len) (broadcastInDim S32x1x1 ![] bcast_S_S32x1x1 (constantI S_ 32 0#32)))
    (cmpi .sle (place' len) (broadcastInDim S32x1x1 ![0, 1, 2] bcast_S1x1x1_S32x1x1_0_1_2 (broadcastInDim S1x1x1 ![2] bcast_S1_S1x1x1_2 (constantI S1 32 255#32))))
/-- The tokens gathered. -/
def taken (x : FVec Ideal S32x256x7168 .bf16) (len : IVec S32 32) : FVec Ideal S32x1x7168 .bf16 :=
  select (broadcastInDim S32x1x7168 ![0, 1] bcast_S32x1_S32x1x7168_0_1 (Host.reduce IntOp.andi (inside len) (constantI S_ 1 1#1) reducesTo_S32x1x1_S32x1_d2 h_S_))
    (Host.gather gather_S32x256x7168_S32x1x1_S32x1x7168_2_1_0_0_1_2_117168 x (place' len))
    (broadcastInDim S32x1x7168 ![] bcast_S_S32x1x7168 (constant S_ .bf16 0x7FC0#16))

theorem V_main_v4 (c : Dev nD) : V m c main_v4 = shapeCast S32x7168 (taken (m ((c : Thread nD τ).loc main_arg0)) (m ((c : Thread nD τ).loc main_arg1))) shapeCasts_S32x1x7168_S32x7168 := by
  entry_read
  rfl

end Cert.ReferenceIdeal.Hand

end
-- ==== Proof.RefTake.lean ====
/-
The tokens the reference gathers are the last of each row, where the lengths are in range.
-/
module

public import proofs.«01_k».proof.Proof.RefTok
public import Idealize.ShloMosaic.Lib.ValueIdxCore
public import Idealize.ShloMosaic.Lib.ValueLayout
public import Idealize.ShloMosaic.Lib.ValueLayoutCasts
public import Idealize.ShloMosaic.Lib.Claim
public import Idealize.ShloMosaic.PureOps.Ideal.Laws

set_option maxRecDepth 100000

@[expose] public section

noncomputable section

namespace Cert.ReferenceIdeal.Hand

open Cert.ReferenceIdeal Cert.ReferenceIdeal.Gen
open Idealize.ShloMosaic Idealize.ShloMosaic.TcCoe
open Idealize.ShloMosaic.ValueIdx
open Cert.Scale

variable (x : FVec Ideal S32x256x7168 .bf16) (len : IVec S32 32)

theorem place_apply (y : S32x1x1.Idx) : place len y = len (ix1 (n := 32) (y 0)) - 1#32 := by
  have e : ∀ v : IVec S32 32, broadcastInDim S32x1x1 ![0] bcast_S32_S32x1x1_0 v y = v (ix1 (n := 32) (y 0)) := fun v => by
    refine congrArg v (funext fun a => ?_)
    match a with
    | ⟨0, _⟩ => rfl
  exact e _

variable (hlen : ∀ i, 1 ≤ (len i).toNat ∧ (len i).toNat ≤ 256)
include hlen

theorem place_nat (y : S32x1x1.Idx) : (place len y).toNat = (len (ix1 (n := 32) (y 0))).toNat - 1 := by
  have h := hlen (ix1 (n := 32) (y 0))
  rw [place_apply, BitVec.toNat_sub, BitVec.toNat_ofNat]
  omega
theorem place_int (y : S32x1x1.Idx) : (place len y).toInt = ((len (ix1 (n := 32) (y 0))).toNat - 1 : ℕ) := by
  have h := hlen (ix1 (n := 32) (y 0))
  have e := place_nat len hlen y
  rw [BitVec.toInt_eq_toNat_of_lt (by omega), e]

theorem place'_eq : place' len = place len := by
  funext y
  have e := place_int len hlen y
  show Scalar.select (BitVec.ofBool (BitVec.slt (place len y) 0#32)) _ (place len y) = _
  have : BitVec.slt (place len y) 0#32 = false := by
    rw [BitVec.slt, decide_eq_false_iff_not, e]
    simp
  rw [this]
  rfl

theorem inside_eq : inside len = fun _ => 1#1 := by
  funext y
  have h := hlen (ix1 (n := 32) (y 0))
  have e := place_int len hlen y
  unfold inside
  rw [place'_eq len hlen]
  show (BitVec.ofBool (BitVec.sle 0#32 (place len y))) &&& (BitVec.ofBool (BitVec.sle (place len y) 255#32)) = 1#1
  have h1 : BitVec.sle 0#32 (place len y) = true := by
    rw [BitVec.sle, decide_eq_true_iff, e]; simp
  have h2 : BitVec.sle (place len y) 255#32 = true := by
    rw [BitVec.sle, decide_eq_true_iff, e]
    show _ ≤ (255 : ℤ)
    omega
  rw [h1, h2]
  rfl

omit hlen in
theorem fold_true {α : Type} (l : List α) : l.foldl (fun (r : BitVec 1) _ => IntOp.andi r 1#1) 1#1 = 1#1 := by
  induction l with
  | nil => rfl
  | cons a l ih => exact ih

/-- The gather, element by element. -/
theorem gather_apply (idx : IVec S32x1x1 32) (hidx : ∀ y, (idx y).toInt = ((len (ix1 (n := 32) (y 0))).toNat - 1 : ℕ)) (b : Fin 32) (k : Fin 7168) :
    Host.gather gather_S32x256x7168_S32x1x1_S32x1x7168_2_1_0_0_1_2_117168 x idx (ix3 (n0 := 32) (n1 := 1) (n2 := 7168) b 0 k)
      = x (ix3 (n0 := 32) (n1 := 256) (n2 := 7168) b ⟨((len (ix1 (n := 32) b)).toNat - 1) % 256, Nat.mod_lt _ (by decide)⟩ k) := by
  have h := hlen (ix1 (n := 32) b)
  refine congrArg x (funext fun a => Fin.ext ?_)
  show gather_S32x256x7168_S32x1x1_S32x1x7168_2_1_0_0_1_2_117168.start (ix3 (n0 := 32) (n1 := 1) (n2 := 7168) b 0 k) idx a
    + gather_S32x256x7168_S32x1x1_S32x1x7168_2_1_0_0_1_2_117168.batchCoord (ix3 (n0 := 32) (n1 := 1) (n2 := 7168) b 0 k) a
    + gather_S32x256x7168_S32x1x1_S32x1x7168_2_1_0_0_1_2_117168.offCoord (ix3 (n0 := 32) (n1 := 1) (n2 := 7168) b 0 k) a = _
  match a with
  | ⟨0, _⟩ =>
    show 0 + b.val + 0 = b.val
    omega
  | ⟨1, _⟩ =>
    have e : gather_S32x256x7168_S32x1x1_S32x1x7168_2_1_0_0_1_2_117168.start (ix3 (n0 := 32) (n1 := 1) (n2 := 7168) b 0 k) idx 1
        = min (idx (ix3 (n0 := 32) (n1 := 1) (n2 := 1) b 0 0)).toInt.toNat 255 := by
      refine congrArg (fun z : S32x1x1.Idx => min (idx z).toInt.toNat 255) (funext fun d => ?_)
      match d with
      | ⟨0, _⟩ => rfl
      | ⟨1, _⟩ => rfl
      | ⟨2, _⟩ => rfl
    refine (congrArg (fun z : ℕ => z + 0 + 0) e).trans ?_
    rw [hidx]
    show min (((len (ix1 (n := 32) b)).toNat - 1 : ℕ) : ℤ).toNat 255 + 0 + 0 = ((len (ix1 (n := 32) b)).toNat - 1) % 256
    rw [Int.toNat_natCast]
    omega
  | ⟨2, _⟩ =>
    show 0 + 0 + k.val = k.val
    omega

theorem taken_apply (b : Fin 32) (k : Fin 7168) :
    taken x len (ix3 (n0 := 32) (n1 := 1) (n2 := 7168) b 0 k)
      = x (ix3 (n0 := 32) (n1 := 256) (n2 := 7168) b ⟨((len (ix1 (n := 32) b)).toNat - 1) % 256, Nat.mod_lt _ (by decide)⟩ k) := by
  unfold taken
  rw [inside_eq len hlen, place'_eq len hlen]
  have hr : ∀ j : S32x1.Idx, Host.reduce IntOp.andi (fun _ : S32x1x1.Idx => 1#1) (constantI S_ 1 1#1) reducesTo_S32x1x1_S32x1_d2 h_S_ j = 1#1 := fun j => fold_true _
  have hs : broadcastInDim S32x1x7168 ![0, 1] bcast_S32x1_S32x1x7168_0_1 (Host.reduce IntOp.andi (fun _ : S32x1x1.Idx => 1#1) (constantI S_ 1 1#1) reducesTo_S32x1x1_S32x1_d2 h_S_)
      (ix3 (n0 := 32) (n1 := 1) (n2 := 7168) b 0 k) = 1#1 := hr _
  rw [← gather_apply x len hlen (place len) (place_int len hlen) b k]
  generalize Host.reduce IntOp.andi (fun _ : S32x1x1.Idx => 1#1) (constantI S_ 1 1#1) reducesTo_S32x1x1_S32x1_d2 h_S_ = r at hs
  show Scalar.select (broadcastInDim S32x1x7168 ![0, 1] bcast_S32x1_S32x1x7168_0_1 r (ix3 (n0 := 32) (n1 := 1) (n2 := 7168) b 0 k)) _ _ = _
  rw [hs]
  rfl

/-- The tokens handed to the reference's body. -/
theorem tokens_apply (b : Fin 32) (k : Fin 7168) :
    shapeCast S32x7168 (taken x len) shapeCasts_S32x1x7168_S32x7168 (ix2 (n0 := 32) (n1 := 7168) b k)
      = x (ix3 (n0 := 32) (n1 := 256) (n2 := 7168) b ⟨((len (ix1 (n := 32) b)).toNat - 1) % 256, Nat.mod_lt _ (by decide)⟩ k) := by
  refine (shapeCast_apply (taken x len) shapeCasts_S32x1x7168_S32x7168 (ix2 (n0 := 32) (n1 := 7168) b k) (ix3 (n0 := 32) (n1 := 1) (n2 := 7168) b 0 k) ?_).trans (taken_apply x len hlen b k)
  rw [Shape.rowMajor_val_three, Shape.rowMajor_val_two]
  show (b.val * 1 + 0) * 7168 + k.val = b.val * 7168 + k.val
  omega

end Cert.ReferenceIdeal.Hand

end
-- ==== Proof.RefOut.lean ====
/-
The three arrays the reference ends with.
-/
module

public import proofs.«01_k».proof.Proof.RefTake
public import Idealize.ShloMosaic.Lib.ValueIdxCore
public import Idealize.ShloMosaic.Lib.ValueLayout
public import Idealize.ShloMosaic.Lib.ValueLayoutCasts
public import Idealize.ShloMosaic.Lib.Claim
public import Idealize.ShloMosaic.PureOps.Ideal.Laws

set_option maxRecDepth 100000

@[expose] public section

noncomputable section

namespace Cert.ReferenceIdeal.Hand

open Cert.ReferenceIdeal Cert.ReferenceIdeal.Gen
open Idealize.ShloMosaic Idealize.ShloMosaic.TcCoe
open Idealize.ShloMosaic.ValueIdx
open Cert.Scale
open Idealize.SL.Sem
open Idealize.ShloMosaic.Pipeline (Dat)

variable (m : (ℓ : Loc nD τ sig) → Buf (Elt Ideal) ℓ) (ρ : Dev nD → PrngReg)

theorem emb0 (t : Fin cfg0.N) (x : S32x7168.Idx) : (((cfg0.win 0).blk t).view.emb x : S32x7168.Idx) = x := by
  funext a
  match a with
  | ⟨0, _⟩ => exact Fin.ext (show 0 * 32 + 1 * (x 0).val = (x 0).val by omega)
  | ⟨1, _⟩ => exact Fin.ext (show 0 * 7168 + 1 * (x 1).val = (x 1).val by omega)
theorem emb1 (t : Fin cfg0.N) (x : S7168x8192.Idx) : (((cfg0.win 1).blk t).view.emb x : S7168x8192.Idx) = x := by
  funext a
  match a with
  | ⟨0, _⟩ => exact Fin.ext (show 0 * 7168 + 1 * (x 0).val = (x 0).val by omega)
  | ⟨1, _⟩ => exact Fin.ext (show 0 * 8192 + 1 * (x 1).val = (x 1).val by omega)
theorem emb2 (t : Fin cfg0.N) (x : S8192.Idx) : (((cfg0.win 2).blk t).view.emb x : S8192.Idx) = x := by
  funext a
  match a with
  | ⟨0, _⟩ => exact Fin.ext (show 0 * 8192 + 1 * (x 0).val = (x 0).val by omega)
theorem emb3 (t : Fin cfg0.N) (x : S32x8192.Idx) : (((cfg0.win 3).blk t).view.emb x : S32x8192.Idx) = x := by
  funext a
  match a with
  | ⟨0, _⟩ => exact Fin.ext (show 0 * 32 + 1 * (x 0).val = (x 0).val by omega)
  | ⟨1, _⟩ => exact Fin.ext (show 0 * 8192 + 1 * (x 1).val = (x 1).val by omega)
theorem emb4 (t : Fin cfg0.N) (x : S32x7168.Idx) : (((cfg0.win 4).blk t).view.emb x : S32x7168.Idx) = x := by
  funext a
  match a with
  | ⟨0, _⟩ => exact Fin.ext (show 0 * 32 + 1 * (x 0).val = (x 0).val by omega)
  | ⟨1, _⟩ => exact Fin.ext (show 0 * 7168 + 1 * (x 1).val = (x 1).val by omega)
theorem emb5 (t : Fin cfg0.N) (x : S32.Idx) : (((cfg0.win 5).blk t).view.emb x : S32.Idx) = x := by
  funext a
  match a with
  | ⟨0, _⟩ => exact Fin.ext (show 0 * 32 + 1 * (x 0).val = (x 0).val by omega)

theorem iblk0 (c : Dev nD) (t : Fin cfg0.N) : (iblk m c 0 t : S32x7168.Idx → Elt Ideal .bf16) = V m c main_v4 :=
  funext fun x => congrArg (V m c main_v4) (emb0 t x)
theorem iblk1 (c : Dev nD) (t : Fin cfg0.N) : (iblk m c 1 t : S7168x8192.Idx → Elt Ideal .fp8e4m3) = V m c main_arg2 :=
  funext fun x => congrArg (V m c main_arg2) (emb1 t x)
theorem iblk2 (c : Dev nD) (t : Fin cfg0.N) : (iblk m c 2 t : S8192.Idx → Elt Ideal .f32) = V m c main_arg3 :=
  funext fun x => congrArg (V m c main_arg3) (emb2 t x)

theorem ld0 (x : Vec Ideal S32x7168 .bf16) : View.ld x r0_0 = x := by
  refine funext fun y => congrArg x (funext fun a => ?_)
  match a with
  | ⟨0, _⟩ => exact Fin.ext (show 0 + 1 * (y 0).val = (y 0).val by omega)
  | ⟨1, _⟩ => exact Fin.ext (show 0 + 1 * (y 1).val = (y 1).val by omega)
theorem ld1 (x : Vec Ideal S7168x8192 .fp8e4m3) : View.ld x r0_1 = x := by
  refine funext fun y => congrArg x (funext fun a => ?_)
  match a with
  | ⟨0, _⟩ => exact Fin.ext (show 0 + 1 * (y 0).val = (y 0).val by omega)
  | ⟨1, _⟩ => exact Fin.ext (show 0 + 1 * (y 1).val = (y 1).val by omega)
theorem ld2 (x : Vec Ideal S8192 .f32) : View.ld x r0_2 = x := by
  refine funext fun y => congrArg x (funext fun a => ?_)
  match a with
  | ⟨0, _⟩ => exact Fin.ext (show 0 + 1 * (y 0).val = (y 0).val by omega)

theorem canon3 (v : Vec Ideal S32x8192 .bf16) : View.canon (Val := Elt Ideal) [⟨r0_3, v⟩] = v := by
  funext y
  refine View.canon_apply_of_pieces (Val := Elt Ideal) v _ ?_ y (cover0_3 v y)
  intro q hq x
  obtain rfl := List.mem_singleton.mp hq
  refine congrArg v (funext fun a => ?_)
  match a with
  | ⟨0, _⟩ => exact Fin.ext (show (x 0).val = 0 + 1 * (x 0).val by omega)
  | ⟨1, _⟩ => exact Fin.ext (show (x 1).val = 0 + 1 * (x 1).val by omega)
theorem canon4 (v : Vec Ideal S32x7168 .fp8e4m3) : View.canon (Val := Elt Ideal) [⟨r0_0, v⟩] = v := by
  funext y
  refine View.canon_apply_of_pieces (Val := Elt Ideal) v _ ?_ y (cover0_4 v y)
  intro q hq x
  obtain rfl := List.mem_singleton.mp hq
  refine congrArg v (funext fun a => ?_)
  match a with
  | ⟨0, _⟩ => exact Fin.ext (show (x 0).val = 0 + 1 * (x 0).val by omega)
  | ⟨1, _⟩ => exact Fin.ext (show (x 1).val = 0 + 1 * (x 1).val by omega)
theorem canon5 (v : Vec Ideal S32 .f32) : View.canon (Val := Elt Ideal) [⟨r0_4, v⟩] = v := by
  funext y
  refine View.canon_apply_of_pieces (Val := Elt Ideal) v _ ?_ y (cover0_5 v y)
  intro q hq x
  obtain rfl := List.mem_singleton.mp hq
  refine congrArg v (funext fun a => ?_)
  match a with
  | ⟨0, _⟩ => exact Fin.ext (show (x 0).val = 0 + 1 * (x 0).val by omega)

theorem out3 (x0 : Vec Ideal S32x7168 .bf16) (x1 : Vec Ideal S7168x8192 .fp8e4m3) (x2 : Vec Ideal S8192 .f32) : out0_3 x0 x1 x2 = k0_pay1 (k0_pay6 x0 x1 x2) := by
  unfold out0_3
  rw [ld0, ld1, ld2, canon3]
theorem final3 (c : Dev nD) : ((dats m 0 c).arrAt 3 cfg0.N : S32x8192.Idx → Elt Ideal .bf16) = k0_pay1 (k0_pay6 (V m c main_v4) (V m c main_arg2) (V m c main_arg3)) := by
  refine (dats m 0 c).arrAt_eq_of_cover 3 _ (fun t _ => ?_) (fun i => ⟨⟨0, by decide⟩, by decide +kernel, ?_⟩)
  · refine (flushed3 m c t).trans ?_
    rw [out3]
    refine funext fun x => ?_
    refine Eq.trans ?_ (congrArg (k0_pay1 (k0_pay6 (V m c main_v4) (V m c main_arg2) (V m c main_arg3))) (emb3 t x).symm)
    have e : k0_pay1 (k0_pay6 (iblk m c 0 t) (iblk m c 1 t) (iblk m c 2 t)) = k0_pay1 (k0_pay6 (V m c main_v4) (V m c main_arg2) (V m c main_arg3)) := by rw [iblk0 m c t, iblk1 m c t, iblk2 m c t]
    exact congrFun e x
  · exact Finset.mem_map.mpr ⟨i, Finset.mem_univ _, emb3 _ i⟩
theorem out4 (x0 : Vec Ideal S32x7168 .bf16) (x1 : Vec Ideal S7168x8192 .fp8e4m3) (x2 : Vec Ideal S8192 .f32) : out0_4 x0 x1 x2 = k0_pay5 x0 := by
  unfold out0_4
  rw [ld0, canon4]
theorem final4 (c : Dev nD) : ((dats m 0 c).arrAt 4 cfg0.N : S32x7168.Idx → Elt Ideal .fp8e4m3) = k0_pay5 (V m c main_v4) := by
  refine (dats m 0 c).arrAt_eq_of_cover 4 _ (fun t _ => ?_) (fun i => ⟨⟨0, by decide⟩, by decide +kernel, ?_⟩)
  · refine (flushed4 m c t).trans ?_
    rw [out4]
    refine funext fun x => ?_
    refine Eq.trans ?_ (congrArg (k0_pay5 (V m c main_v4)) (emb4 t x).symm)
    have e : k0_pay5 (iblk m c 0 t) = k0_pay5 (V m c main_v4) := by rw [iblk0 m c t]
    exact congrFun e x
  · exact Finset.mem_map.mpr ⟨i, Finset.mem_univ _, emb4 _ i⟩
theorem out5 (x0 : Vec Ideal S32x7168 .bf16) (x1 : Vec Ideal S7168x8192 .fp8e4m3) (x2 : Vec Ideal S8192 .f32) : out0_5 x0 x1 x2 = k0_pay4 x0 := by
  unfold out0_5
  rw [ld0, canon5]
theorem final5 (c : Dev nD) : ((dats m 0 c).arrAt 5 cfg0.N : S32.Idx → Elt Ideal .f32) = k0_pay4 (V m c main_v4) := by
  refine (dats m 0 c).arrAt_eq_of_cover 5 _ (fun t _ => ?_) (fun i => ⟨⟨0, by decide⟩, by decide +kernel, ?_⟩)
  · refine (flushed5 m c t).trans ?_
    rw [out5]
    refine funext fun x => ?_
    refine Eq.trans ?_ (congrArg (k0_pay4 (V m c main_v4)) (emb5 t x).symm)
    have e : k0_pay4 (iblk m c 0 t) = k0_pay4 (V m c main_v4) := by rw [iblk0 m c t]
    exact congrFun e x
  · exact Finset.mem_map.mpr ⟨i, Finset.mem_univ _, emb5 _ i⟩

end Cert.ReferenceIdeal.Hand

end
-- ==== Proof.Algebraic.lean ====
/-
The idealized kernel and the idealized reference end with equal results, where every length is in range and every
token element is finite.
-/
module

public import proofs.«01_k».proof.Proof.Lengths
public import proofs.«01_k».proof.Proof.Lim
public import proofs.«01_k».proof.Proof.KernelIdeal.ValuesY
public import proofs.«01_k».proof.Proof.RefOut
public import proofs.«01_k».proof.Proof.Gen.Pre_finite_rows

set_option maxRecDepth 100000

@[expose] public section

noncomputable section

namespace Cert.Agree

open Idealize.ShloMosaic Idealize.ShloMosaic.TcCoe
open Idealize.ShloMosaic.ValueIdx
open Cert.Scale

section
variable (x : FVec Ideal Cert.KernelIdeal.S32x256x7168 .bf16) (len : IVec Cert.KernelIdeal.S32 32)
  (w : FVec Ideal Cert.KernelIdeal.S7168x8192 .fp8e4m3) (s1 : FVec Ideal Cert.KernelIdeal.S1x8192 .f32) (s : FVec Ideal Cert.KernelIdeal.S8192 .f32)
  (hlen : ∀ i, Cert.KernelIdeal.Hand.InRange (len i))
  (hmag : ∀ i, mag (x i) ≤ FloatOps.ofBits (F := Ideal) .bf16 0x7F7F#16)
  (hs : ∀ n : Fin 8192, (s1 (ix2 (n0 := 1) (n1 := 8192) 0 n) : EReal) = s (ix1 (n := 8192) n))

/-- The tokens, one row each, as the reference lays them out. -/
abbrev rows : FVec Ideal Cert.ReferenceIdeal.S32x7168 .bf16 :=
  shapeCast Cert.ReferenceIdeal.S32x7168 (Cert.ReferenceIdeal.Hand.taken x len) Cert.ReferenceIdeal.Facts₀.shapeCasts_S32x1x7168_S32x7168

include hlen in
theorem rows_tok : Cert.ReferenceIdeal.Hand.rowsOf (rows x len) = Cert.KernelIdeal.Hand.tok x len :=
  funext fun b => funext fun k => Cert.ReferenceIdeal.Hand.tokens_apply x len hlen b k

include hmag in
theorem scale_tok (b : Fin 32) : scaleS (lim (Cert.KernelIdeal.Hand.tok x len) b) = Ideal.exp2 (refE (lim (Cert.KernelIdeal.Hand.tok x len) b)) := by
  obtain ⟨r, h0, h1, e⟩ := lim_real (Cert.KernelIdeal.Hand.tok x len) b fun k => hmag _
  rw [e]; exact scale_agree h0 h1
include hmag in
theorem inv_tok (b : Fin 32) : invS (lim (Cert.KernelIdeal.Hand.tok x len) b)
    = Ideal.exp2 (FloatOps.ofBits (F := Ideal) .f32 0x00000000#32 - refE (lim (Cert.KernelIdeal.Hand.tok x len) b)) := by
  obtain ⟨r, h0, h1, e⟩ := lim_real (Cert.KernelIdeal.Hand.tok x len) b fun k => hmag _
  rw [e]; exact inv_agree h0 h1

include hlen hmag in
/-- The scales agree. -/
theorem scales (c : Dev Cert.KernelIdeal.nD) : Cert.ReferenceIdeal.Gen.k0_pay4 (F := Ideal) (rows x len) = Cert.KernelIdeal.Hand.scaleOut (F := Ideal) c x len := by
  funext y
  obtain ⟨b, rfl⟩ : ∃ b : Fin 32, y = ix1 (n := 32) b := ⟨y 0, eq_ix1 y⟩
  refine (Cert.ReferenceIdeal.Hand.pay4_apply (rows x len) b).trans (Eq.trans ?_ (Cert.KernelIdeal.Hand.scaleOut_apply c x len hlen b).symm)
  rw [rows_tok x len hlen, scale_tok x len hmag]

include hlen hmag in
/-- The codes agree. -/
theorem codes (c : Dev Cert.KernelIdeal.nD) : Cert.ReferenceIdeal.Gen.k0_pay5 (F := Ideal) (rows x len) = Cert.KernelIdeal.Hand.codesOut (F := Ideal) c x len := by
  funext y
  obtain ⟨b, n, rfl⟩ : ∃ (b : Fin 32) (n : Fin 7168), y = ix2 (n0 := 32) (n1 := 7168) b n := ⟨y 0, y 1, eq_ix2 y⟩
  refine (Cert.ReferenceIdeal.Hand.pay5_apply (rows x len) b n).trans (Eq.trans ?_ (Cert.KernelIdeal.Hand.codesOut_apply c x len hlen b n).symm)
  rw [rows_tok x len hlen, inv_tok x len hmag]

include hlen hmag hs in
/-- The products agree. -/
theorem products (c : Dev Cert.KernelIdeal.nD) :
    Cert.ReferenceIdeal.Gen.k0_pay1 (F := Ideal) (Cert.ReferenceIdeal.Gen.k0_pay6 (F := Ideal) (rows x len) w s) = Cert.KernelIdeal.Hand.yOut (F := Ideal) c x len w s1 := by
  funext y
  obtain ⟨b, n, rfl⟩ : ∃ (b : Fin 32) (n : Fin 8192), y = ix2 (n0 := 32) (n1 := 8192) b n := ⟨y 0, y 1, eq_ix2 y⟩
  refine (Cert.ReferenceIdeal.Hand.pay6_apply (rows x len) w s b n).trans (Eq.trans ?_ (Cert.KernelIdeal.Hand.yOut_apply c x len w s1 hlen b n).symm)
  rw [rows_tok x len hlen, inv_tok x len hmag, scale_tok x len hmag]
  exact congrArg _ (hs n).symm
end

/-- The row scales as the kernel stages them. -/
theorem staged (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0
      = shapeCast Cert.KernelIdeal.S1x8192 (m ((c : Thread Cert.KernelIdeal.nD Cert.KernelIdeal.τ).loc Cert.KernelIdeal.main_arg3)) Cert.KernelIdeal.Facts₀.shapeCasts_S8192_S1x8192 := by
  entry_read
  rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (h : Cert.Pre_KernelIdeal_finite_rows m) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h in
theorem mag_arg0 (i) : mag (m ((c.tc : Thread Cert.KernelIdeal.nD Cert.KernelIdeal.τ).loc Cert.KernelIdeal.main_arg0) i) ≤ FloatOps.ofBits (F := Ideal) .bf16 0x7F7F#16 :=
  Cert.Lengths.of_finite_rows_mag (h c).2 i
include h in
theorem len_arg1 (i) : Cert.KernelIdeal.Hand.InRange (m ((c.tc : Thread Cert.KernelIdeal.nD Cert.KernelIdeal.τ).loc Cert.KernelIdeal.main_arg1) i) :=
  Cert.Lengths.of_finite_rows (h c).1 i

include h h0 h1 in
theorem end5 : ((Cert.ReferenceIdeal.Gen.dats m' 0 c).arrAt 5 Cert.ReferenceIdeal.cfg0.N : Cert.ReferenceIdeal.S32.Idx → Elt Ideal .f32)
    = Cert.KernelIdeal.Hand.scaleOut (F := Ideal) c (Cert.KernelIdeal.Gen.V m c Cert.KernelIdeal.main_arg0) (Cert.KernelIdeal.Gen.V m c Cert.KernelIdeal.main_arg1) := by
  refine (Cert.ReferenceIdeal.Hand.final5 m' c).trans ?_
  rw [Cert.ReferenceIdeal.Hand.V_main_v4 m' c, Cert.KernelIdeal.Gen.V_main_arg0 m c, Cert.KernelIdeal.Gen.V_main_arg1 m c, h0, h1]
  exact scales _ _ (len_arg1 m h c) (mag_arg0 m h c) c

include h h0 h1 in
theorem end4 : ((Cert.ReferenceIdeal.Gen.dats m' 0 c).arrAt 4 Cert.ReferenceIdeal.cfg0.N : Cert.ReferenceIdeal.S32x7168.Idx → Elt Ideal .fp8e4m3)
    = Cert.KernelIdeal.Hand.codesOut (F := Ideal) c (Cert.KernelIdeal.Gen.V m c Cert.KernelIdeal.main_arg0) (Cert.KernelIdeal.Gen.V m c Cert.KernelIdeal.main_arg1) := by
  refine (Cert.ReferenceIdeal.Hand.final4 m' c).trans ?_
  rw [Cert.ReferenceIdeal.Hand.V_main_v4 m' c, Cert.KernelIdeal.Gen.V_main_arg0 m c, Cert.KernelIdeal.Gen.V_main_arg1 m c, h0, h1]
  exact codes _ _ (len_arg1 m h c) (mag_arg0 m h c) c

include h h0 h1 h2 h3 in
theorem end3 : ((Cert.ReferenceIdeal.Gen.dats m' 0 c).arrAt 3 Cert.ReferenceIdeal.cfg0.N : Cert.ReferenceIdeal.S32x8192.Idx → Elt Ideal .bf16)
    = Cert.KernelIdeal.Hand.yOut (F := Ideal) c (Cert.KernelIdeal.Gen.V m c Cert.KernelIdeal.main_arg0) (Cert.KernelIdeal.Gen.V m c Cert.KernelIdeal.main_arg1)
        (Cert.KernelIdeal.Gen.V m c Cert.KernelIdeal.main_arg2) (Cert.KernelIdeal.Gen.V m c Cert.KernelIdeal.main_v0) := by
  refine (Cert.ReferenceIdeal.Hand.final3 m' c).trans ?_
  rw [Cert.ReferenceIdeal.Hand.V_main_v4 m' c, Cert.ReferenceIdeal.Gen.V_main_arg2 m' c, Cert.ReferenceIdeal.Gen.V_main_arg3 m' c,
    Cert.KernelIdeal.Gen.V_main_arg0 m c, Cert.KernelIdeal.Gen.V_main_arg1 m c, Cert.KernelIdeal.Gen.V_main_arg2 m c, staged m c, h0, h1, h2, h3]
  exact products _ _ _ _ _ (len_arg1 m h c) (mag_arg0 m h c) (fun n => shapeCast_a_1a_apply _ _ 0 n) c
end

/-- The idealized kernel and the idealized reference end with equal results. -/
theorem algebraic : Cert.algebraic_KernelIdeal_ReferenceIdeal_pre_finite_rows := by
  intro m g m' g' h ha
  refine ⟨_, _, _, Cert.KernelIdeal.Hand.values m g (Cert.Lengths.kernelIdeal_finite h),
    (θ_run Cert.ReferenceIdeal.defs _ _).mono (fun r hr c => ?_) (Cert.ReferenceIdeal.Hand.run_blocks m' g')⟩
  obtain ⟨h0, h1, h2, h3⟩ := ha c
  obtain ⟨r0, r1, r2, ra⟩ := hr c
  exact ⟨r0.trans (end3 m m' h c h0 h1 h2 h3), r1.trans (end4 m m' h c h0 h1), r2.trans (end5 m m' h c h0 h1), ra⟩

end Cert.Agree

end
-- ==== Proof.lean ====
/- The certificate's claims: the two kernels and the reference end with their arguments as launched and every semaphore at
   zero, the idealization rules the idealized kernel was made with preserve meaning, and at exact arithmetic the kernel and
   the reference end with equal results. -/
module

public import proofs.«01_k».proof.Defs
public import proofs.«01_k».proof.Proof.Gen.Kernel.Skeleton
public import proofs.«01_k».proof.Proof.Gen.KernelIdeal.Skeleton
public import proofs.«01_k».proof.Proof.Gen.ReferenceIdeal.Frame
public import proofs.«01_k».proof.Proof.Gen.Pre_finite_rows
public import proofs.«01_k».proof.Proof.Gen.Pre_lengths_in_range
public import proofs.«01_k».proof.Proof.Lengths
public import proofs.«01_k».proof.Proof.Algebraic
public import Idealize.ShloMosaic.Lib.Bf16Pair
public import Idealize.ShloMosaic.Lib.Bf16PairInverse

@[expose] public section

noncomputable section

namespace Cert.Proof

open Idealize.ShloMosaic

/-- Every replaced operation keeps its meaning. -/
theorem preserves : Cert.preserves_Kernel_KernelIdeal :=
  ⟨IdealRules.bf16_pair.bufferStatement _ _, IdealRules.bf16_pair.statement _ _, IdealRules.bf16_pair.statement _ _,
    IdealRules.bf16_pair.statement _ _⟩

theorem claim : Cert.Claim :=
  ⟨Cert.Kernel.Gen.facts, Cert.KernelIdeal.Gen.facts, Cert.ReferenceIdeal.Gen.facts, Cert.Pre_lengths_in_range.Gen.facts,
    Cert.Pre_finite_rows.Gen.facts,
    fun m ρ h => Cert.Kernel.Hand.frame m ρ (Cert.Lengths.kernel h),
    fun m ρ h => Cert.KernelIdeal.Hand.frame m ρ (Cert.Lengths.kernelIdeal h),
    fun m ρ h => Cert.KernelIdeal.Hand.frame m ρ (Cert.Lengths.kernelIdeal_finite h),
    fun m ρ _ => Cert.ReferenceIdeal.Gen.frame m ρ,
    fun m ρ _ => Cert.ReferenceIdeal.Gen.frame m ρ,
    preserves, Cert.Agree.algebraic⟩

end Cert.Proof

end
